-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 32, 64]⟩ ⟨4, ![2, 1024, 32, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 32, 64]⟩ ⟨4, ![2, 1024, 32, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x32x64 : S_.BroadcastsInDim S2x128x32x64 (![] : Fin 0 → Fin S2x128x32x64.rank)
  reducesTo_S2x128x32x64_S_d0_1_2_3 : S2x128x32x64.ReducesTo [0, 1, 2, 3] S_

variable [Facts]

def fn {F : FTy → Type} [FloatOps F] (main_arg0 : FVec F S2x128x512 .f32) (main_arg1 : FVec F S512x256 .f32) (main_arg2 : FVec F S2x128x32x64 .f32) (main_arg3 : FVec F S2x128x32x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x32x64 .f32 := Host.absf main_arg2
  let main_cst_2 : FVec F S_ .f32 := constant S_ .f32 0x7F800000#32
  let main_v10 : FVec F S2x128x32x64 .f32 := broadcastInDim S2x128x32x64 ![] bcast_S_S2x128x32x64 main_cst_2
  let main_v11 : IVec S2x128x32x64 1 := cmpf .olt main_v9 main_v10
  let main_c_3 : IVec S_ 1 := constantI S_ 1 1#1
  let main_v12 : IVec S_ 1 := (fun x v => Host.reduce IntOp.andi x v reducesTo_S2x128x32x64_S_d0_1_2_3 h_S_) main_v11 main_c_3
  let main_v13 : IVec S_ 1 := andi main_v8 main_v12
  main_v13
-- ==== Pre_finite_qk_ReferenceIdeal.lean ====
abbrev S2x128x512 : Shape := ⟨3, ![2, 128, 512]⟩
abbrev S512x2048 : Shape := ⟨2, ![512, 2048]⟩
abbrev S2x1024x32x64 : Shape := ⟨4, ![2, 1024, 32, 64]⟩
abbrev S2048x512 : Shape := ⟨2, ![2048, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2x1024x32x64 : S_.BroadcastsInDim S2x1024x32x64 (![] : Fin 0 → Fin S2x1024x32x64.rank)
  reducesTo_S2x1024x32x64_S_d0_1_2_3 : S2x1024x32x64.ReducesTo [0, 1, 2, 3] S_

variable [Facts]

def fn {F : FTy → Type} [FloatOps F] (main_arg0 : FVec F S2x128x512 .f32) (main_arg1 : FVec F S512x2048 .f32) (main_arg2 : FVec F S2x1024x32x64 .f32) (main_arg3 : FVec F S2x1024x32x64 .f32) (main_arg4 : FVec F S2048x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2x1024x32x64 .f32 := Host.absf main_arg2
  let main_cst_2 : FVec F S_ .f32 := constant S_ .f32 0x7F800000#32
  let main_v10 : FVec F S2x1024x32x64 .f32 := broadcastInDim S2x1024x32x64 ![] bcast_S_S2x1024x32x64 main_cst_2
  let main_v11 : IVec S2x1024x32x64 1 := cmpf .olt main_v9 main_v10
  let main_c_3 : IVec S_ 1 := constantI S_ 1 1#1
  let main_v12 : IVec S_ 1 := (fun x v => Host.reduce IntOp.andi x v reducesTo_S2x1024x32x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S2x128x2048 : Shape := ⟨3, ![2, 128, 2048]⟩
abbrev S4x2x128x256 : Shape := ⟨4, ![4, 2, 128, 256]⟩
abbrev S8x2x16x512 : Shape := ⟨4, ![8, 2, 16, 512]⟩
abbrev S2x16x512 : Shape := ⟨3, ![2, 16, 512]⟩
abbrev S2x128x256 : Shape := ⟨3, ![2, 128, 256]⟩
abbrev S8 : Shape := ⟨1, ![8]⟩
abbrev S4 : Shape := ⟨1, ![4]⟩
abbrev S2 : Shape := ⟨1, ![2]⟩
abbrev S_ : Shape := ⟨0, ![]⟩
abbrev S1 : Shape := ⟨1, ![1]⟩
abbrev S1x2x128x256 : Shape := ⟨4, ![1, 2, 128, 256]⟩
abbrev S1x128x512 : Shape := ⟨3, ![1, 128, 512]⟩
abbrev S128x512 : Shape := ⟨2, ![128, 512]⟩
abbrev S128x256 : Shape := ⟨2, ![128, 256]⟩
abbrev S1x1x64x256 : Shape := ⟨4, ![1, 1, 64, 256]⟩
abbrev S64x256 : Shape := ⟨2, ![64, 256]⟩
abbrev S64x64 : Shape := ⟨2, ![64, 64]⟩
abbrev S64 : Shape := ⟨1, ![64]⟩
abbrev S64x1 : Shape := ⟨2, ![64, 1]⟩
abbrev S64x512 : Shape := ⟨2, ![64, 512]⟩
abbrev S1x64x512 : Shape := ⟨3, ![1, 64, 512]⟩
abbrev S1x2x16x512 : Shape := ⟨4, ![1, 2, 16, 512]⟩

abbrev nBuf : Space → Nat
  | .hbm => 10
  | .vmem => 15
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x32x64, .f32⟩
  | .hbm, ⟨3, _⟩ => ⟨S2x128x32x64, .f32⟩
  | .hbm, ⟨4, _⟩ => ⟨S256x512, .f32⟩
  | .hbm, ⟨5, _⟩ => ⟨S2x128x32x64, .bf16⟩
  | .hbm, ⟨6, _⟩ => ⟨S2x128x2048, .bf16⟩
  | .hbm, ⟨7, _⟩ => ⟨S2x128x32x64, .bf16⟩
  | .hbm, ⟨8, _⟩ => ⟨S2x128x2048, .bf16⟩
  | .hbm, ⟨9, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x2048, .bf16⟩
  | .local _ .vmem, ⟨3, _⟩ => ⟨S2x128x2048, .bf16⟩
  | .local _ .vmem, ⟨4, _⟩ => ⟨S256x512, .f32⟩
  | .local _ .vmem, ⟨5, _⟩ => ⟨S2x128x512, .f32⟩
  | .local _ .vmem, ⟨6, _⟩ => ⟨S4x2x128x256, .bf16⟩
  | .local _ .vmem, ⟨7, _⟩ => ⟨S4x2x128x256, .bf16⟩
  | .local _ .vmem, ⟨8, _⟩ => ⟨S2x128x512, .f32⟩
  | .local _ .vmem, ⟨9, _⟩ => ⟨S2x128x512, .bf16⟩
  | .local _ .vmem, ⟨10, _⟩ => ⟨S8x2x16x512, .bf16⟩
  | .local _ .vmem, ⟨11, _⟩ => ⟨S2x16x512, .bf16⟩
  | .local _ .vmem, ⟨12, _⟩ => ⟨S8x2x16x512, .bf16⟩
  | .local _ .vmem, ⟨13, _⟩ => ⟨S2x128x256, .bf16⟩
  | .local _ .vmem, ⟨14, _⟩ => ⟨S2x128x256, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 2 → Bool
  | ⟨0, _⟩ => false
  | ⟨1, _⟩ => true
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 2 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v32 : BitVec 32 := Scalar.addi v2 c1_i32_12
  let c8_i32_13 : BitVec 32 := 8#32
  let c0_i32_14 : BitVec 32 := 0#32
  let v33 : BitVec 1 := Scalar.cmpi .eq c8_i32_13 c0_i32_14
  let c1_i32_15 : BitVec 32 := 1#32
  let v34 : BitVec 32 := Scalar.select v33 c1_i32_15 c8_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c1_i32_20 : BitVec 32 := 1#32
  let v43 : BitVec 32 := Scalar.muli v42 c1_i32_20
  let v44 : BitVec 32 := Scalar.addi c0_i32_21 v43
  v44.toNat
def k0_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_22 : BitVec 32 := 2#32
  let v45 : BitVec 32 := Scalar.addi v2 c2_i32_22
  let c8_i32_23 : BitVec 32 := 8#32
  let c0_i32_24 : BitVec 32 := 0#32
  let v46 : BitVec 1 := Scalar.cmpi .eq c8_i32_23 c0_i32_24
  let c1_i32_25 : BitVec 32 := 1#32
  let v47 : BitVec 32 := Scalar.select v46 c1_i32_25 c8_i32_23
  let v48 : BitVec 32 := Scalar.remsi v45 v47
  let c0_i32_27 : BitVec 32 := 0#32
  let v50 : BitVec 1 := Scalar.cmpi .slt v48 c0_i32_27
  let c0_i32_28 : BitVec 32 := 0#32
  let v51 : BitVec 1 := Scalar.cmpi .slt v47 c0_i32_28
  let v52 : BitVec 1 := Scalar.xori v50 v51
  let c0_i32_26 : BitVec 32 := 0#32
  let v49 : BitVec 1 := Scalar.cmpi .ne v48 c0_i32_26
  let v53 : BitVec 1 := Scalar.andi v52 v49
  let v54 : BitVec 32 := Scalar.addi v48 v47
  let v55 : BitVec 32 := Scalar.select v53 v54 v48
  let c1_i32_30 : BitVec 32 := 1#32
  let v56 : BitVec 32 := Scalar.muli v55 c1_i32_30
  let v57 : BitVec 32 := Scalar.addi c0_i32_31 v56
  v57.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v58 : BitVec 32 := Scalar.addi v2 c3_i32
  let c8_i32_32 : BitVec 32 := 8#32
  let c0_i32_33 : BitVec 32 := 0#32
  let v59 : BitVec 1 := Scalar.cmpi .eq c8_i32_32 c0_i32_33
  let c1_i32_34 : BitVec 32 := 1#32
  let v60 : BitVec 32 := Scalar.select v59 c1_i32_34 c8_i32_32
  let v61 : BitVec 32 := Scalar.remsi v58 v60
  let c0_i32_36 : BitVec 32 := 0#32
  let v63 : BitVec 1 := Scalar.cmpi .slt v61 c0_i32_36
  let c0_i32_37 : BitVec 32 := 0#32
  let v64 : BitVec 1 := Scalar.cmpi .slt v60 c0_i32_37
  let v65 : BitVec 1 := Scalar.xori v63 v64
  let c0_i32_35 : BitVec 32 := 0#32
  let v62 : BitVec 1 := Scalar.cmpi .ne v61 c0_i32_35
  let v66 : BitVec 1 := Scalar.andi v65 v62
  let v67 : BitVec 32 := Scalar.addi v61 v60
  let v68 : BitVec 32 := Scalar.select v66 v67 v61
  let c1_i32_39 : BitVec 32 := 1#32
  let v69 : BitVec 32 := Scalar.muli v68 c1_i32_39
  let v70 : BitVec 32 := Scalar.addi c0_i32_40 v69
  v70.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v71 : BitVec 32 := Scalar.addi v2 c4_i32
  let c8_i32_41 : BitVec 32 := 8#32
  let c0_i32_42 : BitVec 32 := 0#32
  let v72 : BitVec 1 := Scalar.cmpi .eq c8_i32_41 c0_i32_42
  let c1_i32_43 : BitVec 32 := 1#32
  let v73 : BitVec 32 := Scalar.select v72 c1_i32_43 c8_i32_41
  let v74 : BitVec 32 := Scalar.remsi v71 v73
  let c0_i32_45 : BitVec 32 := 0#32
  let v76 : BitVec 1 := Scalar.cmpi .slt v74 c0_i32_45
  let c0_i32_46 : BitVec 32 := 0#32
  let v77 : BitVec 1 := Scalar.cmpi .slt v73 c0_i32_46
  let v78 : BitVec 1 := Scalar.xori v76 v77
  let c0_i32_44 : BitVec 32 := 0#32
  let v75 : BitVec 1 := Scalar.cmpi .ne v74 c0_i32_44
  let v79 : BitVec 1 := Scalar.andi v78 v75
  let v80 : BitVec 32 := Scalar.addi v74 v73
  let v81 : BitVec 32 := Scalar.select v79 v80 v74
  let c1_i32_48 : BitVec 32 := 1#32
  let v82 : BitVec 32 := Scalar.muli v81 c1_i32_48
  let v83 : BitVec 32 := Scalar.addi c0_i32_49 v82
  v83.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v84 : BitVec 32 := Scalar.addi v2 c5_i32
  let c8_i32_50 : BitVec 32 := 8#32
  let c0_i32_51 : BitVec 32 := 0#32
  let v85 : BitVec 1 := Scalar.cmpi .eq c8_i32_50 c0_i32_51
  let c1_i32_52 : BitVec 32 := 1#32
  let v86 : BitVec 32 := Scalar.select v85 c1_i32_52 c8_i32_50
  let v87 : BitVec 32 := Scalar.remsi v84 v86
  let c0_i32_54 : BitVec 32 := 0#32
  let v89 : BitVec 1 := Scalar.cmpi .slt v87 c0_i32_54
  let c0_i32_55 : BitVec 32 := 0#32
  let v90 : BitVec 1 := Scalar.cmpi .slt v86 c0_i32_55
  let v91 : BitVec 1 := Scalar.xori v89 v90
  let c0_i32_53 : BitVec 32 := 0#32
  let v88 : BitVec 1 := Scalar.cmpi .ne v87 c0_i32_53
  let v92 : BitVec 1 := Scalar.andi v91 v88
  let v93 : BitVec 32 := Scalar.addi v87 v86
  let v94 : BitVec 32 := Scalar.select v92 v93 v87
  let c1_i32_57 : BitVec 32 := 1#32
  let v95 : BitVec 32 := Scalar.muli v94 c1_i32_57
  let v96 : BitVec 32 := Scalar.addi c0_i32_58 v95
  v96.toNat
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v97 : BitVec 32 := Scalar.addi v2 c6_i32
  let c8_i32_59 : BitVec 32 := 8#32
  let c0_i32_60 : BitVec 32 := 0#32
  let v98 : BitVec 1 := Scalar.cmpi .eq c8_i32_59 c0_i32_60
  let c1_i32_61 : BitVec 32 := 1#32
  let v99 : BitVec 32 := Scalar.select v98 c1_i32_61 c8_i32_59
  let v100 : BitVec 32 := Scalar.remsi v97 v99
  let c0_i32_63 : BitVec 32 := 0#32
  let v102 : BitVec 1 := Scalar.cmpi .slt v100 c0_i32_63
  let c0_i32_64 : BitVec 32 := 0#32
  let v103 : BitVec 1 := Scalar.cmpi .slt v99 c0_i32_64
  let v104 : BitVec 1 := Scalar.xori v102 v103
  let c0_i32_62 : BitVec 32 := 0#32
  let v101 : BitVec 1 := Scalar.cmpi .ne v100 c0_i32_62
  let v105 : BitVec 1 := Scalar.andi v104 v101
  let v106 : BitVec 32 := Scalar.addi v100 v99
  let v107 : BitVec 32 := Scalar.select v105 v106 v100
  let c1_i32_66 : BitVec 32 := 1#32
  let v108 : BitVec 32 := Scalar.muli v107 c1_i32_66
  let v109 : BitVec 32 := Scalar.addi c0_i32_67 v108
  v109.toNat
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v110 : BitVec 32 := Scalar.addi v2 c7_i32
  let c8_i32_68 : BitVec 32 := 8#32
  let c0_i32_69 : BitVec 32 := 0#32
  let v111 : BitVec 1 := Scalar.cmpi .eq c8_i32_68 c0_i32_69
  let c1_i32_70 : BitVec 32 := 1#32
  let v112 : BitVec 32 := Scalar.select v111 c1_i32_70 c8_i32_68
  let v113 : BitVec 32 := Scalar.remsi v110 v112
  let c0_i32_72 : BitVec 32 := 0#32
  let v115 : BitVec 1 := Scalar.cmpi .slt v113 c0_i32_72
  let c0_i32_73 : BitVec 32 := 0#32
  let v116 : BitVec 1 := Scalar.cmpi .slt v112 c0_i32_73
  let v117 : BitVec 1 := Scalar.xori v115 v116
  let c0_i32_71 : BitVec 32 := 0#32
  let v114 : BitVec 1 := Scalar.cmpi .ne v113 c0_i32_71
  let v118 : BitVec 1 := Scalar.andi v117 v114
  let v119 : BitVec 32 := Scalar.addi v113 v112
  let v120 : BitVec 32 := Scalar.select v118 v119 v113
  let c1_i32_75 : BitVec 32 := 1#32
  let v121 : BitVec 32 := Scalar.muli v120 c1_i32_75
  let v122 : BitVec 32 := Scalar.addi c0_i32_76 v121
  v122.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v123 : BitVec 32 := Scalar.extui v13
  let c0_i32_78 : BitVec 32 := 0#32
  let v124 : BitVec 1 := Scalar.cmpi .ne v123 c0_i32_78
  v124

def k0_mult1 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v2235 : BitVec 32 := Scalar.muli v2 c256_i32
  v2235
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  ![v30.toNat]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c0_i32_1188 : BitVec 32 := 0#32
  let c0_i32_1189 : BitVec 32 := 0#32
  let c0_i32_1190 : BitVec 32 := 0#32
  ![v30.toNat, 0, 0, 0]
def k0_off3 (d0 : Dev nD) : Fin 3 → Nat :=
  let c0_i32_1191 : BitVec 32 := 0#32
  let c0_i32_1192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v2235 : BitVec 32 := Scalar.muli v2 c256_i32
  let v2236 : BitVec 32 := v2235
  ![0, 0, v2236.toNat]
def k0_dev8 (d0 : Dev nD) : Nat :=
  let c0_i32_1187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1186 : BitVec 32 := 1#32
  let v2237 : BitVec 32 := Scalar.muli v2 c1_i32_1186
  let v2238 : BitVec 32 := Scalar.addi c0_i32_1187 v2237
  v2238.toNat
def k0_mult2 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1193 : BitVec 32 := 1#32
  let v2246 : BitVec 32 := Scalar.xori v2 c1_i32_1193
  let c256_i32_1194 : BitVec 32 := 256#32
  let v2247 : BitVec 32 := Scalar.muli v2246 c256_i32_1194
  v2247
def k0_off4 (d0 : Dev nD) (c1_i32_1193 : BitVec 32) : Fin 3 → Nat :=
  let c0_i32_1201 : BitVec 32 := 0#32
  let c0_i32_1202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2246 : BitVec 32 := Scalar.xori v2 c1_i32_1193
  let c256_i32_1194 : BitVec 32 := 256#32
  let v2247 : BitVec 32 := Scalar.muli v2246 c256_i32_1194
  let v2248 : BitVec 32 := v2247
  ![0, 0, v2248.toNat]
def k0_dev9 (d0 : Dev nD) : Nat :=
  let c0_i32_1197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1193 : BitVec 32 := 1#32
  let v2246 : BitVec 32 := Scalar.xori v2 c1_i32_1193
  let c1_i32_1196 : BitVec 32 := 1#32
  let v2249 : BitVec 32 := Scalar.muli v2246 c1_i32_1196
  let v2250 : BitVec 32 := Scalar.addi c0_i32_1197 v2249
  v2250.toNat
def k0_mult3 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1203 : BitVec 32 := 2#32
  let v2258 : BitVec 32 := Scalar.xori v2 c2_i32_1203
  let c256_i32_1204 : BitVec 32 := 256#32
  let v2259 : BitVec 32 := Scalar.muli v2258 c256_i32_1204
  v2259
def k0_dev10 (d0 : Dev nD) : Nat :=
  let c0_i32_1209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1205 : BitVec 32 := 3#32
  let v2261 : BitVec 32 := Scalar.xori v2 c3_i32_1205
  let c1_i32_1208 : BitVec 32 := 1#32
  let v2262 : BitVec 32 := Scalar.muli v2261 c1_i32_1208
  let v2263 : BitVec 32 := Scalar.addi c0_i32_1209 v2262
  v2263.toNat
def k0_mult4 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1212 : BitVec 32 := 3#32
  let v2269 : BitVec 32 := Scalar.xori v2 c3_i32_1212
  let c256_i32_1213 : BitVec 32 := 256#32
  let v2270 : BitVec 32 := Scalar.muli v2269 c256_i32_1213
  v2270
def k0_dev11 (d0 : Dev nD) : Nat :=
  let c0_i32_1216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1212 : BitVec 32 := 3#32
  let v2269 : BitVec 32 := Scalar.xori v2 c3_i32_1212
  let c1_i32_1215 : BitVec 32 := 1#32
  let v2272 : BitVec 32 := Scalar.muli v2269 c1_i32_1215
  let v2273 : BitVec 32 := Scalar.addi c0_i32_1216 v2272
  v2273.toNat
def k0_mult5 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1222 : BitVec 32 := 4#32
  let v2281 : BitVec 32 := Scalar.xori v2 c4_i32_1222
  let c256_i32_1223 : BitVec 32 := 256#32
  let v2282 : BitVec 32 := Scalar.muli v2281 c256_i32_1223
  v2282
def k0_dev12 (d0 : Dev nD) : Nat :=
  let c0_i32_1226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1222 : BitVec 32 := 4#32
  let v2281 : BitVec 32 := Scalar.xori v2 c4_i32_1222
  let c1_i32_1225 : BitVec 32 := 1#32
  let v2284 : BitVec 32 := Scalar.muli v2281 c1_i32_1225
  let v2285 : BitVec 32 := Scalar.addi c0_i32_1226 v2284
  v2285.toNat
def k0_mult6 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1232 : BitVec 32 := 5#32
  let v2293 : BitVec 32 := Scalar.xori v2 c5_i32_1232
  let c256_i32_1233 : BitVec 32 := 256#32
  let v2294 : BitVec 32 := Scalar.muli v2293 c256_i32_1233
  v2294
def k0_dev13 (d0 : Dev nD) : Nat :=
  let c0_i32_1236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1232 : BitVec 32 := 5#32
  let v2293 : BitVec 32 := Scalar.xori v2 c5_i32_1232
  let c1_i32_1235 : BitVec 32 := 1#32
  let v2296 : BitVec 32 := Scalar.muli v2293 c1_i32_1235
  let v2297 : BitVec 32 := Scalar.addi c0_i32_1236 v2296
  v2297.toNat
def k0_mult7 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1242 : BitVec 32 := 6#32
  let v2305 : BitVec 32 := Scalar.xori v2 c6_i32_1242
  let c256_i32_1243 : BitVec 32 := 256#32
  let v2306 : BitVec 32 := Scalar.muli v2305 c256_i32_1243
  v2306
def k0_dev14 (d0 : Dev nD) : Nat :=
  let c0_i32_1246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1242 : BitVec 32 := 6#32
  let v2305 : BitVec 32 := Scalar.xori v2 c6_i32_1242
  let c1_i32_1245 : BitVec 32 := 1#32
  let v2308 : BitVec 32 := Scalar.muli v2305 c1_i32_1245
  let v2309 : BitVec 32 := Scalar.addi c0_i32_1246 v2308
  v2309.toNat
def k0_mult8 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1252 : BitVec 32 := 7#32
  let v2317 : BitVec 32 := Scalar.xori v2 c7_i32_1252
  let c256_i32_1253 : BitVec 32 := 256#32
  let v2318 : BitVec 32 := Scalar.muli v2317 c256_i32_1253
  v2318
def k0_dev15 (d0 : Dev nD) : Nat :=
  let c0_i32_1256 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1252 : BitVec 32 := 7#32
  let v2317 : BitVec 32 := Scalar.xori v2 c7_i32_1252
  let c1_i32_1255 : BitVec 32 := 1#32
  let v2320 : BitVec 32 := Scalar.muli v2317 c1_i32_1255
  let v2321 : BitVec 32 := Scalar.addi c0_i32_1256 v2320
  v2321.toNat
def k0_dev16 (d0 : Dev nD) : Nat :=
  let c0_i32_1264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1263 : BitVec 32 := 1#32
  let v2329 : BitVec 32 := Scalar.muli v2 c1_i32_1263
  let v2330 : BitVec 32 := Scalar.addi c0_i32_1264 v2329
  v2330.toNat
def k0_mult9 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1270 : BitVec 32 := 1#32
  let v2338 : BitVec 32 := Scalar.xori v2 c1_i32_1270
  let c256_i32_1271 : BitVec 32 := 256#32
  let v2339 : BitVec 32 := Scalar.muli v2338 c256_i32_1271
  v2339
def k0_dev17 (d0 : Dev nD) : Nat :=
  let c0_i32_1274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1270 : BitVec 32 := 1#32
  let v2338 : BitVec 32 := Scalar.xori v2 c1_i32_1270
  let c1_i32_1273 : BitVec 32 := 1#32
  let v2341 : BitVec 32 := Scalar.muli v2338 c1_i32_1273
  let v2342 : BitVec 32 := Scalar.addi c0_i32_1274 v2341
  v2342.toNat
def k0_mult10 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1280 : BitVec 32 := 2#32
  let v2350 : BitVec 32 := Scalar.xori v2 c2_i32_1280
  let c256_i32_1281 : BitVec 32 := 256#32
  let v2351 : BitVec 32 := Scalar.muli v2350 c256_i32_1281
  v2351
def k0_dev18 (d0 : Dev nD) : Nat :=
  let c0_i32_1286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1282 : BitVec 32 := 3#32
  let v2353 : BitVec 32 := Scalar.xori v2 c3_i32_1282
  let c1_i32_1285 : BitVec 32 := 1#32
  let v2354 : BitVec 32 := Scalar.muli v2353 c1_i32_1285
  let v2355 : BitVec 32 := Scalar.addi c0_i32_1286 v2354
  v2355.toNat
def k0_mult11 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1289 : BitVec 32 := 3#32
  let v2361 : BitVec 32 := Scalar.xori v2 c3_i32_1289
  let c256_i32_1290 : BitVec 32 := 256#32
  let v2362 : BitVec 32 := Scalar.muli v2361 c256_i32_1290
  v2362
def k0_dev19 (d0 : Dev nD) : Nat :=
  let c0_i32_1293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1289 : BitVec 32 := 3#32
  let v2361 : BitVec 32 := Scalar.xori v2 c3_i32_1289
  let c1_i32_1292 : BitVec 32 := 1#32
  let v2364 : BitVec 32 := Scalar.muli v2361 c1_i32_1292
  let v2365 : BitVec 32 := Scalar.addi c0_i32_1293 v2364
  v2365.toNat
def k0_mult12 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1299 : BitVec 32 := 4#32
  let v2373 : BitVec 32 := Scalar.xori v2 c4_i32_1299
  let c256_i32_1300 : BitVec 32 := 256#32
  let v2374 : BitVec 32 := Scalar.muli v2373 c256_i32_1300
  v2374
def k0_dev20 (d0 : Dev nD) : Nat :=
  let c0_i32_1303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1299 : BitVec 32 := 4#32
  let v2373 : BitVec 32 := Scalar.xori v2 c4_i32_1299
  let c1_i32_1302 : BitVec 32 := 1#32
  let v2376 : BitVec 32 := Scalar.muli v2373 c1_i32_1302
  let v2377 : BitVec 32 := Scalar.addi c0_i32_1303 v2376
  v2377.toNat
def k0_mult13 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1309 : BitVec 32 := 5#32
  let v2385 : BitVec 32 := Scalar.xori v2 c5_i32_1309
  let c256_i32_1310 : BitVec 32 := 256#32
  let v2386 : BitVec 32 := Scalar.muli v2385 c256_i32_1310
  v2386
def k0_dev21 (d0 : Dev nD) : Nat :=
  let c0_i32_1313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1309 : BitVec 32 := 5#32
  let v2385 : BitVec 32 := Scalar.xori v2 c5_i32_1309
  let c1_i32_1312 : BitVec 32 := 1#32
  let v2388 : BitVec 32 := Scalar.muli v2385 c1_i32_1312
  let v2389 : BitVec 32 := Scalar.addi c0_i32_1313 v2388
  v2389.toNat
def k0_mult14 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1319 : BitVec 32 := 6#32
  let v2397 : BitVec 32 := Scalar.xori v2 c6_i32_1319
  let c256_i32_1320 : BitVec 32 := 256#32
  let v2398 : BitVec 32 := Scalar.muli v2397 c256_i32_1320
  v2398
def k0_dev22 (d0 : Dev nD) : Nat :=
  let c0_i32_1323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1319 : BitVec 32 := 6#32
  let v2397 : BitVec 32 := Scalar.xori v2 c6_i32_1319
  let c1_i32_1322 : BitVec 32 := 1#32
  let v2400 : BitVec 32 := Scalar.muli v2397 c1_i32_1322
  let v2401 : BitVec 32 := Scalar.addi c0_i32_1323 v2400
  v2401.toNat
def k0_mult15 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1329 : BitVec 32 := 7#32
  let v2409 : BitVec 32 := Scalar.xori v2 c7_i32_1329
  let c256_i32_1330 : BitVec 32 := 256#32
  let v2410 : BitVec 32 := Scalar.muli v2409 c256_i32_1330
  v2410
def k0_dev23 (d0 : Dev nD) : Nat :=
  let c0_i32_1333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1329 : BitVec 32 := 7#32
  let v2409 : BitVec 32 := Scalar.xori v2 c7_i32_1329
  let c1_i32_1332 : BitVec 32 := 1#32
  let v2412 : BitVec 32 := Scalar.muli v2409 c1_i32_1332
  let v2413 : BitVec 32 := Scalar.addi c0_i32_1333 v2412
  v2413.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let true_88 : BitVec 1 := 1#1
  let v135 : BitVec 1 := Scalar.xori v13 true_88
  let v136 : BitVec 32 := Scalar.extui v135
  let c0_i32_89 : BitVec 32 := 0#32
  let v137 : BitVec 1 := Scalar.cmpi .ne v136 c0_i32_89
  v137

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1185 : BitVec 32 := 3#32
  let v2235 : BitVec 32 := Scalar.xori v2 c3_i32_1185
  let c0_i32_1187 : BitVec 32 := 0#32
  let v2237 : BitVec 1 := Scalar.cmpi .sgt v2235 c0_i32_1187
  let v2238 : BitVec 32 := Scalar.extui v2237
  let c0_i32_1188 : BitVec 32 := 0#32
  let v2239 : BitVec 1 := Scalar.cmpi .slt v2235 c0_i32_1188
  let v2240 : BitVec 32 := Scalar.extui v2239
  let v2241 : BitVec 32 := Scalar.subi v2238 v2240
  let c2_i32_1186 : BitVec 32 := 2#32
  let c0_i32_1189 : BitVec 32 := 0#32
  let v2242 : BitVec 1 := Scalar.cmpi .sgt c2_i32_1186 c0_i32_1189
  let v2243 : BitVec 32 := Scalar.extui v2242
  let c0_i32_1190 : BitVec 32 := 0#32
  let v2244 : BitVec 1 := Scalar.cmpi .slt c2_i32_1186 c0_i32_1190
  let v2245 : BitVec 32 := Scalar.extui v2244
  let v2246 : BitVec 32 := Scalar.subi v2243 v2245
  let v2247 : BitVec 1 := Scalar.cmpi .ne v2241 v2246
  let v2248 : BitVec 32 := Scalar.remsi v2235 c2_i32_1186
  let c0_i32_1191 : BitVec 32 := 0#32
  let v2249 : BitVec 1 := Scalar.cmpi .ne v2248 c0_i32_1191
  let v2250 : BitVec 1 := Scalar.andi v2247 v2249
  let v2236 : BitVec 32 := Scalar.divsi v2235 c2_i32_1186
  let c1_i32_1192 : BitVec 32 := 1#32
  let v2251 : BitVec 32 := Scalar.subi v2236 c1_i32_1192
  let v2252 : BitVec 32 := Scalar.select v2250 v2251 v2236
  ![v2252.toNat]
def k0_off6 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1185 : BitVec 32 := 3#32
  let v2235 : BitVec 32 := Scalar.xori v2 c3_i32_1185
  let c0_i32_1187 : BitVec 32 := 0#32
  let v2237 : BitVec 1 := Scalar.cmpi .sgt v2235 c0_i32_1187
  let v2238 : BitVec 32 := Scalar.extui v2237
  let c0_i32_1188 : BitVec 32 := 0#32
  let v2239 : BitVec 1 := Scalar.cmpi .slt v2235 c0_i32_1188
  let v2240 : BitVec 32 := Scalar.extui v2239
  let v2241 : BitVec 32 := Scalar.subi v2238 v2240
  let c2_i32_1186 : BitVec 32 := 2#32
  let c0_i32_1189 : BitVec 32 := 0#32
  let v2242 : BitVec 1 := Scalar.cmpi .sgt c2_i32_1186 c0_i32_1189
  let v2243 : BitVec 32 := Scalar.extui v2242
  let c0_i32_1190 : BitVec 32 := 0#32
  let v2244 : BitVec 1 := Scalar.cmpi .slt c2_i32_1186 c0_i32_1190
  let v2245 : BitVec 32 := Scalar.extui v2244
  let v2246 : BitVec 32 := Scalar.subi v2243 v2245
  let v2247 : BitVec 1 := Scalar.cmpi .ne v2241 v2246
  let v2248 : BitVec 32 := Scalar.remsi v2235 c2_i32_1186
  let c0_i32_1191 : BitVec 32 := 0#32
  let v2249 : BitVec 1 := Scalar.cmpi .ne v2248 c0_i32_1191
  let v2250 : BitVec 1 := Scalar.andi v2247 v2249
  let v2236 : BitVec 32 := Scalar.divsi v2235 c2_i32_1186
  let c1_i32_1192 : BitVec 32 := 1#32
  let v2251 : BitVec 32 := Scalar.subi v2236 c1_i32_1192
  let v2252 : BitVec 32 := Scalar.select v2250 v2251 v2236
  let c0_i32_1202 : BitVec 32 := 0#32
  let c0_i32_1203 : BitVec 32 := 0#32
  let c0_i32_1204 : BitVec 32 := 0#32
  ![v2252.toNat, 0, 0, 0]
def k0_dev24 (d0 : Dev nD) : Nat :=
  let c0_i32_1201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1193 : BitVec 32 := 1#32
  let v2253 : BitVec 32 := Scalar.xori v2 c1_i32_1193
  let c1_i32_1200 : BitVec 32 := 1#32
  let v2258 : BitVec 32 := Scalar.muli v2253 c1_i32_1200
  let v2259 : BitVec 32 := Scalar.addi c0_i32_1201 v2258
  v2259.toNat
def k0_dev25 (d0 : Dev nD) : Nat :=
  let c0_i32_1212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1193 : BitVec 32 := 1#32
  let v2253 : BitVec 32 := Scalar.xori v2 c1_i32_1193
  let c1_i32_1211 : BitVec 32 := 1#32
  let v2270 : BitVec 32 := Scalar.muli v2253 c1_i32_1211
  let v2271 : BitVec 32 := Scalar.addi c0_i32_1212 v2270
  v2271.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_649 : BitVec 32 := 0#32
  let v1576 : BitVec 1 := Scalar.cmpi .ne v2 c0_i32_649
  let v1577 : BitVec 32 := Scalar.extui v1576
  let c0_i32_650 : BitVec 32 := 0#32
  let v1578 : BitVec 1 := Scalar.cmpi .ne v1577 c0_i32_650
  v1578

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1189 : BitVec 32 := 0#32
  let c0_i32_1190 : BitVec 32 := 0#32
  let c0_i32_1191 : BitVec 32 := 0#32
  ![v2.toNat, 0, 0, 0]
def k0_dev26 : Nat :=
  let c0_i32_1188 : BitVec 32 := 0#32
  let c0_i32_1186 : BitVec 32 := 0#32
  let c1_i32_1187 : BitVec 32 := 1#32
  let v2235 : BitVec 32 := Scalar.muli c0_i32_1186 c1_i32_1187
  let v2236 : BitVec 32 := Scalar.addi c0_i32_1188 v2235
  v2236.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_651 : BitVec 32 := 1#32
  let v1579 : BitVec 1 := Scalar.cmpi .ne v2 c1_i32_651
  let v1580 : BitVec 32 := Scalar.extui v1579
  let c0_i32_652 : BitVec 32 := 0#32
  let v1581 : BitVec 1 := Scalar.cmpi .ne v1580 c0_i32_652
  v1581

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1189 : BitVec 32 := 0#32
  let c0_i32_1190 : BitVec 32 := 0#32
  let c0_i32_1191 : BitVec 32 := 0#32
  ![v2.toNat, 0, 0, 0]
def k0_dev27 : Nat :=
  let c0_i32_1188 : BitVec 32 := 0#32
  let c1_i32_1186 : BitVec 32 := 1#32
  let c1_i32_1187 : BitVec 32 := 1#32
  let v2235 : BitVec 32 := Scalar.muli c1_i32_1186 c1_i32_1187
  let v2236 : BitVec 32 := Scalar.addi c0_i32_1188 v2235
  v2236.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_653 : BitVec 32 := 2#32
  let v1582 : BitVec 1 := Scalar.cmpi .ne v2 c2_i32_653
  let v1583 : BitVec 32 := Scalar.extui v1582
  let c0_i32_654 : BitVec 32 := 0#32
  let v1584 : BitVec 1 := Scalar.cmpi .ne v1583 c0_i32_654
  v1584

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1189 : BitVec 32 := 0#32
  let c0_i32_1190 : BitVec 32 := 0#32
  let c0_i32_1191 : BitVec 32 := 0#32
  ![v2.toNat, 0, 0, 0]
def k0_dev28 : Nat :=
  let c0_i32_1188 : BitVec 32 := 0#32
  let c2_i32_1186 : BitVec 32 := 2#32
  let c1_i32_1187 : BitVec 32 := 1#32
  let v2235 : BitVec 32 := Scalar.muli c2_i32_1186 c1_i32_1187
  let v2236 : BitVec 32 := Scalar.addi c0_i32_1188 v2235
  v2236.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_655 : BitVec 32 := 3#32
  let v1585 : BitVec 1 := Scalar.cmpi .ne v2 c3_i32_655
  let v1586 : BitVec 32 := Scalar.extui v1585
  let c0_i32_656 : BitVec 32 := 0#32
  let v1587 : BitVec 1 := Scalar.cmpi .ne v1586 c0_i32_656
  v1587

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1189 : BitVec 32 := 0#32
  let c0_i32_1190 : BitVec 32 := 0#32
  let c0_i32_1191 : BitVec 32 := 0#32
  ![v2.toNat, 0, 0, 0]
def k0_dev29 : Nat :=
  let c0_i32_1188 : BitVec 32 := 0#32
  let c3_i32_1186 : BitVec 32 := 3#32
  let c1_i32_1187 : BitVec 32 := 1#32
  let v2235 : BitVec 32 := Scalar.muli c3_i32_1186 c1_i32_1187
  let v2236 : BitVec 32 := Scalar.addi c0_i32_1188 v2235
  v2236.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_675 : BitVec 32 := 4#32
  let v1610 : BitVec 1 := Scalar.cmpi .ne v2 c4_i32_675
  let v1611 : BitVec 32 := Scalar.extui v1610
  let c0_i32_676 : BitVec 32 := 0#32
  let v1612 : BitVec 1 := Scalar.cmpi .ne v1611 c0_i32_676
  v1612

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1189 : BitVec 32 := 0#32
  let c0_i32_1190 : BitVec 32 := 0#32
  let c0_i32_1191 : BitVec 32 := 0#32
  ![v2.toNat, 0, 0, 0]
def k0_dev30 : Nat :=
  let c0_i32_1188 : BitVec 32 := 0#32
  let c4_i32_1186 : BitVec 32 := 4#32
  let c1_i32_1187 : BitVec 32 := 1#32
  let v2235 : BitVec 32 := Scalar.muli c4_i32_1186 c1_i32_1187
  let v2236 : BitVec 32 := Scalar.addi c0_i32_1188 v2235
  v2236.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_677 : BitVec 32 := 5#32
  let v1613 : BitVec 1 := Scalar.cmpi .ne v2 c5_i32_677
  let v1614 : BitVec 32 := Scalar.extui v1613
  let c0_i32_678 : BitVec 32 := 0#32
  let v1615 : BitVec 1 := Scalar.cmpi .ne v1614 c0_i32_678
  v1615

def k0_off17 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off18 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1189 : BitVec 32 := 0#32
  let c0_i32_1190 : BitVec 32 := 0#32
  let c0_i32_1191 : BitVec 32 := 0#32
  ![v2.toNat, 0, 0, 0]
def k0_dev31 : Nat :=
  let c0_i32_1188 : BitVec 32 := 0#32
  let c5_i32_1186 : BitVec 32 := 5#32
  let c1_i32_1187 : BitVec 32 := 1#32
  let v2235 : BitVec 32 := Scalar.muli c5_i32_1186 c1_i32_1187
  let v2236 : BitVec 32 := Scalar.addi c0_i32_1188 v2235
  v2236.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_679 : BitVec 32 := 6#32
  let v1616 : BitVec 1 := Scalar.cmpi .ne v2 c6_i32_679
  let v1617 : BitVec 32 := Scalar.extui v1616
  let c0_i32_680 : BitVec 32 := 0#32
  let v1618 : BitVec 1 := Scalar.cmpi .ne v1617 c0_i32_680
  v1618

def k0_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off20 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1189 : BitVec 32 := 0#32
  let c0_i32_1190 : BitVec 32 := 0#32
  let c0_i32_1191 : BitVec 32 := 0#32
  ![v2.toNat, 0, 0, 0]
def k0_dev32 : Nat :=
  let c0_i32_1188 : BitVec 32 := 0#32
  let c6_i32_1186 : BitVec 32 := 6#32
  let c1_i32_1187 : BitVec 32 := 1#32
  let v2235 : BitVec 32 := Scalar.muli c6_i32_1186 c1_i32_1187
  let v2236 : BitVec 32 := Scalar.addi c0_i32_1188 v2235
  v2236.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_681 : BitVec 32 := 7#32
  let v1619 : BitVec 1 := Scalar.cmpi .ne v2 c7_i32_681
  let v1620 : BitVec 32 := Scalar.extui v1619
  let c0_i32_682 : BitVec 32 := 0#32
  let v1621 : BitVec 1 := Scalar.cmpi .ne v1620 c0_i32_682
  v1621

def k0_off21 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off22 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1189 : BitVec 32 := 0#32
  let c0_i32_1190 : BitVec 32 := 0#32
  let c0_i32_1191 : BitVec 32 := 0#32
  ![v2.toNat, 0, 0, 0]
def k0_dev33 : Nat :=
  let c0_i32_1188 : BitVec 32 := 0#32
  let c7_i32_1186 : BitVec 32 := 7#32
  let c1_i32_1187 : BitVec 32 := 1#32
  let v2235 : BitVec 32 := Scalar.muli c7_i32_1186 c1_i32_1187
  let v2236 : BitVec 32 := Scalar.addi c0_i32_1188 v2235
  v2236.toNat
def k0_mult16 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v1622 : BitVec 32 := Scalar.muli v2 c16_i32
  v1622
def k0_off23 (d0 : Dev nD) (c1_i32_683 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1624 : BitVec 32 := Scalar.addi v2 c1_i32_683
  let c8_i32_684 : BitVec 32 := 8#32
  let c0_i32_685 : BitVec 32 := 0#32
  let v1625 : BitVec 1 := Scalar.cmpi .eq c8_i32_684 c0_i32_685
  let c1_i32_686 : BitVec 32 := 1#32
  let v1626 : BitVec 32 := Scalar.select v1625 c1_i32_686 c8_i32_684
  let v1627 : BitVec 32 := Scalar.remsi v1624 v1626
  let c0_i32_688 : BitVec 32 := 0#32
  let v1629 : BitVec 1 := Scalar.cmpi .slt v1627 c0_i32_688
  let c0_i32_689 : BitVec 32 := 0#32
  let v1630 : BitVec 1 := Scalar.cmpi .slt v1626 c0_i32_689
  let v1631 : BitVec 1 := Scalar.xori v1629 v1630
  let c0_i32_687 : BitVec 32 := 0#32
  let v1628 : BitVec 1 := Scalar.cmpi .ne v1627 c0_i32_687
  let v1632 : BitVec 1 := Scalar.andi v1631 v1628
  let v1633 : BitVec 32 := Scalar.addi v1627 v1626
  let v1634 : BitVec 32 := Scalar.select v1632 v1633 v1627
  ![v1634.toNat]
def k0_off24 (d0 : Dev nD) (c1_i32_683 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1624 : BitVec 32 := Scalar.addi v2 c1_i32_683
  let c8_i32_684 : BitVec 32 := 8#32
  let c0_i32_685 : BitVec 32 := 0#32
  let v1625 : BitVec 1 := Scalar.cmpi .eq c8_i32_684 c0_i32_685
  let c1_i32_686 : BitVec 32 := 1#32
  let v1626 : BitVec 32 := Scalar.select v1625 c1_i32_686 c8_i32_684
  let v1627 : BitVec 32 := Scalar.remsi v1624 v1626
  let c0_i32_688 : BitVec 32 := 0#32
  let v1629 : BitVec 1 := Scalar.cmpi .slt v1627 c0_i32_688
  let c0_i32_689 : BitVec 32 := 0#32
  let v1630 : BitVec 1 := Scalar.cmpi .slt v1626 c0_i32_689
  let v1631 : BitVec 1 := Scalar.xori v1629 v1630
  let c0_i32_687 : BitVec 32 := 0#32
  let v1628 : BitVec 1 := Scalar.cmpi .ne v1627 c0_i32_687
  let v1632 : BitVec 1 := Scalar.andi v1631 v1628
  let v1633 : BitVec 32 := Scalar.addi v1627 v1626
  let v1634 : BitVec 32 := Scalar.select v1632 v1633 v1627
  let c0_i32_694 : BitVec 32 := 0#32
  let c0_i32_695 : BitVec 32 := 0#32
  let c0_i32_696 : BitVec 32 := 0#32
  ![v1634.toNat, 0, 0, 0]
def k0_off25 (d0 : Dev nD) : Fin 3 → Nat :=
  let c0_802 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v1622 : BitVec 32 := Scalar.muli v2 c16_i32
  let v1623 : BitVec 32 := v1622
  let v1750 : Index := Scalar.indexCast v1623
  let c0_803 : Index := 0#32
  ![0, v1750.toNat, 0]
def k0_off26 (d0 : Dev nD) (c1_i32_804 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1752 : BitVec 32 := Scalar.addi v2 c1_i32_804
  let c8_i32_805 : BitVec 32 := 8#32
  let c0_i32_806 : BitVec 32 := 0#32
  let v1753 : BitVec 1 := Scalar.cmpi .eq c8_i32_805 c0_i32_806
  let c1_i32_807 : BitVec 32 := 1#32
  let v1754 : BitVec 32 := Scalar.select v1753 c1_i32_807 c8_i32_805
  let v1755 : BitVec 32 := Scalar.remsi v1752 v1754
  let c0_i32_809 : BitVec 32 := 0#32
  let v1757 : BitVec 1 := Scalar.cmpi .slt v1755 c0_i32_809
  let c0_i32_810 : BitVec 32 := 0#32
  let v1758 : BitVec 1 := Scalar.cmpi .slt v1754 c0_i32_810
  let v1759 : BitVec 1 := Scalar.xori v1757 v1758
  let c0_i32_808 : BitVec 32 := 0#32
  let v1756 : BitVec 1 := Scalar.cmpi .ne v1755 c0_i32_808
  let v1760 : BitVec 1 := Scalar.andi v1759 v1756
  let v1761 : BitVec 32 := Scalar.addi v1755 v1754
  let v1762 : BitVec 32 := Scalar.select v1760 v1761 v1755
  let v1763 : Index := Scalar.indexCast v1762
  let c0_811 : Index := 0#32
  let c0_812 : Index := 0#32
  let c0_813 : Index := 0#32
  ![v1763.toNat, 0, 0, 0]
def k0_off27 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off28 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_889 : BitVec 32 := 0#32
  let c0_i32_890 : BitVec 32 := 0#32
  let c0_i32_891 : BitVec 32 := 0#32
  ![v2.toNat, 0, 0, 0]
def k0_dev34 (d0 : Dev nD) : Nat :=
  let c0_i32_888 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_879 : BitVec 32 := 1#32
  let v1870 : BitVec 32 := Scalar.addi v2 c1_i32_879
  let c8_i32_880 : BitVec 32 := 8#32
  let c0_i32_881 : BitVec 32 := 0#32
  let v1871 : BitVec 1 := Scalar.cmpi .eq c8_i32_880 c0_i32_881
  let c1_i32_882 : BitVec 32 := 1#32
  let v1872 : BitVec 32 := Scalar.select v1871 c1_i32_882 c8_i32_880
  let v1873 : BitVec 32 := Scalar.remsi v1870 v1872
  let c0_i32_884 : BitVec 32 := 0#32
  let v1875 : BitVec 1 := Scalar.cmpi .slt v1873 c0_i32_884
  let c0_i32_885 : BitVec 32 := 0#32
  let v1876 : BitVec 1 := Scalar.cmpi .slt v1872 c0_i32_885
  let v1877 : BitVec 1 := Scalar.xori v1875 v1876
  let c0_i32_883 : BitVec 32 := 0#32
  let v1874 : BitVec 1 := Scalar.cmpi .ne v1873 c0_i32_883
  let v1878 : BitVec 1 := Scalar.andi v1877 v1874
  let v1879 : BitVec 32 := Scalar.addi v1873 v1872
  let v1880 : BitVec 32 := Scalar.select v1878 v1879 v1873
  let c1_i32_887 : BitVec 32 := 1#32
  let v1881 : BitVec 32 := Scalar.muli v1880 c1_i32_887
  let v1882 : BitVec 32 := Scalar.addi c0_i32_888 v1881
  v1882.toNat
def k0_dev35 (d0 : Dev nD) : Nat :=
  let c0_i32_901 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_892 : BitVec 32 := 2#32
  let v1889 : BitVec 32 := Scalar.addi v2 c2_i32_892
  let c8_i32_893 : BitVec 32 := 8#32
  let c0_i32_894 : BitVec 32 := 0#32
  let v1890 : BitVec 1 := Scalar.cmpi .eq c8_i32_893 c0_i32_894
  let c1_i32_895 : BitVec 32 := 1#32
  let v1891 : BitVec 32 := Scalar.select v1890 c1_i32_895 c8_i32_893
  let v1892 : BitVec 32 := Scalar.remsi v1889 v1891
  let c0_i32_897 : BitVec 32 := 0#32
  let v1894 : BitVec 1 := Scalar.cmpi .slt v1892 c0_i32_897
  let c0_i32_898 : BitVec 32 := 0#32
  let v1895 : BitVec 1 := Scalar.cmpi .slt v1891 c0_i32_898
  let v1896 : BitVec 1 := Scalar.xori v1894 v1895
  let c0_i32_896 : BitVec 32 := 0#32
  let v1893 : BitVec 1 := Scalar.cmpi .ne v1892 c0_i32_896
  let v1897 : BitVec 1 := Scalar.andi v1896 v1893
  let v1898 : BitVec 32 := Scalar.addi v1892 v1891
  let v1899 : BitVec 32 := Scalar.select v1897 v1898 v1892
  let c1_i32_900 : BitVec 32 := 1#32
  let v1900 : BitVec 32 := Scalar.muli v1899 c1_i32_900
  let v1901 : BitVec 32 := Scalar.addi c0_i32_901 v1900
  v1901.toNat
def k0_dev36 (d0 : Dev nD) : Nat :=
  let c0_i32_914 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_905 : BitVec 32 := 3#32
  let v1908 : BitVec 32 := Scalar.addi v2 c3_i32_905
  let c8_i32_906 : BitVec 32 := 8#32
  let c0_i32_907 : BitVec 32 := 0#32
  let v1909 : BitVec 1 := Scalar.cmpi .eq c8_i32_906 c0_i32_907
  let c1_i32_908 : BitVec 32 := 1#32
  let v1910 : BitVec 32 := Scalar.select v1909 c1_i32_908 c8_i32_906
  let v1911 : BitVec 32 := Scalar.remsi v1908 v1910
  let c0_i32_910 : BitVec 32 := 0#32
  let v1913 : BitVec 1 := Scalar.cmpi .slt v1911 c0_i32_910
  let c0_i32_911 : BitVec 32 := 0#32
  let v1914 : BitVec 1 := Scalar.cmpi .slt v1910 c0_i32_911
  let v1915 : BitVec 1 := Scalar.xori v1913 v1914
  let c0_i32_909 : BitVec 32 := 0#32
  let v1912 : BitVec 1 := Scalar.cmpi .ne v1911 c0_i32_909
  let v1916 : BitVec 1 := Scalar.andi v1915 v1912
  let v1917 : BitVec 32 := Scalar.addi v1911 v1910
  let v1918 : BitVec 32 := Scalar.select v1916 v1917 v1911
  let c1_i32_913 : BitVec 32 := 1#32
  let v1919 : BitVec 32 := Scalar.muli v1918 c1_i32_913
  let v1920 : BitVec 32 := Scalar.addi c0_i32_914 v1919
  v1920.toNat
def k0_dev37 (d0 : Dev nD) : Nat :=
  let c0_i32_927 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_918 : BitVec 32 := 4#32
  let v1927 : BitVec 32 := Scalar.addi v2 c4_i32_918
  let c8_i32_919 : BitVec 32 := 8#32
  let c0_i32_920 : BitVec 32 := 0#32
  let v1928 : BitVec 1 := Scalar.cmpi .eq c8_i32_919 c0_i32_920
  let c1_i32_921 : BitVec 32 := 1#32
  let v1929 : BitVec 32 := Scalar.select v1928 c1_i32_921 c8_i32_919
  let v1930 : BitVec 32 := Scalar.remsi v1927 v1929
  let c0_i32_923 : BitVec 32 := 0#32
  let v1932 : BitVec 1 := Scalar.cmpi .slt v1930 c0_i32_923
  let c0_i32_924 : BitVec 32 := 0#32
  let v1933 : BitVec 1 := Scalar.cmpi .slt v1929 c0_i32_924
  let v1934 : BitVec 1 := Scalar.xori v1932 v1933
  let c0_i32_922 : BitVec 32 := 0#32
  let v1931 : BitVec 1 := Scalar.cmpi .ne v1930 c0_i32_922
  let v1935 : BitVec 1 := Scalar.andi v1934 v1931
  let v1936 : BitVec 32 := Scalar.addi v1930 v1929
  let v1937 : BitVec 32 := Scalar.select v1935 v1936 v1930
  let c1_i32_926 : BitVec 32 := 1#32
  let v1938 : BitVec 32 := Scalar.muli v1937 c1_i32_926
  let v1939 : BitVec 32 := Scalar.addi c0_i32_927 v1938
  v1939.toNat
def k0_dev38 (d0 : Dev nD) : Nat :=
  let c0_i32_940 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_931 : BitVec 32 := 5#32
  let v1946 : BitVec 32 := Scalar.addi v2 c5_i32_931
  let c8_i32_932 : BitVec 32 := 8#32
  let c0_i32_933 : BitVec 32 := 0#32
  let v1947 : BitVec 1 := Scalar.cmpi .eq c8_i32_932 c0_i32_933
  let c1_i32_934 : BitVec 32 := 1#32
  let v1948 : BitVec 32 := Scalar.select v1947 c1_i32_934 c8_i32_932
  let v1949 : BitVec 32 := Scalar.remsi v1946 v1948
  let c0_i32_936 : BitVec 32 := 0#32
  let v1951 : BitVec 1 := Scalar.cmpi .slt v1949 c0_i32_936
  let c0_i32_937 : BitVec 32 := 0#32
  let v1952 : BitVec 1 := Scalar.cmpi .slt v1948 c0_i32_937
  let v1953 : BitVec 1 := Scalar.xori v1951 v1952
  let c0_i32_935 : BitVec 32 := 0#32
  let v1950 : BitVec 1 := Scalar.cmpi .ne v1949 c0_i32_935
  let v1954 : BitVec 1 := Scalar.andi v1953 v1950
  let v1955 : BitVec 32 := Scalar.addi v1949 v1948
  let v1956 : BitVec 32 := Scalar.select v1954 v1955 v1949
  let c1_i32_939 : BitVec 32 := 1#32
  let v1957 : BitVec 32 := Scalar.muli v1956 c1_i32_939
  let v1958 : BitVec 32 := Scalar.addi c0_i32_940 v1957
  v1958.toNat
def k0_dev39 (d0 : Dev nD) : Nat :=
  let c0_i32_953 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_944 : BitVec 32 := 6#32
  let v1965 : BitVec 32 := Scalar.addi v2 c6_i32_944
  let c8_i32_945 : BitVec 32 := 8#32
  let c0_i32_946 : BitVec 32 := 0#32
  let v1966 : BitVec 1 := Scalar.cmpi .eq c8_i32_945 c0_i32_946
  let c1_i32_947 : BitVec 32 := 1#32
  let v1967 : BitVec 32 := Scalar.select v1966 c1_i32_947 c8_i32_945
  let v1968 : BitVec 32 := Scalar.remsi v1965 v1967
  let c0_i32_949 : BitVec 32 := 0#32
  let v1970 : BitVec 1 := Scalar.cmpi .slt v1968 c0_i32_949
  let c0_i32_950 : BitVec 32 := 0#32
  let v1971 : BitVec 1 := Scalar.cmpi .slt v1967 c0_i32_950
  let v1972 : BitVec 1 := Scalar.xori v1970 v1971
  let c0_i32_948 : BitVec 32 := 0#32
  let v1969 : BitVec 1 := Scalar.cmpi .ne v1968 c0_i32_948
  let v1973 : BitVec 1 := Scalar.andi v1972 v1969
  let v1974 : BitVec 32 := Scalar.addi v1968 v1967
  let v1975 : BitVec 32 := Scalar.select v1973 v1974 v1968
  let c1_i32_952 : BitVec 32 := 1#32
  let v1976 : BitVec 32 := Scalar.muli v1975 c1_i32_952
  let v1977 : BitVec 32 := Scalar.addi c0_i32_953 v1976
  v1977.toNat
def k0_dev40 (d0 : Dev nD) : Nat :=
  let c0_i32_966 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_957 : BitVec 32 := 7#32
  let v1984 : BitVec 32 := Scalar.addi v2 c7_i32_957
  let c8_i32_958 : BitVec 32 := 8#32
  let c0_i32_959 : BitVec 32 := 0#32
  let v1985 : BitVec 1 := Scalar.cmpi .eq c8_i32_958 c0_i32_959
  let c1_i32_960 : BitVec 32 := 1#32
  let v1986 : BitVec 32 := Scalar.select v1985 c1_i32_960 c8_i32_958
  let v1987 : BitVec 32 := Scalar.remsi v1984 v1986
  let c0_i32_962 : BitVec 32 := 0#32
  let v1989 : BitVec 1 := Scalar.cmpi .slt v1987 c0_i32_962
  let c0_i32_963 : BitVec 32 := 0#32
  let v1990 : BitVec 1 := Scalar.cmpi .slt v1986 c0_i32_963
  let v1991 : BitVec 1 := Scalar.xori v1989 v1990
  let c0_i32_961 : BitVec 32 := 0#32
  let v1988 : BitVec 1 := Scalar.cmpi .ne v1987 c0_i32_961
  let v1992 : BitVec 1 := Scalar.andi v1991 v1988
  let v1993 : BitVec 32 := Scalar.addi v1987 v1986
  let v1994 : BitVec 32 := Scalar.select v1992 v1993 v1987
  let c1_i32_965 : BitVec 32 := 1#32
  let v1995 : BitVec 32 := Scalar.muli v1994 c1_i32_965
  let v1996 : BitVec 32 := Scalar.addi c0_i32_966 v1995
  v1996.toNat
def k0_mult17 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_970 : BitVec 32 := 1#32
  let v2003 : BitVec 32 := Scalar.addi v2 c1_i32_970
  let c8_i32_971 : BitVec 32 := 8#32
  let c0_i32_972 : BitVec 32 := 0#32
  let v2004 : BitVec 1 := Scalar.cmpi .eq c8_i32_971 c0_i32_972
  let c1_i32_973 : BitVec 32 := 1#32
  let v2005 : BitVec 32 := Scalar.select v2004 c1_i32_973 c8_i32_971
  let v2006 : BitVec 32 := Scalar.remsi v2003 v2005
  let c0_i32_975 : BitVec 32 := 0#32
  let v2008 : BitVec 1 := Scalar.cmpi .slt v2006 c0_i32_975
  let c0_i32_976 : BitVec 32 := 0#32
  let v2009 : BitVec 1 := Scalar.cmpi .slt v2005 c0_i32_976
  let v2010 : BitVec 1 := Scalar.xori v2008 v2009
  let c0_i32_974 : BitVec 32 := 0#32
  let v2007 : BitVec 1 := Scalar.cmpi .ne v2006 c0_i32_974
  let v2011 : BitVec 1 := Scalar.andi v2010 v2007
  let v2012 : BitVec 32 := Scalar.addi v2006 v2005
  let v2013 : BitVec 32 := Scalar.select v2011 v2012 v2006
  let c16_i32_987 : BitVec 32 := 16#32
  let v2024 : BitVec 32 := Scalar.muli v2013 c16_i32_987
  v2024
def k0_off29 (d0 : Dev nD) (c1_i32_970 : BitVec 32) : Fin 3 → Nat :=
  let c0_988 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2003 : BitVec 32 := Scalar.addi v2 c1_i32_970
  let c8_i32_971 : BitVec 32 := 8#32
  let c0_i32_972 : BitVec 32 := 0#32
  let v2004 : BitVec 1 := Scalar.cmpi .eq c8_i32_971 c0_i32_972
  let c1_i32_973 : BitVec 32 := 1#32
  let v2005 : BitVec 32 := Scalar.select v2004 c1_i32_973 c8_i32_971
  let v2006 : BitVec 32 := Scalar.remsi v2003 v2005
  let c0_i32_975 : BitVec 32 := 0#32
  let v2008 : BitVec 1 := Scalar.cmpi .slt v2006 c0_i32_975
  let c0_i32_976 : BitVec 32 := 0#32
  let v2009 : BitVec 1 := Scalar.cmpi .slt v2005 c0_i32_976
  let v2010 : BitVec 1 := Scalar.xori v2008 v2009
  let c0_i32_974 : BitVec 32 := 0#32
  let v2007 : BitVec 1 := Scalar.cmpi .ne v2006 c0_i32_974
  let v2011 : BitVec 1 := Scalar.andi v2010 v2007
  let v2012 : BitVec 32 := Scalar.addi v2006 v2005
  let v2013 : BitVec 32 := Scalar.select v2011 v2012 v2006
  let c16_i32_987 : BitVec 32 := 16#32
  let v2024 : BitVec 32 := Scalar.muli v2013 c16_i32_987
  let v2025 : BitVec 32 := v2024
  let v2026 : Index := Scalar.indexCast v2025
  let c0_989 : Index := 0#32
  ![0, v2026.toNat, 0]
def k0_mult18 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_990 : BitVec 32 := 2#32
  let v2028 : BitVec 32 := Scalar.addi v2 c2_i32_990
  let c8_i32_991 : BitVec 32 := 8#32
  let c0_i32_992 : BitVec 32 := 0#32
  let v2029 : BitVec 1 := Scalar.cmpi .eq c8_i32_991 c0_i32_992
  let c1_i32_993 : BitVec 32 := 1#32
  let v2030 : BitVec 32 := Scalar.select v2029 c1_i32_993 c8_i32_991
  let v2031 : BitVec 32 := Scalar.remsi v2028 v2030
  let c0_i32_995 : BitVec 32 := 0#32
  let v2033 : BitVec 1 := Scalar.cmpi .slt v2031 c0_i32_995
  let c0_i32_996 : BitVec 32 := 0#32
  let v2034 : BitVec 1 := Scalar.cmpi .slt v2030 c0_i32_996
  let v2035 : BitVec 1 := Scalar.xori v2033 v2034
  let c0_i32_994 : BitVec 32 := 0#32
  let v2032 : BitVec 1 := Scalar.cmpi .ne v2031 c0_i32_994
  let v2036 : BitVec 1 := Scalar.andi v2035 v2032
  let v2037 : BitVec 32 := Scalar.addi v2031 v2030
  let v2038 : BitVec 32 := Scalar.select v2036 v2037 v2031
  let c16_i32_1007 : BitVec 32 := 16#32
  let v2049 : BitVec 32 := Scalar.muli v2038 c16_i32_1007
  v2049
def k0_mult19 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1010 : BitVec 32 := 3#32
  let v2053 : BitVec 32 := Scalar.addi v2 c3_i32_1010
  let c8_i32_1011 : BitVec 32 := 8#32
  let c0_i32_1012 : BitVec 32 := 0#32
  let v2054 : BitVec 1 := Scalar.cmpi .eq c8_i32_1011 c0_i32_1012
  let c1_i32_1013 : BitVec 32 := 1#32
  let v2055 : BitVec 32 := Scalar.select v2054 c1_i32_1013 c8_i32_1011
  let v2056 : BitVec 32 := Scalar.remsi v2053 v2055
  let c0_i32_1015 : BitVec 32 := 0#32
  let v2058 : BitVec 1 := Scalar.cmpi .slt v2056 c0_i32_1015
  let c0_i32_1016 : BitVec 32 := 0#32
  let v2059 : BitVec 1 := Scalar.cmpi .slt v2055 c0_i32_1016
  let v2060 : BitVec 1 := Scalar.xori v2058 v2059
  let c0_i32_1014 : BitVec 32 := 0#32
  let v2057 : BitVec 1 := Scalar.cmpi .ne v2056 c0_i32_1014
  let v2061 : BitVec 1 := Scalar.andi v2060 v2057
  let v2062 : BitVec 32 := Scalar.addi v2056 v2055
  let v2063 : BitVec 32 := Scalar.select v2061 v2062 v2056
  let c16_i32_1027 : BitVec 32 := 16#32
  let v2074 : BitVec 32 := Scalar.muli v2063 c16_i32_1027
  v2074
def k0_mult20 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1030 : BitVec 32 := 4#32
  let v2078 : BitVec 32 := Scalar.addi v2 c4_i32_1030
  let c8_i32_1031 : BitVec 32 := 8#32
  let c0_i32_1032 : BitVec 32 := 0#32
  let v2079 : BitVec 1 := Scalar.cmpi .eq c8_i32_1031 c0_i32_1032
  let c1_i32_1033 : BitVec 32 := 1#32
  let v2080 : BitVec 32 := Scalar.select v2079 c1_i32_1033 c8_i32_1031
  let v2081 : BitVec 32 := Scalar.remsi v2078 v2080
  let c0_i32_1035 : BitVec 32 := 0#32
  let v2083 : BitVec 1 := Scalar.cmpi .slt v2081 c0_i32_1035
  let c0_i32_1036 : BitVec 32 := 0#32
  let v2084 : BitVec 1 := Scalar.cmpi .slt v2080 c0_i32_1036
  let v2085 : BitVec 1 := Scalar.xori v2083 v2084
  let c0_i32_1034 : BitVec 32 := 0#32
  let v2082 : BitVec 1 := Scalar.cmpi .ne v2081 c0_i32_1034
  let v2086 : BitVec 1 := Scalar.andi v2085 v2082
  let v2087 : BitVec 32 := Scalar.addi v2081 v2080
  let v2088 : BitVec 32 := Scalar.select v2086 v2087 v2081
  let c16_i32_1047 : BitVec 32 := 16#32
  let v2099 : BitVec 32 := Scalar.muli v2088 c16_i32_1047
  v2099
def k0_mult21 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1050 : BitVec 32 := 5#32
  let v2103 : BitVec 32 := Scalar.addi v2 c5_i32_1050
  let c8_i32_1051 : BitVec 32 := 8#32
  let c0_i32_1052 : BitVec 32 := 0#32
  let v2104 : BitVec 1 := Scalar.cmpi .eq c8_i32_1051 c0_i32_1052
  let c1_i32_1053 : BitVec 32 := 1#32
  let v2105 : BitVec 32 := Scalar.select v2104 c1_i32_1053 c8_i32_1051
  let v2106 : BitVec 32 := Scalar.remsi v2103 v2105
  let c0_i32_1055 : BitVec 32 := 0#32
  let v2108 : BitVec 1 := Scalar.cmpi .slt v2106 c0_i32_1055
  let c0_i32_1056 : BitVec 32 := 0#32
  let v2109 : BitVec 1 := Scalar.cmpi .slt v2105 c0_i32_1056
  let v2110 : BitVec 1 := Scalar.xori v2108 v2109
  let c0_i32_1054 : BitVec 32 := 0#32
  let v2107 : BitVec 1 := Scalar.cmpi .ne v2106 c0_i32_1054
  let v2111 : BitVec 1 := Scalar.andi v2110 v2107
  let v2112 : BitVec 32 := Scalar.addi v2106 v2105
  let v2113 : BitVec 32 := Scalar.select v2111 v2112 v2106
  let c16_i32_1067 : BitVec 32 := 16#32
  let v2124 : BitVec 32 := Scalar.muli v2113 c16_i32_1067
  v2124
def k0_mult22 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1070 : BitVec 32 := 6#32
  let v2128 : BitVec 32 := Scalar.addi v2 c6_i32_1070
  let c8_i32_1071 : BitVec 32 := 8#32
  let c0_i32_1072 : BitVec 32 := 0#32
  let v2129 : BitVec 1 := Scalar.cmpi .eq c8_i32_1071 c0_i32_1072
  let c1_i32_1073 : BitVec 32 := 1#32
  let v2130 : BitVec 32 := Scalar.select v2129 c1_i32_1073 c8_i32_1071
  let v2131 : BitVec 32 := Scalar.remsi v2128 v2130
  let c0_i32_1075 : BitVec 32 := 0#32
  let v2133 : BitVec 1 := Scalar.cmpi .slt v2131 c0_i32_1075
  let c0_i32_1076 : BitVec 32 := 0#32
  let v2134 : BitVec 1 := Scalar.cmpi .slt v2130 c0_i32_1076
  let v2135 : BitVec 1 := Scalar.xori v2133 v2134
  let c0_i32_1074 : BitVec 32 := 0#32
  let v2132 : BitVec 1 := Scalar.cmpi .ne v2131 c0_i32_1074
  let v2136 : BitVec 1 := Scalar.andi v2135 v2132
  let v2137 : BitVec 32 := Scalar.addi v2131 v2130
  let v2138 : BitVec 32 := Scalar.select v2136 v2137 v2131
  let c16_i32_1087 : BitVec 32 := 16#32
  let v2149 : BitVec 32 := Scalar.muli v2138 c16_i32_1087
  v2149
def k0_mult23 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1090 : BitVec 32 := 7#32
  let v2153 : BitVec 32 := Scalar.addi v2 c7_i32_1090
  let c8_i32_1091 : BitVec 32 := 8#32
  let c0_i32_1092 : BitVec 32 := 0#32
  let v2154 : BitVec 1 := Scalar.cmpi .eq c8_i32_1091 c0_i32_1092
  let c1_i32_1093 : BitVec 32 := 1#32
  let v2155 : BitVec 32 := Scalar.select v2154 c1_i32_1093 c8_i32_1091
  let v2156 : BitVec 32 := Scalar.remsi v2153 v2155
  let c0_i32_1095 : BitVec 32 := 0#32
  let v2158 : BitVec 1 := Scalar.cmpi .slt v2156 c0_i32_1095
  let c0_i32_1096 : BitVec 32 := 0#32
  let v2159 : BitVec 1 := Scalar.cmpi .slt v2155 c0_i32_1096
  let v2160 : BitVec 1 := Scalar.xori v2158 v2159
  let c0_i32_1094 : BitVec 32 := 0#32
  let v2157 : BitVec 1 := Scalar.cmpi .ne v2156 c0_i32_1094
  let v2161 : BitVec 1 := Scalar.andi v2160 v2157
  let v2162 : BitVec 32 := Scalar.addi v2156 v2155
  let v2163 : BitVec 32 := Scalar.select v2161 v2162 v2156
  let c16_i32_1107 : BitVec 32 := 16#32
  let v2174 : BitVec 32 := Scalar.muli v2163 c16_i32_1107
  v2174
def k0_dev41 (d0 : Dev nD) : Nat :=
  let c0_i32_1194_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1185_r0 : BitVec 32 := 1#32
  let v2236_r0 : BitVec 32 := Scalar.addi v2 c1_i32_1185_r0
  let c8_i32_1186_r0 : BitVec 32 := 8#32
  let c0_i32_1187_r0 : BitVec 32 := 0#32
  let v2237_r0 : BitVec 1 := Scalar.cmpi .eq c8_i32_1186_r0 c0_i32_1187_r0
  let c1_i32_1188_r0 : BitVec 32 := 1#32
  let v2238_r0 : BitVec 32 := Scalar.select v2237_r0 c1_i32_1188_r0 c8_i32_1186_r0
  let v2239_r0 : BitVec 32 := Scalar.remsi v2236_r0 v2238_r0
  let c0_i32_1190_r0 : BitVec 32 := 0#32
  let v2241_r0 : BitVec 1 := Scalar.cmpi .slt v2239_r0 c0_i32_1190_r0
  let c0_i32_1191_r0 : BitVec 32 := 0#32
  let v2242_r0 : BitVec 1 := Scalar.cmpi .slt v2238_r0 c0_i32_1191_r0
  let v2243_r0 : BitVec 1 := Scalar.xori v2241_r0 v2242_r0
  let c0_i32_1189_r0 : BitVec 32 := 0#32
  let v2240_r0 : BitVec 1 := Scalar.cmpi .ne v2239_r0 c0_i32_1189_r0
  let v2244_r0 : BitVec 1 := Scalar.andi v2243_r0 v2240_r0
  let v2245_r0 : BitVec 32 := Scalar.addi v2239_r0 v2238_r0
  let v2246_r0 : BitVec 32 := Scalar.select v2244_r0 v2245_r0 v2239_r0
  let c1_i32_1193_r0 : BitVec 32 := 1#32
  let v2247_r0 : BitVec 32 := Scalar.muli v2246_r0 c1_i32_1193_r0
  let v2248_r0 : BitVec 32 := Scalar.addi c0_i32_1194_r0 v2247_r0
  v2248_r0.toNat
def k0_dev42 (d0 : Dev nD) : Nat :=
  let c0_i32_1204_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1195_r0 : BitVec 32 := 2#32
  let v2249_r0 : BitVec 32 := Scalar.addi v2 c2_i32_1195_r0
  let c8_i32_1196_r0 : BitVec 32 := 8#32
  let c0_i32_1197_r0 : BitVec 32 := 0#32
  let v2250_r0 : BitVec 1 := Scalar.cmpi .eq c8_i32_1196_r0 c0_i32_1197_r0
  let c1_i32_1198_r0 : BitVec 32 := 1#32
  let v2251_r0 : BitVec 32 := Scalar.select v2250_r0 c1_i32_1198_r0 c8_i32_1196_r0
  let v2252_r0 : BitVec 32 := Scalar.remsi v2249_r0 v2251_r0
  let c0_i32_1200_r0 : BitVec 32 := 0#32
  let v2254_r0 : BitVec 1 := Scalar.cmpi .slt v2252_r0 c0_i32_1200_r0
  let c0_i32_1201_r0 : BitVec 32 := 0#32
  let v2255_r0 : BitVec 1 := Scalar.cmpi .slt v2251_r0 c0_i32_1201_r0
  let v2256_r0 : BitVec 1 := Scalar.xori v2254_r0 v2255_r0
  let c0_i32_1199_r0 : BitVec 32 := 0#32
  let v2253_r0 : BitVec 1 := Scalar.cmpi .ne v2252_r0 c0_i32_1199_r0
  let v2257_r0 : BitVec 1 := Scalar.andi v2256_r0 v2253_r0
  let v2258_r0 : BitVec 32 := Scalar.addi v2252_r0 v2251_r0
  let v2259_r0 : BitVec 32 := Scalar.select v2257_r0 v2258_r0 v2252_r0
  let c1_i32_1203_r0 : BitVec 32 := 1#32
  let v2260_r0 : BitVec 32 := Scalar.muli v2259_r0 c1_i32_1203_r0
  let v2261_r0 : BitVec 32 := Scalar.addi c0_i32_1204_r0 v2260_r0
  v2261_r0.toNat
def k0_dev43 (d0 : Dev nD) : Nat :=
  let c0_i32_1214_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1205_r0 : BitVec 32 := 3#32
  let v2262_r0 : BitVec 32 := Scalar.addi v2 c3_i32_1205_r0
  let c8_i32_1206_r0 : BitVec 32 := 8#32
  let c0_i32_1207_r0 : BitVec 32 := 0#32
  let v2263_r0 : BitVec 1 := Scalar.cmpi .eq c8_i32_1206_r0 c0_i32_1207_r0
  let c1_i32_1208_r0 : BitVec 32 := 1#32
  let v2264_r0 : BitVec 32 := Scalar.select v2263_r0 c1_i32_1208_r0 c8_i32_1206_r0
  let v2265_r0 : BitVec 32 := Scalar.remsi v2262_r0 v2264_r0
  let c0_i32_1210_r0 : BitVec 32 := 0#32
  let v2267_r0 : BitVec 1 := Scalar.cmpi .slt v2265_r0 c0_i32_1210_r0
  let c0_i32_1211_r0 : BitVec 32 := 0#32
  let v2268_r0 : BitVec 1 := Scalar.cmpi .slt v2264_r0 c0_i32_1211_r0
  let v2269_r0 : BitVec 1 := Scalar.xori v2267_r0 v2268_r0
  let c0_i32_1209_r0 : BitVec 32 := 0#32
  let v2266_r0 : BitVec 1 := Scalar.cmpi .ne v2265_r0 c0_i32_1209_r0
  let v2270_r0 : BitVec 1 := Scalar.andi v2269_r0 v2266_r0
  let v2271_r0 : BitVec 32 := Scalar.addi v2265_r0 v2264_r0
  let v2272_r0 : BitVec 32 := Scalar.select v2270_r0 v2271_r0 v2265_r0
  let c1_i32_1213_r0 : BitVec 32 := 1#32
  let v2273_r0 : BitVec 32 := Scalar.muli v2272_r0 c1_i32_1213_r0
  let v2274_r0 : BitVec 32 := Scalar.addi c0_i32_1214_r0 v2273_r0
  v2274_r0.toNat
def k0_dev44 (d0 : Dev nD) : Nat :=
  let c0_i32_1224_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1215_r0 : BitVec 32 := 4#32
  let v2275_r0 : BitVec 32 := Scalar.addi v2 c4_i32_1215_r0
  let c8_i32_1216_r0 : BitVec 32 := 8#32
  let c0_i32_1217_r0 : BitVec 32 := 0#32
  let v2276_r0 : BitVec 1 := Scalar.cmpi .eq c8_i32_1216_r0 c0_i32_1217_r0
  let c1_i32_1218_r0 : BitVec 32 := 1#32
  let v2277_r0 : BitVec 32 := Scalar.select v2276_r0 c1_i32_1218_r0 c8_i32_1216_r0
  let v2278_r0 : BitVec 32 := Scalar.remsi v2275_r0 v2277_r0
  let c0_i32_1220_r0 : BitVec 32 := 0#32
  let v2280_r0 : BitVec 1 := Scalar.cmpi .slt v2278_r0 c0_i32_1220_r0
  let c0_i32_1221_r0 : BitVec 32 := 0#32
  let v2281_r0 : BitVec 1 := Scalar.cmpi .slt v2277_r0 c0_i32_1221_r0
  let v2282_r0 : BitVec 1 := Scalar.xori v2280_r0 v2281_r0
  let c0_i32_1219_r0 : BitVec 32 := 0#32
  let v2279_r0 : BitVec 1 := Scalar.cmpi .ne v2278_r0 c0_i32_1219_r0
  let v2283_r0 : BitVec 1 := Scalar.andi v2282_r0 v2279_r0
  let v2284_r0 : BitVec 32 := Scalar.addi v2278_r0 v2277_r0
  let v2285_r0 : BitVec 32 := Scalar.select v2283_r0 v2284_r0 v2278_r0
  let c1_i32_1223_r0 : BitVec 32 := 1#32
  let v2286_r0 : BitVec 32 := Scalar.muli v2285_r0 c1_i32_1223_r0
  let v2287_r0 : BitVec 32 := Scalar.addi c0_i32_1224_r0 v2286_r0
  v2287_r0.toNat
def k0_dev45 (d0 : Dev nD) : Nat :=
  let c0_i32_1234_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1225_r0 : BitVec 32 := 5#32
  let v2288_r0 : BitVec 32 := Scalar.addi v2 c5_i32_1225_r0
  let c8_i32_1226_r0 : BitVec 32 := 8#32
  let c0_i32_1227_r0 : BitVec 32 := 0#32
  let v2289_r0 : BitVec 1 := Scalar.cmpi .eq c8_i32_1226_r0 c0_i32_1227_r0
  let c1_i32_1228_r0 : BitVec 32 := 1#32
  let v2290_r0 : BitVec 32 := Scalar.select v2289_r0 c1_i32_1228_r0 c8_i32_1226_r0
  let v2291_r0 : BitVec 32 := Scalar.remsi v2288_r0 v2290_r0
  let c0_i32_1230_r0 : BitVec 32 := 0#32
  let v2293_r0 : BitVec 1 := Scalar.cmpi .slt v2291_r0 c0_i32_1230_r0
  let c0_i32_1231_r0 : BitVec 32 := 0#32
  let v2294_r0 : BitVec 1 := Scalar.cmpi .slt v2290_r0 c0_i32_1231_r0
  let v2295_r0 : BitVec 1 := Scalar.xori v2293_r0 v2294_r0
  let c0_i32_1229_r0 : BitVec 32 := 0#32
  let v2292_r0 : BitVec 1 := Scalar.cmpi .ne v2291_r0 c0_i32_1229_r0
  let v2296_r0 : BitVec 1 := Scalar.andi v2295_r0 v2292_r0
  let v2297_r0 : BitVec 32 := Scalar.addi v2291_r0 v2290_r0
  let v2298_r0 : BitVec 32 := Scalar.select v2296_r0 v2297_r0 v2291_r0
  let c1_i32_1233_r0 : BitVec 32 := 1#32
  let v2299_r0 : BitVec 32 := Scalar.muli v2298_r0 c1_i32_1233_r0
  let v2300_r0 : BitVec 32 := Scalar.addi c0_i32_1234_r0 v2299_r0
  v2300_r0.toNat
def k0_dev46 (d0 : Dev nD) : Nat :=
  let c0_i32_1244_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1235_r0 : BitVec 32 := 6#32
  let v2301_r0 : BitVec 32 := Scalar.addi v2 c6_i32_1235_r0
  let c8_i32_1236_r0 : BitVec 32 := 8#32
  let c0_i32_1237_r0 : BitVec 32 := 0#32
  let v2302_r0 : BitVec 1 := Scalar.cmpi .eq c8_i32_1236_r0 c0_i32_1237_r0
  let c1_i32_1238_r0 : BitVec 32 := 1#32
  let v2303_r0 : BitVec 32 := Scalar.select v2302_r0 c1_i32_1238_r0 c8_i32_1236_r0
  let v2304_r0 : BitVec 32 := Scalar.remsi v2301_r0 v2303_r0
  let c0_i32_1240_r0 : BitVec 32 := 0#32
  let v2306_r0 : BitVec 1 := Scalar.cmpi .slt v2304_r0 c0_i32_1240_r0
  let c0_i32_1241_r0 : BitVec 32 := 0#32
  let v2307_r0 : BitVec 1 := Scalar.cmpi .slt v2303_r0 c0_i32_1241_r0
  let v2308_r0 : BitVec 1 := Scalar.xori v2306_r0 v2307_r0
  let c0_i32_1239_r0 : BitVec 32 := 0#32
  let v2305_r0 : BitVec 1 := Scalar.cmpi .ne v2304_r0 c0_i32_1239_r0
  let v2309_r0 : BitVec 1 := Scalar.andi v2308_r0 v2305_r0
  let v2310_r0 : BitVec 32 := Scalar.addi v2304_r0 v2303_r0
  let v2311_r0 : BitVec 32 := Scalar.select v2309_r0 v2310_r0 v2304_r0
  let c1_i32_1243_r0 : BitVec 32 := 1#32
  let v2312_r0 : BitVec 32 := Scalar.muli v2311_r0 c1_i32_1243_r0
  let v2313_r0 : BitVec 32 := Scalar.addi c0_i32_1244_r0 v2312_r0
  v2313_r0.toNat
def k0_dev47 (d0 : Dev nD) : Nat :=
  let c0_i32_1254_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1245_r0 : BitVec 32 := 7#32
  let v2314_r0 : BitVec 32 := Scalar.addi v2 c7_i32_1245_r0
  let c8_i32_1246_r0 : BitVec 32 := 8#32
  let c0_i32_1247_r0 : BitVec 32 := 0#32
  let v2315_r0 : BitVec 1 := Scalar.cmpi .eq c8_i32_1246_r0 c0_i32_1247_r0
  let c1_i32_1248_r0 : BitVec 32 := 1#32
  let v2316_r0 : BitVec 32 := Scalar.select v2315_r0 c1_i32_1248_r0 c8_i32_1246_r0
  let v2317_r0 : BitVec 32 := Scalar.remsi v2314_r0 v2316_r0
  let c0_i32_1250_r0 : BitVec 32 := 0#32
  let v2319_r0 : BitVec 1 := Scalar.cmpi .slt v2317_r0 c0_i32_1250_r0
  let c0_i32_1251_r0 : BitVec 32 := 0#32
  let v2320_r0 : BitVec 1 := Scalar.cmpi .slt v2316_r0 c0_i32_1251_r0
  let v2321_r0 : BitVec 1 := Scalar.xori v2319_r0 v2320_r0
  let c0_i32_1249_r0 : BitVec 32 := 0#32
  let v2318_r0 : BitVec 1 := Scalar.cmpi .ne v2317_r0 c0_i32_1249_r0
  let v2322_r0 : BitVec 1 := Scalar.andi v2321_r0 v2318_r0
  let v2323_r0 : BitVec 32 := Scalar.addi v2317_r0 v2316_r0
  let v2324_r0 : BitVec 32 := Scalar.select v2322_r0 v2323_r0 v2317_r0
  let c1_i32_1253_r0 : BitVec 32 := 1#32
  let v2325_r0 : BitVec 32 := Scalar.muli v2324_r0 c1_i32_1253_r0
  let v2326_r0 : BitVec 32 := Scalar.addi c0_i32_1254_r0 v2325_r0
  v2326_r0.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x2048 : Shape := ⟨2, ![512, 2048]⟩
abbrev S2x1024x32x64 : Shape := ⟨4, ![2, 1024, 32, 64]⟩
abbrev S2048x512 : Shape := ⟨2, ![2048, 512]⟩
abbrev S2x128x2048 : Shape := ⟨3, ![2, 128, 2048]⟩
abbrev S2x128x32x64 : Shape := ⟨4, ![2, 128, 32, 64]⟩
abbrev S128 : Shape := ⟨1, ![128]⟩
abbrev S_ : Shape := ⟨0, ![]⟩
abbrev S128x1 : Shape := ⟨2, ![128, 1]⟩
abbrev S1024 : Shape := ⟨1, ![1024]⟩
abbrev S1x1024 : Shape := ⟨2, ![1, 1024]⟩
abbrev S128x1024 : Shape := ⟨2, ![128, 1024]⟩
abbrev S2x32x128x1024 : Shape := ⟨4, ![2, 32, 128, 1024]⟩
abbrev S1x1x128x1024 : Shape := ⟨4, ![1, 1, 128, 1024]⟩
abbrev S2x32x128 : Shape := ⟨3, ![2, 32, 128]⟩
abbrev S2x32x128x1 : Shape := ⟨4, ![2, 32, 128, 1]⟩
abbrev S1x1x128x1 : Shape := ⟨4, ![1, 1, 128, 1]⟩
abbrev S2x32x64x128 : Shape := ⟨4, ![2, 32, 64, 128]⟩

abbrev nBuf : Space → Nat
  | .hbm => 137
  | .vmem => 0
  | .smem => 0
  | _ => 0

abbrev hbmTy0_0 (i : Nat) : BufTy := match i % 128 with
  | 0 => ⟨S2x128x512, .f32⟩
  | 1 => ⟨S512x2048, .f32⟩
  | 2 => ⟨S2x1024x32x64, .f32⟩
  | 3 => ⟨S2x1024x32x64, .f32⟩
  | 4 => ⟨S2048x512, .f32⟩
  | 5 => ⟨S2x128x2048, .f32⟩
  | 6 => ⟨S2x128x32x64, .f32⟩
  | 7 => ⟨S128, .i32⟩
  | 8 => ⟨S_, .i32⟩
  | 9 => ⟨S_, .i32⟩
  | 10 => ⟨S128, .i32⟩
  | 11 => ⟨S128, .i32⟩
  | 12 => ⟨S128, .i32⟩
  | 13 => ⟨S_, .i32⟩
  | 14 => ⟨S128, .i32⟩
  | 15 => ⟨S128, .i1⟩
  | 16 => ⟨S128, .i32⟩
  | 17 => ⟨S128, .i32⟩
  | 18 => ⟨S_, .i32⟩
  | 19 => ⟨S128, .i32⟩
  | 20 => ⟨S128, .i1⟩
  | 21 => ⟨S128, .i1⟩
  | 22 => ⟨S_, .i32⟩
  | 23 => ⟨S128, .i32⟩
  | 24 => ⟨S128, .i32⟩
  | 25 => ⟨S128, .i32⟩
  | 26 => ⟨S128x1, .i32⟩
  | 27 => ⟨S1024, .i32⟩
  | 28 => ⟨S_, .i32⟩
  | 29 => ⟨S_, .i32⟩
  | 30 => ⟨S1024, .i32⟩
  | 31 => ⟨S1024, .i32⟩
  | 32 => ⟨S1024, .i32⟩
  | 33 => ⟨S_, .i32⟩
  | 34 => ⟨S1024, .i32⟩
  | 35 => ⟨S1024, .i1⟩
  | 36 => ⟨S1024, .i32⟩
  | 37 => ⟨S1024, .i32⟩
  | 38 => ⟨S_, .i32⟩
  | 39 => ⟨S1024, .i32⟩
  | 40 => ⟨S1024, .i1⟩
  | 41 => ⟨S1024, .i1⟩
  | 42 => ⟨S_, .i32⟩
  | 43 => ⟨S1024, .i32⟩
  | 44 => ⟨S1024, .i32⟩
  | 45 => ⟨S1024, .i32⟩
  | 46 => ⟨S1x1024, .i32⟩
  | 47 => ⟨S128x1024, .i32⟩
  | 48 => ⟨S128x1024, .i32⟩
  | 49 => ⟨S128x1024, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x1024, .i32⟩
  | 57 => ⟨S1x1024, .i32⟩
  | 58 => ⟨S_, .i32⟩
  | 59 => ⟨S1x1024, .i32⟩
  | 60 => ⟨S1x1024, .i1⟩
  | 61 => ⟨S_, .i32⟩
  | 62 => ⟨S1x1024, .i32⟩
  | 63 => ⟨S1x1024, .i1⟩
  | 64 => ⟨S_, .i32⟩
  | 65 => ⟨S_, .i1⟩
  | 66 => ⟨S1x1024, .i1⟩
  | 67 => ⟨S1x1024, .i1⟩
  | 68 => ⟨S1x1024, .i1⟩
  | 69 => ⟨S1x1024, .i32⟩
  | 70 => ⟨S1x1024, .i32⟩
  | 71 => ⟨S1x1024, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S128x1, .i32⟩
  | 79 => ⟨S128x1, .i32⟩
  | 80 => ⟨S_, .i32⟩
  | 81 => ⟨S128x1, .i32⟩
  | 82 => ⟨S128x1, .i1⟩
  | 83 => ⟨S_, .i32⟩
  | 84 => ⟨S128x1, .i32⟩
  | 85 => ⟨S128x1, .i1⟩
  | 86 => ⟨S_, .i32⟩
  | 87 => ⟨S_, .i1⟩
  | 88 => ⟨S128x1, .i1⟩
  | 89 => ⟨S128x1, .i1⟩
  | 90 => ⟨S128x1, .i1⟩
  | 91 => ⟨S128x1, .i32⟩
  | 92 => ⟨S128x1, .i32⟩
  | 93 => ⟨S128x1, .i32⟩
  | 94 => ⟨S128x1024, .i32⟩
  | 95 => ⟨S128x1024, .i32⟩
  | 96 => ⟨S128x1024, .i1⟩
  | 97 => ⟨S128x1024, .i1⟩
  | 98 => ⟨S2x32x128x1024, .f32⟩
  | 99 => ⟨S_, .f32⟩
  | 100 => ⟨S2x32x128x1024, .f32⟩
  | 101 => ⟨S2x32x128x1024, .f32⟩
  | 102 => ⟨S1x1x128x1024, .i1⟩
  | 103 => ⟨S_, .f32⟩
  | 104 => ⟨S_, .f32⟩
  | 105 => ⟨S2x32x128x1024, .i1⟩
  | 106 => ⟨S2x32x128x1024, .f32⟩
  | 107 => ⟨S2x32x128x1024, .f32⟩
  | 108 => ⟨S_, .f32⟩
  | 109 => ⟨S2x32x128, .f32⟩
  | 110 => ⟨S2x32x128x1, .f32⟩
  | 111 => ⟨S2x32x128x1024, .f32⟩
  | 112 => ⟨S2x32x128x1024, .f32⟩
  | 113 => ⟨S2x32x128x1024, .f32⟩
  | 114 => ⟨S_, .i1⟩
  | 115 => ⟨S128, .i1⟩
  | 116 => ⟨S1x1x128x1, .i1⟩
  | 117 => ⟨S_, .f32⟩
  | 118 => ⟨S2x32x128, .f32⟩
  | 119 => ⟨S2x32x128x1, .f32⟩
  | 120 => ⟨S_, .f32⟩
  | 121 => ⟨S_, .f32⟩
  | 122 => ⟨S2x32x128x1, .i1⟩
  | 123 => ⟨S2x32x128x1, .f32⟩
  | 124 => ⟨S2x32x128x1, .f32⟩
  | 125 => ⟨S2x32x128x1024, .f32⟩
  | 126 => ⟨S2x32x128x1024, .f32⟩
  | 127 => ⟨S1x1x128x1, .i1⟩
  | _ => ⟨S2x128x512, .f32⟩

abbrev hbmTy0_1 (i : Nat) : BufTy := match i % 128 with
  | 0 => ⟨S_, .f32⟩
  | 1 => ⟨S_, .f32⟩
  | 2 => ⟨S2x32x128x1024, .i1⟩
  | 3 => ⟨S2x32x128x1024, .f32⟩
  | 4 => ⟨S2x32x128x1024, .f32⟩
  | 5 => ⟨S2x32x64x128, .f32⟩
  | 6 => ⟨S2x128x32x64, .f32⟩
  | 7 => ⟨S2x128x2048, .f32⟩
  | 8 => ⟨S2x128x512, .f32⟩
  | _ => ⟨S2x128x512, .f32⟩

abbrev hbmTy (i : Nat) : BufTy := match i / 128 with
  | 0 => hbmTy0_0 i
  | 1 => hbmTy0_1 i
  | _ => ⟨S2x128x512, .f32⟩

abbrev bufTy : (tb : Table) → Fin (tcTables nBuf tb) → BufTy
  | .hbm, ⟨i, _⟩ => hbmTy i
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Same.lean ====
/-
  The kernel as printed and the kernel as read over the extended reals are the same program text: their body tables and their entry points are equal, at every
  interpretation of the floats. What is proved of one therefore holds of the other.
-/
module

public import proofs.«01_k».proof.Proof.Gen.Kernel
public import proofs.«01_k».proof.Proof.Gen.KernelIdeal

@[expose] public section

set_option maxRecDepth 65536
set_option maxHeartbeats 4000000

noncomputable section

namespace Cert.Same

open Idealize.ShloMosaic Idealize.SL.Sem

variable {F : FTy → Type} [FloatOps F] [Cert.Kernel.Facts] [Cert.KernelIdeal.Facts]

/-- The kernels' own body tables are equal. -/
theorem bodies : @Cert.Kernel.defs₀ F _ _ = @Cert.KernelIdeal.defs₀ F _ _ := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) ?_
  funext l x
  match l, x with
  | 0, (t, s) => rfl

/-- The whole body tables are equal. -/
theorem defs : @Cert.Kernel.defs F _ _ = @Cert.KernelIdeal.defs F _ _ := by
  unfold Cert.Kernel.defs Cert.KernelIdeal.defs
  rw [bodies]
  rfl

/-- The entry points are equal. -/
theorem main : @Cert.Kernel.main F _ _ = @Cert.KernelIdeal.main F _ _ := rfl

end Cert.Same

end
-- ==== Proof.Base.lean ====
/-
  The protocol's bookkeeping, without any logic: the semaphore cells and their numbers, who signals whom, in the order in which a device's body does it, and the
  finite facts about these lists that the proof uses.

  Semaphores by number: 0 the barrier; 6 to 13 and 14 to 21 the send cells of the K and V copies; 22 to 25 and 26 to 29 the receive cells of the four K and V blocks;
  30 to 37 and 38 to 45 the send and receive cells of the reduce-scatter; 46 to 53 and 54 to 61 those of the all-gather; 62, 63 the receive cells of the relayed K and V
  blocks; 64, 65 the relay's send cells; 66 the closing barrier.
-/
module

public import proofs.«01_k».proof.Proof.Gen.KernelIdeal.Frame
public import Idealize.ShloMosaic.Lib.Pipeline.TalkSites
public import Idealize.ShloMosaic.Lib.Pipeline.TalkTables
public import Idealize.ShloMosaic.Lib.Pipeline.TalkSched

@[expose] public section

set_option maxRecDepth 16384

noncomputable section

namespace Cert.KernelIdeal.Hand

open Idealize.ShloMosaic Idealize.ShloMosaic.TcCoe
open Idealize.SL.RA
open Cert.KernelIdeal Cert.KernelIdeal.Gen
open Idealize.ShloMosaic.TalkSites (Pay tallyL)

/-! ## Cells -/

/-- The first barrier's semaphore. -/
abbrev barL : SemLoc sig := .reg (sig.barrier 0 rfl)
/-- The closing barrier's semaphore. -/
abbrev sem2L : SemLoc sig := .reg 1
/-- The copy semaphore of number `n`. -/
abbrev dS (n : ℕ) : SemLoc sig := .dma (Fin.ofNat 66 n)

/-- The semaphore of number `n`. -/
def semOf (n : ℕ) : SemLoc sig := if n = 0 then barL else if n = 66 then sem2L else dS n

/-- A semaphore's number. -/
def num : SemLoc sig → ℕ
  | .reg r => if r.val = 0 then 0 else 66
  | .dma v => v.val

theorem semOf_dma {n : ℕ} (h0 : n ≠ 0) (h1 : n < 66) : semOf n = dS n := by
  unfold semOf; rw [if_neg h0, if_neg (by omega)]

theorem num_semOf {n : ℕ} (h : n < 67) : num (semOf n) = n := by
  unfold semOf
  split_ifs with h0 h1
  · subst h0; rfl
  · subst h1; rfl
  · exact Nat.mod_eq_of_lt (show n < 66 by omega)

/-- The level of the waits on the semaphore of number `n`. -/
def lvN (n : ℕ) : ℕ :=
  if n = 0 then 1 else if n < 22 then 0 else if n < 30 then 3 else if n < 38 then 0 else if n < 46 then 4 else if n < 54 then 0
  else if n < 62 then 5 else if n < 64 then 2 else if n < 66 then 0 else 6

theorem lvN_lt (n : ℕ) : lvN n < 7 := by unfold lvN; split_ifs <;> omega

/-- A block of K or V, in units of a copy's semaphore. -/
def AK : ℕ := (cc0_scratch0 : Ref sig .tc).dmaCredit S2x128x256 .bf16
/-- A sixteen-row block of partial results, likewise. -/
def AR : ℕ := (cc0_scratch4 : Ref sig .tc).dmaCredit S2x16x512 .bf16

/-- The units of one duty on the semaphore of number `n`. -/
def amtN (n : ℕ) : ℕ := if n = 0 then 1 else if n = 66 then 1 else if n < 30 then AK else if n < 62 then AR else AK
/-- The units a wait on the semaphore of number `n` takes: seven on the two barriers, one duty's on the others. -/
def totN (n : ℕ) : ℕ := if n = 0 then 7 else if n = 66 then 7 else amtN n

/-- Device `c`'s cell at a semaphore. -/
abbrev cell (c : Dev nD) (n : ℕ) : GSem nD τ sig := ((c : Thread nD τ), semOf n)

/-- The device whose number differs from `c`'s in the bits of `j`. -/
def xr (c : Dev nD) (j : ℕ) : Dev nD := ⟨(c.val ^^^ j) % 8, Nat.mod_lt _ (by decide)⟩
/-- The device `j` places after `c` around the ring. -/
def ad (c : Dev nD) (j : ℕ) : Dev nD := ⟨(c.val + j) % 8, Nat.mod_lt _ (by decide)⟩
/-- The device of number `j`. -/
def dv (j : ℕ) : Dev nD := ⟨j % 8, Nat.mod_lt _ (by decide)⟩

/-! ## What a device signals, in program order -/

/-- One signal or copy: the device it is addressed to, the number of the semaphore credited there, the number of the sender's own semaphore (0 when it is no copy). -/
abbrev Ent : Type := Dev nD × ℕ × ℕ

/-- The payment of an entry. -/
def pay (e : Ent) : Pay nD τ sig := (cell e.1 e.2.1, lvN e.2.1, amtN e.2.1)

def barE (c : Dev nD) : List Ent := [1, 2, 3, 4, 5, 6, 7].map fun j => (ad c j, 0, 0)
def kE (c : Dev nD) : List Ent :=
  [0, 1, 2, 3, 4, 5, 6, 7].map fun j => if j = 2 then (xr c 3, 62, 8) else (xr c j, 22 + c.val / 2, 6 + j)
def vE (c : Dev nD) : List Ent :=
  [0, 1, 2, 3, 4, 5, 6, 7].map fun j => if j = 2 then (xr c 3, 63, 16) else (xr c j, 26 + c.val / 2, 14 + j)
def kvE (c : Dev nD) : List Ent := if c.val % 2 = 0 then kE c ++ vE c else []
def rlE (c : Dev nD) : List Ent :=
  if c.val % 2 = 0 then [] else [(xr c 1, 22 + (xr c 3).val / 2, 64), (xr c 1, 26 + (xr c 3).val / 2, 65)]
/-- The reduce-scatter's copies to the devices of a list. -/
def rsF (c : Dev nD) (l : List ℕ) : List Ent := l.flatMap fun j => if dv j = c then [] else [(dv j, 38 + c.val, 30 + j)]
def rsE (c : Dev nD) : List Ent := rsF c [0, 1, 2, 3, 4, 5, 6, 7]
def agE (c : Dev nD) : List Ent := [1, 2, 3, 4, 5, 6, 7].map fun j => (ad c j, 54 + c.val, 46 + j)
def s2E (c : Dev nD) : List Ent := [1, 2, 3, 4, 5, 6, 7].map fun j => (ad c j, 66, 0)

/-- Everything device `c` signals or copies. -/
def allE (c : Dev nD) : List Ent := barE c ++ (kvE c ++ (rlE c ++ (rsE c ++ (agE c ++ s2E c))))

theorem allE_lt (c : Dev nD) : ∀ e ∈ allE c, e.2.1 < 67 ∧ e.2.2 < 66 := by revert c; decide +kernel

/-! ## Who pays a cell -/

/-- Whether device `d` pays device `o`'s cell `n`: by an entry addressed there, or, for a send cell of its own, by the copy that it issues. -/
def paysB (d o : Dev nD) (n : ℕ) : Bool :=
  (allE d).any fun e => (Nat.beq e.2.1 n && Nat.beq e.1.val o.val) || (Nat.beq e.2.2 n && (Nat.beq o.val d.val && Nat.ble 1 n))

/-- The devices that pay device `o`'s cell `n`. -/
def payers (o : Dev nD) (n : ℕ) : Finset (Dev nD) := Finset.univ.filter fun d => paysB d o n = true

/-- An entry's device is among the payers of the cell it addresses. -/
theorem mem_payers {c : Dev nD} {e : Ent} (he : e ∈ allE c) : c ∈ payers e.1 e.2.1 := by
  unfold payers paysB
  rw [Finset.mem_filter]
  exact ⟨Finset.mem_univ _, List.any_eq_true.mpr ⟨e, he, by simp⟩⟩

/-- A copy's sender is among the payers of its own send cell. -/
theorem mem_payers_send {c : Dev nD} {e : Ent} (he : e ∈ allE c) (hs : e.2.2 ≠ 0) : c ∈ payers c e.2.2 := by
  unfold payers paysB
  rw [Finset.mem_filter]
  exact ⟨Finset.mem_univ _, List.any_eq_true.mpr ⟨e, he, by simp; omega⟩⟩

/-- Every device but the owner pays the barrier. -/
theorem payers_bar (c : Dev nD) : payers c 0 = Finset.univ.erase c := by revert c; decide +kernel
/-- Every device but the owner pays the closing barrier. -/
theorem payers_sem2 (c : Dev nD) : payers c 66 = Finset.univ.erase c := by revert c; decide +kernel

/-! ## The cells a device waits on -/

/-- The receive cells device `c` waits on, in program order. -/
def inE (c : Dev nD) : List ℕ :=
  (if c.val % 2 = 0 then [] else [62, 63]) ++ ([22, 23, 24, 25, 26, 27, 28, 29]
    ++ ([1, 2, 3, 4, 5, 6, 7].map (fun j => 38 + (ad c j).val) ++ [1, 2, 3, 4, 5, 6, 7].map (fun j => 54 + (ad c j).val)))

/-- A receive cell that is waited on has exactly one payer. -/
theorem payers_in (c : Dev nD) : ∀ n ∈ inE c, (payers c n).card = 1 := by revert c; decide +kernel
/-- A send cell in use has exactly one payer, the device itself. -/
theorem payers_out (c : Dev nD) : ∀ e ∈ allE c, e.2.2 ≠ 0 → payers c e.2.2 = {c} := by revert c; decide +kernel

/-- The numbers of all the entries addressed to device `c`. -/
def toC (c : Dev nD) : List ℕ := (((List.finRange nD).flatMap allE).filter fun e => Nat.beq e.1.val c.val).map fun e => e.2.1

/-- What device `c` is addressed: seven units on each barrier and one duty on each receive cell. -/
theorem toC_perm (c : Dev nD) : (toC c).Perm (List.replicate 7 0 ++ (List.replicate 7 66 ++ inE c)) := by
  revert c; decide +kernel

end Cert.KernelIdeal.Hand

end
-- ==== Proof.Vals.lean ====
/-
  The contents of every buffer at the moments they are copied or read, and the values that device `c`'s body computes from them: one definition per value the body hands from
  one of its parts to the next, over the arrays `I` of all devices.
-/
module

public import proofs.«01_k».proof.Proof.Base
public import proofs.«01_k».proof.Proof.Gen.KernelIdeal.Skeleton
public import Idealize.ShloMosaic.Lib.ValueIdxCore

@[expose] public section

set_option maxRecDepth 16384

noncomputable section

namespace Cert.KernelIdeal.Hand

open Idealize.ShloMosaic Idealize.ShloMosaic.TcCoe
open Cert.KernelIdeal Cert.KernelIdeal.Gen
open Idealize.ShloMosaic.ValueIdx

variable {F : FTy → Type} [FloatOps F]

/-! ## The arrays the kernel is called on -/

/-- Each device's arrays as the kernel call finds them. -/
structure Ins (F : FTy → Type) where
  x : Dev nD → S2x128x512.Idx → F .f32
  wq : Dev nD → S512x256.Idx → F .f32
  k : Dev nD → S2x128x2048.Idx → F .bf16
  v : Dev nD → S2x128x2048.Idx → F .bf16
  wo : Dev nD → S256x512.Idx → F .f32

/-- Column `j` of column block `d` of an array of 2048 columns. -/
def col (d : Dev nD) (j : Fin 256) : Fin 2048 := ⟨d.val * 256 + j.val, by have := d.isLt; have := j.isLt; change d.val < 8 at *; omega⟩
/-- Row `r` of row block `d` of an array of 128 rows. -/
def row (d : Dev nD) (r : Fin 16) : Fin 128 := ⟨d.val * 16 + r.val, by have := d.isLt; have := r.isLt; change d.val < 8 at *; omega⟩

/-- Device `c`'s buffer of K blocks once full: block `m` is column block `c` of device `2 * m`'s array. -/
def KB (I : Ins F) (c : Dev nD) : S4x2x128x256.Idx → F .bf16 := fun i => I.k (dv (2 * (i 0).val)) (ix3 (i 1) (i 2) (col c (i 3)))
/-- Its buffer of V blocks, likewise. -/
def VB (I : Ins F) (c : Dev nD) : S4x2x128x256.Idx → F .bf16 := fun i => I.v (dv (2 * (i 0).val)) (ix3 (i 1) (i 2) (col c (i 3)))
/-- The K block that an odd device receives to pass on. -/
def KST (I : Ins F) (c : Dev nD) : S2x128x256.Idx → F .bf16 := fun i => I.k (xr c 3) (ix3 (i 0) (i 1) (col (xr c 1) (i 2)))
/-- The V block, likewise. -/
def VST (I : Ins F) (c : Dev nD) : S2x128x256.Idx → F .bf16 := fun i => I.v (xr c 3) (ix3 (i 0) (i 1) (col (xr c 1) (i 2)))

/-- An array of 2 by 128 rows from its four blocks of 64 rows. -/
def blk4 {α : Type} (a00 a10 a01 a11 : S1x64x512.Idx → α) : S2x128x512.Idx → α := fun i =>
  if h : (i 1).val < 64 then (if (i 0).val = 0 then a00 else a10) (ix3 0 ⟨(i 1).val, h⟩ (i 2))
  else (if (i 0).val = 0 then a01 else a11) (ix3 0 ⟨(i 1).val - 64, by have := (i 1).isLt; change (i 1).val < 128 at this; omega⟩ (i 2))

/-! ## Words -/

def v0 (c : Dev nD) : BitVec 32 := Dev.word c
def v1 (c : Dev nD) : BitVec 32 := Scalar.divsi (v0 c) 1#32
def v2 (c : Dev nD) : BitVec 32 := Scalar.remsi (v1 c) 8#32
def v3 (c : Dev nD) : BitVec 1 := Scalar.cmpi .eq 2#32 0#32
def v4 (c : Dev nD) : BitVec 32 := Scalar.select (v3 c) 1#32 2#32
def v5 (c : Dev nD) : BitVec 32 := Scalar.remsi (v2 c) (v4 c)
def v6 (c : Dev nD) : BitVec 1 := Scalar.cmpi .ne (v5 c) 0#32
def v7 (c : Dev nD) : BitVec 1 := Scalar.cmpi .slt (v5 c) 0#32
def v8 (c : Dev nD) : BitVec 1 := Scalar.cmpi .slt (v4 c) 0#32
def v9 (c : Dev nD) : BitVec 1 := Scalar.xori (v7 c) (v8 c)
def v10 (c : Dev nD) : BitVec 1 := Scalar.andi (v9 c) (v6 c)
def v11 (c : Dev nD) : BitVec 32 := Scalar.addi (v5 c) (v4 c)
def v12 (c : Dev nD) : BitVec 32 := Scalar.select (v10 c) (v11 c) (v5 c)
def v13 (c : Dev nD) : BitVec 1 := Scalar.cmpi .eq (v12 c) 0#32
def v32 (c : Dev nD) : BitVec 32 := Scalar.addi (v2 c) 1#32
def v33 (c : Dev nD) : BitVec 1 := Scalar.cmpi .eq 8#32 0#32
def v34 (c : Dev nD) : BitVec 32 := Scalar.select (v33 c) 1#32 8#32
def v35 (c : Dev nD) : BitVec 32 := Scalar.remsi (v32 c) (v34 c)
def v36 (c : Dev nD) : BitVec 1 := Scalar.cmpi .ne (v35 c) 0#32
def c0_i32_17 (c : Dev nD) : BitVec 32 := 0#32
def v97 (c : Dev nD) : BitVec 32 := Scalar.addi (v2 c) 6#32
def v98 (c : Dev nD) : BitVec 1 := Scalar.cmpi .eq 8#32 0#32
def v99 (c : Dev nD) : BitVec 32 := Scalar.select (v98 c) 1#32 8#32
def v100 (c : Dev nD) : BitVec 32 := Scalar.remsi (v97 c) (v99 c)
def v101 (c : Dev nD) : BitVec 1 := Scalar.cmpi .ne (v100 c) 0#32
def c0_i32_63 (c : Dev nD) : BitVec 32 := 0#32
def cst_111 : F .f32 := Scalar.ofBits .f32 0x3E000000#32
def cst_130 : F .f32 := Scalar.ofBits .f32 0x3E000000#32
def cst_147 : FVec F S64x64 .f32 := constant S64x64 .f32 0x00000000#32
def cst_172 : F .f32 := Scalar.ofBits .f32 0x3E000000#32
def cst_192 : F .f32 := Scalar.ofBits .f32 0x3E000000#32
def c0_i32_212 (c : Dev nD) : BitVec 32 := 0#32
def cst_253 : F .f32 := Scalar.ofBits .f32 0x3E000000#32
def cst_314 : F .f32 := Scalar.ofBits .f32 0x3E000000#32
def cst_534 : FVec F S64x64 .f32 := constant S64x64 .f32 0x00000000#32
def cst_561 : FVec F S64x64 .f32 := constant S64x64 .f32 0x00000000#32
def v1582 (c : Dev nD) : BitVec 1 := Scalar.cmpi .ne (v2 c) 2#32
def v1583 (c : Dev nD) : BitVec 32 := Scalar.extui (v1582 c)
def c0_i32_654 (c : Dev nD) : BitVec 32 := 0#32
def v1613 (c : Dev nD) : BitVec 1 := Scalar.cmpi .ne (v2 c) 5#32
def v1622 (c : Dev nD) : BitVec 32 := Scalar.muli (v2 c) 16#32
def v1623 (c : Dev nD) : BitVec 32 := (v1622 c)
def v1642 (c : Dev nD) : BitVec 32 := Scalar.addi (v2 c) 2#32
def v1643 (c : Dev nD) : BitVec 1 := Scalar.cmpi .eq 8#32 0#32
def c8_i32_701 (c : Dev nD) : BitVec 32 := 8#32
def v1696 (c : Dev nD) : BitVec 32 := Scalar.addi (v2 c) 5#32
def v1697 (c : Dev nD) : BitVec 1 := Scalar.cmpi .eq 8#32 0#32
def v1698 (c : Dev nD) : BitVec 32 := Scalar.select (v1697 c) 1#32 8#32
def v1699 (c : Dev nD) : BitVec 32 := Scalar.remsi (v1696 c) (v1698 c)
def v1700 (c : Dev nD) : BitVec 1 := Scalar.cmpi .ne (v1699 c) 0#32
def v1701 (c : Dev nD) : BitVec 1 := Scalar.cmpi .slt (v1699 c) 0#32
def v1702 (c : Dev nD) : BitVec 1 := Scalar.cmpi .slt (v1698 c) 0#32
def v1703 (c : Dev nD) : BitVec 1 := Scalar.xori (v1701 c) (v1702 c)
def v1704 (c : Dev nD) : BitVec 1 := Scalar.andi (v1703 c) (v1700 c)
def v1705 (c : Dev nD) : BitVec 32 := Scalar.addi (v1699 c) (v1698 c)
def v1732 (c : Dev nD) : BitVec 32 := Scalar.addi (v2 c) 7#32
def v1733 (c : Dev nD) : BitVec 1 := Scalar.cmpi .eq 8#32 0#32
def c8_i32_786 (c : Dev nD) : BitVec 32 := 8#32
def v1800 (c : Dev nD) : BitVec 32 := Scalar.addi (v2 c) 4#32
def v1801 (c : Dev nD) : BitVec 1 := Scalar.cmpi .eq 8#32 0#32
def v1802 (c : Dev nD) : BitVec 32 := Scalar.select (v1801 c) 1#32 8#32
def v1832 (c : Dev nD) : BitVec 32 := Scalar.addi (v2 c) 6#32
def v1833 (c : Dev nD) : BitVec 1 := Scalar.cmpi .eq 8#32 0#32
def v1834 (c : Dev nD) : BitVec 32 := Scalar.select (v1833 c) 1#32 8#32
def v1835 (c : Dev nD) : BitVec 32 := Scalar.remsi (v1832 c) (v1834 c)
def v1836 (c : Dev nD) : BitVec 1 := Scalar.cmpi .ne (v1835 c) 0#32
def v1837 (c : Dev nD) : BitVec 1 := Scalar.cmpi .slt (v1835 c) 0#32
def v1838 (c : Dev nD) : BitVec 1 := Scalar.cmpi .slt (v1834 c) 0#32
def v1839 (c : Dev nD) : BitVec 1 := Scalar.xori (v1837 c) (v1838 c)
def v1870 (c : Dev nD) : BitVec 32 := Scalar.addi (v2 c) 1#32
def v1871 (c : Dev nD) : BitVec 1 := Scalar.cmpi .eq 8#32 0#32
def v1872 (c : Dev nD) : BitVec 32 := Scalar.select (v1871 c) 1#32 8#32
def v1873 (c : Dev nD) : BitVec 32 := Scalar.remsi (v1870 c) (v1872 c)
def v1874 (c : Dev nD) : BitVec 1 := Scalar.cmpi .ne (v1873 c) 0#32
def v1908 (c : Dev nD) : BitVec 32 := Scalar.addi (v2 c) 3#32
def c8_i32_906 (c : Dev nD) : BitVec 32 := 8#32
def c0_i32_907 (c : Dev nD) : BitVec 32 := 0#32
def v2003 (c : Dev nD) : BitVec 32 := Scalar.addi (v2 c) 1#32
def v2004 (c : Dev nD) : BitVec 1 := Scalar.cmpi .eq 8#32 0#32
def v2005 (c : Dev nD) : BitVec 32 := Scalar.select (v2004 c) 1#32 8#32
def v2006 (c : Dev nD) : BitVec 32 := Scalar.remsi (v2003 c) (v2005 c)
def v2007 (c : Dev nD) : BitVec 1 := Scalar.cmpi .ne (v2006 c) 0#32
def v2008 (c : Dev nD) : BitVec 1 := Scalar.cmpi .slt (v2006 c) 0#32
def v2009 (c : Dev nD) : BitVec 1 := Scalar.cmpi .slt (v2005 c) 0#32
def v2010 (c : Dev nD) : BitVec 1 := Scalar.xori (v2008 c) (v2009 c)
def v2011 (c : Dev nD) : BitVec 1 := Scalar.andi (v2010 c) (v2007 c)
def v2012 (c : Dev nD) : BitVec 32 := Scalar.addi (v2006 c) (v2005 c)
def v2013 (c : Dev nD) : BitVec 32 := Scalar.select (v2011 c) (v2012 c) (v2006 c)
def v2028 (c : Dev nD) : BitVec 32 := Scalar.addi (v2 c) 2#32
def v2029 (c : Dev nD) : BitVec 1 := Scalar.cmpi .eq 8#32 0#32
def v2030 (c : Dev nD) : BitVec 32 := Scalar.select (v2029 c) 1#32 8#32
def v2031 (c : Dev nD) : BitVec 32 := Scalar.remsi (v2028 c) (v2030 c)
def v2032 (c : Dev nD) : BitVec 1 := Scalar.cmpi .ne (v2031 c) 0#32
def v2033 (c : Dev nD) : BitVec 1 := Scalar.cmpi .slt (v2031 c) 0#32
def v2034 (c : Dev nD) : BitVec 1 := Scalar.cmpi .slt (v2030 c) 0#32
def v2035 (c : Dev nD) : BitVec 1 := Scalar.xori (v2033 c) (v2034 c)
def v2036 (c : Dev nD) : BitVec 1 := Scalar.andi (v2035 c) (v2032 c)
def v2037 (c : Dev nD) : BitVec 32 := Scalar.addi (v2031 c) (v2030 c)
def v2038 (c : Dev nD) : BitVec 32 := Scalar.select (v2036 c) (v2037 c) (v2031 c)
def v2103 (c : Dev nD) : BitVec 32 := Scalar.addi (v2 c) 5#32
def v2104 (c : Dev nD) : BitVec 1 := Scalar.cmpi .eq 8#32 0#32
def v2105 (c : Dev nD) : BitVec 32 := Scalar.select (v2104 c) 1#32 8#32
def v2106 (c : Dev nD) : BitVec 32 := Scalar.remsi (v2103 c) (v2105 c)
def v2107 (c : Dev nD) : BitVec 1 := Scalar.cmpi .ne (v2106 c) 0#32
def c0_i32_1055 (c : Dev nD) : BitVec 32 := 0#32
def v2128 (c : Dev nD) : BitVec 32 := Scalar.addi (v2 c) 6#32
def v2129 (c : Dev nD) : BitVec 1 := Scalar.cmpi .eq 8#32 0#32
def v2130 (c : Dev nD) : BitVec 32 := Scalar.select (v2129 c) 1#32 8#32
def v2131 (c : Dev nD) : BitVec 32 := Scalar.remsi (v2128 c) (v2130 c)
def v2132 (c : Dev nD) : BitVec 1 := Scalar.cmpi .ne (v2131 c) 0#32
def v2133 (c : Dev nD) : BitVec 1 := Scalar.cmpi .slt (v2131 c) 0#32
def v2134 (c : Dev nD) : BitVec 1 := Scalar.cmpi .slt (v2130 c) 0#32
def v2135 (c : Dev nD) : BitVec 1 := Scalar.xori (v2133 c) (v2134 c)
def v2136 (c : Dev nD) : BitVec 1 := Scalar.andi (v2135 c) (v2132 c)
def v2137 (c : Dev nD) : BitVec 32 := Scalar.addi (v2131 c) (v2130 c)
def v2138 (c : Dev nD) : BitVec 32 := Scalar.select (v2136 c) (v2137 c) (v2131 c)
def v2153 (c : Dev nD) : BitVec 32 := Scalar.addi (v2 c) 7#32
def v2154 (c : Dev nD) : BitVec 1 := Scalar.cmpi .eq 8#32 0#32
def v2155 (c : Dev nD) : BitVec 32 := Scalar.select (v2154 c) 1#32 8#32
def v2156 (c : Dev nD) : BitVec 32 := Scalar.remsi (v2153 c) (v2155 c)
def v2157 (c : Dev nD) : BitVec 1 := Scalar.cmpi .ne (v2156 c) 0#32
def v2158 (c : Dev nD) : BitVec 1 := Scalar.cmpi .slt (v2156 c) 0#32
def v2159 (c : Dev nD) : BitVec 1 := Scalar.cmpi .slt (v2155 c) 0#32
def v2160 (c : Dev nD) : BitVec 1 := Scalar.xori (v2158 c) (v2159 c)
def v2161 (c : Dev nD) : BitVec 1 := Scalar.andi (v2160 c) (v2157 c)
def v2162 (c : Dev nD) : BitVec 32 := Scalar.addi (v2156 c) (v2155 c)
def v2163 (c : Dev nD) : BitVec 32 := Scalar.select (v2161 c) (v2162 c) (v2156 c)
def v2178 (c : Dev nD) : BitVec 1 := Scalar.cmpi .ne (v2 c) 0#32
def v2179 (c : Dev nD) : BitVec 32 := Scalar.extui (v2178 c)
def v2180 (c : Dev nD) : BitVec 1 := Scalar.cmpi .ne (v2179 c) 0#32
def v2181 (c : Dev nD) : BitVec 1 := Scalar.cmpi .ne (v2 c) 1#32
def v2182 (c : Dev nD) : BitVec 32 := Scalar.extui (v2181 c)
def v2183 (c : Dev nD) : BitVec 1 := Scalar.cmpi .ne (v2182 c) 0#32
def v2184 (c : Dev nD) : BitVec 1 := Scalar.cmpi .ne (v2 c) 2#32
def v2185 (c : Dev nD) : BitVec 32 := Scalar.extui (v2184 c)
def v2186 (c : Dev nD) : BitVec 1 := Scalar.cmpi .ne (v2185 c) 0#32
def v2187 (c : Dev nD) : BitVec 1 := Scalar.cmpi .ne (v2 c) 3#32
def v2188 (c : Dev nD) : BitVec 32 := Scalar.extui (v2187 c)
def v2189 (c : Dev nD) : BitVec 1 := Scalar.cmpi .ne (v2188 c) 0#32
def v2190 (c : Dev nD) : BitVec 1 := Scalar.cmpi .ne (v2 c) 4#32
def v2191 (c : Dev nD) : BitVec 32 := Scalar.extui (v2190 c)
def v2192 (c : Dev nD) : BitVec 1 := Scalar.cmpi .ne (v2191 c) 0#32
def v2193 (c : Dev nD) : BitVec 1 := Scalar.cmpi .ne (v2 c) 5#32
def v2194 (c : Dev nD) : BitVec 32 := Scalar.extui (v2193 c)
def v2195 (c : Dev nD) : BitVec 1 := Scalar.cmpi .ne (v2194 c) 0#32
def v2196 (c : Dev nD) : BitVec 1 := Scalar.cmpi .ne (v2 c) 6#32
def v2197 (c : Dev nD) : BitVec 32 := Scalar.extui (v2196 c)
def v2198 (c : Dev nD) : BitVec 1 := Scalar.cmpi .ne (v2197 c) 0#32
def v2199 (c : Dev nD) : BitVec 1 := Scalar.cmpi .ne (v2 c) 7#32
def v2200 (c : Dev nD) : BitVec 32 := Scalar.extui (v2199 c)
def v2201 (c : Dev nD) : BitVec 1 := Scalar.cmpi .ne (v2200 c) 0#32
def v2230 (c : Dev nD) : BitVec 32 := Scalar.extui (v13 c)
def v2231 (c : Dev nD) : BitVec 1 := Scalar.cmpi .ne (v2230 c) 0#32
def v2232 (c : Dev nD) : BitVec 1 := Scalar.xori (v13 c) 1#1
def v2233 (c : Dev nD) : BitVec 32 := Scalar.extui (v2232 c)
def v2234 (c : Dev nD) : BitVec 1 := Scalar.cmpi .ne (v2233 c) 0#32
def v2236_r0 (c : Dev nD) : BitVec 32 := Scalar.addi (v2 c) 1#32
def v2237_r0 (c : Dev nD) : BitVec 1 := Scalar.cmpi .eq 8#32 0#32
def v2238_r0 (c : Dev nD) : BitVec 32 := Scalar.select (v2237_r0 c) 1#32 8#32
def v2239_r0 (c : Dev nD) : BitVec 32 := Scalar.remsi (v2236_r0 c) (v2238_r0 c)
def v2240_r0 (c : Dev nD) : BitVec 1 := Scalar.cmpi .ne (v2239_r0 c) 0#32
def v2241_r0 (c : Dev nD) : BitVec 1 := Scalar.cmpi .slt (v2239_r0 c) 0#32
def v2242_r0 (c : Dev nD) : BitVec 1 := Scalar.cmpi .slt (v2238_r0 c) 0#32
def v2243_r0 (c : Dev nD) : BitVec 1 := Scalar.xori (v2241_r0 c) (v2242_r0 c)
def v2244_r0 (c : Dev nD) : BitVec 1 := Scalar.andi (v2243_r0 c) (v2240_r0 c)
def v2245_r0 (c : Dev nD) : BitVec 32 := Scalar.addi (v2239_r0 c) (v2238_r0 c)
def v2246_r0 (c : Dev nD) : BitVec 32 := Scalar.select (v2244_r0 c) (v2245_r0 c) (v2239_r0 c)
def v2247_r0 (c : Dev nD) : BitVec 32 := Scalar.muli (v2246_r0 c) 1#32
def v2275_r0 (c : Dev nD) : BitVec 32 := Scalar.addi (v2 c) 4#32
def v2276_r0 (c : Dev nD) : BitVec 1 := Scalar.cmpi .eq 8#32 0#32
def v2277_r0 (c : Dev nD) : BitVec 32 := Scalar.select (v2276_r0 c) 1#32 8#32
def v2278_r0 (c : Dev nD) : BitVec 32 := Scalar.remsi (v2275_r0 c) (v2277_r0 c)
def c0_i32_1219_r0 (c : Dev nD) : BitVec 32 := 0#32

/-! ## The attention of device `c`'s heads -/

def v125 (I : Ins F) (c : Dev nD) : Vec F S1x128x512 .f32 := (Memref.whole cc0_stg0_0).view.readAt (Elt F) (Rect.unit (s := S2x128x512) ![0, 0, 0] S1x128x512.size inb_S2x128x512_S1x128x512_0_0_0).toLoadRect (I.x c)
def v127 (I : Ins F) (c : Dev nD) : Vec F S512x256 .f32 := (Memref.whole cc0_stg1_0).view.readAt (Elt F) (Rect.unit (s := S512x256) ![0, 0] S512x256.size inb_S512x256_S512x256_0_0).toLoadRect (I.wq c)
def v130 (I : Ins F) (c : Dev nD) : Vec F S1x128x512 .f32 := (Memref.whole cc0_stg0_0).view.readAt (Elt F) (Rect.unit (s := S2x128x512) ![1, 0, 0] S1x128x512.size inb_S2x128x512_S1x128x512_1_0_0).toLoadRect (I.x c)
def v129 (I : Ins F) (c : Dev nD) : FVec F S128x256 .f32 := k0_pay1 (v125 I c) (v127 I c)
def v131 (I : Ins F) (c : Dev nD) : FVec F S128x512 .f32 := k0_pay2 (v130 I c)
def v132 (I : Ins F) (c : Dev nD) : Vec F S512x256 .f32 := (Memref.whole cc0_stg1_0).view.readAt (Elt F) (Rect.unit (s := S512x256) ![0, 0] S512x256.size inb_S512x256_S512x256_0_0).toLoadRect (I.wq c)
def v145 (I : Ins F) (c : Dev nD) : Vec F S1x1x64x256 .bf16 := (Memref.whole cc0_scratch0).view.readAt (Elt F) (Rect.unit (s := S4x2x128x256) ![0, 0, 0, 0] S1x1x64x256.size inb_S4x2x128x256_S1x1x64x256_0_0_0_0).toLoadRect (KB I c)
def v134 (I : Ins F) (c : Dev nD) : FVec F S128x256 .f32 := k0_pay3 (v131 I c) (v132 I c)
def v146 (I : Ins F) (c : Dev nD) : FVec F S64x256 .bf16 := k0_pay4 (v145 I c)
def v152 (I : Ins F) (c : Dev nD) : FVec F S64x64 .f32 := k0_pay5 (v129 I c) (v145 I c)
def v158 (I : Ins F) (c : Dev nD) : FVec F S64x64 .f32 := k0_pay6 (v129 I c) (v145 I c)
def v162 (I : Ins F) (c : Dev nD) : FVec F S64x64 .f32 := k0_pay7 (v129 I c) (v145 I c)
def v171 (I : Ins F) (c : Dev nD) : Vec F S1x1x64x256 .bf16 := (Memref.whole cc0_scratch0).view.readAt (Elt F) (Rect.unit (s := S4x2x128x256) ![0, 0, 64, 0] S1x1x64x256.size inb_S4x2x128x256_S1x1x64x256_0_0_64_0).toLoadRect (KB I c)
def v197 (I : Ins F) (c : Dev nD) : Vec F S1x1x64x256 .bf16 := (Memref.whole cc0_scratch0).view.readAt (Elt F) (Rect.unit (s := S4x2x128x256) ![0, 1, 0, 0] S1x1x64x256.size inb_S4x2x128x256_S1x1x64x256_0_1_0_0).toLoadRect (KB I c)
def v164 (I : Ins F) (c : Dev nD) : FVec F S64x64 .f32 := k0_pay8 (v162 I c) cst_111
def v170 (I : Ins F) (c : Dev nD) : FVec F S64x64 .f32 := k0_pay9 (v129 I c) (v146 I c)
def v178 (I : Ins F) (c : Dev nD) : FVec F S64x64 .f32 := k0_pay11 (v129 I c) (v171 I c)
def v184 (I : Ins F) (c : Dev nD) : FVec F S64x64 .f32 := k0_pay12 (v129 I c) (v171 I c)
def v190 (I : Ins F) (c : Dev nD) : FVec F S64x64 .f32 := k0_pay13 (v129 I c) (v171 I c)
def v196 (I : Ins F) (c : Dev nD) : FVec F S64x64 .f32 := k0_pay14 (v129 I c) (v171 I c)
def v198 (I : Ins F) (c : Dev nD) : FVec F S64x256 .bf16 := k0_pay15 (v197 I c)
def v202 (I : Ins F) (c : Dev nD) : FVec F S64x64 .f32 := k0_pay16 (v134 I c) (v197 I c)
def v223 (I : Ins F) (c : Dev nD) : Vec F S1x1x64x256 .bf16 := (Memref.whole cc0_scratch0).view.readAt (Elt F) (Rect.unit (s := S4x2x128x256) ![0, 1, 64, 0] S1x1x64x256.size inb_S4x2x128x256_S1x1x64x256_0_1_64_0).toLoadRect (KB I c)
def v204 (I : Ins F) (c : Dev nD) : FVec F S64x64 .f32 := k0_pay17 (v202 I c) cst_130
def v210 (I : Ins F) (c : Dev nD) : FVec F S64x64 .f32 := k0_pay18 (v134 I c) (v198 I c)
def v216 (I : Ins F) (c : Dev nD) : FVec F S64x64 .f32 := k0_pay19 (v134 I c) (v198 I c)
def v222 (I : Ins F) (c : Dev nD) : FVec F S64x64 .f32 := k0_pay20 (v134 I c) (v198 I c)
def v230 (I : Ins F) (c : Dev nD) : FVec F S64x64 .f32 := k0_pay22 (v134 I c) (v223 I c)
def v236 (I : Ins F) (c : Dev nD) : FVec F S64x64 .f32 := k0_pay23 (v134 I c) (v223 I c)
def v242 (I : Ins F) (c : Dev nD) : FVec F S64x64 .f32 := k0_pay24 (v134 I c) (v223 I c)
def v244 (I : Ins F) (c : Dev nD) : FVec F S64x64 .bf16 := k0_pay25 (v134 I c)
def v245 (I : Ins F) (c : Dev nD) : FVec F S64x64 .bf16 := k0_pay26 (v223 I c)
def v256 (I : Ins F) (c : Dev nD) : Vec F S1x1x64x256 .bf16 := (Memref.whole cc0_scratch0).view.readAt (Elt F) (Rect.unit (s := S4x2x128x256) ![1, 0, 0, 0] S1x1x64x256.size inb_S4x2x128x256_S1x1x64x256_1_0_0_0).toLoadRect (KB I c)
def v248 (I : Ins F) (c : Dev nD) : FVec F S64x64 .f32 := k0_pay27 (v244 I c) (v245 I c) cst_147
def v263 (I : Ins F) (c : Dev nD) : FVec F S64x64 .f32 := k0_pay29 (v129 I c) (v256 I c)
def v269 (I : Ins F) (c : Dev nD) : FVec F S64x64 .f32 := k0_pay30 (v129 I c) (v256 I c)
def v275 (I : Ins F) (c : Dev nD) : FVec F S64x64 .f32 := k0_pay31 (v129 I c) (v256 I c)
def v279 (I : Ins F) (c : Dev nD) : FVec F S64x64 .f32 := k0_pay32 (v129 I c) (v256 I c)
def v282 (I : Ins F) (c : Dev nD) : Vec F S1x1x64x256 .bf16 := (Memref.whole cc0_scratch0).view.readAt (Elt F) (Rect.unit (s := S4x2x128x256) ![1, 0, 64, 0] S1x1x64x256.size inb_S4x2x128x256_S1x1x64x256_1_0_64_0).toLoadRect (KB I c)
def v308 (I : Ins F) (c : Dev nD) : Vec F S1x1x64x256 .bf16 := (Memref.whole cc0_scratch0).view.readAt (Elt F) (Rect.unit (s := S4x2x128x256) ![1, 1, 0, 0] S1x1x64x256.size inb_S4x2x128x256_S1x1x64x256_1_1_0_0).toLoadRect (KB I c)
def v281 (I : Ins F) (c : Dev nD) : FVec F S64x64 .f32 := k0_pay33 (v279 I c) cst_172
def v289 (I : Ins F) (c : Dev nD) : FVec F S64x64 .f32 := k0_pay35 (v129 I c) (v282 I c)
def v295 (I : Ins F) (c : Dev nD) : FVec F S64x64 .f32 := k0_pay36 (v129 I c) (v282 I c)
def v301 (I : Ins F) (c : Dev nD) : FVec F S64x64 .f32 := k0_pay37 (v129 I c) (v282 I c)
def v307 (I : Ins F) (c : Dev nD) : FVec F S64x64 .f32 := k0_pay38 (v129 I c) (v282 I c)
def v309 (I : Ins F) (c : Dev nD) : FVec F S64x256 .bf16 := k0_pay39 (v308 I c)
def v315 (I : Ins F) (c : Dev nD) : FVec F S64x64 .f32 := k0_pay40 (v134 I c) (v308 I c)
def v319 (I : Ins F) (c : Dev nD) : FVec F S64x64 .f32 := k0_pay41 (v134 I c) (v308 I c)
def v334 (I : Ins F) (c : Dev nD) : Vec F S1x1x64x256 .bf16 := (Memref.whole cc0_scratch0).view.readAt (Elt F) (Rect.unit (s := S4x2x128x256) ![1, 1, 64, 0] S1x1x64x256.size inb_S4x2x128x256_S1x1x64x256_1_1_64_0).toLoadRect (KB I c)
def v321 (I : Ins F) (c : Dev nD) : FVec F S64x64 .f32 := k0_pay42 (v319 I c) cst_192
def v327 (I : Ins F) (c : Dev nD) : FVec F S64x64 .f32 := k0_pay43 (v134 I c) (v309 I c)
def v333 (I : Ins F) (c : Dev nD) : FVec F S64x64 .f32 := k0_pay44 (v134 I c) (v309 I c)
def v341 (I : Ins F) (c : Dev nD) : FVec F S64x64 .f32 := k0_pay46 (v134 I c) (v334 I c)
def v347 (I : Ins F) (c : Dev nD) : FVec F S64x64 .f32 := k0_pay47 (v134 I c) (v334 I c)
def v353 (I : Ins F) (c : Dev nD) : FVec F S64x64 .f32 := k0_pay48 (v134 I c) (v334 I c)
def v359 (I : Ins F) (c : Dev nD) : FVec F S64x64 .f32 := k0_pay49 (v134 I c) (v334 I c)
def v367 (I : Ins F) (c : Dev nD) : Vec F S1x1x64x256 .bf16 := (Memref.whole cc0_scratch0).view.readAt (Elt F) (Rect.unit (s := S4x2x128x256) ![2, 0, 0, 0] S1x1x64x256.size inb_S4x2x128x256_S1x1x64x256_2_0_0_0).toLoadRect (KB I c)
def v393 (I : Ins F) (c : Dev nD) : Vec F S1x1x64x256 .bf16 := (Memref.whole cc0_scratch0).view.readAt (Elt F) (Rect.unit (s := S4x2x128x256) ![2, 0, 64, 0] S1x1x64x256.size inb_S4x2x128x256_S1x1x64x256_2_0_64_0).toLoadRect (KB I c)
def v374 (I : Ins F) (c : Dev nD) : FVec F S64x64 .f32 := k0_pay51 (v129 I c) (v367 I c)
def v380 (I : Ins F) (c : Dev nD) : FVec F S64x64 .f32 := k0_pay52 (v129 I c) (v367 I c)
def v386 (I : Ins F) (c : Dev nD) : FVec F S64x64 .f32 := k0_pay53 (v129 I c) (v367 I c)
def v392 (I : Ins F) (c : Dev nD) : FVec F S64x64 .f32 := k0_pay54 (v129 I c) (v367 I c)
def v394 (I : Ins F) (c : Dev nD) : FVec F S64x256 .bf16 := k0_pay55 (v393 I c)
def v419 (I : Ins F) (c : Dev nD) : Vec F S1x1x64x256 .bf16 := (Memref.whole cc0_scratch0).view.readAt (Elt F) (Rect.unit (s := S4x2x128x256) ![2, 1, 0, 0] S1x1x64x256.size inb_S4x2x128x256_S1x1x64x256_2_1_0_0).toLoadRect (KB I c)
def v400 (I : Ins F) (c : Dev nD) : FVec F S64x64 .f32 := k0_pay56 (v129 I c) (v394 I c)
def v406 (I : Ins F) (c : Dev nD) : FVec F S64x64 .f32 := k0_pay57 (v129 I c) (v394 I c)
def v412 (I : Ins F) (c : Dev nD) : FVec F S64x64 .f32 := k0_pay58 (v129 I c) (v394 I c)
def v418 (I : Ins F) (c : Dev nD) : FVec F S64x64 .f32 := k0_pay59 (v129 I c) (v394 I c)
def v420 (I : Ins F) (c : Dev nD) : FVec F S64x256 .bf16 := k0_pay60 (v419 I c)
def v426 (I : Ins F) (c : Dev nD) : FVec F S64x64 .f32 := k0_pay61 (v134 I c) (v419 I c)
def v432 (I : Ins F) (c : Dev nD) : FVec F S64x64 .f32 := k0_pay62 (v134 I c) (v419 I c)
def v436 (I : Ins F) (c : Dev nD) : FVec F S64x64 .f32 := k0_pay63 (v134 I c) (v419 I c)
def v445 (I : Ins F) (c : Dev nD) : Vec F S1x1x64x256 .bf16 := (Memref.whole cc0_scratch0).view.readAt (Elt F) (Rect.unit (s := S4x2x128x256) ![2, 1, 64, 0] S1x1x64x256.size inb_S4x2x128x256_S1x1x64x256_2_1_64_0).toLoadRect (KB I c)
def v438 (I : Ins F) (c : Dev nD) : FVec F S64x64 .f32 := k0_pay64 (v436 I c) cst_253
def v444 (I : Ins F) (c : Dev nD) : FVec F S64x64 .f32 := k0_pay65 (v134 I c) (v420 I c)
def v452 (I : Ins F) (c : Dev nD) : FVec F S64x64 .f32 := k0_pay67 (v134 I c) (v445 I c)
def v458 (I : Ins F) (c : Dev nD) : FVec F S64x64 .f32 := k0_pay68 (v134 I c) (v445 I c)
def v464 (I : Ins F) (c : Dev nD) : FVec F S64x64 .f32 := k0_pay69 (v134 I c) (v445 I c)
def v470 (I : Ins F) (c : Dev nD) : FVec F S64x64 .f32 := k0_pay70 (v134 I c) (v445 I c)
def v478 (I : Ins F) (c : Dev nD) : Vec F S1x1x64x256 .bf16 := (Memref.whole cc0_scratch0).view.readAt (Elt F) (Rect.unit (s := S4x2x128x256) ![3, 0, 0, 0] S1x1x64x256.size inb_S4x2x128x256_S1x1x64x256_3_0_0_0).toLoadRect (KB I c)
def v504 (I : Ins F) (c : Dev nD) : Vec F S1x1x64x256 .bf16 := (Memref.whole cc0_scratch0).view.readAt (Elt F) (Rect.unit (s := S4x2x128x256) ![3, 0, 64, 0] S1x1x64x256.size inb_S4x2x128x256_S1x1x64x256_3_0_64_0).toLoadRect (KB I c)
def v485 (I : Ins F) (c : Dev nD) : FVec F S64x64 .f32 := k0_pay72 (v129 I c) (v478 I c)
def v491 (I : Ins F) (c : Dev nD) : FVec F S64x64 .f32 := k0_pay73 (v129 I c) (v478 I c)
def v497 (I : Ins F) (c : Dev nD) : FVec F S64x64 .f32 := k0_pay74 (v129 I c) (v478 I c)
def v503 (I : Ins F) (c : Dev nD) : FVec F S64x64 .f32 := k0_pay75 (v129 I c) (v478 I c)
def v505 (I : Ins F) (c : Dev nD) : FVec F S64x256 .bf16 := k0_pay76 (v504 I c)
def v511 (I : Ins F) (c : Dev nD) : FVec F S64x64 .f32 := k0_pay77 (v129 I c) (v504 I c)
def v530 (I : Ins F) (c : Dev nD) : Vec F S1x1x64x256 .bf16 := (Memref.whole cc0_scratch0).view.readAt (Elt F) (Rect.unit (s := S4x2x128x256) ![3, 1, 0, 0] S1x1x64x256.size inb_S4x2x128x256_S1x1x64x256_3_1_0_0).toLoadRect (KB I c)
def v517 (I : Ins F) (c : Dev nD) : FVec F S64x64 .f32 := k0_pay78 (v129 I c) (v505 I c)
def v523 (I : Ins F) (c : Dev nD) : FVec F S64x64 .f32 := k0_pay79 (v129 I c) (v505 I c)
def v529 (I : Ins F) (c : Dev nD) : FVec F S64x64 .f32 := k0_pay80 (v129 I c) (v505 I c)
def v537 (I : Ins F) (c : Dev nD) : FVec F S64x64 .f32 := k0_pay82 (v134 I c) (v530 I c)
def v543 (I : Ins F) (c : Dev nD) : FVec F S64x64 .f32 := k0_pay83 (v134 I c) (v530 I c)
def v549 (I : Ins F) (c : Dev nD) : FVec F S64x64 .f32 := k0_pay84 (v134 I c) (v530 I c)
def v553 (I : Ins F) (c : Dev nD) : FVec F S64x64 .f32 := k0_pay85 (v134 I c) (v530 I c)
def v556 (I : Ins F) (c : Dev nD) : Vec F S1x1x64x256 .bf16 := (Memref.whole cc0_scratch0).view.readAt (Elt F) (Rect.unit (s := S4x2x128x256) ![3, 1, 64, 0] S1x1x64x256.size inb_S4x2x128x256_S1x1x64x256_3_1_64_0).toLoadRect (KB I c)
def v555 (I : Ins F) (c : Dev nD) : FVec F S64x64 .f32 := k0_pay86 (v553 I c) cst_314
def v563 (I : Ins F) (c : Dev nD) : FVec F S64x64 .f32 := k0_pay88 (v134 I c) (v556 I c)
def v569 (I : Ins F) (c : Dev nD) : FVec F S64x64 .f32 := k0_pay89 (v134 I c) (v556 I c)
def v575 (I : Ins F) (c : Dev nD) : FVec F S64x64 .f32 := k0_pay90 (v134 I c) (v556 I c)
def v581 (I : Ins F) (c : Dev nD) : FVec F S64x64 .f32 := k0_pay91 (v134 I c) (v556 I c)
def v592 (I : Ins F) (c : Dev nD) : FVec F S64x1 .f32 := k0_pay92 (v152 I c) (v263 I c) (v374 I c) (v485 I c)
def v595 (I : Ins F) (c : Dev nD) : FVec F S64x64 .f32 := k0_pay93 (v152 I c) (v263 I c) (v374 I c) (v485 I c)
def v597 (I : Ins F) (c : Dev nD) : FVec F S64x64 .f32 := k0_pay94 (v152 I c) (v263 I c) (v374 I c) (v485 I c)
def v618 (I : Ins F) (c : Dev nD) : FVec F S64x64 .bf16 := k0_pay99 (v374 I c) (v485 I c) (v592 I c) (v595 I c) (v597 I c)
def v621 (I : Ins F) (c : Dev nD) : FVec F S64x64 .bf16 := k0_pay100 (v374 I c) (v485 I c) (v592 I c) (v595 I c) (v597 I c)
def v624 (I : Ins F) (c : Dev nD) : FVec F S64x64 .bf16 := k0_pay101 (v374 I c) (v485 I c) (v592 I c) (v595 I c) (v597 I c)
def v627 (I : Ins F) (c : Dev nD) : FVec F S64x64 .bf16 := k0_pay102 (v374 I c) (v485 I c) (v592 I c) (v595 I c) (v597 I c)
def v641 (I : Ins F) (c : Dev nD) : FVec F S64x64 .f32 := k0_pay104 (v158 I c) (v269 I c) (v380 I c) (v491 I c)
def v644 (I : Ins F) (c : Dev nD) : FVec F S64x64 .f32 := k0_pay105 (v158 I c) (v269 I c) (v380 I c) (v491 I c)
def v647 (I : Ins F) (c : Dev nD) : FVec F S64x64 .f32 := k0_pay106 (v158 I c) (v269 I c) (v380 I c) (v491 I c)
def v649 (I : Ins F) (c : Dev nD) : FVec F S64x64 .f32 := k0_pay107 (v158 I c) (v269 I c) (v380 I c) (v491 I c)
def v664 (I : Ins F) (c : Dev nD) : FVec F S64x64 .bf16 := k0_pay110 (v641 I c) (v644 I c) (v647 I c) (v649 I c)
def v667 (I : Ins F) (c : Dev nD) : FVec F S64x64 .bf16 := k0_pay111 (v641 I c) (v644 I c) (v647 I c) (v649 I c)
def v670 (I : Ins F) (c : Dev nD) : FVec F S64x64 .bf16 := k0_pay112 (v641 I c) (v644 I c) (v647 I c) (v649 I c)
def v673 (I : Ins F) (c : Dev nD) : FVec F S64x64 .bf16 := k0_pay113 (v641 I c) (v644 I c) (v647 I c) (v649 I c)
def v687 (I : Ins F) (c : Dev nD) : FVec F S64x64 .f32 := k0_pay115 (v164 I c) (v275 I c) (v386 I c) (v497 I c)
def v690 (I : Ins F) (c : Dev nD) : FVec F S64x64 .f32 := k0_pay116 (v164 I c) (v275 I c) (v386 I c) (v497 I c)
def v693 (I : Ins F) (c : Dev nD) : FVec F S64x64 .f32 := k0_pay117 (v164 I c) (v275 I c) (v386 I c) (v497 I c)
def v696 (I : Ins F) (c : Dev nD) : FVec F S64x64 .f32 := k0_pay118 (v164 I c) (v275 I c) (v386 I c) (v497 I c)
def v698 (I : Ins F) (c : Dev nD) : FVec F S64x1 .f32 := k0_pay119 (v164 I c) (v275 I c) (v386 I c) (v497 I c)
def v699 (I : Ins F) (c : Dev nD) : FVec F S64 .f32 := k0_pay120 (v164 I c) (v275 I c) (v386 I c) (v497 I c)
def v710 (I : Ins F) (c : Dev nD) : FVec F S64x64 .bf16 := k0_pay122 (v687 I c) (v693 I c) (v696 I c) (v698 I c) (v699 I c)
def v713 (I : Ins F) (c : Dev nD) : FVec F S64x64 .bf16 := k0_pay123 (v690 I c) (v693 I c) (v696 I c) (v698 I c) (v699 I c)
def v716 (I : Ins F) (c : Dev nD) : FVec F S64x64 .bf16 := k0_pay124 (v693 I c) (v696 I c) (v698 I c) (v699 I c)
def v719 (I : Ins F) (c : Dev nD) : FVec F S64x64 .bf16 := k0_pay125 (v693 I c) (v696 I c) (v698 I c) (v699 I c)
def v733 (I : Ins F) (c : Dev nD) : FVec F S64x64 .f32 := k0_pay127 (v170 I c) (v281 I c) (v392 I c) (v503 I c)
def v736 (I : Ins F) (c : Dev nD) : FVec F S64x64 .f32 := k0_pay128 (v170 I c) (v281 I c) (v392 I c) (v503 I c)
def v739 (I : Ins F) (c : Dev nD) : FVec F S64x64 .f32 := k0_pay129 (v170 I c) (v281 I c) (v392 I c) (v503 I c)
def v742 (I : Ins F) (c : Dev nD) : FVec F S64x64 .f32 := k0_pay130 (v170 I c) (v281 I c) (v392 I c) (v503 I c)
def v744 (I : Ins F) (c : Dev nD) : FVec F S64x1 .f32 := k0_pay131 (v170 I c) (v281 I c) (v392 I c) (v503 I c)
def v746 (I : Ins F) (c : Dev nD) : FVec F S64x1 .f32 := k0_pay132 (v170 I c) (v281 I c) (v392 I c) (v503 I c)
def v748 (I : Ins F) (c : Dev nD) : FVec F S64x1 .f32 := k0_pay133 (v170 I c) (v281 I c) (v392 I c) (v503 I c)
def v749 (I : Ins F) (c : Dev nD) : FVec F S64 .f32 := k0_pay134 (v170 I c) (v281 I c) (v392 I c) (v503 I c)
def v756 (I : Ins F) (c : Dev nD) : FVec F S64x64 .bf16 := k0_pay136 (v733 I c) (v744 I c) (v746 I c) (v748 I c) (v749 I c)
def v759 (I : Ins F) (c : Dev nD) : FVec F S64x64 .bf16 := k0_pay137 (v736 I c) (v744 I c) (v746 I c) (v748 I c) (v749 I c)
def v762 (I : Ins F) (c : Dev nD) : FVec F S64x64 .bf16 := k0_pay138 (v739 I c) (v744 I c) (v746 I c) (v748 I c) (v749 I c)
def v765 (I : Ins F) (c : Dev nD) : FVec F S64x64 .bf16 := k0_pay139 (v742 I c) (v744 I c) (v746 I c) (v748 I c) (v749 I c)
def v782 (I : Ins F) (c : Dev nD) : FVec F S64x64 .f32 := k0_pay142 (v178 I c) (v289 I c) (v400 I c) (v511 I c)
def v785 (I : Ins F) (c : Dev nD) : FVec F S64x64 .f32 := k0_pay143 (v178 I c) (v289 I c) (v400 I c) (v511 I c)
def v788 (I : Ins F) (c : Dev nD) : FVec F S64x64 .f32 := k0_pay144 (v178 I c) (v289 I c) (v400 I c) (v511 I c)
def v799 (I : Ins F) (c : Dev nD) : FVec F S64x1 .f32 := k0_pay145 (v178 I c) (v289 I c) (v400 I c) (v511 I c)
def v801 (I : Ins F) (c : Dev nD) : FVec F S64x64 .f32 := k0_pay146 (v178 I c) (v289 I c) (v400 I c) (v511 I c)
def v802 (I : Ins F) (c : Dev nD) : FVec F S64x64 .bf16 := k0_pay147 (v801 I c)
def v805 (I : Ins F) (c : Dev nD) : FVec F S64x64 .bf16 := k0_pay148 (v782 I c) (v799 I c)
def v808 (I : Ins F) (c : Dev nD) : FVec F S64x64 .bf16 := k0_pay149 (v785 I c) (v799 I c)
def v811 (I : Ins F) (c : Dev nD) : FVec F S64x64 .bf16 := k0_pay150 (v788 I c) (v799 I c)
def v834 (I : Ins F) (c : Dev nD) : FVec F S64x64 .f32 := k0_pay155 (v184 I c) (v295 I c) (v406 I c) (v517 I c)
def v845 (I : Ins F) (c : Dev nD) : FVec F S64x1 .f32 := k0_pay156 (v184 I c) (v295 I c) (v406 I c) (v517 I c)
def v848 (I : Ins F) (c : Dev nD) : FVec F S64x64 .bf16 := k0_pay157 (v184 I c) (v295 I c) (v406 I c) (v517 I c)
def v851 (I : Ins F) (c : Dev nD) : FVec F S64x64 .bf16 := k0_pay158 (v184 I c) (v295 I c) (v406 I c) (v517 I c)
def v853 (I : Ins F) (c : Dev nD) : FVec F S64x64 .f32 := k0_pay159 (v184 I c) (v295 I c) (v406 I c) (v517 I c)
def v854 (I : Ins F) (c : Dev nD) : FVec F S64x64 .bf16 := k0_pay160 (v853 I c)
def v857 (I : Ins F) (c : Dev nD) : FVec F S64x64 .bf16 := k0_pay161 (v834 I c) (v845 I c)
def v894 (I : Ins F) (c : Dev nD) : FVec F S64x64 .bf16 := k0_pay168 (v190 I c) (v301 I c) (v412 I c) (v523 I c)
def v897 (I : Ins F) (c : Dev nD) : FVec F S64x64 .bf16 := k0_pay169 (v190 I c) (v301 I c) (v412 I c) (v523 I c)
def v900 (I : Ins F) (c : Dev nD) : FVec F S64x64 .bf16 := k0_pay170 (v190 I c) (v301 I c) (v412 I c) (v523 I c)
def v903 (I : Ins F) (c : Dev nD) : FVec F S64x64 .bf16 := k0_pay171 (v190 I c) (v301 I c) (v412 I c) (v523 I c)
def v904 (I : Ins F) (c : Dev nD) : FVec F S64 .f32 := k0_pay172 (v196 I c)
def v940 (I : Ins F) (c : Dev nD) : FVec F S64x64 .bf16 := k0_pay179 (v196 I c) (v307 I c) (v418 I c) (v529 I c) (v904 I c)
def v943 (I : Ins F) (c : Dev nD) : FVec F S64x64 .bf16 := k0_pay180 (v196 I c) (v307 I c) (v418 I c) (v529 I c) (v904 I c)
def v946 (I : Ins F) (c : Dev nD) : FVec F S64x64 .bf16 := k0_pay181 (v196 I c) (v307 I c) (v418 I c) (v529 I c) (v904 I c)
def v949 (I : Ins F) (c : Dev nD) : FVec F S64x64 .bf16 := k0_pay182 (v196 I c) (v307 I c) (v418 I c) (v529 I c) (v904 I c)
def v951 (I : Ins F) (c : Dev nD) : FVec F S64x1 .f32 := k0_pay183 (v204 I c)
def v953 (I : Ins F) (c : Dev nD) : FVec F S64x1 .f32 := k0_pay184 (v315 I c)
def v954 (I : Ins F) (c : Dev nD) : FVec F S64 .f32 := k0_pay185 (v426 I c)
def v986 (I : Ins F) (c : Dev nD) : FVec F S64x64 .bf16 := k0_pay192 (v204 I c) (v315 I c) (v426 I c) (v537 I c) (v951 I c) (v953 I c) (v954 I c)
def v989 (I : Ins F) (c : Dev nD) : FVec F S64x64 .bf16 := k0_pay193 (v204 I c) (v315 I c) (v426 I c) (v537 I c) (v951 I c) (v953 I c) (v954 I c)
def v992 (I : Ins F) (c : Dev nD) : FVec F S64x64 .bf16 := k0_pay194 (v204 I c) (v315 I c) (v426 I c) (v537 I c) (v951 I c) (v953 I c) (v954 I c)
def v995 (I : Ins F) (c : Dev nD) : FVec F S64x64 .bf16 := k0_pay195 (v204 I c) (v315 I c) (v426 I c) (v537 I c) (v951 I c) (v953 I c) (v954 I c)
def v1003 (I : Ins F) (c : Dev nD) : FVec F S64x1 .f32 := k0_pay196 (v543 I c)
def v1005 (I : Ins F) (c : Dev nD) : FVec F S64x1 .f32 := k0_pay197 (v210 I c) (v321 I c) (v432 I c)
def v1032 (I : Ins F) (c : Dev nD) : FVec F S64x64 .bf16 := k0_pay204 (v210 I c) (v321 I c) (v432 I c) (v543 I c) (v1003 I c) (v1005 I c)
def v1035 (I : Ins F) (c : Dev nD) : FVec F S64x64 .bf16 := k0_pay205 (v210 I c) (v321 I c) (v432 I c) (v543 I c) (v1003 I c) (v1005 I c)
def v1038 (I : Ins F) (c : Dev nD) : FVec F S64x64 .bf16 := k0_pay206 (v210 I c) (v321 I c) (v432 I c) (v543 I c) (v1003 I c) (v1005 I c)
def v1041 (I : Ins F) (c : Dev nD) : FVec F S64x64 .bf16 := k0_pay207 (v210 I c) (v321 I c) (v432 I c) (v543 I c) (v1003 I c) (v1005 I c)
def v1052 (I : Ins F) (c : Dev nD) : FVec F S64x1 .f32 := k0_pay208 (v216 I c) (v327 I c) (v438 I c) (v549 I c)
def v1055 (I : Ins F) (c : Dev nD) : FVec F S64x64 .f32 := k0_pay209 (v216 I c) (v327 I c) (v438 I c) (v549 I c)
def v1057 (I : Ins F) (c : Dev nD) : FVec F S64x64 .f32 := k0_pay210 (v216 I c) (v327 I c) (v438 I c) (v549 I c)
def v1078 (I : Ins F) (c : Dev nD) : FVec F S64x64 .bf16 := k0_pay215 (v438 I c) (v549 I c) (v1052 I c) (v1055 I c) (v1057 I c)
def v1081 (I : Ins F) (c : Dev nD) : FVec F S64x64 .bf16 := k0_pay216 (v438 I c) (v549 I c) (v1052 I c) (v1055 I c) (v1057 I c)
def v1084 (I : Ins F) (c : Dev nD) : FVec F S64x64 .bf16 := k0_pay217 (v438 I c) (v549 I c) (v1052 I c) (v1055 I c) (v1057 I c)
def v1087 (I : Ins F) (c : Dev nD) : FVec F S64x64 .bf16 := k0_pay218 (v438 I c) (v549 I c) (v1052 I c) (v1055 I c) (v1057 I c)
def v1101 (I : Ins F) (c : Dev nD) : FVec F S64x64 .f32 := k0_pay220 (v222 I c) (v333 I c) (v444 I c) (v555 I c)
def v1104 (I : Ins F) (c : Dev nD) : FVec F S64x64 .f32 := k0_pay221 (v222 I c) (v333 I c) (v444 I c) (v555 I c)
def v1107 (I : Ins F) (c : Dev nD) : FVec F S64x64 .f32 := k0_pay222 (v222 I c) (v333 I c) (v444 I c) (v555 I c)
def v1109 (I : Ins F) (c : Dev nD) : FVec F S64x64 .f32 := k0_pay223 (v222 I c) (v333 I c) (v444 I c) (v555 I c)
def v1124 (I : Ins F) (c : Dev nD) : FVec F S64x64 .bf16 := k0_pay226 (v1101 I c) (v1104 I c) (v1107 I c) (v1109 I c)
def v1127 (I : Ins F) (c : Dev nD) : FVec F S64x64 .bf16 := k0_pay227 (v1101 I c) (v1104 I c) (v1107 I c) (v1109 I c)
def v1130 (I : Ins F) (c : Dev nD) : FVec F S64x64 .bf16 := k0_pay228 (v1101 I c) (v1104 I c) (v1107 I c) (v1109 I c)
def v1133 (I : Ins F) (c : Dev nD) : FVec F S64x64 .bf16 := k0_pay229 (v1101 I c) (v1104 I c) (v1107 I c) (v1109 I c)
def v1147 (I : Ins F) (c : Dev nD) : FVec F S64x64 .f32 := k0_pay231 (v230 I c) (v341 I c) (v452 I c) (v563 I c)
def v1150 (I : Ins F) (c : Dev nD) : FVec F S64x64 .f32 := k0_pay232 (v230 I c) (v341 I c) (v452 I c) (v563 I c)
def v1153 (I : Ins F) (c : Dev nD) : FVec F S64x64 .f32 := k0_pay233 (v230 I c) (v341 I c) (v452 I c) (v563 I c)
def v1156 (I : Ins F) (c : Dev nD) : FVec F S64x64 .f32 := k0_pay234 (v230 I c) (v341 I c) (v452 I c) (v563 I c)
def v1158 (I : Ins F) (c : Dev nD) : FVec F S64x1 .f32 := k0_pay235 (v230 I c) (v341 I c) (v452 I c) (v563 I c)
def v1159 (I : Ins F) (c : Dev nD) : FVec F S64 .f32 := k0_pay236 (v230 I c) (v341 I c) (v452 I c) (v563 I c)
def v1170 (I : Ins F) (c : Dev nD) : FVec F S64x64 .bf16 := k0_pay238 (v1147 I c) (v1153 I c) (v1156 I c) (v1158 I c) (v1159 I c)
def v1173 (I : Ins F) (c : Dev nD) : FVec F S64x64 .bf16 := k0_pay239 (v1150 I c) (v1153 I c) (v1156 I c) (v1158 I c) (v1159 I c)
def v1176 (I : Ins F) (c : Dev nD) : FVec F S64x64 .bf16 := k0_pay240 (v1153 I c) (v1156 I c) (v1158 I c) (v1159 I c)
def v1179 (I : Ins F) (c : Dev nD) : FVec F S64x64 .bf16 := k0_pay241 (v1153 I c) (v1156 I c) (v1158 I c) (v1159 I c)
def v1193 (I : Ins F) (c : Dev nD) : FVec F S64x64 .f32 := k0_pay243 (v236 I c) (v347 I c) (v458 I c) (v569 I c)
def v1196 (I : Ins F) (c : Dev nD) : FVec F S64x64 .f32 := k0_pay244 (v236 I c) (v347 I c) (v458 I c) (v569 I c)
def v1199 (I : Ins F) (c : Dev nD) : FVec F S64x64 .f32 := k0_pay245 (v236 I c) (v347 I c) (v458 I c) (v569 I c)
def v1202 (I : Ins F) (c : Dev nD) : FVec F S64x64 .f32 := k0_pay246 (v236 I c) (v347 I c) (v458 I c) (v569 I c)
def v1204 (I : Ins F) (c : Dev nD) : FVec F S64x1 .f32 := k0_pay247 (v236 I c) (v347 I c) (v458 I c) (v569 I c)
def v1206 (I : Ins F) (c : Dev nD) : FVec F S64x1 .f32 := k0_pay248 (v236 I c) (v347 I c) (v458 I c) (v569 I c)
def v1208 (I : Ins F) (c : Dev nD) : FVec F S64x1 .f32 := k0_pay249 (v236 I c) (v347 I c) (v458 I c) (v569 I c)
def v1209 (I : Ins F) (c : Dev nD) : FVec F S64 .f32 := k0_pay250 (v236 I c) (v347 I c) (v458 I c) (v569 I c)
def v1216 (I : Ins F) (c : Dev nD) : FVec F S64x64 .bf16 := k0_pay252 (v1193 I c) (v1204 I c) (v1206 I c) (v1208 I c) (v1209 I c)
def v1219 (I : Ins F) (c : Dev nD) : FVec F S64x64 .bf16 := k0_pay253 (v1196 I c) (v1204 I c) (v1206 I c) (v1208 I c) (v1209 I c)
def v1222 (I : Ins F) (c : Dev nD) : FVec F S64x64 .bf16 := k0_pay254 (v1199 I c) (v1204 I c) (v1206 I c) (v1208 I c) (v1209 I c)
def v1225 (I : Ins F) (c : Dev nD) : FVec F S64x64 .bf16 := k0_pay255 (v1202 I c) (v1204 I c) (v1206 I c) (v1208 I c) (v1209 I c)
def v1242 (I : Ins F) (c : Dev nD) : FVec F S64x64 .f32 := k0_pay258 (v242 I c) (v353 I c) (v464 I c) (v575 I c)
def v1245 (I : Ins F) (c : Dev nD) : FVec F S64x64 .f32 := k0_pay259 (v242 I c) (v353 I c) (v464 I c) (v575 I c)
def v1248 (I : Ins F) (c : Dev nD) : FVec F S64x64 .f32 := k0_pay260 (v242 I c) (v353 I c) (v464 I c) (v575 I c)
def v1259 (I : Ins F) (c : Dev nD) : FVec F S64x1 .f32 := k0_pay261 (v242 I c) (v353 I c) (v464 I c) (v575 I c)
def v1261 (I : Ins F) (c : Dev nD) : FVec F S64x64 .f32 := k0_pay262 (v242 I c) (v353 I c) (v464 I c) (v575 I c)
def v1262 (I : Ins F) (c : Dev nD) : FVec F S64x64 .bf16 := k0_pay263 (v1261 I c)
def v1265 (I : Ins F) (c : Dev nD) : FVec F S64x64 .bf16 := k0_pay264 (v1242 I c) (v1259 I c)
def v1268 (I : Ins F) (c : Dev nD) : FVec F S64x64 .bf16 := k0_pay265 (v1245 I c) (v1259 I c)
def v1271 (I : Ins F) (c : Dev nD) : FVec F S64x64 .bf16 := k0_pay266 (v1248 I c) (v1259 I c)
def v1294 (I : Ins F) (c : Dev nD) : FVec F S64x64 .f32 := k0_pay271 (v248 I c) (v359 I c) (v470 I c) (v581 I c)
def v1305 (I : Ins F) (c : Dev nD) : FVec F S64x1 .f32 := k0_pay272 (v248 I c) (v359 I c) (v470 I c) (v581 I c)
def v1308 (I : Ins F) (c : Dev nD) : FVec F S64x64 .bf16 := k0_pay273 (v248 I c) (v359 I c) (v470 I c) (v581 I c)
def v1311 (I : Ins F) (c : Dev nD) : FVec F S64x64 .bf16 := k0_pay274 (v248 I c) (v359 I c) (v470 I c) (v581 I c)
def v1313 (I : Ins F) (c : Dev nD) : FVec F S64x64 .f32 := k0_pay275 (v248 I c) (v359 I c) (v470 I c) (v581 I c)
def v1325 (I : Ins F) (c : Dev nD) : Vec F S1x1x64x256 .bf16 := (Memref.whole cc0_scratch1).view.readAt (Elt F) (Rect.unit (s := S4x2x128x256) ![0, 0, 0, 0] S1x1x64x256.size inb_S4x2x128x256_S1x1x64x256_0_0_0_0).toLoadRect (VB I c)
def v1335 (I : Ins F) (c : Dev nD) : Vec F S1x1x64x256 .bf16 := (Memref.whole cc0_scratch1).view.readAt (Elt F) (Rect.unit (s := S4x2x128x256) ![0, 0, 64, 0] S1x1x64x256.size inb_S4x2x128x256_S1x1x64x256_0_0_64_0).toLoadRect (VB I c)
def v1314 (I : Ins F) (c : Dev nD) : FVec F S64x64 .bf16 := k0_pay276 (v1313 I c)
def v1317 (I : Ins F) (c : Dev nD) : FVec F S64x64 .bf16 := k0_pay277 (v1294 I c) (v1305 I c)
def v1328 (I : Ins F) (c : Dev nD) : FVec F S64x64 .f32 := k0_pay279 (v618 I c) (v1325 I c)
def v1330 (I : Ins F) (c : Dev nD) : FVec F S64x64 .f32 := k0_pay280 (v664 I c) (v1325 I c)
def v1332 (I : Ins F) (c : Dev nD) : FVec F S64x64 .f32 := k0_pay281 (v710 I c) (v1325 I c)
def v1334 (I : Ins F) (c : Dev nD) : FVec F S64x64 .f32 := k0_pay282 (v756 I c) (v1325 I c)
def v1338 (I : Ins F) (c : Dev nD) : FVec F S64x64 .f32 := k0_pay284 (v802 I c) (v1335 I c)
def v1340 (I : Ins F) (c : Dev nD) : FVec F S64x64 .f32 := k0_pay285 (v848 I c) (v1335 I c)
def v1342 (I : Ins F) (c : Dev nD) : FVec F S64x64 .f32 := k0_pay286 (v894 I c) (v1335 I c)
def v1344 (I : Ins F) (c : Dev nD) : FVec F S64x64 .f32 := k0_pay287 (v940 I c) (v1335 I c)
def v1345 (I : Ins F) (c : Dev nD) : Vec F S1x1x64x256 .bf16 := (Memref.whole cc0_scratch1).view.readAt (Elt F) (Rect.unit (s := S4x2x128x256) ![0, 1, 0, 0] S1x1x64x256.size inb_S4x2x128x256_S1x1x64x256_0_1_0_0).toLoadRect (VB I c)
def v1355 (I : Ins F) (c : Dev nD) : Vec F S1x1x64x256 .bf16 := (Memref.whole cc0_scratch1).view.readAt (Elt F) (Rect.unit (s := S4x2x128x256) ![0, 1, 64, 0] S1x1x64x256.size inb_S4x2x128x256_S1x1x64x256_0_1_64_0).toLoadRect (VB I c)
def v1348 (I : Ins F) (c : Dev nD) : FVec F S64x64 .f32 := k0_pay289 (v986 I c) (v1345 I c)
def v1350 (I : Ins F) (c : Dev nD) : FVec F S64x64 .f32 := k0_pay290 (v1032 I c) (v1345 I c)
def v1352 (I : Ins F) (c : Dev nD) : FVec F S64x64 .f32 := k0_pay291 (v1078 I c) (v1345 I c)
def v1354 (I : Ins F) (c : Dev nD) : FVec F S64x64 .f32 := k0_pay292 (v1124 I c) (v1345 I c)
def v1358 (I : Ins F) (c : Dev nD) : FVec F S64x64 .f32 := k0_pay294 (v1170 I c) (v1355 I c)
def v1360 (I : Ins F) (c : Dev nD) : FVec F S64x64 .f32 := k0_pay295 (v1216 I c) (v1355 I c)
def v1362 (I : Ins F) (c : Dev nD) : FVec F S64x64 .f32 := k0_pay296 (v1262 I c) (v1355 I c)
def v1364 (I : Ins F) (c : Dev nD) : FVec F S64x64 .f32 := k0_pay297 (v1308 I c) (v1355 I c)
def v1372 (I : Ins F) (c : Dev nD) : Vec F S1x1x64x256 .bf16 := (Memref.whole cc0_scratch1).view.readAt (Elt F) (Rect.unit (s := S4x2x128x256) ![1, 0, 0, 0] S1x1x64x256.size inb_S4x2x128x256_S1x1x64x256_1_0_0_0).toLoadRect (VB I c)
def v1386 (I : Ins F) (c : Dev nD) : Vec F S1x1x64x256 .bf16 := (Memref.whole cc0_scratch1).view.readAt (Elt F) (Rect.unit (s := S4x2x128x256) ![1, 0, 64, 0] S1x1x64x256.size inb_S4x2x128x256_S1x1x64x256_1_0_64_0).toLoadRect (VB I c)
def v1400 (I : Ins F) (c : Dev nD) : Vec F S1x1x64x256 .bf16 := (Memref.whole cc0_scratch1).view.readAt (Elt F) (Rect.unit (s := S4x2x128x256) ![1, 1, 0, 0] S1x1x64x256.size inb_S4x2x128x256_S1x1x64x256_1_1_0_0).toLoadRect (VB I c)
def v1376 (I : Ins F) (c : Dev nD) : FVec F S64x64 .f32 := k0_pay299 (v621 I c) (v1328 I c) (v1372 I c)
def v1379 (I : Ins F) (c : Dev nD) : FVec F S64x64 .f32 := k0_pay300 (v667 I c) (v1330 I c) (v1372 I c)
def v1382 (I : Ins F) (c : Dev nD) : FVec F S64x64 .f32 := k0_pay301 (v713 I c) (v1332 I c) (v1372 I c)
def v1385 (I : Ins F) (c : Dev nD) : FVec F S64x64 .f32 := k0_pay302 (v759 I c) (v1334 I c) (v1372 I c)
def v1390 (I : Ins F) (c : Dev nD) : FVec F S64x64 .f32 := k0_pay304 (v805 I c) (v1338 I c) (v1386 I c)
def v1393 (I : Ins F) (c : Dev nD) : FVec F S64x64 .f32 := k0_pay305 (v851 I c) (v1340 I c) (v1386 I c)
def v1396 (I : Ins F) (c : Dev nD) : FVec F S64x64 .f32 := k0_pay306 (v897 I c) (v1342 I c) (v1386 I c)
def v1399 (I : Ins F) (c : Dev nD) : FVec F S64x64 .f32 := k0_pay307 (v943 I c) (v1344 I c) (v1386 I c)
def v1404 (I : Ins F) (c : Dev nD) : FVec F S64x64 .f32 := k0_pay309 (v989 I c) (v1348 I c) (v1400 I c)
def v1407 (I : Ins F) (c : Dev nD) : FVec F S64x64 .f32 := k0_pay310 (v1035 I c) (v1350 I c) (v1400 I c)
def v1410 (I : Ins F) (c : Dev nD) : FVec F S64x64 .f32 := k0_pay311 (v1081 I c) (v1352 I c) (v1400 I c)
def v1411 (I : Ins F) (c : Dev nD) : FVec F S64x64 .bf16 := k0_pay312 (v1400 I c)
def v1414 (I : Ins F) (c : Dev nD) : Vec F S1x1x64x256 .bf16 := (Memref.whole cc0_scratch1).view.readAt (Elt F) (Rect.unit (s := S4x2x128x256) ![1, 1, 64, 0] S1x1x64x256.size inb_S4x2x128x256_S1x1x64x256_1_1_64_0).toLoadRect (VB I c)
def v1435 (I : Ins F) (c : Dev nD) : Vec F S1x1x64x256 .bf16 := (Memref.whole cc0_scratch1).view.readAt (Elt F) (Rect.unit (s := S4x2x128x256) ![2, 0, 0, 0] S1x1x64x256.size inb_S4x2x128x256_S1x1x64x256_2_0_0_0).toLoadRect (VB I c)
def v1413 (I : Ins F) (c : Dev nD) : FVec F S64x64 .f32 := k0_pay313 (v1127 I c) (v1354 I c) (v1411 I c) cst_534
def v1418 (I : Ins F) (c : Dev nD) : FVec F S64x64 .f32 := k0_pay315 (v1173 I c) (v1358 I c) (v1414 I c)
def v1421 (I : Ins F) (c : Dev nD) : FVec F S64x64 .f32 := k0_pay316 (v1219 I c) (v1360 I c) (v1414 I c)
def v1424 (I : Ins F) (c : Dev nD) : FVec F S64x64 .f32 := k0_pay317 (v1265 I c) (v1362 I c) (v1414 I c)
def v1427 (I : Ins F) (c : Dev nD) : FVec F S64x64 .f32 := k0_pay318 (v1311 I c) (v1364 I c) (v1414 I c)
def v1436 (I : Ins F) (c : Dev nD) : FVec F S64x256 .bf16 := k0_pay319 (v1435 I c)
def v1439 (I : Ins F) (c : Dev nD) : FVec F S64x64 .f32 := k0_pay320 (v624 I c) (v1376 I c) (v1435 I c)
def v1442 (I : Ins F) (c : Dev nD) : FVec F S64x64 .f32 := k0_pay321 (v670 I c) (v1379 I c) (v1435 I c)
def v1443 (I : Ins F) (c : Dev nD) : FVec F S64x64 .bf16 := k0_pay322 (v1435 I c)
def v1449 (I : Ins F) (c : Dev nD) : Vec F S1x1x64x256 .bf16 := (Memref.whole cc0_scratch1).view.readAt (Elt F) (Rect.unit (s := S4x2x128x256) ![2, 0, 64, 0] S1x1x64x256.size inb_S4x2x128x256_S1x1x64x256_2_0_64_0).toLoadRect (VB I c)
def v1463 (I : Ins F) (c : Dev nD) : Vec F S1x1x64x256 .bf16 := (Memref.whole cc0_scratch1).view.readAt (Elt F) (Rect.unit (s := S4x2x128x256) ![2, 1, 0, 0] S1x1x64x256.size inb_S4x2x128x256_S1x1x64x256_2_1_0_0).toLoadRect (VB I c)
def v1477 (I : Ins F) (c : Dev nD) : Vec F S1x1x64x256 .bf16 := (Memref.whole cc0_scratch1).view.readAt (Elt F) (Rect.unit (s := S4x2x128x256) ![2, 1, 64, 0] S1x1x64x256.size inb_S4x2x128x256_S1x1x64x256_2_1_64_0).toLoadRect (VB I c)
def v1445 (I : Ins F) (c : Dev nD) : FVec F S64x64 .f32 := k0_pay323 (v716 I c) (v1382 I c) (v1443 I c) cst_561
def v1448 (I : Ins F) (c : Dev nD) : FVec F S64x64 .f32 := k0_pay324 (v762 I c) (v1385 I c) (v1436 I c)
def v1453 (I : Ins F) (c : Dev nD) : FVec F S64x64 .f32 := k0_pay326 (v808 I c) (v1390 I c) (v1449 I c)
def v1456 (I : Ins F) (c : Dev nD) : FVec F S64x64 .f32 := k0_pay327 (v854 I c) (v1393 I c) (v1449 I c)
def v1459 (I : Ins F) (c : Dev nD) : FVec F S64x64 .f32 := k0_pay328 (v900 I c) (v1396 I c) (v1449 I c)
def v1462 (I : Ins F) (c : Dev nD) : FVec F S64x64 .f32 := k0_pay329 (v946 I c) (v1399 I c) (v1449 I c)
def v1467 (I : Ins F) (c : Dev nD) : FVec F S64x64 .f32 := k0_pay331 (v992 I c) (v1404 I c) (v1463 I c)
def v1470 (I : Ins F) (c : Dev nD) : FVec F S64x64 .f32 := k0_pay332 (v1038 I c) (v1407 I c) (v1463 I c)
def v1473 (I : Ins F) (c : Dev nD) : FVec F S64x64 .f32 := k0_pay333 (v1084 I c) (v1410 I c) (v1463 I c)
def v1476 (I : Ins F) (c : Dev nD) : FVec F S64x64 .f32 := k0_pay334 (v1130 I c) (v1413 I c) (v1463 I c)
def v1478 (I : Ins F) (c : Dev nD) : FVec F S64x256 .bf16 := k0_pay335 (v1477 I c)
def v1481 (I : Ins F) (c : Dev nD) : FVec F S64x64 .f32 := k0_pay336 (v1176 I c) (v1418 I c) (v1477 I c)
def v1498 (I : Ins F) (c : Dev nD) : Vec F S1x1x64x256 .bf16 := (Memref.whole cc0_scratch1).view.readAt (Elt F) (Rect.unit (s := S4x2x128x256) ![3, 0, 0, 0] S1x1x64x256.size inb_S4x2x128x256_S1x1x64x256_3_0_0_0).toLoadRect (VB I c)
def v1512 (I : Ins F) (c : Dev nD) : Vec F S1x1x64x256 .bf16 := (Memref.whole cc0_scratch1).view.readAt (Elt F) (Rect.unit (s := S4x2x128x256) ![3, 0, 64, 0] S1x1x64x256.size inb_S4x2x128x256_S1x1x64x256_3_0_64_0).toLoadRect (VB I c)
def v1484 (I : Ins F) (c : Dev nD) : FVec F S64x64 .f32 := k0_pay337 (v1222 I c) (v1421 I c) (v1478 I c)
def v1487 (I : Ins F) (c : Dev nD) : FVec F S64x64 .f32 := k0_pay338 (v1268 I c) (v1424 I c) (v1478 I c)
def v1490 (I : Ins F) (c : Dev nD) : FVec F S64x64 .f32 := k0_pay339 (v1314 I c) (v1427 I c) (v1478 I c)
def v1502 (I : Ins F) (c : Dev nD) : FVec F S64x64 .f32 := k0_pay341 (v627 I c) (v1439 I c) (v1498 I c)
def v1505 (I : Ins F) (c : Dev nD) : FVec F S64x64 .f32 := k0_pay342 (v673 I c) (v1442 I c) (v1498 I c)
def v1508 (I : Ins F) (c : Dev nD) : FVec F S64x64 .f32 := k0_pay343 (v719 I c) (v1445 I c) (v1498 I c)
def v1511 (I : Ins F) (c : Dev nD) : FVec F S64x64 .f32 := k0_pay344 (v765 I c) (v1448 I c) (v1498 I c)
def v1513 (I : Ins F) (c : Dev nD) : FVec F S64x256 .bf16 := k0_pay345 (v1512 I c)
def v1526 (I : Ins F) (c : Dev nD) : Vec F S1x1x64x256 .bf16 := (Memref.whole cc0_scratch1).view.readAt (Elt F) (Rect.unit (s := S4x2x128x256) ![3, 1, 0, 0] S1x1x64x256.size inb_S4x2x128x256_S1x1x64x256_3_1_0_0).toLoadRect (VB I c)
def v1540 (I : Ins F) (c : Dev nD) : Vec F S1x1x64x256 .bf16 := (Memref.whole cc0_scratch1).view.readAt (Elt F) (Rect.unit (s := S4x2x128x256) ![3, 1, 64, 0] S1x1x64x256.size inb_S4x2x128x256_S1x1x64x256_3_1_64_0).toLoadRect (VB I c)
def v1516 (I : Ins F) (c : Dev nD) : FVec F S64x64 .f32 := k0_pay346 (v811 I c) (v1453 I c) (v1513 I c)
def v1519 (I : Ins F) (c : Dev nD) : FVec F S64x64 .f32 := k0_pay347 (v857 I c) (v1456 I c) (v1513 I c)
def v1522 (I : Ins F) (c : Dev nD) : FVec F S64x64 .f32 := k0_pay348 (v903 I c) (v1459 I c) (v1513 I c)
def v1525 (I : Ins F) (c : Dev nD) : FVec F S64x64 .f32 := k0_pay349 (v949 I c) (v1462 I c) (v1513 I c)
def v1530 (I : Ins F) (c : Dev nD) : FVec F S64x64 .f32 := k0_pay351 (v995 I c) (v1467 I c) (v1526 I c)
def v1533 (I : Ins F) (c : Dev nD) : FVec F S64x64 .f32 := k0_pay352 (v1041 I c) (v1470 I c) (v1526 I c)
def v1536 (I : Ins F) (c : Dev nD) : FVec F S64x64 .f32 := k0_pay353 (v1087 I c) (v1473 I c) (v1526 I c)
def v1539 (I : Ins F) (c : Dev nD) : FVec F S64x64 .f32 := k0_pay354 (v1133 I c) (v1476 I c) (v1526 I c)
def v1544 (I : Ins F) (c : Dev nD) : FVec F S64x64 .f32 := k0_pay356 (v1179 I c) (v1481 I c) (v1540 I c)
def v1547 (I : Ins F) (c : Dev nD) : FVec F S64x64 .f32 := k0_pay357 (v1225 I c) (v1484 I c) (v1540 I c)
def v1550 (I : Ins F) (c : Dev nD) : FVec F S64x64 .f32 := k0_pay358 (v1271 I c) (v1487 I c) (v1540 I c)
def v1553 (I : Ins F) (c : Dev nD) : FVec F S64x64 .f32 := k0_pay359 (v1317 I c) (v1490 I c) (v1540 I c)
def v1555 (I : Ins F) (c : Dev nD) : Vec F S256x512 .f32 := (Memref.whole cc0_stg4_0).view.readAt (Elt F) (Rect.unit (s := S256x512) ![0, 0] S256x512.size inb_S256x512_S256x512_0_0).toLoadRect (I.wo c)
def v1566 (I : Ins F) (c : Dev nD) : Vec F S256x512 .f32 := (Memref.whole cc0_stg4_0).view.readAt (Elt F) (Rect.unit (s := S256x512) ![0, 0] S256x512.size inb_S256x512_S256x512_0_0).toLoadRect (I.wo c)
def v1589 (I : Ins F) (c : Dev nD) : Vec F S256x512 .f32 := (Memref.whole cc0_stg4_0).view.readAt (Elt F) (Rect.unit (s := S256x512) ![0, 0] S256x512.size inb_S256x512_S256x512_0_0).toLoadRect (I.wo c)
def v1600 (I : Ins F) (c : Dev nD) : Vec F S256x512 .f32 := (Memref.whole cc0_stg4_0).view.readAt (Elt F) (Rect.unit (s := S256x512) ![0, 0] S256x512.size inb_S256x512_S256x512_0_0).toLoadRect (I.wo c)

/-- Device `c`'s partial results. -/
def PB (I : Ins F) (c : Dev nD) : S2x128x512.Idx → F .f32 :=
  blk4 (k0_pay361 (v1502 I c) (v1505 I c) (v1508 I c) (v1511 I c) (v1555 I c)) (k0_pay364 (v1530 I c) (v1533 I c) (v1536 I c) (v1539 I c) (v1566 I c))
    (k0_pay367 (v1516 I c) (v1519 I c) (v1522 I c) (v1525 I c) (v1589 I c)) (k0_pay370 (v1544 I c) (v1547 I c) (v1550 I c) (v1553 I c) (v1600 I c))
/-- The same, rounded for sending. -/
def P16 (I : Ins F) (c : Dev nD) : S2x128x512.Idx → F .bf16 :=
  blk4 (k0_pay362 (v1502 I c) (v1505 I c) (v1508 I c) (v1511 I c) (v1555 I c)) (k0_pay365 (v1530 I c) (v1533 I c) (v1536 I c) (v1539 I c) (v1566 I c))
    (k0_pay368 (v1516 I c) (v1519 I c) (v1522 I c) (v1525 I c) (v1589 I c)) (k0_pay371 (v1544 I c) (v1547 I c) (v1550 I c) (v1553 I c) (v1600 I c))
/-- What device `c` receives of the others' partial results: block `s` is row block `c` of device `s`'s. -/
def RSB (I : Ins F) (c : Dev nD) : S8x2x16x512.Idx → F .bf16 := fun i => P16 I (dv (i 0).val) (ix3 (i 1) (row c (i 2)) (i 3))

/-! ## The sum over devices -/

def v1751 (I : Ins F) (c : Dev nD) : Vec F S2x16x512 .f32 := (Memref.whole cc0_scratch2).view.readAt (Elt F) (Rect.unit (s := S2x128x512) (k0_off25 c) S2x16x512.size (k0_off25_inb c)).toLoadRect (PB I c)
def v1764 (I : Ins F) (c : Dev nD) : Vec F S1x2x16x512 .bf16 := (Memref.whole cc0_scratch4).view.readAt (Elt F) (Rect.unit (s := S8x2x16x512) (k0_off26 c 1#32) S1x2x16x512.size (k0_off26_inb c 0)).toLoadRect (RSB I c)
def v1766 (I : Ins F) (c : Dev nD) : FVec F S2x16x512 .f32 := k0_pay372 (v1764 I c)
def v1780 (I : Ins F) (c : Dev nD) : Vec F S1x2x16x512 .bf16 := (Memref.whole cc0_scratch4).view.readAt (Elt F) (Rect.unit (s := S8x2x16x512) (k0_off26 c 2#32) S1x2x16x512.size (k0_off26_inb c 1)).toLoadRect (RSB I c)
def v1796 (I : Ins F) (c : Dev nD) : Vec F S1x2x16x512 .bf16 := (Memref.whole cc0_scratch4).view.readAt (Elt F) (Rect.unit (s := S8x2x16x512) (k0_off26 c 3#32) S1x2x16x512.size (k0_off26_inb c 2)).toLoadRect (RSB I c)
def v1799 (I : Ins F) (c : Dev nD) : FVec F S2x16x512 .f32 := k0_pay373 (v1751 I c) (v1766 I c) (v1780 I c) (v1796 I c)
def v1812 (I : Ins F) (c : Dev nD) : Vec F S1x2x16x512 .bf16 := (Memref.whole cc0_scratch4).view.readAt (Elt F) (Rect.unit (s := S8x2x16x512) (k0_off26 c 4#32) S1x2x16x512.size (k0_off26_inb c 3)).toLoadRect (RSB I c)
def v1828 (I : Ins F) (c : Dev nD) : Vec F S1x2x16x512 .bf16 := (Memref.whole cc0_scratch4).view.readAt (Elt F) (Rect.unit (s := S8x2x16x512) (k0_off26 c 5#32) S1x2x16x512.size (k0_off26_inb c 4)).toLoadRect (RSB I c)
def v1831 (I : Ins F) (c : Dev nD) : FVec F S2x16x512 .f32 := k0_pay374 (v1799 I c) (v1812 I c) (v1828 I c)
def v1844 (I : Ins F) (c : Dev nD) : Vec F S1x2x16x512 .bf16 := (Memref.whole cc0_scratch4).view.readAt (Elt F) (Rect.unit (s := S8x2x16x512) (k0_off26 c 6#32) S1x2x16x512.size (k0_off26_inb c 5)).toLoadRect (RSB I c)
def v1860 (I : Ins F) (c : Dev nD) : Vec F S1x2x16x512 .bf16 := (Memref.whole cc0_scratch4).view.readAt (Elt F) (Rect.unit (s := S8x2x16x512) (k0_off26 c 7#32) S1x2x16x512.size (k0_off26_inb c 6)).toLoadRect (RSB I c)

/-- Row block `c` of the result, summed. -/
def OWN (I : Ins F) (c : Dev nD) : S2x16x512.Idx → F .f32 := k0_pay375 (v1831 I c) (v1844 I c) (v1860 I c)
/-- The same, rounded for sending. -/
def AG (I : Ins F) (c : Dev nD) : S2x16x512.Idx → F .bf16 := k0_pay376 (v1831 I c) (v1844 I c) (v1860 I c)
/-- The buffer of the other devices' row blocks: block `s` is device `s`'s. -/
def AGB (I : Ins F) : S8x2x16x512.Idx → F .bf16 := fun i => AG I (dv (i 0).val) (ix3 (i 1) (i 2) (i 3))
/-- Row block `s` as another device stores it. -/
def OTH (I : Ins F) (s : Dev nD) : S2x16x512.Idx → F .f32 := k0_pay383 (fun i => AGB I (ix4 s (i 1) (i 2) (i 3)))
/-- Device `c`'s result: its own row block as summed, the others' as received. -/
def OUT (I : Ins F) (c : Dev nD) : S2x128x512.Idx → F .f32 := fun i =>
  (if (i 1).val / 16 = c.val then OWN I c else OTH I (dv ((i 1).val / 16)))
    (ix3 (i 0) ⟨(i 1).val % 16, Nat.mod_lt _ (by decide)⟩ (i 2))

/-! ## The other devices' row blocks as read -/

def v2021 (I : Ins F) (c : Dev nD) : Vec F S1x2x16x512 .bf16 := (Memref.whole cc0_scratch6).view.readAt (Elt F) (Rect.unit (s := S8x2x16x512) (k0_off26 c 1#32) S1x2x16x512.size (k0_off26_inb c 0)).toLoadRect (AGB I)
def v2046 (I : Ins F) (c : Dev nD) : Vec F S1x2x16x512 .bf16 := (Memref.whole cc0_scratch6).view.readAt (Elt F) (Rect.unit (s := S8x2x16x512) (k0_off26 c 2#32) S1x2x16x512.size (k0_off26_inb c 1)).toLoadRect (AGB I)
def v2071 (I : Ins F) (c : Dev nD) : Vec F S1x2x16x512 .bf16 := (Memref.whole cc0_scratch6).view.readAt (Elt F) (Rect.unit (s := S8x2x16x512) (k0_off26 c 3#32) S1x2x16x512.size (k0_off26_inb c 2)).toLoadRect (AGB I)
def v2073 (I : Ins F) (c : Dev nD) : FVec F S2x16x512 .f32 := (k0_pay379 (v2071 I c))
def v2096 (I : Ins F) (c : Dev nD) : Vec F S1x2x16x512 .bf16 := (Memref.whole cc0_scratch6).view.readAt (Elt F) (Rect.unit (s := S8x2x16x512) (k0_off26 c 4#32) S1x2x16x512.size (k0_off26_inb c 3)).toLoadRect (AGB I)
def v2121 (I : Ins F) (c : Dev nD) : Vec F S1x2x16x512 .bf16 := (Memref.whole cc0_scratch6).view.readAt (Elt F) (Rect.unit (s := S8x2x16x512) (k0_off26 c 5#32) S1x2x16x512.size (k0_off26_inb c 4)).toLoadRect (AGB I)
def v2146 (I : Ins F) (c : Dev nD) : Vec F S1x2x16x512 .bf16 := (Memref.whole cc0_scratch6).view.readAt (Elt F) (Rect.unit (s := S8x2x16x512) (k0_off26 c 6#32) S1x2x16x512.size (k0_off26_inb c 5)).toLoadRect (AGB I)
def v2171 (I : Ins F) (c : Dev nD) : Vec F S1x2x16x512 .bf16 := (Memref.whole cc0_scratch6).view.readAt (Elt F) (Rect.unit (s := S8x2x16x512) (k0_off26 c 7#32) S1x2x16x512.size (k0_off26_inb c 6)).toLoadRect (AGB I)

end Cert.KernelIdeal.Hand

end
-- ==== Proof.Proto.lean ====
/-
  The protocol of the kernel: what every signal and every copy hands over, the schedule that says so, and one rule for each of the three acts a device performs: a signal, a
  copy to a device, a wait.
-/
module

public import proofs.«01_k».proof.Proof.Vals

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv hL mem_L' mayWait_of)
open Idealize.ShloMosaic.TalkSites (Fam Pay tallyL tallyL_append tallyL_pos)
open Cert.KernelIdeal Cert.KernelIdeal.Gen

variable {F : FTy → Type} [FloatOps F]

/-! ## The resource algebra -/

abbrev UU : Type := UR sig nD τ × URounds (GSem nD τ sig) (Dev nD)

local notation "𝕄" => MT nD τ sig ℕ (Elt F) ℕ UU ℕ

/-- The pipeline's component. -/
abbrev EP : Emb (UR sig nD τ) (MT nD τ sig ℕ (Elt F) ℕ UU ℕ) := embL
/-- The protocol's component. -/
abbrev ER : Emb (URounds (GSem nD τ sig) (Dev nD)) (MT nD τ sig ℕ (Elt F) ℕ UU ℕ) := embR

abbrev 𝒱₀ : Variants := Variants.none

/-! ## Chains over lists -/

section Lists

variable {M : Type} [URA M] {α : Type}

theorem eq_of_both {P Q : sProp M} (h : P ⊢ Q) (h' : Q ⊢ P) : P = Q := BI.Entails.antisymm h h'

theorem sepL_perm {l l' : List α} (h : l.Perm l') (Φ : α → sProp M) : bigSepL l Φ = bigSepL l' Φ := by
  induction h with
  | nil => rfl
  | cons x _ ih => rw [bigSepL_cons', bigSepL_cons', ih]
  | swap x y l =>
    rw [bigSepL_cons', bigSepL_cons', bigSepL_cons', bigSepL_cons']
    refine eq_of_both ?_ ?_
    · iintro ⟨H1, H2, H3⟩
      isplitl [H2]; · iexact H2
      isplitl [H1] <;> iassumption
    · iintro ⟨H1, H2, H3⟩
      isplitl [H2]; · iexact H2
      isplitl [H1] <;> iassumption
  | trans _ _ h1 h2 => exact h1.trans h2

theorem sepL_sep (l : List α) (Φ Ψ : α → sProp M) : bigSepL l (fun a => iprop(Φ a ∗ Ψ a)) = iprop(bigSepL l Φ ∗ bigSepL l Ψ) := by
  induction l with
  | nil => exact (equiv_iff.mp emp_sep).symm
  | cons x l ih =>
    rw [bigSepL_cons', bigSepL_cons', bigSepL_cons', ih]
    refine eq_of_both ?_ ?_
    · iintro ⟨⟨H1, H2⟩, H3, H4⟩
      isplitl [H1 H3]
      · isplitl [H1] <;> iassumption
      isplitl [H2] <;> iassumption
    · iintro ⟨⟨H1, H3⟩, H2, H4⟩
      isplitl [H1 H2]
      · isplitl [H1] <;> iassumption
      isplitl [H3] <;> iassumption

theorem sepL_flatMap {β : Type} (l : List α) (f : α → List β) (Φ : β → sProp M) : bigSepL (l.flatMap f) Φ = bigSepL l (fun a => bigSepL (f a) Φ) := by
  induction l with
  | nil => rfl
  | cons x l ih => rw [List.flatMap_cons, bigSepL_append, bigSepL_cons', ih]

instance sepL_persistent (l : List α) (Φ : α → sProp M) [∀ a, BI.Persistent (Φ a)] : BI.Persistent (bigSepL l Φ) := by
  induction l with
  | nil => exact (inferInstance : BI.Persistent (iprop(emp) : sProp M))
  | cons x l ih => rw [bigSepL_cons']; infer_instance

instance sepL_storable {N : Type} [URA N] (υ : UEmb N M) [υ.IsFactor] (l : List α) (Φ : α → sProp M) [∀ a, BI.Storable υ (Φ a)] : BI.Storable υ (bigSepL l Φ) := by
  induction l with
  | nil => exact (inferInstance : BI.Storable υ (iprop(emp) : sProp M))
  | cons x l ih => rw [bigSepL_cons']; infer_instance

theorem sepL_elim [DecidableEq α] {l : List α} {a : α} (h : a ∈ l) (Φ : α → sProp M) [∀ a, BI.Persistent (Φ a)] : bigSepL l Φ ⊢ Φ a := by
  rw [sepL_perm (List.perm_cons_erase h) Φ, bigSepL_cons']
  iintro ⟨H, -⟩; iexact H

end Lists

/-! ## Regions -/

/-- Part of a device's buffer. -/
abbrev pt (c : Dev nD) (b : Ref sig .tc) (S : Finset (Idx ((c : Thread nD τ).loc b))) (f : Buf (Elt F) ((c : Thread nD τ).loc b)) : sProp 𝕄 :=
  ((c : Thread nD τ).loc b) ↦[S]{fullShare} f

/-- Block `m` of a buffer of K or V blocks. -/
abbrev slotK (m : ℕ) : Finset S4x2x128x256.Idx := Finset.univ.filter fun i => (i 0).val = m
/-- Block `m` of a buffer of eight row blocks. -/
abbrev slotR (m : ℕ) : Finset S8x2x16x512.Idx := Finset.univ.filter fun i => (i 0).val = m
/-- Column block `d` of a device's array of K or V. -/
abbrev colS (d : ℕ) : Finset S2x128x2048.Idx := Finset.univ.filter fun i => (i 2).val / 256 = d
/-- Row block `d` of the partial results. -/
abbrev rowS (d : ℕ) : Finset S2x128x512.Idx := Finset.univ.filter fun i => (i 1).val / 16 = d

/-- What device `c` keeps of its row block once `j` copies of the all-gather have their share of it. -/
def qKeep : ℕ → PosShare TreeShare
  | 0 => fullShare
  | j + 1 => (qKeep j).left
/-- The share that copy `j` of the all-gather takes, counted from 1. -/
def qAt (j : ℕ) : PosShare TreeShare := (qKeep (j - 1)).right

/-- The region of device `p` that the copies credited on its cell `n` write, at any contents. -/
def dstN (p : Dev nD) (n : ℕ) : sProp 𝕄 :=
  if n < 22 then iprop(emp)
  else if n < 26 then iprop(∃ f, pt p cc0_scratch0 (slotK (n - 22)) f)
  else if n < 30 then iprop(∃ f, pt p cc0_scratch1 (slotK (n - 26)) f)
  else if n < 38 then iprop(emp)
  else if n < 46 then iprop(∃ f, pt p cc0_scratch4 (slotR (n - 38)) f)
  else if n < 54 then iprop(emp)
  else if n < 62 then iprop(∃ f, pt p cc0_scratch6 (slotR (n - 54)) f)
  else if n < 63 then iprop(∃ f, pt p cc0_scratch7 Finset.univ f)
  else if n < 64 then iprop(∃ f, pt p cc0_scratch8 Finset.univ f)
  else iprop(emp)

/-- The cells whose copies write a region. -/
def rcvL : List ℕ := [22, 23, 24, 25, 26, 27, 28, 29, 38, 39, 40, 41, 42, 43, 44, 45, 54, 55, 56, 57, 58, 59, 60, 61, 62, 63]
/-- Those of device `p`'s regions that device `o`'s copies write. -/
def rcvFrom (o p : Dev nD) : List ℕ := rcvL.filter fun n => paysB o p n
/-- Those that nobody's do. -/
def rcvNone (p : Dev nD) : List ℕ := rcvL.filter fun n => (List.finRange nD).all fun o => !paysB o p n
/-- The kernel's scoped semaphores. -/
def scopedL : List ℕ := (List.range 61).map (· + 6)

/-- All of device `p`'s scoped cells are open. -/
def openedAt (p : Dev nD) : sProp 𝕄 := bigSepL scopedL fun n => reached ER (cell p n) 0

instance openedAt_persistent (p : Dev nD) : BI.Persistent (openedAt (F := F) p) := by unfold openedAt; infer_instance

/-- What device `p` hands to device `o` at the barrier: its regions that `o` writes, and that its cells are open. -/
def barPay (o p : Dev nD) : sProp 𝕄 := iprop(bigSepL (rcvFrom o p) (dstN p) ∗ openedAt p)

/-- What a duty on device `o`'s cell `n` hands over when device `p` pays it. -/
def payN (I : Ins F) (o : Dev nD) (n : ℕ) (p : Dev nD) : sProp 𝕄 :=
  if n = 0 then barPay o p
  else if n < 6 then iprop(emp)
  else if n < 14 then pt o cc0_stg2_0 (colS (xr o (n - 6)).val) (I.k o)
  else if n < 22 then pt o cc0_stg3_0 (colS (xr o (n - 14)).val) (I.v o)
  else if n < 26 then pt o cc0_scratch0 (slotK (n - 22)) (KB I o)
  else if n < 30 then pt o cc0_scratch1 (slotK (n - 26)) (VB I o)
  else if n < 38 then pt o cc0_scratch3 (rowS (n - 30)) (P16 I o)
  else if n < 46 then pt o cc0_scratch4 (slotR (n - 38)) (RSB I o)
  else if n < 54 then iprop(((o : Thread nD τ).loc cc0_scratch5) ↦[Finset.univ]{qAt (n - 46)} (AG I o))
  else if n < 62 then pt o cc0_scratch6 (slotR (n - 54)) (AGB I)
  else if n = 62 then pt o cc0_scratch7 Finset.univ (KST I o)
  else if n = 63 then pt o cc0_scratch8 Finset.univ (VST I o)
  else if n = 64 then pt o cc0_scratch7 Finset.univ (KST I o)
  else if n = 65 then pt o cc0_scratch8 Finset.univ (VST I o)
  else iprop(emp)

/-! ## The schedule -/

theorem amtN_pos (n : ℕ) : 0 < amtN n := by
  have h1 : 0 < AK := by unfold AK; decide
  have h2 : 0 < AR := by unfold AR; decide
  unfold amtN; split_ifs <;> first | exact Nat.one_pos | assumption

/-- One round on every cell, one duty for each device that pays it. -/
def talkRd (I : Ins F) : Rounds.Schedule (GSem nD τ sig) (Dev nD) 𝕄 where
  duties g r := if r = 0 ∧ g.1.2 = .tc then payers g.1.1 (num g.2) else ∅
  amount g _ _ := amtN (num g.2)
  payload g _ d := payN I g.1.1 (num g.2) d
  amount_pos g _ _ _ := amtN_pos _
  unitless _ := False

instance dstN_storable (p : Dev nD) (n : ℕ) : BI.Storable (upEmb : UEmb _ 𝕄) (dstN (F := F) p n) := by
  unfold dstN; (repeat' split) <;> infer_instance

instance talkRd_storable (I : Ins F) (g : GSem nD τ sig) (r : ℕ) (d : Dev nD) : BI.Storable (upEmb : UEmb _ 𝕄) ((talkRd I).payload g r d) := by
  show BI.Storable upEmb (payN I g.1.1 (num g.2) d)
  unfold payN barPay openedAt; (repeat' split) <;> infer_instance

variable (I : Ins F)

theorem duties_at (o : Dev nD) {n : ℕ} (h : n < 67) : (talkRd I).duties (cell o n) 0 = payers o n := by
  show (if (0 : ℕ) = 0 ∧ (cell o n).1.2 = .tc then payers o (num (semOf n)) else ∅) = _
  rw [if_pos ⟨rfl, rfl⟩, num_semOf h]
theorem duties_later (g : GSem nD τ sig) : ∀ r, 1 ≤ r → (talkRd I).duties g r = ∅ := fun r hr => if_neg fun h => by omega
theorem amount_at (o : Dev nD) {n : ℕ} (h : n < 67) (r : ℕ) (d : Dev nD) : (talkRd I).amount (cell o n) r d = amtN n := by
  show amtN (num (semOf n)) = _; rw [num_semOf h]
theorem payload_at (o : Dev nD) {n : ℕ} (h : n < 67) (r : ℕ) (d : Dev nD) : (talkRd I).payload (cell o n) r d = payN I o n d := by
  show payN I o (num (semOf n)) d = _; rw [num_semOf h]
theorem expect_at (o : Dev nD) {n : ℕ} (h : n < 67) : (talkRd I).expect (cell o n) 0 = (payers o n).card * amtN n := by
  unfold Schedule.expect Schedule.amountOf
  rw [duties_at I o h, Finset.sum_congr rfl fun d _ => amount_at I o h 0 d, Finset.sum_const, smul_eq_mul]

/-! ## The family of cells -/

/-- The tokens device `c` pays with, by the cells' devices and numbers. -/
def tokN (c : Dev nD) : List (Dev nD × ℕ) := (allE c).flatMap fun e => if e.2.2 = 0 then [(e.1, e.2.1)] else [(e.1, e.2.1), (c, e.2.2)]

theorem tokN_nodup (c : Dev nD) : (tokN c).Nodup := by revert c; decide +kernel
theorem tokN_lt (c : Dev nD) : ∀ x ∈ tokN c, x.2 < 67 := by revert c; decide +kernel

theorem scopedL_ok : scopedL.Nodup ∧ ∀ n ∈ scopedL, 6 ≤ n ∧ n < 67 := by decide +kernel

theorem semOf_inj {a b : ℕ} (ha : a < 67) (hb : b < 67) (h : semOf a = semOf b) : a = b := by
  rw [← num_semOf ha, ← num_semOf hb, h]

theorem semOf_ne_bar {n : ℕ} (h : n ∈ scopedL) : semOf n ≠ barL := fun e => by
  have h1 := scopedL_ok.2 n h
  have h2 := num_semOf (n := n) h1.2
  rw [e] at h2
  change 0 = n at h2; omega

/-- The cells and tokens of the one launch. -/
def fam : Fam nD τ sig (Dev nD) 1 where
  bar := barL
  dorm _ := (scopedL.map semOf).toFinset
  toks c _ := ((tokN c).map fun x => (cell x.1 x.2, 0, c)).toFinset
  semKey _ := 0
  hsem _ _ _ := Subsingleton.elim _ _
  hbar _ h := by
    obtain ⟨n, hn, e⟩ := List.mem_map.mp (List.mem_toFinset.mp h)
    exact semOf_ne_bar hn e
  tokKey x := (x.2.2, 0)
  htok c j x hx := by
    obtain ⟨y, -, rfl⟩ := List.mem_map.mp (List.mem_toFinset.mp hx)
    exact Prod.ext rfl (Subsingleton.elim _ _)

theorem dorm_sep {M : Type} [URA M] (j : Fin 1) (Φ : SemLoc sig → sProp M) : bigSep (fam.dorm j) Φ = bigSepL scopedL fun n => Φ (semOf n) := by
  show bigSep (scopedL.map semOf).toFinset Φ = _
  rw [bigSep_eq_bigSepL_of_eq (scopedL.map semOf) rfl (scopedL_ok.1.map_on fun a ha b hb h => semOf_inj (scopedL_ok.2 a ha).2 (scopedL_ok.2 b hb).2 h), bigSepL_map]

theorem toks_sep {M : Type} [URA M] (c : Dev nD) (j : Fin 1) (Φ : GSem nD τ sig × ℕ × Dev nD → sProp M) :
    bigSep (fam.toks c j) Φ = bigSepL (tokN c) fun x => Φ (cell x.1 x.2, 0, c) := by
  show bigSep ((tokN c).map fun x => (cell x.1 x.2, 0, c)).toFinset Φ = _
  rw [bigSep_eq_bigSepL_of_eq ((tokN c).map fun x => (cell x.1 x.2, 0, c)) rfl ((tokN_nodup c).map_on fun a ha b hb h => by
    have h1 := congrArg Prod.fst h
    have h2 : a.1 = b.1 := congrArg (fun g : GSem nD τ sig => g.1.1) h1
    have h3 : semOf a.2 = semOf b.2 := congrArg Prod.snd h1
    exact Prod.ext h2 (semOf_inj (tokN_lt c a ha) (tokN_lt c b hb) h3)), bigSepL_map]

/-! ## What a device carries -/

/-- The levels and the cells' invariants. -/
def Base (κ : GSem nD τ sig → ℕ) : sProp 𝕄 := iprop(levAts (L 7) lv ∗ fam.cellInvs ER (talkRd I) κ)
instance Base_persistent (κ : GSem nD τ sig → ℕ) : BI.Persistent (Base I κ) := by unfold Base; infer_instance

/-- After the barrier: every device's scoped cells are open as well. -/
def Ctx (κ : GSem nD τ sig → ℕ) : sProp 𝕄 := iprop(Base I κ ∗ bigSepL (List.finRange nD) openedAt)
instance Ctx_persistent (κ : GSem nD τ sig → ℕ) : BI.Persistent (Ctx I κ) := by unfold Ctx; infer_instance

theorem inv_at (κ : GSem nD τ sig → ℕ) (o : Dev nD) {n : ℕ} (h : n ∈ 0 :: scopedL) : Base I κ ⊢ cellInv ER (talkRd I) (κ (cell o n)) (cell o n) := by
  unfold Base
  iintro ⟨-, H⟩
  rcases List.mem_cons.mp h with rfl | h
  · iapply (fam.cellInvs_bar ER (talkRd I) κ o); iexact H
  · iapply (fam.cellInvs_dorm ER (talkRd I) κ o (j := 0) (sm := semOf n) (List.mem_toFinset.mpr (List.mem_map_of_mem h))); iexact H

theorem open_at (κ : GSem nD τ sig → ℕ) (o : Dev nD) {n : ℕ} (h : n ∈ scopedL) : Ctx I κ ⊢ reached ER (cell o n) 0 := by
  unfold Ctx
  iintro ⟨-, H⟩
  ihave H2 := (sepL_elim (List.mem_finRange o) (openedAt (F := F))) $$ H
  unfold openedAt
  iapply (sepL_elim h fun n => reached ER (cell o n) 0)
  iexact H2

theorem Ctx_base (κ : GSem nD τ sig → ℕ) : Ctx I κ ⊢ Base I κ := by
  unfold Ctx; iintro ⟨H, -⟩; iexact H

/-- What comes with an entry still to be performed: its tokens, for a copy the place of the own send cell and the region it writes. -/
def tokE (c : Dev nD) (e : Ent) : sProp 𝕄 :=
  iprop(dutyTok ER (cell e.1 e.2.1) 0 c ∗ if e.2.2 = 0 then emp else iprop(dutyTok ER (cell c e.2.2) 0 c ∗ atPos ER (cell c e.2.2) 0 ∅ 0))
def dstE (e : Ent) : sProp 𝕄 := if e.2.2 = 0 then iprop(emp) else dstN e.1 e.2.1

/-- What device `c` still has to signal or copy. -/
def Owe (c : Dev nD) (l : List Ent) : sProp 𝕄 := iprop(∃ W, owes (c : Thread nD τ) (tallyL (l.map pay)) W)
def Due (c : Dev nD) (l : List Ent) : sProp 𝕄 := iprop(⌜∀ e ∈ l, e ∈ allE c⌝ ∗ Owe c l ∗ bigSepL l fun e => iprop(tokE c e ∗ dstE e))

/-- A wait that device `c` has to make. -/
def Wt (c : Dev nD) (n : ℕ) : sProp 𝕄 := iprop(cred (tallyAt (cell c n) (lvN n) (totN n)) ∗ atPos ER (cell c n) 0 ∅ 0)
/-- A cell past its one round. -/
def Don (c : Dev nD) (n : ℕ) : sProp 𝕄 := atPos ER (cell c n) 1 ∅ 0

/-! ## The three acts -/

theorem Owe_above {c : Dev nD} {l : List Ent} {n : ℕ} (h : ∀ e ∈ l, lvN n < lvN e.2.1) (sm : SemLoc sig) :
    (levAts (L 7) lv : sProp 𝕄) ⊢ MayWait (c : Thread nD τ) sm (lvN n) (tallyL (l.map pay)) :=
  mayWait_of (lvN_lt n) c sm _ fun g k hk => by
    obtain ⟨x, hx, rfl, rfl⟩ := tallyL_pos hk
    obtain ⟨e, he, rfl⟩ := List.mem_map.mp hx
    exact ⟨mem_L' rfl (lvN_lt _), h e he⟩

theorem tallyL_entry (d : Dev nD) (n s : ℕ) (l : List Ent) :
    tallyL (((d, n, s) :: l).map pay) = tallyL (l.map pay) + tallyAt (cell d n) (lvN n) (amtN n) := by
  rw [List.map_cons, tallyL, add_comm]; unfold pay Pay.tally; rfl

variable {α : Type} {Q : α → sProp (MT nD τ sig ℕ (Elt F) ℕ UU ℕ)}

/-- A wait on one of the device's own cells. -/
theorem step_wait' (κ : GSem nD τ sig → ℕ) (c : Dev nD) (n : ℕ) (l : List Ent) {w : TpuEff nD τ sig (Elt F) Λ₀ .tc PUnit} {k' : ℕ}
    {k : PUnit → Prog (TpuEff nD τ sig (Elt F) Λ₀ .tc) α}
    (hw : ∀ K : PUnit → sProp 𝕄, wpE (defs₀ (F := F)) 𝒱₀ (c : Thread nD τ) none Set.univ w K = waitSpec (c : Thread nD τ) Set.univ (semOf n) k' K)
    (hn : n ∈ 0 :: scopedL) (hk : k' = totN n) (hp : (payers c n).card * amtN n = totN n) (hl : ∀ e ∈ l, lvN n < lvN e.2.1) :
    iprop(Base I κ ∗ Wt c n ∗ Owe c l)
      ⊢ iprop(((Owe c l ∗ Don c n ∗ bigSep (payers c n) fun d => payN I c n d) -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  have hlt : n < 67 := by
    rcases List.mem_cons.mp hn with rfl | h
    · decide
    · exact (scopedL_ok.2 n h).2
  subst hk
  unfold Wt Owe Don
  iintro ⟨#HB, ⟨Hc, Hat⟩, ⟨%W, HO⟩⟩ Hk
  iapply (Rounds.wp_wait_rest_token 𝒱₀ ER (talkRd I) (c : Thread nD τ) none (κ := κ (cell c n)) (sm := semOf n) hw (Set.mem_univ _) (lvN n)
      (O := tallyL (l.map pay)) (W := W) (R := 0) (m := 0) (T := ∅) ((Nat.zero_add _).trans ((expect_at I c hlt).trans hp).symm)) $$ [Hc Hat HO]
  · isplitr; · iapply (inv_at I κ c hn); iexact HB
    isplitl [Hc]; · iexact Hc
    isplitl [HO]; · iexact HO
    isplitr
    · iapply (Owe_above hl); unfold Base; icases HB with ⟨H1, -⟩; iexact H1
    iexact Hat
  iintro ⟨HO, Hat, -, Hpay⟩
  ihave Hpay := (Entails.of_eq (by rw [Finset.sdiff_empty, duties_at I c hlt, bigSep_congr fun d _ => payload_at I c hlt 0 d] :
    bigSep ((talkRd I).duties (cell c n) 0 \ ∅) ((talkRd I).payload (cell c n) 0) = bigSep (payers c n) fun d => payN I c n d)) $$ Hpay
  iapply Hk
  isplitl [HO]; · iexists _; iexact HO
  isplitl [Hat]; · iexact Hat
  iexact Hpay

/-- A signal. -/
theorem step_signal (κ : GSem nD τ sig → ℕ) (c d : Dev nD) (n : ℕ) (l : List Ent) {sm : Sem sig} {k : PUnit → Prog (TpuEff nD τ sig (Elt F) Λ₀ .tc) α}
    (hsm : (SemLoc.reg sm : SemLoc sig) = semOf n) (hn : n ∈ 0 :: scopedL) (ha : amtN n = 1) (he : (d, n, 0) ∈ allE c) :
    iprop(Base I κ ∗ Owe c ((d, n, 0) :: l) ∗ tokE c (d, n, 0) ∗ payN I d n c ∗ reached ER (cell d n) 0)
      ⊢ iprop((Owe c l -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc d) sm 1) k) Q) := by
  have hlt : n < 67 := (allE_lt c _ he).1
  have hcell : cell d n = ((d : Thread nD τ), SemLoc.reg sm) := by rw [hsm]
  unfold Owe tokE
  iintro ⟨#HB, ⟨%W, HO⟩, ⟨Ht, -⟩, Hp, #Hr⟩ Hk
  ihave Hp := (Entails.of_eq (payload_at I d hlt 0 c).symm) $$ Hp
  ihave #HI := (inv_at I κ d hn) $$ HB
  rw [hcell]
  iapply (Rounds.wp_signal 𝒱₀ ER (talkRd I) (c : Thread nD τ) none (dst := (d : Thread nD τ)) (sem := sm) (r := 0) (d := c) (κ := κ (cell d n)) (k' := 1)
      (by rw [← hcell, duties_at I d hlt]; exact mem_payers he) (by rw [← hcell, amount_at I d hlt, ha]) (lvN n) (O₀ := tallyL (((d, n, 0) :: l).map pay))
      (tallyL (l.map pay)) (by rw [← hcell, tallyL_entry, ha]) (W := W)) $$ [HO Ht Hp]
  · rw [← hcell]
    isplitr; · iexact HI
    isplitl [HO]; · iexact HO
    isplitl [Ht]; · iexact Ht
    isplitl [Hp]; · iexact Hp
    iexact Hr
  iintro HO
  iapply Hk
  iexists W; iexact HO

set_option maxHeartbeats 1000000 in
/-- A copy to a device: what the send cell returns is the source region, what the receive cell hands over the region written. -/
theorem step_send (κ : GSem nD τ sig → ℕ) (c d c' : Dev nD) (n s : ℕ) (l : List Ent) {sp sp' : Space} {sh : Shape} {e : EltTy}
    {src : Memref sig .tc sp sh e} {dst : Memref sig .tc sp' sh e} {hsc : dst.view.ref.isScScratch = false} {sS sem : DmaSem sig}
    {hsrc : src.view.WordExact} {hdst : dst.view.WordExact} {hsem : DmaTarget.Typed sp (.dma sem) (.remote (Dev.tc c') dst (.dma sS) hsc)}
    {k : PUnit → Prog (TpuEff nD τ sig (Elt F) Λ₀ .tc) α} (q : PosShare TreeShare) (fs : Buf (Elt F) (src.view.loc (c : Thread nD τ)))
    (hc : c' = d) (hn : n ∈ scopedL) (hs : s ∈ scopedL) (hs0 : s ≠ 0) (hlv : lvN s = 0) (htot : totN s = amtN n) (hamt : amtN s = amtN n)
    (hsm : (SemLoc.dma sem : SemLoc sig) = semOf n) (hsS : (SemLoc.dma sS : SemLoc sig) = semOf s)
    (hN : dst.view.amount (.dma sem) = amtN n)
    (hP : payN I c s c = (src.view.loc (c : Thread nD τ) ↦[src.view.set]{q} fs))
    (hD : dstN d n ⊢ (iprop(∃ fd : Buf (Elt F) (dst.view.loc (d : Thread nD τ)), dst.view.loc (d : Thread nD τ) ↦[dst.view.set]{fullShare} fd) : sProp 𝕄))
    (hR : ∀ fd : Buf (Elt F) (dst.view.loc (d : Thread nD τ)),
      (dst.view.loc (d : Thread nD τ) ↦[dst.view.set]{fullShare} (dst.view.write (Elt F) fd (src.view.read (Elt F) fs) Finset.univ)) ⊢ payN I d n c) :
    iprop(Ctx I κ ∗ payN I c s c ∗ Due c ((d, n, s) :: l))
      ⊢ iprop(((Wt c s ∗ Due c l) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.remote (Dev.tc c') dst (.dma sS) hsc) (.dma sem) hsrc hdst hsem) k) Q) := by
  subst hc
  have hlt : n < 67 := (scopedL_ok.2 n hn).2
  have hlts : s < 67 := (scopedL_ok.2 s hs).2
  have hcell : cell c' n = ((c' : Thread nD τ), SemLoc.dma sem) := by rw [hsm]
  have hcells : cell c s = ((c : Thread nD τ), SemLoc.dma sS) := by rw [hsS]
  have h1 : dstE (F := F) (c', n, s) = dstN c' n := if_neg hs0
  have h2 : tokE (F := F) c (c', n, s) = iprop(dutyTok ER (cell c' n) 0 c ∗ dutyTok ER (cell c s) 0 c ∗ atPos ER (cell c s) 0 ∅ 0) := by
    unfold tokE; rw [if_neg (show ¬ ((c', n, s) : Ent).2.2 = 0 from hs0)]
  unfold Due Owe
  rw [bigSepL_cons', h1, h2]
  iintro ⟨#HC, HP, ⟨%hmem, ⟨%W, HO⟩, ⟨⟨Ht, Hd⟩, Hl⟩⟩⟩ Hk
  have he : (c', n, s) ∈ allE c := hmem _ List.mem_cons_self
  icases Ht with ⟨Htn, Hts, Hat⟩
  ihave Hd := hD $$ Hd
  icases Hd with ⟨%fd, Hd⟩
  ihave #HB := (Ctx_base I κ) $$ HC
  ihave #HIs := (inv_at I κ c (List.mem_cons_of_mem 0 hs)) $$ HB
  ihave #HIn := (inv_at I κ c' (List.mem_cons_of_mem 0 hn)) $$ HB
  ihave #Hrs := (open_at I κ c hs) $$ HC
  ihave #Hrn := (open_at I κ c' hn) $$ HC
  ihave HP := (Entails.of_eq hP) $$ HP
  iapply (Rounds.wp_send_pointsTo 𝒱₀ ER (talkRd I) (c : Thread nD τ) none (c' := (c' : Thread nD τ)) (src := src) (dst := dst) (sS := .dma sS) (sem := .dma sem)
      (q := q) (fs := fs) (κ₁ := κ (cell c s)) (κ₂ := κ (cell c' n)) (r₁ := 0) (r₂ := 0) (d₁ := c) (d₂ := c) (fd := fd)
      (by rw [← hcells, duties_at I c hlts]; exact mem_payers_send he hs0) (by rw [← hcell, duties_at I c' hlt]; exact mem_payers he)
      (lvN n) (lvN s) (amtN n) hN (by rw [← hcells, amount_at I c hlts, hamt]) (by rw [← hcell, amount_at I c' hlt])
      (O₀ := tallyL (((c', n, s) :: l).map pay)) (tallyL (l.map pay)) (by rw [← hcell]; exact tallyL_entry c' n s l) (W := W)
      (by rw [← hcells, payload_at I c hlts, hP]) (by rw [← hcell, payload_at I c' hlt]; exact hR fd)) $$ [HP HO Htn Hts Hd]
  · rw [← hcell, ← hcells]
    isplitr; · iexact HIs
    isplitr; · iexact HIn
    isplitl [HP]; · iexact HP
    isplitl [Hd]; · iexact Hd
    isplitl [HO]; · iexact HO
    isplitl [Hts]; · iexact Hts
    isplitr; · iexact Hrs
    isplitl [Htn]; · iexact Htn
    iexact Hrn
  iintro ⟨Hc, HO⟩
  iapply Hk
  isplitl [Hc Hat]
  · unfold Wt; rw [htot, hcells]
    isplitl [Hc] <;> iassumption
  isplitr; · ipureintro; exact fun e he => hmem e (List.mem_cons_of_mem _ he)
  isplitl [HO]; · iexists W; iexact HO
  iexact Hl

end Cert.KernelIdeal.Hand

end
-- ==== Proof.Geo.lean ====
/-
  The places that the kernel's copies read and write, and the rule of each kind of copy at them.
-/
module

public import proofs.«01_k».proof.Proof.Proto
public import Idealize.ShloMosaic.Lib.ValueLayout

@[expose] public section

set_option maxRecDepth 16384

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Rectangles -/

theorem col_set {off : Fin 3 → ℕ} {inb} (d : Dev nD) (h : off = ![0, 0, 256 * d.val]) :
    (Rect.unit (s := S2x128x2048) off S2x128x256.size inb).set = colS d.val := by
  subst h; ext i
  rw [Rect.mem_set_unit, Finset.mem_filter]
  constructor
  · intro h
    have h2 := h 2
    change 256 * d.val ≤ (i 2).val ∧ (i 2).val < 256 * d.val + 256 at h2
    exact ⟨Finset.mem_univ _, by omega⟩
  · rintro ⟨-, h⟩ a
    have h0 := (i 0).isLt; have h1 := (i 1).isLt
    change (i 0).val < 2 at h0; change (i 1).val < 128 at h1
    fin_cases a
    · change 0 ≤ (i 0).val ∧ (i 0).val < 0 + 2; omega
    · change 0 ≤ (i 1).val ∧ (i 1).val < 0 + 128; omega
    · change 256 * d.val ≤ (i 2).val ∧ (i 2).val < 256 * d.val + 256; omega

theorem slotK_set {off : Fin 4 → ℕ} {inb} (m : ℕ) (h : off = ![m, 0, 0, 0]) :
    (Rect.unit (s := S4x2x128x256) off S1x2x128x256.size inb).set = slotK m := by
  subst h; ext i
  rw [Rect.mem_set_unit, Finset.mem_filter]
  constructor
  · intro h
    have h2 := h 0
    change m ≤ (i 0).val ∧ (i 0).val < m + 1 at h2
    exact ⟨Finset.mem_univ _, by omega⟩
  · rintro ⟨-, h⟩ a
    have h1 := (i 1).isLt; have h2 := (i 2).isLt; have h3 := (i 3).isLt
    change (i 1).val < 2 at h1; change (i 2).val < 128 at h2; change (i 3).val < 256 at h3
    fin_cases a
    · change m ≤ (i 0).val ∧ (i 0).val < m + 1; omega
    · change 0 ≤ (i 1).val ∧ (i 1).val < 0 + 2; omega
    · change 0 ≤ (i 2).val ∧ (i 2).val < 0 + 128; omega
    · change 0 ≤ (i 3).val ∧ (i 3).val < 0 + 256; omega

theorem slotR_set {off : Fin 4 → ℕ} {inb} (m : ℕ) (h : off = ![m, 0, 0, 0]) :
    (Rect.unit (s := S8x2x16x512) off S1x2x16x512.size inb).set = slotR m := by
  subst h; ext i
  rw [Rect.mem_set_unit, Finset.mem_filter]
  constructor
  · intro h
    have h2 := h 0
    change m ≤ (i 0).val ∧ (i 0).val < m + 1 at h2
    exact ⟨Finset.mem_univ _, by omega⟩
  · rintro ⟨-, h⟩ a
    have h1 := (i 1).isLt; have h2 := (i 2).isLt; have h3 := (i 3).isLt
    change (i 1).val < 2 at h1; change (i 2).val < 16 at h2; change (i 3).val < 512 at h3
    fin_cases a
    · change m ≤ (i 0).val ∧ (i 0).val < m + 1; omega
    · change 0 ≤ (i 1).val ∧ (i 1).val < 0 + 2; omega
    · change 0 ≤ (i 2).val ∧ (i 2).val < 0 + 16; omega
    · change 0 ≤ (i 3).val ∧ (i 3).val < 0 + 512; omega

theorem row_set {off : Fin 3 → ℕ} {inb} (d : ℕ) (h : off = ![0, 16 * d, 0]) :
    (Rect.unit (s := S2x128x512) off S2x16x512.size inb).set = rowS d := by
  subst h; ext i
  rw [Rect.mem_set_unit, Finset.mem_filter]
  constructor
  · intro h
    have h2 := h 1
    change 16 * d ≤ (i 1).val ∧ (i 1).val < 16 * d + 16 at h2
    exact ⟨Finset.mem_univ _, by omega⟩
  · rintro ⟨-, h⟩ a
    have h0 := (i 0).isLt; have h1 := (i 2).isLt
    change (i 0).val < 2 at h0; change (i 2).val < 512 at h1
    fin_cases a
    · change 0 ≤ (i 0).val ∧ (i 0).val < 0 + 2; omega
    · change 16 * d ≤ (i 1).val ∧ (i 1).val < 16 * d + 16; omega
    · change 0 ≤ (i 2).val ∧ (i 2).val < 0 + 512; omega

theorem col_emb {off : Fin 3 → ℕ} {inb} (d : Dev nD) (h : off = ![0, 0, 256 * d.val]) (x : Fin 2) (y : Fin 128) (z : Fin 256) :
    (Rect.unit (s := S2x128x2048) off S2x128x256.size inb).emb (ix3 x y z) = ix3 x y (col d z) := by
  subst h; funext a; apply Fin.ext
  fin_cases a
  · change 0 + 1 * x.val = x.val; omega
  · change 0 + 1 * y.val = y.val; omega
  · change 256 * d.val + 1 * z.val = d.val * 256 + z.val; omega

theorem row_emb {off : Fin 3 → ℕ} {inb} (d : Dev nD) (h : off = ![0, 16 * d.val, 0]) (x : Fin 2) (y : Fin 16) (z : Fin 512) :
    (Rect.unit (s := S2x128x512) off S2x16x512.size inb).emb (ix3 x y z) = ix3 x (row d y) z := by
  subst h; funext a; apply Fin.ext
  fin_cases a
  · change 0 + 1 * x.val = x.val; omega
  · change 16 * d.val + 1 * y.val = d.val * 16 + y.val; omega
  · change 0 + 1 * z.val = z.val; omega

theorem slotK_emb {off : Fin 4 → ℕ} {inb} (m : Fin 4) (h : off = ![m.val, 0, 0, 0]) (hq) (x : Fin 2) (y : Fin 128) (z : Fin 256) :
    (Rect.unit (s := S4x2x128x256) off S1x2x128x256.size inb).emb (Shape.reshapeEquiv (s := S1x2x128x256) (s' := S2x128x256) hq (ix3 x y z)) = ix4 m x y z := by
  rw [reshapeEquiv_ix3_1abc hq x y z]
  subst h; funext a; apply Fin.ext
  fin_cases a
  · change m.val + 1 * 0 = m.val; omega
  · change 0 + 1 * x.val = x.val; omega
  · change 0 + 1 * y.val = y.val; omega
  · change 0 + 1 * z.val = z.val; omega

theorem slotR_emb {off : Fin 4 → ℕ} {inb} (m : Fin 8) (h : off = ![m.val, 0, 0, 0]) (hq) (x : Fin 2) (y : Fin 16) (z : Fin 512) :
    (Rect.unit (s := S8x2x16x512) off S1x2x16x512.size inb).emb (Shape.reshapeEquiv (s := S1x2x16x512) (s' := S2x16x512) hq (ix3 x y z)) = ix4 m x y z := by
  rw [reshapeEquiv_ix3_1abc hq x y z]
  subst h; funext a; apply Fin.ext
  fin_cases a
  · change m.val + 1 * 0 = m.val; omega
  · change 0 + 1 * x.val = x.val; omega
  · change 0 + 1 * y.val = y.val; omega
  · change 0 + 1 * z.val = z.val; omega

/-- What a copy leaves in the region it wrote, from what each element is. -/
theorem landed {sp sp' : Space} {s : Shape} {e : EltTy} {vs : View sig .tc sp s e} {vd : View sig .tc sp' s e} (d : Dev nD)
    {c : Dev nD} {fs : Buf (Elt F) (vs.loc (c : Thread nD τ))} (fd g : Buf (Elt F) (vd.loc (d : Thread nD τ)))
    (h : ∀ x, vd.read (Elt F) g x = vs.read (Elt F) fs x) :
    ((vd.loc (d : Thread nD τ) ↦[vd.set]{fullShare} (vd.write (Elt F) fd (vs.read (Elt F) fs) Finset.univ)) : sProp 𝕄)
      = (vd.loc (d : Thread nD τ) ↦[vd.set]{fullShare} g) :=
  pointsTo_congr fun i hi => by
    obtain ⟨x, -, rfl⟩ := Finset.mem_map.mp hi
    rw [View.write_emb_of_mem (Val := Elt F) fd _ (Finset.mem_univ x), ← h x, View.read_apply]
    simp

/-! ## Semaphores -/

theorem inb8 (m : Fin 8) : ∀ a : Fin S8.rank, ![m.val] a + S1.size a ≤ S8.size a := by revert m; decide +kernel
theorem inb4 (m : Fin 4) : ∀ a : Fin S4.rank, ![m.val] a + S1.size a ≤ S4.size a := by revert m; decide +kernel
theorem inb2 (m : Fin 2) : ∀ a : Fin S2.rank, ![m.val] a + S1.size a ≤ S2.size a := by revert m; decide +kernel

theorem sem15 {off : Fin 1 → ℕ} {inb hq} (m : Fin 8) (h : off = ![m.val]) :
    (SemLoc.dma ((cc0_scratch9.slice (Rect.unit (s := S8) off S1.size inb)).squeeze S_ hq).sem : SemLoc sig) = semOf (6 + m.val) := by
  subst h
  have H : ∀ m : Fin 8, (SemLoc.dma ((cc0_scratch9.slice (Rect.unit (s := S8) ![m.val] S1.size (inb8 m))).squeeze S_ squeezes_S1_S_).sem : SemLoc sig)
      = semOf (6 + m.val) := by decide +kernel
  exact H m
theorem sem16 {off : Fin 1 → ℕ} {inb hq} (m : Fin 8) (h : off = ![m.val]) :
    (SemLoc.dma ((cc0_scratch10.slice (Rect.unit (s := S8) off S1.size inb)).squeeze S_ hq).sem : SemLoc sig) = semOf (14 + m.val) := by
  subst h
  have H : ∀ m : Fin 8, (SemLoc.dma ((cc0_scratch10.slice (Rect.unit (s := S8) ![m.val] S1.size (inb8 m))).squeeze S_ squeezes_S1_S_).sem : SemLoc sig)
      = semOf (14 + m.val) := by decide +kernel
  exact H m
theorem sem17 {off : Fin 1 → ℕ} {inb hq} (m : Fin 4) (h : off = ![m.val]) :
    (SemLoc.dma ((cc0_scratch11.slice (Rect.unit (s := S4) off S1.size inb)).squeeze S_ hq).sem : SemLoc sig) = semOf (22 + m.val) := by
  subst h
  have H : ∀ m : Fin 4, (SemLoc.dma ((cc0_scratch11.slice (Rect.unit (s := S4) ![m.val] S1.size (inb4 m))).squeeze S_ squeezes_S1_S_).sem : SemLoc sig)
      = semOf (22 + m.val) := by decide +kernel
  exact H m
theorem sem18 {off : Fin 1 → ℕ} {inb hq} (m : Fin 4) (h : off = ![m.val]) :
    (SemLoc.dma ((cc0_scratch12.slice (Rect.unit (s := S4) off S1.size inb)).squeeze S_ hq).sem : SemLoc sig) = semOf (26 + m.val) := by
  subst h
  have H : ∀ m : Fin 4, (SemLoc.dma ((cc0_scratch12.slice (Rect.unit (s := S4) ![m.val] S1.size (inb4 m))).squeeze S_ squeezes_S1_S_).sem : SemLoc sig)
      = semOf (26 + m.val) := by decide +kernel
  exact H m
theorem sem19 {off : Fin 1 → ℕ} {inb hq} (m : Fin 8) (h : off = ![m.val]) :
    (SemLoc.dma ((cc0_scratch13.slice (Rect.unit (s := S8) off S1.size inb)).squeeze S_ hq).sem : SemLoc sig) = semOf (30 + m.val) := by
  subst h
  have H : ∀ m : Fin 8, (SemLoc.dma ((cc0_scratch13.slice (Rect.unit (s := S8) ![m.val] S1.size (inb8 m))).squeeze S_ squeezes_S1_S_).sem : SemLoc sig)
      = semOf (30 + m.val) := by decide +kernel
  exact H m
theorem sem20 {off : Fin 1 → ℕ} {inb hq} (m : Fin 8) (h : off = ![m.val]) :
    (SemLoc.dma ((cc0_scratch14.slice (Rect.unit (s := S8) off S1.size inb)).squeeze S_ hq).sem : SemLoc sig) = semOf (38 + m.val) := by
  subst h
  have H : ∀ m : Fin 8, (SemLoc.dma ((cc0_scratch14.slice (Rect.unit (s := S8) ![m.val] S1.size (inb8 m))).squeeze S_ squeezes_S1_S_).sem : SemLoc sig)
      = semOf (38 + m.val) := by decide +kernel
  exact H m
theorem sem21 {off : Fin 1 → ℕ} {inb hq} (m : Fin 8) (h : off = ![m.val]) :
    (SemLoc.dma ((cc0_scratch15.slice (Rect.unit (s := S8) off S1.size inb)).squeeze S_ hq).sem : SemLoc sig) = semOf (46 + m.val) := by
  subst h
  have H : ∀ m : Fin 8, (SemLoc.dma ((cc0_scratch15.slice (Rect.unit (s := S8) ![m.val] S1.size (inb8 m))).squeeze S_ squeezes_S1_S_).sem : SemLoc sig)
      = semOf (46 + m.val) := by decide +kernel
  exact H m
theorem sem22 {off : Fin 1 → ℕ} {inb hq} (m : Fin 8) (h : off = ![m.val]) :
    (SemLoc.dma ((cc0_scratch16.slice (Rect.unit (s := S8) off S1.size inb)).squeeze S_ hq).sem : SemLoc sig) = semOf (54 + m.val) := by
  subst h
  have H : ∀ m : Fin 8, (SemLoc.dma ((cc0_scratch16.slice (Rect.unit (s := S8) ![m.val] S1.size (inb8 m))).squeeze S_ squeezes_S1_S_).sem : SemLoc sig)
      = semOf (54 + m.val) := by decide +kernel
  exact H m
theorem sem23 {off : Fin 1 → ℕ} {inb hq} (m : Fin 2) (h : off = ![m.val]) :
    (SemLoc.dma ((cc0_scratch17.slice (Rect.unit (s := S2) off S1.size inb)).squeeze S_ hq).sem : SemLoc sig) = semOf (62 + m.val) := by
  subst h
  have H : ∀ m : Fin 2, (SemLoc.dma ((cc0_scratch17.slice (Rect.unit (s := S2) ![m.val] S1.size (inb2 m))).squeeze S_ squeezes_S1_S_).sem : SemLoc sig)
      = semOf (62 + m.val) := by decide +kernel
  exact H m
theorem sem24 {off : Fin 1 → ℕ} {inb hq} (m : Fin 2) (h : off = ![m.val]) :
    (SemLoc.dma ((cc0_scratch18.slice (Rect.unit (s := S2) off S1.size inb)).squeeze S_ hq).sem : SemLoc sig) = semOf (64 + m.val) := by
  subst h
  have H : ∀ m : Fin 2, (SemLoc.dma ((cc0_scratch18.slice (Rect.unit (s := S2) ![m.val] S1.size (inb2 m))).squeeze S_ squeezes_S1_S_).sem : SemLoc sig)
      = semOf (64 + m.val) := by decide +kernel
  exact H m

/-! ## The payloads, by cell -/

section Payloads

variable (I : Ins F) (o p : Dev nD)

theorem payN_k {j : ℕ} (h : j < 8) : payN I o (6 + j) p = pt o cc0_stg2_0 (colS (xr o j).val) (I.k o) := by
  unfold payN
  rw [if_neg (by omega), if_neg (by omega), if_pos (by omega), Nat.add_sub_cancel_left]
theorem payN_v {j : ℕ} (h : j < 8) : payN I o (14 + j) p = pt o cc0_stg3_0 (colS (xr o j).val) (I.v o) := by
  unfold payN
  rw [if_neg (by omega), if_neg (by omega), if_neg (by omega), if_pos (by omega), Nat.add_sub_cancel_left]
theorem payN_kb {m : ℕ} (h : m < 4) : payN I o (22 + m) p = pt o cc0_scratch0 (slotK m) (KB I o) := by
  unfold payN
  rw [if_neg (by omega), if_neg (by omega), if_neg (by omega), if_neg (by omega), if_pos (by omega), Nat.add_sub_cancel_left]
theorem payN_vb {m : ℕ} (h : m < 4) : payN I o (26 + m) p = pt o cc0_scratch1 (slotK m) (VB I o) := by
  unfold payN
  rw [if_neg (by omega), if_neg (by omega), if_neg (by omega), if_neg (by omega), if_neg (by omega), if_pos (by omega), Nat.add_sub_cancel_left]
theorem payN_p16 {m : ℕ} (h : m < 8) : payN I o (30 + m) p = pt o cc0_scratch3 (rowS m) (P16 I o) := by
  unfold payN
  rw [if_neg (by omega), if_neg (by omega), if_neg (by omega), if_neg (by omega), if_neg (by omega), if_neg (by omega), if_pos (by omega),
    Nat.add_sub_cancel_left]
theorem payN_rsb {m : ℕ} (h : m < 8) : payN I o (38 + m) p = pt o cc0_scratch4 (slotR m) (RSB I o) := by
  unfold payN
  rw [if_neg (by omega), if_neg (by omega), if_neg (by omega), if_neg (by omega), if_neg (by omega), if_neg (by omega), if_neg (by omega),
    if_pos (by omega), Nat.add_sub_cancel_left]
theorem payN_ag {m : ℕ} (h : m < 8) : payN I o (46 + m) p = (((o : Thread nD τ).loc cc0_scratch5) ↦[Finset.univ]{qAt m} (AG I o)) := by
  unfold payN
  rw [if_neg (by omega), if_neg (by omega), if_neg (by omega), if_neg (by omega), if_neg (by omega), if_neg (by omega), if_neg (by omega),
    if_neg (by omega), if_pos (by omega), Nat.add_sub_cancel_left]
theorem payN_agb {m : ℕ} (h : m < 8) : payN I o (54 + m) p = pt o cc0_scratch6 (slotR m) (AGB I) := by
  unfold payN
  rw [if_neg (by omega), if_neg (by omega), if_neg (by omega), if_neg (by omega), if_neg (by omega), if_neg (by omega), if_neg (by omega),
    if_neg (by omega), if_neg (by omega), if_pos (by omega), Nat.add_sub_cancel_left]
theorem payN_62 : payN I o 62 p = pt o cc0_scratch7 Finset.univ (KST I o) := rfl
theorem payN_63 : payN I o 63 p = pt o cc0_scratch8 Finset.univ (VST I o) := rfl
theorem payN_64 : payN I o 64 p = pt o cc0_scratch7 Finset.univ (KST I o) := rfl
theorem payN_65 : payN I o 65 p = pt o cc0_scratch8 Finset.univ (VST I o) := rfl
theorem payN_66 : payN I o 66 p = iprop(emp) := rfl

theorem dstN_kb {m : ℕ} (h : m < 4) : dstN (F := F) p (22 + m) = iprop(∃ f, pt p cc0_scratch0 (slotK m) f) := by
  unfold dstN; rw [if_neg (by omega), if_pos (by omega), Nat.add_sub_cancel_left]
theorem dstN_vb {m : ℕ} (h : m < 4) : dstN (F := F) p (26 + m) = iprop(∃ f, pt p cc0_scratch1 (slotK m) f) := by
  unfold dstN; rw [if_neg (by omega), if_neg (by omega), if_pos (by omega), Nat.add_sub_cancel_left]
theorem dstN_rsb {m : ℕ} (h : m < 8) : dstN (F := F) p (38 + m) = iprop(∃ f, pt p cc0_scratch4 (slotR m) f) := by
  unfold dstN; rw [if_neg (by omega), if_neg (by omega), if_neg (by omega), if_neg (by omega), if_pos (by omega), Nat.add_sub_cancel_left]
theorem dstN_agb {m : ℕ} (h : m < 8) : dstN (F := F) p (54 + m) = iprop(∃ f, pt p cc0_scratch6 (slotR m) f) := by
  unfold dstN
  rw [if_neg (by omega), if_neg (by omega), if_neg (by omega), if_neg (by omega), if_neg (by omega), if_neg (by omega), if_pos (by omega),
    Nat.add_sub_cancel_left]

end Payloads

theorem scoped_mem {n : ℕ} (h : 6 ≤ n ∧ n < 67) : n ∈ scopedL :=
  List.mem_map.mpr ⟨n - 6, List.mem_range.mpr (by omega), by omega⟩

theorem amtN_k {n : ℕ} (h : 0 < n ∧ n < 30) : amtN n = AK := by
  unfold amtN; rw [if_neg (by omega), if_neg (by omega), if_pos (by omega)]
theorem amtN_r {n : ℕ} (h : 30 ≤ n ∧ n < 62) : amtN n = AR := by
  unfold amtN; rw [if_neg (by omega), if_neg (by omega), if_neg (by omega), if_pos (by omega)]
theorem amtN_s {n : ℕ} (h : 62 ≤ n ∧ n < 66) : amtN n = AK := by
  unfold amtN; rw [if_neg (by omega), if_neg (by omega), if_neg (by omega), if_neg (by omega)]
theorem totN_eq {n : ℕ} (h : 0 < n ∧ n < 66) : totN n = amtN n := by
  unfold totN; rw [if_neg (by omega), if_neg (by omega)]
theorem lvN_send {n : ℕ} (h : (6 ≤ n ∧ n < 22) ∨ (30 ≤ n ∧ n < 38) ∨ (46 ≤ n ∧ n < 54) ∨ (64 ≤ n ∧ n < 66)) : lvN n = 0 := by
  unfold lvN; split_ifs <;> omega

/-! ## The copies -/

section Sends

variable (I : Ins F) (κ : GSem nD τ sig → ℕ) (c : Dev nD) {α : Type} {Q : α → sProp (MT nD τ sig ℕ (Elt F) ℕ UU ℕ)}

/-- Column blocks of an array of K or V, and blocks of a buffer of them. -/
abbrev srcCol (b : Memref sig .tc .vmem S2x128x2048 .bf16) (off : Fin 3 → ℕ) (inb : ∀ a : Fin 3, off a + S2x128x256.size a ≤ S2x128x2048.size a) : Memref sig .tc .vmem S2x128x256 .bf16 :=
  b.slice (Rect.unit (s := S2x128x2048) off S2x128x256.size inb) (fun _ => rfl)
abbrev dstK (b : Memref sig .tc .vmem S4x2x128x256 .bf16) (off : Fin 4 → ℕ) (inb : ∀ a : Fin 4, off a + S1x2x128x256.size a ≤ S4x2x128x256.size a) : Memref sig .tc .vmem S2x128x256 .bf16 :=
  (b.slice (Rect.unit (s := S4x2x128x256) off S1x2x128x256.size inb) (fun _ => rfl)).squeeze S2x128x256 squeezes_S1x2x128x256_S2x128x256
abbrev dstR (b : Memref sig .tc .vmem S8x2x16x512 .bf16) (off : Fin 4 → ℕ) (inb : ∀ a : Fin 4, off a + S1x2x16x512.size a ≤ S8x2x16x512.size a) : Memref sig .tc .vmem S2x16x512 .bf16 :=
  (b.slice (Rect.unit (s := S8x2x16x512) off S1x2x16x512.size inb) (fun _ => rfl)).squeeze S2x16x512 squeezes_S1x2x16x512_S2x16x512
abbrev srcRow (b : Memref sig .tc .vmem S2x128x512 .bf16) (off : Fin 3 → ℕ) (inb : ∀ a : Fin 3, off a + S2x16x512.size a ≤ S2x128x512.size a) : Memref sig .tc .vmem S2x16x512 .bf16 :=
  b.slice (Rect.unit (s := S2x128x512) off S2x16x512.size inb) (fun _ => rfl)

theorem even_dv (h : c.val % 2 = 0) : dv (2 * (c.val / 2)) = c := by
  have := c.isLt; change c.val < 8 at this
  apply Fin.ext; change 2 * (c.val / 2) % 8 = c.val; omega

theorem xr3_even (h : c.val % 2 = 1) : dv (2 * ((xr c 3).val / 2)) = xr c 3 := by
  revert c; decide +kernel

/-- On an odd device, the device whose blocks it passes on. -/
theorem xr33 : xr (xr c 3) 3 = c := by revert c; decide +kernel
theorem xr31 : xr (xr c 3) 1 = xr c 2 := by revert c; decide +kernel
theorem dv_fin (m : Fin 8) : dv m.val = m := by revert m; decide +kernel

/-- A copy of a block of K to its place on a device. -/
theorem send_k (he : c.val % 2 = 0) (j : ℕ) (hj : j < 8) (l : List Ent) {c' : Dev nD} {offS inbS offD inbD hsc} {sS sem : DmaSem sig} {hsrc hdst hsem}
    {k : PUnit → Prog (TpuEff nD τ sig (Elt F) Λ₀ .tc) α}
    (hc : c' = xr c j) (hS : offS = ![0, 0, 256 * (xr c j).val]) (hD : offD = ![c.val / 2, 0, 0, 0])
    (hsm : (SemLoc.dma sem : SemLoc sig) = semOf (22 + c.val / 2)) (hsS : (SemLoc.dma sS : SemLoc sig) = semOf (6 + j)) :
    iprop(Ctx I κ ∗ pt c cc0_stg2_0 (colS (xr c j).val) (I.k c) ∗ Due c ((xr c j, 22 + c.val / 2, 6 + j) :: l))
      ⊢ iprop(((Wt c (6 + j) ∗ Due c l) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (srcCol (Memref.whole cc0_stg2_0) offS inbS) (.remote (Dev.tc c') (dstK (Memref.whole cc0_scratch0) offD inbD) (.dma sS) hsc) (.dma sem) hsrc hdst hsem) k) Q) := by
  have hm : c.val / 2 < 4 := by have := c.isLt; change c.val < 8 at this; omega
  have hsetS : ((srcCol (Memref.whole cc0_stg2_0) offS inbS)).view.set = colS (xr c j).val := (View.set_slice_whole _ _).trans (col_set _ hS)
  have hset : ((dstK (Memref.whole cc0_scratch0) offD inbD)).view.set = slotK (c.val / 2) := (View.set_reshape _ _).trans ((View.set_slice_whole _ _).trans (slotK_set _ hD))
  have hP : payN I c (6 + j) c = (((srcCol (Memref.whole cc0_stg2_0) offS inbS)).view.loc (c : Thread nD τ) ↦[((srcCol (Memref.whole cc0_stg2_0) offS inbS)).view.set]{fullShare} (I.k c)) := by
    rw [payN_k I c c hj, hsetS]
  rw [show pt c cc0_stg2_0 (colS (xr c j).val) (I.k c) = payN I c (6 + j) c from (payN_k I c c hj).symm]
  refine step_send I κ c (xr c j) c' (22 + c.val / 2) (6 + j) l (fullShare) (I.k c) hc (scoped_mem (by omega)) (scoped_mem (by omega)) (by omega)
    (lvN_send (by omega)) (by rw [totN_eq (by omega), amtN_k (by omega), amtN_k (by omega)]) (by rw [amtN_k (by omega), amtN_k (by omega)]) hsm hsS
    (by rw [amtN_k (by omega)]; rfl) hP ?_ ?_
  · rw [dstN_kb _ hm, hset]
  · intro fd
    rw [payN_kb I _ c hm, landed (c := c) (xr c j) fd (KB I (xr c j)), hset]
    intro x
    obtain ⟨x0, x1, x2, rfl⟩ : ∃ x0 x1 x2, x = ix3 x0 x1 x2 := ⟨x 0, x 1, x 2, eq_ix3 x⟩
    show KB I (xr c j) ((Rect.unit (s := S4x2x128x256) offD S1x2x128x256.size inbD).emb (Shape.reshapeEquiv _ (ix3 x0 x1 x2)))
      = I.k c ((Rect.unit (s := S2x128x2048) offS S2x128x256.size inbS).emb (ix3 x0 x1 x2))
    rw [slotK_emb ⟨c.val / 2, hm⟩ hD, col_emb (xr c j) hS]
    show I.k (dv (2 * (c.val / 2))) _ = _
    rw [even_dv c he]

/-- A copy of a block of V to its place on a device. -/
theorem send_v (he : c.val % 2 = 0) (j : ℕ) (hj : j < 8) (l : List Ent) {c' : Dev nD} {offS inbS offD inbD hsc} {sS sem : DmaSem sig} {hsrc hdst hsem}
    {k : PUnit → Prog (TpuEff nD τ sig (Elt F) Λ₀ .tc) α}
    (hc : c' = xr c j) (hS : offS = ![0, 0, 256 * (xr c j).val]) (hD : offD = ![c.val / 2, 0, 0, 0])
    (hsm : (SemLoc.dma sem : SemLoc sig) = semOf (26 + c.val / 2)) (hsS : (SemLoc.dma sS : SemLoc sig) = semOf (14 + j)) :
    iprop(Ctx I κ ∗ pt c cc0_stg3_0 (colS (xr c j).val) (I.v c) ∗ Due c ((xr c j, 26 + c.val / 2, 14 + j) :: l))
      ⊢ iprop(((Wt c (14 + j) ∗ Due c l) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (srcCol (Memref.whole cc0_stg3_0) offS inbS) (.remote (Dev.tc c') (dstK (Memref.whole cc0_scratch1) offD inbD) (.dma sS) hsc) (.dma sem) hsrc hdst hsem) k) Q) := by
  have hm : c.val / 2 < 4 := by have := c.isLt; change c.val < 8 at this; omega
  have hsetS : ((srcCol (Memref.whole cc0_stg3_0) offS inbS)).view.set = colS (xr c j).val := (View.set_slice_whole _ _).trans (col_set _ hS)
  have hset : ((dstK (Memref.whole cc0_scratch1) offD inbD)).view.set = slotK (c.val / 2) := (View.set_reshape _ _).trans ((View.set_slice_whole _ _).trans (slotK_set _ hD))
  have hP : payN I c (14 + j) c = (((srcCol (Memref.whole cc0_stg3_0) offS inbS)).view.loc (c : Thread nD τ) ↦[((srcCol (Memref.whole cc0_stg3_0) offS inbS)).view.set]{fullShare} (I.v c)) := by
    rw [payN_v I c c hj, hsetS]
  rw [show pt c cc0_stg3_0 (colS (xr c j).val) (I.v c) = payN I c (14 + j) c from (payN_v I c c hj).symm]
  refine step_send I κ c (xr c j) c' (26 + c.val / 2) (14 + j) l (fullShare) (I.v c) hc (scoped_mem (by omega)) (scoped_mem (by omega)) (by omega)
    (lvN_send (by omega)) (by rw [totN_eq (by omega), amtN_k (by omega), amtN_k (by omega)]) (by rw [amtN_k (by omega), amtN_k (by omega)]) hsm hsS
    (by rw [amtN_k (by omega)]; rfl) hP ?_ ?_
  · rw [dstN_vb _ hm, hset]
  · intro fd
    rw [payN_vb I _ c hm, landed (c := c) (xr c j) fd (VB I (xr c j)), hset]
    intro x
    obtain ⟨x0, x1, x2, rfl⟩ : ∃ x0 x1 x2, x = ix3 x0 x1 x2 := ⟨x 0, x 1, x 2, eq_ix3 x⟩
    show VB I (xr c j) ((Rect.unit (s := S4x2x128x256) offD S1x2x128x256.size inbD).emb (Shape.reshapeEquiv _ (ix3 x0 x1 x2)))
      = I.v c ((Rect.unit (s := S2x128x2048) offS S2x128x256.size inbS).emb (ix3 x0 x1 x2))
    rw [slotK_emb ⟨c.val / 2, hm⟩ hD, col_emb (xr c j) hS]
    show I.v (dv (2 * (c.val / 2))) _ = _
    rw [even_dv c he]

/-- A copy of a block of K to the device that passes it on. -/
theorem send_kst  (l : List Ent) {c' : Dev nD} {offS inbS hsc} {sS sem : DmaSem sig} {hsrc hdst hsem}
    {k : PUnit → Prog (TpuEff nD τ sig (Elt F) Λ₀ .tc) α}
    (hc : c' = xr c 3) (hS : offS = ![0, 0, 256 * (xr c 2).val])
    (hsm : (SemLoc.dma sem : SemLoc sig) = semOf (62)) (hsS : (SemLoc.dma sS : SemLoc sig) = semOf (8)) :
    iprop(Ctx I κ ∗ pt c cc0_stg2_0 (colS (xr c 2).val) (I.k c) ∗ Due c ((xr c 3, 62, 8) :: l))
      ⊢ iprop(((Wt c (8) ∗ Due c l) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (srcCol (Memref.whole cc0_stg2_0) offS inbS) (.remote (Dev.tc c') (Memref.whole cc0_scratch7) (.dma sS) hsc) (.dma sem) hsrc hdst hsem) k) Q) := by
  have hsetS : ((srcCol (Memref.whole cc0_stg2_0) offS inbS)).view.set = colS (xr c 2).val := (View.set_slice_whole _ _).trans (col_set _ hS)
  have hset : ((Memref.whole cc0_scratch7)).view.set = Finset.univ := View.set_whole _
  have hP : payN I c (8) c = (((srcCol (Memref.whole cc0_stg2_0) offS inbS)).view.loc (c : Thread nD τ) ↦[((srcCol (Memref.whole cc0_stg2_0) offS inbS)).view.set]{fullShare} (I.k c)) := by
    rw [payN_k I c c (j := 2) (by omega), hsetS]
  rw [show pt c cc0_stg2_0 (colS (xr c 2).val) (I.k c) = payN I c (8) c from (payN_k I c c (j := 2) (by omega)).symm]
  refine step_send I κ c (xr c 3) c' (62) (8) l (fullShare) (I.k c) hc (scoped_mem (by omega)) (scoped_mem (by omega)) (by omega)
    (lvN_send (by omega)) (by rw [totN_eq (by omega), amtN_k (by omega), amtN_s (by omega)]) (by rw [amtN_k (by omega), amtN_s (by omega)]) hsm hsS
    (by rw [amtN_s (by omega)]; rfl) hP ?_ ?_
  · rw [show dstN (F := F) (xr c 3) 62 = iprop(∃ f, pt (xr c 3) cc0_scratch7 Finset.univ f) from rfl, hset]
  · intro fd
    rw [payN_62 I _ c, landed (c := c) (xr c 3) fd (KST I (xr c 3)), hset]
    intro x
    obtain ⟨x0, x1, x2, rfl⟩ : ∃ x0 x1 x2, x = ix3 x0 x1 x2 := ⟨x 0, x 1, x 2, eq_ix3 x⟩
    show KST I (xr c 3) (ix3 x0 x1 x2) = I.k c ((Rect.unit (s := S2x128x2048) offS S2x128x256.size inbS).emb (ix3 x0 x1 x2))
    rw [col_emb (xr c 2) hS]
    show I.k (xr (xr c 3) 3) (ix3 x0 x1 (col (xr (xr c 3) 1) x2)) = _
    rw [xr33, xr31]

/-- A copy of a block of V to the device that passes it on. -/
theorem send_vst  (l : List Ent) {c' : Dev nD} {offS inbS hsc} {sS sem : DmaSem sig} {hsrc hdst hsem}
    {k : PUnit → Prog (TpuEff nD τ sig (Elt F) Λ₀ .tc) α}
    (hc : c' = xr c 3) (hS : offS = ![0, 0, 256 * (xr c 2).val])
    (hsm : (SemLoc.dma sem : SemLoc sig) = semOf (63)) (hsS : (SemLoc.dma sS : SemLoc sig) = semOf (16)) :
    iprop(Ctx I κ ∗ pt c cc0_stg3_0 (colS (xr c 2).val) (I.v c) ∗ Due c ((xr c 3, 63, 16) :: l))
      ⊢ iprop(((Wt c (16) ∗ Due c l) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (srcCol (Memref.whole cc0_stg3_0) offS inbS) (.remote (Dev.tc c') (Memref.whole cc0_scratch8) (.dma sS) hsc) (.dma sem) hsrc hdst hsem) k) Q) := by
  have hsetS : ((srcCol (Memref.whole cc0_stg3_0) offS inbS)).view.set = colS (xr c 2).val := (View.set_slice_whole _ _).trans (col_set _ hS)
  have hset : ((Memref.whole cc0_scratch8)).view.set = Finset.univ := View.set_whole _
  have hP : payN I c (16) c = (((srcCol (Memref.whole cc0_stg3_0) offS inbS)).view.loc (c : Thread nD τ) ↦[((srcCol (Memref.whole cc0_stg3_0) offS inbS)).view.set]{fullShare} (I.v c)) := by
    rw [payN_v I c c (j := 2) (by omega), hsetS]
  rw [show pt c cc0_stg3_0 (colS (xr c 2).val) (I.v c) = payN I c (16) c from (payN_v I c c (j := 2) (by omega)).symm]
  refine step_send I κ c (xr c 3) c' (63) (16) l (fullShare) (I.v c) hc (scoped_mem (by omega)) (scoped_mem (by omega)) (by omega)
    (lvN_send (by omega)) (by rw [totN_eq (by omega), amtN_k (by omega), amtN_s (by omega)]) (by rw [amtN_k (by omega), amtN_s (by omega)]) hsm hsS
    (by rw [amtN_s (by omega)]; rfl) hP ?_ ?_
  · rw [show dstN (F := F) (xr c 3) 63 = iprop(∃ f, pt (xr c 3) cc0_scratch8 Finset.univ f) from rfl, hset]
  · intro fd
    rw [payN_63 I _ c, landed (c := c) (xr c 3) fd (VST I (xr c 3)), hset]
    intro x
    obtain ⟨x0, x1, x2, rfl⟩ : ∃ x0 x1 x2, x = ix3 x0 x1 x2 := ⟨x 0, x 1, x 2, eq_ix3 x⟩
    show VST I (xr c 3) (ix3 x0 x1 x2) = I.v c ((Rect.unit (s := S2x128x2048) offS S2x128x256.size inbS).emb (ix3 x0 x1 x2))
    rw [col_emb (xr c 2) hS]
    show I.v (xr (xr c 3) 3) (ix3 x0 x1 (col (xr (xr c 3) 1) x2)) = _
    rw [xr33, xr31]

/-- A block of K passed on. -/
theorem relay_k (ho : c.val % 2 = 1) (l : List Ent) {c' : Dev nD} {offD inbD hsc} {sS sem : DmaSem sig} {hsrc hdst hsem}
    {k : PUnit → Prog (TpuEff nD τ sig (Elt F) Λ₀ .tc) α}
    (hc : c' = xr c 1) (hD : offD = ![(xr c 3).val / 2, 0, 0, 0])
    (hsm : (SemLoc.dma sem : SemLoc sig) = semOf (22 + (xr c 3).val / 2)) (hsS : (SemLoc.dma sS : SemLoc sig) = semOf (64)) :
    iprop(Ctx I κ ∗ pt c cc0_scratch7 Finset.univ (KST I c) ∗ Due c ((xr c 1, 22 + (xr c 3).val / 2, 64) :: l))
      ⊢ iprop(((Wt c (64) ∗ Due c l) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (Memref.whole cc0_scratch7) (.remote (Dev.tc c') (dstK (Memref.whole cc0_scratch0) offD inbD) (.dma sS) hsc) (.dma sem) hsrc hdst hsem) k) Q) := by
  have hm : (xr c 3).val / 2 < 4 := by have := (xr c 3).isLt; change (xr c 3).val < 8 at this; omega
  have hsetS : ((Memref.whole cc0_scratch7)).view.set = Finset.univ := View.set_whole _
  have hset : ((dstK (Memref.whole cc0_scratch0) offD inbD)).view.set = slotK ((xr c 3).val / 2) := (View.set_reshape _ _).trans ((View.set_slice_whole _ _).trans (slotK_set _ hD))
  have hP : payN I c (64) c = (((Memref.whole cc0_scratch7)).view.loc (c : Thread nD τ) ↦[((Memref.whole cc0_scratch7)).view.set]{fullShare} (KST I c)) := by
    rw [payN_64 I c c, hsetS]
  rw [show pt c cc0_scratch7 Finset.univ (KST I c) = payN I c (64) c from (payN_64 I c c).symm]
  refine step_send I κ c (xr c 1) c' (22 + (xr c 3).val / 2) (64) l (fullShare) (KST I c) hc (scoped_mem (by omega)) (scoped_mem (by omega)) (by omega)
    (lvN_send (by omega)) (by rw [totN_eq (by omega), amtN_s (by omega), amtN_k (by omega)]) (by rw [amtN_s (by omega), amtN_k (by omega)]) hsm hsS
    (by rw [amtN_k (by omega)]; rfl) hP ?_ ?_
  · rw [dstN_kb _ hm, hset]
  · intro fd
    rw [payN_kb I _ c hm, landed (c := c) (xr c 1) fd (KB I (xr c 1)), hset]
    intro x
    obtain ⟨x0, x1, x2, rfl⟩ : ∃ x0 x1 x2, x = ix3 x0 x1 x2 := ⟨x 0, x 1, x 2, eq_ix3 x⟩
    show KB I (xr c 1) ((Rect.unit (s := S4x2x128x256) offD S1x2x128x256.size inbD).emb (Shape.reshapeEquiv _ (ix3 x0 x1 x2))) = KST I c (ix3 x0 x1 x2)
    rw [slotK_emb ⟨(xr c 3).val / 2, hm⟩ hD]
    show I.k (dv (2 * ((xr c 3).val / 2))) _ = _
    rw [xr3_even c ho]; rfl

/-- A block of V passed on. -/
theorem relay_v (ho : c.val % 2 = 1) (l : List Ent) {c' : Dev nD} {offD inbD hsc} {sS sem : DmaSem sig} {hsrc hdst hsem}
    {k : PUnit → Prog (TpuEff nD τ sig (Elt F) Λ₀ .tc) α}
    (hc : c' = xr c 1) (hD : offD = ![(xr c 3).val / 2, 0, 0, 0])
    (hsm : (SemLoc.dma sem : SemLoc sig) = semOf (26 + (xr c 3).val / 2)) (hsS : (SemLoc.dma sS : SemLoc sig) = semOf (65)) :
    iprop(Ctx I κ ∗ pt c cc0_scratch8 Finset.univ (VST I c) ∗ Due c ((xr c 1, 26 + (xr c 3).val / 2, 65) :: l))
      ⊢ iprop(((Wt c (65) ∗ Due c l) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (Memref.whole cc0_scratch8) (.remote (Dev.tc c') (dstK (Memref.whole cc0_scratch1) offD inbD) (.dma sS) hsc) (.dma sem) hsrc hdst hsem) k) Q) := by
  have hm : (xr c 3).val / 2 < 4 := by have := (xr c 3).isLt; change (xr c 3).val < 8 at this; omega
  have hsetS : ((Memref.whole cc0_scratch8)).view.set = Finset.univ := View.set_whole _
  have hset : ((dstK (Memref.whole cc0_scratch1) offD inbD)).view.set = slotK ((xr c 3).val / 2) := (View.set_reshape _ _).trans ((View.set_slice_whole _ _).trans (slotK_set _ hD))
  have hP : payN I c (65) c = (((Memref.whole cc0_scratch8)).view.loc (c : Thread nD τ) ↦[((Memref.whole cc0_scratch8)).view.set]{fullShare} (VST I c)) := by
    rw [payN_65 I c c, hsetS]
  rw [show pt c cc0_scratch8 Finset.univ (VST I c) = payN I c (65) c from (payN_65 I c c).symm]
  refine step_send I κ c (xr c 1) c' (26 + (xr c 3).val / 2) (65) l (fullShare) (VST I c) hc (scoped_mem (by omega)) (scoped_mem (by omega)) (by omega)
    (lvN_send (by omega)) (by rw [totN_eq (by omega), amtN_s (by omega), amtN_k (by omega)]) (by rw [amtN_s (by omega), amtN_k (by omega)]) hsm hsS
    (by rw [amtN_k (by omega)]; rfl) hP ?_ ?_
  · rw [dstN_vb _ hm, hset]
  · intro fd
    rw [payN_vb I _ c hm, landed (c := c) (xr c 1) fd (VB I (xr c 1)), hset]
    intro x
    obtain ⟨x0, x1, x2, rfl⟩ : ∃ x0 x1 x2, x = ix3 x0 x1 x2 := ⟨x 0, x 1, x 2, eq_ix3 x⟩
    show VB I (xr c 1) ((Rect.unit (s := S4x2x128x256) offD S1x2x128x256.size inbD).emb (Shape.reshapeEquiv _ (ix3 x0 x1 x2))) = VST I c (ix3 x0 x1 x2)
    rw [slotK_emb ⟨(xr c 3).val / 2, hm⟩ hD]
    show I.v (dv (2 * ((xr c 3).val / 2))) _ = _
    rw [xr3_even c ho]; rfl

/-- A copy of a row block of the partial result. -/
theorem send_rs (j : ℕ) (hj : j < 8) (l : List Ent) {c' : Dev nD} {offS inbS offD inbD hsc} {sS sem : DmaSem sig} {hsrc hdst hsem}
    {k : PUnit → Prog (TpuEff nD τ sig (Elt F) Λ₀ .tc) α}
    (hc : c' = dv j) (hS : offS = ![0, 16 * j, 0]) (hD : offD = ![c.val, 0, 0, 0])
    (hsm : (SemLoc.dma sem : SemLoc sig) = semOf (38 + c.val)) (hsS : (SemLoc.dma sS : SemLoc sig) = semOf (30 + j)) :
    iprop(Ctx I κ ∗ pt c cc0_scratch3 (rowS j) (P16 I c) ∗ Due c ((dv j, 38 + c.val, 30 + j) :: l))
      ⊢ iprop(((Wt c (30 + j) ∗ Due c l) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (srcRow (Memref.whole cc0_scratch3) offS inbS) (.remote (Dev.tc c') (dstR (Memref.whole cc0_scratch4) offD inbD) (.dma sS) hsc) (.dma sem) hsrc hdst hsem) k) Q) := by
  have hm : c.val < 8 := c.isLt
  have hsetS : ((srcRow (Memref.whole cc0_scratch3) offS inbS)).view.set = rowS j := (View.set_slice_whole _ _).trans (row_set _ hS)
  have hset : ((dstR (Memref.whole cc0_scratch4) offD inbD)).view.set = slotR c.val := (View.set_reshape _ _).trans ((View.set_slice_whole _ _).trans (slotR_set _ hD))
  have hP : payN I c (30 + j) c = (((srcRow (Memref.whole cc0_scratch3) offS inbS)).view.loc (c : Thread nD τ) ↦[((srcRow (Memref.whole cc0_scratch3) offS inbS)).view.set]{fullShare} (P16 I c)) := by
    rw [payN_p16 I c c hj, hsetS]
  rw [show pt c cc0_scratch3 (rowS j) (P16 I c) = payN I c (30 + j) c from (payN_p16 I c c hj).symm]
  refine step_send I κ c (dv j) c' (38 + c.val) (30 + j) l (fullShare) (P16 I c) hc (scoped_mem (by omega)) (scoped_mem (by omega)) (by omega)
    (lvN_send (by omega)) (by rw [totN_eq (by omega), amtN_r (by omega), amtN_r (by omega)]) (by rw [amtN_r (by omega), amtN_r (by omega)]) hsm hsS
    (by rw [amtN_r (by omega)]; rfl) hP ?_ ?_
  · rw [dstN_rsb _ hm, hset]
  · intro fd
    rw [payN_rsb I _ c hm, landed (c := c) (dv j) fd (RSB I (dv j)), hset]
    intro x
    obtain ⟨x0, x1, x2, rfl⟩ : ∃ x0 x1 x2, x = ix3 x0 x1 x2 := ⟨x 0, x 1, x 2, eq_ix3 x⟩
    show RSB I (dv j) ((Rect.unit (s := S8x2x16x512) offD S1x2x16x512.size inbD).emb (Shape.reshapeEquiv _ (ix3 x0 x1 x2)))
      = P16 I c ((Rect.unit (s := S2x128x512) offS S2x16x512.size inbS).emb (ix3 x0 x1 x2))
    rw [slotR_emb c hD, row_emb (dv j) (by rw [hS, show (dv j).val = j from Nat.mod_eq_of_lt hj])]
    show P16 I (dv c.val) _ = _
    rw [dv_fin c]

/-- A copy of the row block's sum. -/
theorem send_ag (j : ℕ) (hj : j < 8) (l : List Ent) {c' : Dev nD} {offD inbD hsc} {sS sem : DmaSem sig} {hsrc hdst hsem}
    {k : PUnit → Prog (TpuEff nD τ sig (Elt F) Λ₀ .tc) α}
    (hc : c' = ad c j) (hD : offD = ![c.val, 0, 0, 0])
    (hsm : (SemLoc.dma sem : SemLoc sig) = semOf (54 + c.val)) (hsS : (SemLoc.dma sS : SemLoc sig) = semOf (46 + j)) :
    iprop(Ctx I κ ∗ (((c : Thread nD τ).loc cc0_scratch5) ↦[Finset.univ]{qAt j} (AG I c)) ∗ Due c ((ad c j, 54 + c.val, 46 + j) :: l))
      ⊢ iprop(((Wt c (46 + j) ∗ Due c l) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (Memref.whole cc0_scratch5) (.remote (Dev.tc c') (dstR (Memref.whole cc0_scratch6) offD inbD) (.dma sS) hsc) (.dma sem) hsrc hdst hsem) k) Q) := by
  have hm : c.val < 8 := c.isLt
  have hsetS : ((Memref.whole cc0_scratch5)).view.set = Finset.univ := View.set_whole _
  have hset : ((dstR (Memref.whole cc0_scratch6) offD inbD)).view.set = slotR c.val := (View.set_reshape _ _).trans ((View.set_slice_whole _ _).trans (slotR_set _ hD))
  have hP : payN I c (46 + j) c = (((Memref.whole cc0_scratch5)).view.loc (c : Thread nD τ) ↦[((Memref.whole cc0_scratch5)).view.set]{qAt j} (AG I c)) := by
    rw [payN_ag I c c hj, hsetS]
  rw [show (((c : Thread nD τ).loc cc0_scratch5) ↦[Finset.univ]{qAt j} (AG I c)) = payN I c (46 + j) c from (payN_ag I c c hj).symm]
  refine step_send I κ c (ad c j) c' (54 + c.val) (46 + j) l (qAt j) (AG I c) hc (scoped_mem (by omega)) (scoped_mem (by omega)) (by omega)
    (lvN_send (by omega)) (by rw [totN_eq (by omega), amtN_r (by omega), amtN_r (by omega)]) (by rw [amtN_r (by omega), amtN_r (by omega)]) hsm hsS
    (by rw [amtN_r (by omega)]; rfl) hP ?_ ?_
  · rw [dstN_agb _ hm, hset]
  · intro fd
    rw [payN_agb I _ c hm, landed (c := c) (ad c j) fd (AGB I), hset]
    intro x
    obtain ⟨x0, x1, x2, rfl⟩ : ∃ x0 x1 x2, x = ix3 x0 x1 x2 := ⟨x 0, x 1, x 2, eq_ix3 x⟩
    show AGB I ((Rect.unit (s := S8x2x16x512) offD S1x2x16x512.size inbD).emb (Shape.reshapeEquiv _ (ix3 x0 x1 x2))) = AG I c (ix3 x0 x1 x2)
    rw [slotR_emb c hD]
    show AG I (dv c.val) _ = _
    rw [dv_fin c]

/-- A wait on a cell that one copy credits: what the copy brings is the waiter's. -/
theorem wait_one (n : ℕ) (l : List Ent) {R : sProp 𝕄} {sp sp' : Space} {s s' : Shape} {e e' : EltTy} {sem : DmaSem sig}
    {src : Memref sig .tc sp' s' e'} {κ' : Kind} {dst : Memref sig κ' sp s e} {hsrc : src.view.WordExact} {hdst : dst.view.WordExact}
    {k : PUnit → Prog (TpuEff nD τ sig (Elt F) Λ₀ .tc) α}
    (hsm : (SemLoc.dma sem : SemLoc sig) = semOf n) (hn : 6 ≤ n ∧ n < 66) (hN : dst.view.dmaCredit = amtN n) (hp : (payers c n).card = 1)
    (hR : ∀ p, payN I c n p = R) (hl : ∀ e ∈ l, lvN n < lvN e.2.1) :
    iprop(Ctx I κ ∗ Wt c n ∗ Due c l)
      ⊢ iprop(((Due c l ∗ Don c n ∗ R) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sem src dst hsrc hdst) k) Q) := by
  obtain ⟨p, hp'⟩ := Finset.card_eq_one.mp hp
  have h := step_wait' (Q := Q) (k := k) I κ c n l (w := .waitDma2 sem src dst hsrc hdst) (k' := dst.view.dmaCredit) (fun K => by rw [← hsm]; rfl)
    (List.mem_cons_of_mem _ (scoped_mem ⟨hn.1, by omega⟩)) (by rw [hN, totN_eq (by omega)]) (by rw [hp, totN_eq (by omega), Nat.one_mul]) hl
  rw [hp', bigSep_singleton, hR p] at h
  unfold Due
  iintro ⟨#HC, HW, H1, H2, H3⟩ Hk
  iapply h $$ [HW H2]
  · isplitr; · iapply (Ctx_base I κ); iexact HC
    isplitl [HW]; · iexact HW
    iexact H2
  iintro ⟨H2, HD, HR⟩
  iapply Hk
  isplitr [HD HR]
  · isplitl [H1]; · iexact H1
    isplitl [H2]; · iexact H2
    iexact H3
  isplitl [HD]; · iexact HD
  iexact HR

end Sends

end Cert.KernelIdeal.Hand

end
-- ==== Proof.Facts.lean ====
/-
  Where the printed offsets, devices and conditions of the kernel's body lie, device by device.
-/
module

public import proofs.«01_k».proof.Proof.Geo

@[expose] public section

set_option maxRecDepth 16384

noncomputable section

namespace Cert.KernelIdeal.Hand

open Idealize.ShloMosaic Idealize.ShloMosaic.TcCoe
open Cert.KernelIdeal Cert.KernelIdeal.Gen

/-! ## Devices -/

theorem dev1_ad (c : Dev nD) : (⟨k0_dev1 c, k0_dev1_lt c⟩ : Dev nD) = ad c 1 := by revert c; decide +kernel
theorem dev34_ad (c : Dev nD) : (⟨k0_dev34 c, k0_dev34_lt c⟩ : Dev nD) = ad c 1 := by revert c; decide +kernel
theorem dev41_ad (c : Dev nD) : (⟨k0_dev41 c, k0_dev41_lt c⟩ : Dev nD) = ad c 1 := by revert c; decide +kernel
theorem dev2_ad (c : Dev nD) : (⟨k0_dev2 c, k0_dev2_lt c⟩ : Dev nD) = ad c 2 := by revert c; decide +kernel
theorem dev35_ad (c : Dev nD) : (⟨k0_dev35 c, k0_dev35_lt c⟩ : Dev nD) = ad c 2 := by revert c; decide +kernel
theorem dev42_ad (c : Dev nD) : (⟨k0_dev42 c, k0_dev42_lt c⟩ : Dev nD) = ad c 2 := by revert c; decide +kernel
theorem dev3_ad (c : Dev nD) : (⟨k0_dev3 c, k0_dev3_lt c⟩ : Dev nD) = ad c 3 := by revert c; decide +kernel
theorem dev36_ad (c : Dev nD) : (⟨k0_dev36 c, k0_dev36_lt c⟩ : Dev nD) = ad c 3 := by revert c; decide +kernel
theorem dev43_ad (c : Dev nD) : (⟨k0_dev43 c, k0_dev43_lt c⟩ : Dev nD) = ad c 3 := by revert c; decide +kernel
theorem dev4_ad (c : Dev nD) : (⟨k0_dev4 c, k0_dev4_lt c⟩ : Dev nD) = ad c 4 := by revert c; decide +kernel
theorem dev37_ad (c : Dev nD) : (⟨k0_dev37 c, k0_dev37_lt c⟩ : Dev nD) = ad c 4 := by revert c; decide +kernel
theorem dev44_ad (c : Dev nD) : (⟨k0_dev44 c, k0_dev44_lt c⟩ : Dev nD) = ad c 4 := by revert c; decide +kernel
theorem dev5_ad (c : Dev nD) : (⟨k0_dev5 c, k0_dev5_lt c⟩ : Dev nD) = ad c 5 := by revert c; decide +kernel
theorem dev38_ad (c : Dev nD) : (⟨k0_dev38 c, k0_dev38_lt c⟩ : Dev nD) = ad c 5 := by revert c; decide +kernel
theorem dev45_ad (c : Dev nD) : (⟨k0_dev45 c, k0_dev45_lt c⟩ : Dev nD) = ad c 5 := by revert c; decide +kernel
theorem dev6_ad (c : Dev nD) : (⟨k0_dev6 c, k0_dev6_lt c⟩ : Dev nD) = ad c 6 := by revert c; decide +kernel
theorem dev39_ad (c : Dev nD) : (⟨k0_dev39 c, k0_dev39_lt c⟩ : Dev nD) = ad c 6 := by revert c; decide +kernel
theorem dev46_ad (c : Dev nD) : (⟨k0_dev46 c, k0_dev46_lt c⟩ : Dev nD) = ad c 6 := by revert c; decide +kernel
theorem dev7_ad (c : Dev nD) : (⟨k0_dev7 c, k0_dev7_lt c⟩ : Dev nD) = ad c 7 := by revert c; decide +kernel
theorem dev40_ad (c : Dev nD) : (⟨k0_dev40 c, k0_dev40_lt c⟩ : Dev nD) = ad c 7 := by revert c; decide +kernel
theorem dev47_ad (c : Dev nD) : (⟨k0_dev47 c, k0_dev47_lt c⟩ : Dev nD) = ad c 7 := by revert c; decide +kernel
theorem dev8_xr (c : Dev nD) (h : k0_cond1 c = 1#1) : (⟨k0_dev8 c, k0_dev8_lt c h⟩ : Dev nD) = xr c 0 :=
  Fin.ext ((by decide +kernel : ∀ c : Dev nD, k0_dev8 c = (xr c 0).val) c)
theorem dev16_xr (c : Dev nD) (h : k0_cond1 c = 1#1) : (⟨k0_dev16 c, k0_dev16_lt c h⟩ : Dev nD) = xr c 0 :=
  Fin.ext ((by decide +kernel : ∀ c : Dev nD, k0_dev16 c = (xr c 0).val) c)
theorem dev9_xr (c : Dev nD) (h : k0_cond1 c = 1#1) : (⟨k0_dev9 c, k0_dev9_lt c h⟩ : Dev nD) = xr c 1 :=
  Fin.ext ((by decide +kernel : ∀ c : Dev nD, k0_dev9 c = (xr c 1).val) c)
theorem dev17_xr (c : Dev nD) (h : k0_cond1 c = 1#1) : (⟨k0_dev17 c, k0_dev17_lt c h⟩ : Dev nD) = xr c 1 :=
  Fin.ext ((by decide +kernel : ∀ c : Dev nD, k0_dev17 c = (xr c 1).val) c)
theorem dev10_xr (c : Dev nD) (h : k0_cond1 c = 1#1) : (⟨k0_dev10 c, k0_dev10_lt c h⟩ : Dev nD) = xr c 3 :=
  Fin.ext ((by decide +kernel : ∀ c : Dev nD, k0_dev10 c = (xr c 3).val) c)
theorem dev18_xr (c : Dev nD) (h : k0_cond1 c = 1#1) : (⟨k0_dev18 c, k0_dev18_lt c h⟩ : Dev nD) = xr c 3 :=
  Fin.ext ((by decide +kernel : ∀ c : Dev nD, k0_dev18 c = (xr c 3).val) c)
theorem dev11_xr (c : Dev nD) (h : k0_cond1 c = 1#1) : (⟨k0_dev11 c, k0_dev11_lt c h⟩ : Dev nD) = xr c 3 :=
  Fin.ext ((by decide +kernel : ∀ c : Dev nD, k0_dev11 c = (xr c 3).val) c)
theorem dev19_xr (c : Dev nD) (h : k0_cond1 c = 1#1) : (⟨k0_dev19 c, k0_dev19_lt c h⟩ : Dev nD) = xr c 3 :=
  Fin.ext ((by decide +kernel : ∀ c : Dev nD, k0_dev19 c = (xr c 3).val) c)
theorem dev12_xr (c : Dev nD) (h : k0_cond1 c = 1#1) : (⟨k0_dev12 c, k0_dev12_lt c h⟩ : Dev nD) = xr c 4 :=
  Fin.ext ((by decide +kernel : ∀ c : Dev nD, k0_dev12 c = (xr c 4).val) c)
theorem dev20_xr (c : Dev nD) (h : k0_cond1 c = 1#1) : (⟨k0_dev20 c, k0_dev20_lt c h⟩ : Dev nD) = xr c 4 :=
  Fin.ext ((by decide +kernel : ∀ c : Dev nD, k0_dev20 c = (xr c 4).val) c)
theorem dev13_xr (c : Dev nD) (h : k0_cond1 c = 1#1) : (⟨k0_dev13 c, k0_dev13_lt c h⟩ : Dev nD) = xr c 5 :=
  Fin.ext ((by decide +kernel : ∀ c : Dev nD, k0_dev13 c = (xr c 5).val) c)
theorem dev21_xr (c : Dev nD) (h : k0_cond1 c = 1#1) : (⟨k0_dev21 c, k0_dev21_lt c h⟩ : Dev nD) = xr c 5 :=
  Fin.ext ((by decide +kernel : ∀ c : Dev nD, k0_dev21 c = (xr c 5).val) c)
theorem dev14_xr (c : Dev nD) (h : k0_cond1 c = 1#1) : (⟨k0_dev14 c, k0_dev14_lt c h⟩ : Dev nD) = xr c 6 :=
  Fin.ext ((by decide +kernel : ∀ c : Dev nD, k0_dev14 c = (xr c 6).val) c)
theorem dev22_xr (c : Dev nD) (h : k0_cond1 c = 1#1) : (⟨k0_dev22 c, k0_dev22_lt c h⟩ : Dev nD) = xr c 6 :=
  Fin.ext ((by decide +kernel : ∀ c : Dev nD, k0_dev22 c = (xr c 6).val) c)
theorem dev15_xr (c : Dev nD) (h : k0_cond1 c = 1#1) : (⟨k0_dev15 c, k0_dev15_lt c h⟩ : Dev nD) = xr c 7 :=
  Fin.ext ((by decide +kernel : ∀ c : Dev nD, k0_dev15 c = (xr c 7).val) c)
theorem dev23_xr (c : Dev nD) (h : k0_cond1 c = 1#1) : (⟨k0_dev23 c, k0_dev23_lt c h⟩ : Dev nD) = xr c 7 :=
  Fin.ext ((by decide +kernel : ∀ c : Dev nD, k0_dev23 c = (xr c 7).val) c)
theorem dev24_xr (c : Dev nD) (h : k0_cond2 c = 1#1) : (⟨k0_dev24 c, k0_dev24_lt c h⟩ : Dev nD) = xr c 1 :=
  Fin.ext ((by decide +kernel : ∀ c : Dev nD, k0_dev24 c = (xr c 1).val) c)
theorem dev25_xr (c : Dev nD) (h : k0_cond2 c = 1#1) : (⟨k0_dev25 c, k0_dev25_lt c h⟩ : Dev nD) = xr c 1 :=
  Fin.ext ((by decide +kernel : ∀ c : Dev nD, k0_dev25 c = (xr c 1).val) c)
theorem dev26_dv (c : Dev nD) (h : k0_cond3 c = 1#1) : (⟨k0_dev26, k0_dev26_lt c h⟩ : Dev nD) = dv 0 := rfl
theorem dev27_dv (c : Dev nD) (h : k0_cond4 c = 1#1) : (⟨k0_dev27, k0_dev27_lt c h⟩ : Dev nD) = dv 1 := rfl
theorem dev28_dv (c : Dev nD) (h : k0_cond5 c = 1#1) : (⟨k0_dev28, k0_dev28_lt c h⟩ : Dev nD) = dv 2 := rfl
theorem dev29_dv (c : Dev nD) (h : k0_cond6 c = 1#1) : (⟨k0_dev29, k0_dev29_lt c h⟩ : Dev nD) = dv 3 := rfl
theorem dev30_dv (c : Dev nD) (h : k0_cond7 c = 1#1) : (⟨k0_dev30, k0_dev30_lt c h⟩ : Dev nD) = dv 4 := rfl
theorem dev31_dv (c : Dev nD) (h : k0_cond8 c = 1#1) : (⟨k0_dev31, k0_dev31_lt c h⟩ : Dev nD) = dv 5 := rfl
theorem dev32_dv (c : Dev nD) (h : k0_cond9 c = 1#1) : (⟨k0_dev32, k0_dev32_lt c h⟩ : Dev nD) = dv 6 := rfl
theorem dev33_dv (c : Dev nD) (h : k0_cond10 c = 1#1) : (⟨k0_dev33, k0_dev33_lt c h⟩ : Dev nD) = dv 7 := rfl

/-! ## Conditions -/

theorem cond1_iff (c : Dev nD) : k0_cond1 c = 1#1 ↔ c.val % 2 = 0 := by revert c; decide +kernel
theorem cond2_iff (c : Dev nD) : k0_cond2 c = 1#1 ↔ c.val % 2 = 1 := by revert c; decide +kernel
theorem cond3_iff (c : Dev nD) : k0_cond3 c = 1#1 ↔ dv 0 ≠ c := by revert c; decide +kernel
theorem cond4_iff (c : Dev nD) : k0_cond4 c = 1#1 ↔ dv 1 ≠ c := by revert c; decide +kernel
theorem cond5_iff (c : Dev nD) : k0_cond5 c = 1#1 ↔ dv 2 ≠ c := by revert c; decide +kernel
theorem cond6_iff (c : Dev nD) : k0_cond6 c = 1#1 ↔ dv 3 ≠ c := by revert c; decide +kernel
theorem cond7_iff (c : Dev nD) : k0_cond7 c = 1#1 ↔ dv 4 ≠ c := by revert c; decide +kernel
theorem cond8_iff (c : Dev nD) : k0_cond8 c = 1#1 ↔ dv 5 ≠ c := by revert c; decide +kernel
theorem cond9_iff (c : Dev nD) : k0_cond9 c = 1#1 ↔ dv 6 ≠ c := by revert c; decide +kernel
theorem cond10_iff (c : Dev nD) : k0_cond10 c = 1#1 ↔ dv 7 ≠ c := by revert c; decide +kernel

/-! ## Offsets -/

theorem off1_half (c : Dev nD) : k0_off1 c = ![c.val / 2] := by revert c; decide +kernel
theorem off2_half (c : Dev nD) : k0_off2 c = ![c.val / 2, 0, 0, 0] := by revert c; decide +kernel
theorem off3_col (c : Dev nD) : k0_off3 c = ![0, 0, 256 * (xr c 0).val] := by revert c; decide +kernel
theorem off5_half (c : Dev nD) (h : c.val % 2 = 1) : k0_off5 c = ![(xr c 3).val / 2] := by revert c; decide +kernel
theorem off6_half (c : Dev nD) (h : c.val % 2 = 1) : k0_off6 c = ![(xr c 3).val / 2, 0, 0, 0] := by revert c; decide +kernel
theorem off4_1 (c : Dev nD) : k0_off4 c 1#32 = ![0, 0, 256 * (xr c 1).val] := by revert c; decide +kernel
theorem off4_2 (c : Dev nD) : k0_off4 c 2#32 = ![0, 0, 256 * (xr c 2).val] := by revert c; decide +kernel
theorem off4_3 (c : Dev nD) : k0_off4 c 3#32 = ![0, 0, 256 * (xr c 3).val] := by revert c; decide +kernel
theorem off4_4 (c : Dev nD) : k0_off4 c 4#32 = ![0, 0, 256 * (xr c 4).val] := by revert c; decide +kernel
theorem off4_5 (c : Dev nD) : k0_off4 c 5#32 = ![0, 0, 256 * (xr c 5).val] := by revert c; decide +kernel
theorem off4_6 (c : Dev nD) : k0_off4 c 6#32 = ![0, 0, 256 * (xr c 6).val] := by revert c; decide +kernel
theorem off4_7 (c : Dev nD) : k0_off4 c 7#32 = ![0, 0, 256 * (xr c 7).val] := by revert c; decide +kernel
theorem off7_c (c : Dev nD) : k0_off7 c = ![c.val] := by revert c; decide +kernel
theorem off8_c (c : Dev nD) : k0_off8 c = ![c.val, 0, 0, 0] := by revert c; decide +kernel
theorem off9_c (c : Dev nD) : k0_off9 c = ![c.val] := by revert c; decide +kernel
theorem off10_c (c : Dev nD) : k0_off10 c = ![c.val, 0, 0, 0] := by revert c; decide +kernel
theorem off11_c (c : Dev nD) : k0_off11 c = ![c.val] := by revert c; decide +kernel
theorem off12_c (c : Dev nD) : k0_off12 c = ![c.val, 0, 0, 0] := by revert c; decide +kernel
theorem off13_c (c : Dev nD) : k0_off13 c = ![c.val] := by revert c; decide +kernel
theorem off14_c (c : Dev nD) : k0_off14 c = ![c.val, 0, 0, 0] := by revert c; decide +kernel
theorem off15_c (c : Dev nD) : k0_off15 c = ![c.val] := by revert c; decide +kernel
theorem off16_c (c : Dev nD) : k0_off16 c = ![c.val, 0, 0, 0] := by revert c; decide +kernel
theorem off17_c (c : Dev nD) : k0_off17 c = ![c.val] := by revert c; decide +kernel
theorem off18_c (c : Dev nD) : k0_off18 c = ![c.val, 0, 0, 0] := by revert c; decide +kernel
theorem off19_c (c : Dev nD) : k0_off19 c = ![c.val] := by revert c; decide +kernel
theorem off20_c (c : Dev nD) : k0_off20 c = ![c.val, 0, 0, 0] := by revert c; decide +kernel
theorem off21_c (c : Dev nD) : k0_off21 c = ![c.val] := by revert c; decide +kernel
theorem off22_c (c : Dev nD) : k0_off22 c = ![c.val, 0, 0, 0] := by revert c; decide +kernel
theorem off23_1 (c : Dev nD) : k0_off23 c 1#32 = ![(ad c 1).val] := by revert c; decide +kernel
theorem off24_1 (c : Dev nD) : k0_off24 c 1#32 = ![(ad c 1).val, 0, 0, 0] := by revert c; decide +kernel
theorem off26_1 (c : Dev nD) : k0_off26 c 1#32 = ![(ad c 1).val, 0, 0, 0] := by revert c; decide +kernel
theorem off29_1 (c : Dev nD) : k0_off29 c 1#32 = ![0, 16 * (ad c 1).val, 0] := by revert c; decide +kernel
theorem off23_2 (c : Dev nD) : k0_off23 c 2#32 = ![(ad c 2).val] := by revert c; decide +kernel
theorem off24_2 (c : Dev nD) : k0_off24 c 2#32 = ![(ad c 2).val, 0, 0, 0] := by revert c; decide +kernel
theorem off26_2 (c : Dev nD) : k0_off26 c 2#32 = ![(ad c 2).val, 0, 0, 0] := by revert c; decide +kernel
theorem off29_2 (c : Dev nD) : k0_off29 c 2#32 = ![0, 16 * (ad c 2).val, 0] := by revert c; decide +kernel
theorem off23_3 (c : Dev nD) : k0_off23 c 3#32 = ![(ad c 3).val] := by revert c; decide +kernel
theorem off24_3 (c : Dev nD) : k0_off24 c 3#32 = ![(ad c 3).val, 0, 0, 0] := by revert c; decide +kernel
theorem off26_3 (c : Dev nD) : k0_off26 c 3#32 = ![(ad c 3).val, 0, 0, 0] := by revert c; decide +kernel
theorem off29_3 (c : Dev nD) : k0_off29 c 3#32 = ![0, 16 * (ad c 3).val, 0] := by revert c; decide +kernel
theorem off23_4 (c : Dev nD) : k0_off23 c 4#32 = ![(ad c 4).val] := by revert c; decide +kernel
theorem off24_4 (c : Dev nD) : k0_off24 c 4#32 = ![(ad c 4).val, 0, 0, 0] := by revert c; decide +kernel
theorem off26_4 (c : Dev nD) : k0_off26 c 4#32 = ![(ad c 4).val, 0, 0, 0] := by revert c; decide +kernel
theorem off29_4 (c : Dev nD) : k0_off29 c 4#32 = ![0, 16 * (ad c 4).val, 0] := by revert c; decide +kernel
theorem off23_5 (c : Dev nD) : k0_off23 c 5#32 = ![(ad c 5).val] := by revert c; decide +kernel
theorem off24_5 (c : Dev nD) : k0_off24 c 5#32 = ![(ad c 5).val, 0, 0, 0] := by revert c; decide +kernel
theorem off26_5 (c : Dev nD) : k0_off26 c 5#32 = ![(ad c 5).val, 0, 0, 0] := by revert c; decide +kernel
theorem off29_5 (c : Dev nD) : k0_off29 c 5#32 = ![0, 16 * (ad c 5).val, 0] := by revert c; decide +kernel
theorem off23_6 (c : Dev nD) : k0_off23 c 6#32 = ![(ad c 6).val] := by revert c; decide +kernel
theorem off24_6 (c : Dev nD) : k0_off24 c 6#32 = ![(ad c 6).val, 0, 0, 0] := by revert c; decide +kernel
theorem off26_6 (c : Dev nD) : k0_off26 c 6#32 = ![(ad c 6).val, 0, 0, 0] := by revert c; decide +kernel
theorem off29_6 (c : Dev nD) : k0_off29 c 6#32 = ![0, 16 * (ad c 6).val, 0] := by revert c; decide +kernel
theorem off23_7 (c : Dev nD) : k0_off23 c 7#32 = ![(ad c 7).val] := by revert c; decide +kernel
theorem off24_7 (c : Dev nD) : k0_off24 c 7#32 = ![(ad c 7).val, 0, 0, 0] := by revert c; decide +kernel
theorem off26_7 (c : Dev nD) : k0_off26 c 7#32 = ![(ad c 7).val, 0, 0, 0] := by revert c; decide +kernel
theorem off29_7 (c : Dev nD) : k0_off29 c 7#32 = ![0, 16 * (ad c 7).val, 0] := by revert c; decide +kernel
theorem off25_c (c : Dev nD) : k0_off25 c = ![0, 16 * c.val, 0] := by revert c; decide +kernel
theorem off27_c (c : Dev nD) : k0_off27 c = ![c.val] := by revert c; decide +kernel
theorem off28_c (c : Dev nD) : k0_off28 c = ![c.val, 0, 0, 0] := by revert c; decide +kernel

/-! ## The entries, spelt out -/

theorem kE_eq (c : Dev nD) : kE c = [(xr c 0, 22 + c.val / 2, 6 + 0), (xr c 1, 22 + c.val / 2, 6 + 1), (xr c 3, 62, 8), (xr c 3, 22 + c.val / 2, 6 + 3),
    (xr c 4, 22 + c.val / 2, 6 + 4), (xr c 5, 22 + c.val / 2, 6 + 5), (xr c 6, 22 + c.val / 2, 6 + 6), (xr c 7, 22 + c.val / 2, 6 + 7)] := rfl
theorem vE_eq (c : Dev nD) : vE c = [(xr c 0, 26 + c.val / 2, 14 + 0), (xr c 1, 26 + c.val / 2, 14 + 1), (xr c 3, 63, 16), (xr c 3, 26 + c.val / 2, 14 + 3),
    (xr c 4, 26 + c.val / 2, 14 + 4), (xr c 5, 26 + c.val / 2, 14 + 5), (xr c 6, 26 + c.val / 2, 14 + 6), (xr c 7, 26 + c.val / 2, 14 + 7)] := rfl
theorem agE_eq (c : Dev nD) : agE c = [(ad c 1, 54 + c.val, 46 + 1), (ad c 2, 54 + c.val, 46 + 2), (ad c 3, 54 + c.val, 46 + 3), (ad c 4, 54 + c.val, 46 + 4),
    (ad c 5, 54 + c.val, 46 + 5), (ad c 6, 54 + c.val, 46 + 6), (ad c 7, 54 + c.val, 46 + 7)] := rfl
theorem s2E_eq (c : Dev nD) : s2E c = [(ad c 1, 66, 0), (ad c 2, 66, 0), (ad c 3, 66, 0), (ad c 4, 66, 0), (ad c 5, 66, 0), (ad c 6, 66, 0), (ad c 7, 66, 0)] := rfl
theorem barE_eq (c : Dev nD) : barE c = [(ad c 1, 0, 0), (ad c 2, 0, 0), (ad c 3, 0, 0), (ad c 4, 0, 0), (ad c 5, 0, 0), (ad c 6, 0, 0), (ad c 7, 0, 0)] := rfl
theorem rsF_self (c : Dev nD) (j : ℕ) (l : List ℕ) (h : dv j = c) : rsF c (j :: l) = rsF c l := by
  unfold rsF; rw [List.flatMap_cons, if_pos h, List.nil_append]
theorem rsF_other (c : Dev nD) (j : ℕ) (l : List ℕ) (h : dv j ≠ c) : rsF c (j :: l) = (dv j, 38 + c.val, 30 + j) :: rsF c l := by
  unfold rsF; rw [List.flatMap_cons, if_neg h, List.singleton_append]

/-- The levels of what is left after the barrier, after the sends of K and V, after the partial result's and after the sum's. -/
theorem lv_bar (c : Dev nD) : ∀ e ∈ kvE c ++ (rlE c ++ (rsE c ++ (agE c ++ s2E c))), lvN 0 < lvN e.2.1 := by revert c; decide +kernel
theorem lv_rl (c : Dev nD) : ∀ e ∈ rlE c ++ (rsE c ++ (agE c ++ s2E c)), 2 < lvN e.2.1 := by revert c; decide +kernel
theorem lv_kv (c : Dev nD) : ∀ e ∈ rsE c ++ (agE c ++ s2E c), 3 < lvN e.2.1 := by revert c; decide +kernel
theorem lv_rs (c : Dev nD) : ∀ e ∈ agE c ++ s2E c, 4 < lvN e.2.1 := by revert c; decide +kernel
theorem lv_ag (c : Dev nD) : ∀ e ∈ s2E c, 5 < lvN e.2.1 := by revert c; decide +kernel

end Cert.KernelIdeal.Hand

end
-- ==== Proof.Steps.lean ====
/-
  The rules of the body's loads and stores at the regions it holds, and how a buffer is cut into the regions that are copied.
-/
module

public import proofs.«01_k».proof.Proof.Facts

@[expose] public section

set_option maxRecDepth 16384

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Cutting a buffer along a key -/

section Fibers

variable {ℓ : Loc nD τ sig} {q : PosShare TreeShare}

/-- The places of a buffer at one key. -/
abbrev fib (key : Idx ℓ → ℕ) (m : ℕ) : Finset (Idx ℓ) := Finset.univ.filter fun i => key i = m

/-- The places whose keys are in a list. -/
abbrev fibs (key : Idx ℓ → ℕ) (l : List ℕ) : Finset (Idx ℓ) := Finset.univ.filter fun i => key i ∈ l

theorem fibs_cons (key : Idx ℓ → ℕ) (a : ℕ) (l : List ℕ) : fibs key (a :: l) = fib key a ∪ fibs key l := by
  ext i; simp

theorem fibs_disj (key : Idx ℓ → ℕ) {a : ℕ} {l : List ℕ} (h : a ∉ l) : Disjoint (fib key a) (fibs key l) := by
  rw [Finset.disjoint_left]
  intro i hi hj
  rw [Finset.mem_filter] at hi hj
  exact h (hi.2 ▸ hj.2)

/-- A buffer is its regions, one per key. -/
theorem pt_fibs (key : Idx ℓ → ℕ) (l : List ℕ) (hl : l.Nodup) (f : Buf (Elt F) ℓ) :
    ((ℓ ↦[fibs key l]{q} f) : sProp 𝕄) = bigSepL l fun m => ℓ ↦[fib key m]{q} f := by
  induction l with
  | nil =>
    have : fibs key [] = ∅ := by ext i; simp
    rw [this, pointsTo_empty]; rfl
  | cons a l ih =>
    rw [List.nodup_cons] at hl
    rw [bigSepL_cons', ← ih hl.2, fibs_cons]
    exact eq_of_both (pointsTo_union (fibs_disj key hl.1)).1 (pointsTo_union (fibs_disj key hl.1)).2

theorem pt_fibs_join (key : Idx ℓ → ℕ) (l : List ℕ) (hl : l.Nodup) (f₀ : Buf (Elt F) ℓ) :
    bigSepL l (fun m => iprop(∃ f : Buf (Elt F) ℓ, ℓ ↦[fib key m]{q} f)) ⊢ (iprop(∃ f : Buf (Elt F) ℓ, ℓ ↦[fibs key l]{q} f) : sProp 𝕄) := by
  classical
  induction l with
  | nil =>
    have : fibs key [] = ∅ := by ext i; simp
    rw [this]
    show (iprop(emp) : sProp 𝕄) ⊢ _
    iintro H
    iexists f₀
    rw [pointsTo_empty]
    iexact H
  | cons a l ih =>
    rw [List.nodup_cons] at hl
    rw [bigSepL_cons', fibs_cons]
    iintro ⟨⟨%f, H1⟩, H2⟩
    ihave ⟨%g, H2⟩ := (ih hl.2) $$ H2
    iexists ((fibs key l).piecewise g f)
    iapply (pointsTo_join (fibs_disj key hl.1))
    isplitl [H1]; · iexact H1
    iexact H2

end Fibers

section Rules

variable (c : Dev nD) {α : Type} {Q : α → sProp (MT nD τ sig ℕ (Elt F) ℕ UU ℕ)}

/-- The end of a program. -/
theorem wp_fin (a : α) : Q a ⊢ wp frame (wpE (defs₀ (F := F)) 𝒱₀ (c : Thread nD τ) none) Set.univ (Prog.ret a) Q := by
  rw [wp_ret]; iintro H; imodintro; iexact H

variable {cs : CoreSpace} {s : Shape} {e : EltTy} {m : Memref sig .tc (.core cs) s e}

/-- A load of a region held. -/
theorem ld {r : Rect s} {hl : m.view.LoadsAt r.toLoadRect} {k : (r.shape.Idx → Elt F e) → Prog (TpuEff nD τ sig (Elt F) Λ₀ .tc) α}
    (S : Finset (Idx (m.view.loc (c : Thread nD τ)))) (q : PosShare TreeShare) (f : Buf (Elt F) (m.view.loc (c : Thread nD τ))) (hS : (m.access r).set ⊆ S) :
    (m.view.loc (c : Thread nD τ) ↦[S]{q} f)
      ⊢ iprop(((m.view.loc (c : Thread nD τ) ↦[S]{q} f) -∗ wp frame (wpE (defs₀ (F := F)) 𝒱₀ (c : Thread nD τ) none) Set.univ (k (m.view.readAt (Elt F) r.toLoadRect f)) Q)
        -∗ wp frame (wpE (defs₀ (F := F)) 𝒱₀ (c : Thread nD τ) none) Set.univ (.op (.load m r.toLoadRect hl) k) Q) :=
  wp_load 𝒱₀ (c : Thread nD τ) none Set.univ (by rwa [View.set_slice] at hS)

/-- A load of a buffer held whole. -/
theorem ldw {r : Rect s} {hl : m.view.LoadsAt r.toLoadRect} {k : (r.shape.Idx → Elt F e) → Prog (TpuEff nD τ sig (Elt F) Λ₀ .tc) α}
    (q : PosShare TreeShare) (f : Buf (Elt F) (m.view.loc (c : Thread nD τ))) :
    (m.view.loc (c : Thread nD τ) ↦[Finset.univ]{q} f)
      ⊢ iprop(((m.view.loc (c : Thread nD τ) ↦[Finset.univ]{q} f) -∗ wp frame (wpE (defs₀ (F := F)) 𝒱₀ (c : Thread nD τ) none) Set.univ (k (m.view.readAt (Elt F) r.toLoadRect f)) Q)
        -∗ wp frame (wpE (defs₀ (F := F)) 𝒱₀ (c : Thread nD τ) none) Set.univ (.op (.load m r.toLoadRect hl) k) Q) :=
  ld c Finset.univ q f (Finset.subset_univ _)

/-- A store that fills a region held: what it leaves, from each element stored. -/
theorem st {r : Rect s} {w : r.shape.Idx → Elt F e} {hx hm} {k : PUnit → Prog (TpuEff nD τ sig (Elt F) Λ₀ .tc) α}
    (S : Finset (Idx ((m.access r).loc (c : Thread nD τ)))) (f g : Buf (Elt F) ((m.access r).loc (c : Thread nD τ))) (hS : (m.access r).set = S)
    (hg : ∀ x, (m.access r).read (Elt F) g x = w x) :
    ((m.access r).loc (c : Thread nD τ) ↦[S]{fullShare} f)
      ⊢ iprop((((m.access r).loc (c : Thread nD τ) ↦[S]{fullShare} g) -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  subst hS
  refine (wp_store 𝒱₀ (c : Thread nD τ) none Set.univ (m := m) (r := r) (w := w) (Mk := Finset.univ) (hx := hx) (hm := hm) (k := k)
    (Q := Q) (S := (m.access r).set) (f := f) (by rw [View.setOn_univ])).trans (wand_mono (wand_mono (Entails.of_eq (pointsTo_congr fun i hi => ?_)) .rfl) .rfl)
  obtain ⟨x, -, rfl⟩ := Finset.mem_map.mp hi
  refine (View.write_emb_of_mem (Val := Elt F) (v := m.access r) f w (Finset.mem_univ x)).trans ?_
  rw [← hg x, View.read_apply]
  simp

end Rules

end Cert.KernelIdeal.Hand

end
-- ==== Proof.Reads.lean ====
/-
  The body's parts that receive the blocks of K and of V and compute the attention of the device's four heads.
-/
module

public import proofs.«01_k».proof.Proof.Steps

@[expose] public section

set_option maxRecDepth 16384

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

section Regions

variable (I : Ins F) (c : Dev nD)

/-- The arrays a device only reads. -/
abbrev xR : sProp (MT nD τ sig ℕ (Elt F) ℕ UU ℕ) := pt c cc0_stg0_0 Finset.univ (I.x c)
abbrev wqR : sProp (MT nD τ sig ℕ (Elt F) ℕ UU ℕ) := pt c cc0_stg1_0 Finset.univ (I.wq c)
abbrev woR : sProp (MT nD τ sig ℕ (Elt F) ℕ UU ℕ) := pt c cc0_stg4_0 Finset.univ (I.wo c)
/-- The column blocks of its K and V. -/
abbrev kS (j : ℕ) : sProp (MT nD τ sig ℕ (Elt F) ℕ UU ℕ) := pt c cc0_stg2_0 (colS (xr c j).val) (I.k c)
abbrev vS (j : ℕ) : sProp (MT nD τ sig ℕ (Elt F) ℕ UU ℕ) := pt c cc0_stg3_0 (colS (xr c j).val) (I.v c)
/-- The blocks of K and V it has received. -/
abbrev kR (m : ℕ) : sProp (MT nD τ sig ℕ (Elt F) ℕ UU ℕ) := pt c cc0_scratch0 (slotK m) (KB I c)
abbrev vR (m : ℕ) : sProp (MT nD τ sig ℕ (Elt F) ℕ UU ℕ) := pt c cc0_scratch1 (slotK m) (VB I c)

end Regions

theorem sub_kb (m b k : ℕ) {inb} : ((Memref.whole cc0_scratch0).access (Rect.unit (s := S4x2x128x256) ![m, b, k, 0] S1x1x64x256.size inb)).set ⊆ slotK m := by
  rw [show ((Memref.whole cc0_scratch0).access (Rect.unit (s := S4x2x128x256) ![m, b, k, 0] S1x1x64x256.size inb)).set = _ from View.set_slice_whole _ _]
  intro i hi
  have h := (Rect.mem_set_unit.mp hi) 0
  change m ≤ (i 0).val ∧ (i 0).val < m + 1 at h
  exact Finset.mem_filter.mpr ⟨Finset.mem_univ _, by omega⟩

theorem sub_vb (m b k : ℕ) {inb} : ((Memref.whole cc0_scratch1).access (Rect.unit (s := S4x2x128x256) ![m, b, k, 0] S1x1x64x256.size inb)).set ⊆ slotK m := by
  rw [show ((Memref.whole cc0_scratch1).access (Rect.unit (s := S4x2x128x256) ![m, b, k, 0] S1x1x64x256.size inb)).set = _ from View.set_slice_whole _ _]
  intro i hi
  have h := (Rect.mem_set_unit.mp hi) 0
  change m ≤ (i 0).val ∧ (i 0).val < m + 1 at h
  exact Finset.mem_filter.mpr ⟨Finset.mem_univ _, by omega⟩

theorem one_kv (c : Dev nD) (n : ℕ) (h : 22 ≤ n ∧ n < 30) : (payers c n).card = 1 :=
  payers_in c n (by
    unfold inE
    have : n ∈ [22, 23, 24, 25, 26, 27, 28, 29] := by
      have h' : n = 22 ∨ n = 23 ∨ n = 24 ∨ n = 25 ∨ n = 26 ∨ n = 27 ∨ n = 28 ∨ n = 29 := by omega
      rcases h' with rfl | rfl | rfl | rfl | rfl | rfl | rfl | rfl <;> decide
    exact List.mem_append_right _ (List.mem_append_left _ this))

/-- The value a part returns, under its name. -/
theorem fin_to (c : Dev nD) {α : Type} {Q : α → sProp (MT nD τ sig ℕ (Elt F) ℕ UU ℕ)} {a b : α} (h : a = b) :
    Q b ⊢ wp frame (wpE (defs₀ (F := F)) 𝒱₀ (c : Thread nD τ) none) Set.univ (Prog.ret a) Q := h ▸ wp_fin c a

section Parts

variable (I : Ins F) (κ : GSem nD τ sig → ℕ) (c : Dev nD)

/-- A part that reads the received blocks. -/
theorem part17_run {Q} :
    iprop(kR I c 0)
      ⊢ iprop(((kR I c 0) -∗ Q ⟨(v164 I c), (v170 I c), (v178 I c), (v184 I c), (v190 I c), (v196 I c), (v198 I c), (v202 I c), cst_130⟩) -∗ wp frame (wpE (defs₀ (F := F)) 𝒱₀ (c : Thread nD τ) none) Set.univ (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v129 I c) (v134 I c) (v146 I c) (v162 I c) cst_111) Q) := by
  rw [k0_part17_eq_skeleton]
  unfold k0_part17_skel
  iintro ⟨Hk0⟩ Hk
  iapply (ld (m := Memref.whole cc0_scratch0) c (slotK 0) fullShare (KB I c) (sub_kb 0 0 64)) $$ [Hk0]; · iexact Hk0
  iintro Hk0
  iapply (ld (m := Memref.whole cc0_scratch0) c (slotK 0) fullShare (KB I c) (sub_kb 0 1 0)) $$ [Hk0]; · iexact Hk0
  iintro Hk0
  iapply (fin_to c (b := ⟨(v164 I c), (v170 I c), (v178 I c), (v184 I c), (v190 I c), (v196 I c), (v198 I c), (v202 I c), cst_130⟩) ?_)
  · rfl
  iapply Hk
  iexact Hk0

/-- A part that reads the received blocks. -/
theorem part18_run {Q} :
    iprop(kR I c 0)
      ⊢ iprop(((kR I c 0) -∗ Q ⟨(v204 I c), (v210 I c), (v216 I c), (v222 I c), (v230 I c), (v236 I c), (v242 I c), (v244 I c), (v245 I c), cst_147⟩) -∗ wp frame (wpE (defs₀ (F := F)) 𝒱₀ (c : Thread nD τ) none) Set.univ (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v134 I c) (v198 I c) (v202 I c) cst_130) Q) := by
  rw [k0_part18_eq_skeleton]
  unfold k0_part18_skel
  iintro ⟨Hk0⟩ Hk
  iapply (ld (m := Memref.whole cc0_scratch0) c (slotK 0) fullShare (KB I c) (sub_kb 0 1 64)) $$ [Hk0]; · iexact Hk0
  iintro Hk0
  iapply (fin_to c (b := ⟨(v204 I c), (v210 I c), (v216 I c), (v222 I c), (v230 I c), (v236 I c), (v242 I c), (v244 I c), (v245 I c), cst_147⟩) ?_)
  · rfl
  iapply Hk
  iexact Hk0

/-- A part that reads the received blocks. -/
theorem part19_run {Q} :
    iprop(Ctx I κ ∗ Wt c (22 + 1) ∗ Due c (rsE c ++ (agE c ++ s2E c)))
      ⊢ iprop(((Don c (22 + 1) ∗ kR I c 1 ∗ Due c (rsE c ++ (agE c ++ s2E c))) -∗ Q ⟨(v248 I c), (v263 I c), (v269 I c), (v275 I c), (v279 I c), cst_172⟩) -∗ wp frame (wpE (defs₀ (F := F)) 𝒱₀ (c : Thread nD τ) none) Set.univ (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v129 I c) (v244 I c) (v245 I c) cst_147) Q) := by
  rw [k0_part19_eq_skeleton]
  unfold k0_part19_skel
  iintro ⟨#HC, W23, HD⟩ Hk
  iapply (wait_one I κ c (22 + 1) _ (sem17 1 rfl) (by omega) (by rw [amtN_k (by omega)]; rfl) (one_kv c _ (by omega)) (fun p => payN_kb I c p (by omega)) (lv_kv c)) $$ [W23 HD]
  · isplitr; · iexact HC
    isplitl [W23]; · iexact W23
    iexact HD
  iintro ⟨HD, W23, Hk1⟩
  iapply (ld (m := Memref.whole cc0_scratch0) c (slotK 1) fullShare (KB I c) (sub_kb 1 0 0)) $$ [Hk1]; · iexact Hk1
  iintro Hk1
  iapply (fin_to c (b := ⟨(v248 I c), (v263 I c), (v269 I c), (v275 I c), (v279 I c), cst_172⟩) ?_)
  · rfl
  iapply Hk
  isplitl [W23]; · iexact W23
  isplitl [Hk1]; · iexact Hk1
  iexact HD

/-- A part that reads the received blocks. -/
theorem part20_run {Q} :
    iprop(kR I c 1)
      ⊢ iprop(((kR I c 1) -∗ Q ⟨(v281 I c), (v289 I c), (v295 I c), (v301 I c), (v307 I c), (v309 I c), (v315 I c), (v319 I c), cst_192⟩) -∗ wp frame (wpE (defs₀ (F := F)) 𝒱₀ (c : Thread nD τ) none) Set.univ (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v129 I c) (v134 I c) (v279 I c) cst_172) Q) := by
  rw [k0_part20_eq_skeleton]
  unfold k0_part20_skel
  iintro ⟨Hk1⟩ Hk
  iapply (ld (m := Memref.whole cc0_scratch0) c (slotK 1) fullShare (KB I c) (sub_kb 1 0 64)) $$ [Hk1]; · iexact Hk1
  iintro Hk1
  iapply (ld (m := Memref.whole cc0_scratch0) c (slotK 1) fullShare (KB I c) (sub_kb 1 1 0)) $$ [Hk1]; · iexact Hk1
  iintro Hk1
  iapply (fin_to c (b := ⟨(v281 I c), (v289 I c), (v295 I c), (v301 I c), (v307 I c), (v309 I c), (v315 I c), (v319 I c), cst_192⟩) ?_)
  · rfl
  iapply Hk
  iexact Hk1

/-- A part that reads the received blocks. -/
theorem part21_run {Q} :
    iprop(kR I c 1)
      ⊢ iprop(((kR I c 1) -∗ Q ⟨(v321 I c), (v327 I c), (v333 I c), (v341 I c), (v347 I c), (v353 I c), (v359 I c), (c0_i32_212 c)⟩) -∗ wp frame (wpE (defs₀ (F := F)) 𝒱₀ (c : Thread nD τ) none) Set.univ (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v134 I c) (v309 I c) (v319 I c) cst_192) Q) := by
  rw [k0_part21_eq_skeleton]
  unfold k0_part21_skel
  iintro ⟨Hk1⟩ Hk
  iapply (ld (m := Memref.whole cc0_scratch0) c (slotK 1) fullShare (KB I c) (sub_kb 1 1 64)) $$ [Hk1]; · iexact Hk1
  iintro Hk1
  iapply (fin_to c (b := ⟨(v321 I c), (v327 I c), (v333 I c), (v341 I c), (v347 I c), (v353 I c), (v359 I c), (c0_i32_212 c)⟩) ?_)
  · rfl
  iapply Hk
  iexact Hk1

/-- A part that reads the received blocks. -/
theorem part22_run {Q} :
    iprop(Ctx I κ ∗ Wt c (22 + 2) ∗ Due c (rsE c ++ (agE c ++ s2E c)))
      ⊢ iprop(((Don c (22 + 2) ∗ kR I c 2 ∗ Due c (rsE c ++ (agE c ++ s2E c))) -∗ Q ⟨(v374 I c), (v380 I c), (v386 I c), (v392 I c), (v394 I c)⟩) -∗ wp frame (wpE (defs₀ (F := F)) 𝒱₀ (c : Thread nD τ) none) Set.univ (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v129 I c) (c0_i32_212 c)) Q) := by
  rw [k0_part22_eq_skeleton]
  unfold k0_part22_skel
  iintro ⟨#HC, W24, HD⟩ Hk
  iapply (wait_one I κ c (22 + 2) _ (sem17 2 rfl) (by omega) (by rw [amtN_k (by omega)]; rfl) (one_kv c _ (by omega)) (fun p => payN_kb I c p (by omega)) (lv_kv c)) $$ [W24 HD]
  · isplitr; · iexact HC
    isplitl [W24]; · iexact W24
    iexact HD
  iintro ⟨HD, W24, Hk2⟩
  iapply (ld (m := Memref.whole cc0_scratch0) c (slotK 2) fullShare (KB I c) (sub_kb 2 0 0)) $$ [Hk2]; · iexact Hk2
  iintro Hk2
  iapply (ld (m := Memref.whole cc0_scratch0) c (slotK 2) fullShare (KB I c) (sub_kb 2 0 64)) $$ [Hk2]; · iexact Hk2
  iintro Hk2
  iapply (fin_to c (b := ⟨(v374 I c), (v380 I c), (v386 I c), (v392 I c), (v394 I c)⟩) ?_)
  · rfl
  iapply Hk
  isplitl [W24]; · iexact W24
  isplitl [Hk2]; · iexact Hk2
  iexact HD

/-- A part that reads the received blocks. -/
theorem part23_run {Q} :
    iprop(kR I c 2)
      ⊢ iprop(((kR I c 2) -∗ Q ⟨(v400 I c), (v406 I c), (v412 I c), (v418 I c), (v420 I c), (v426 I c), (v432 I c), (v436 I c), cst_253⟩) -∗ wp frame (wpE (defs₀ (F := F)) 𝒱₀ (c : Thread nD τ) none) Set.univ (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v129 I c) (v134 I c) (v394 I c)) Q) := by
  rw [k0_part23_eq_skeleton]
  unfold k0_part23_skel
  iintro ⟨Hk2⟩ Hk
  iapply (ld (m := Memref.whole cc0_scratch0) c (slotK 2) fullShare (KB I c) (sub_kb 2 1 0)) $$ [Hk2]; · iexact Hk2
  iintro Hk2
  iapply (fin_to c (b := ⟨(v400 I c), (v406 I c), (v412 I c), (v418 I c), (v420 I c), (v426 I c), (v432 I c), (v436 I c), cst_253⟩) ?_)
  · rfl
  iapply Hk
  iexact Hk2

/-- A part that reads the received blocks. -/
theorem part24_run {Q} :
    iprop(kR I c 2)
      ⊢ iprop(((kR I c 2) -∗ Q ⟨(v438 I c), (v444 I c), (v452 I c), (v458 I c), (v464 I c), (v470 I c)⟩) -∗ wp frame (wpE (defs₀ (F := F)) 𝒱₀ (c : Thread nD τ) none) Set.univ (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v134 I c) (v420 I c) (v436 I c) cst_253) Q) := by
  rw [k0_part24_eq_skeleton]
  unfold k0_part24_skel
  iintro ⟨Hk2⟩ Hk
  iapply (ld (m := Memref.whole cc0_scratch0) c (slotK 2) fullShare (KB I c) (sub_kb 2 1 64)) $$ [Hk2]; · iexact Hk2
  iintro Hk2
  iapply (fin_to c (b := ⟨(v438 I c), (v444 I c), (v452 I c), (v458 I c), (v464 I c), (v470 I c)⟩) ?_)
  · rfl
  iapply Hk
  iexact Hk2

/-- A part that reads the received blocks. -/
theorem part25_run {Q} :
    iprop(Ctx I κ ∗ Wt c (22 + 3) ∗ Due c (rsE c ++ (agE c ++ s2E c)))
      ⊢ iprop(((Don c (22 + 3) ∗ kR I c 3 ∗ Due c (rsE c ++ (agE c ++ s2E c))) -∗ Q ⟨(v485 I c), (v491 I c), (v497 I c), (v503 I c), (v505 I c), (v511 I c)⟩) -∗ wp frame (wpE (defs₀ (F := F)) 𝒱₀ (c : Thread nD τ) none) Set.univ (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v129 I c)) Q) := by
  rw [k0_part25_eq_skeleton]
  unfold k0_part25_skel
  iintro ⟨#HC, W25, HD⟩ Hk
  iapply (wait_one I κ c (22 + 3) _ (sem17 3 rfl) (by omega) (by rw [amtN_k (by omega)]; rfl) (one_kv c _ (by omega)) (fun p => payN_kb I c p (by omega)) (lv_kv c)) $$ [W25 HD]
  · isplitr; · iexact HC
    isplitl [W25]; · iexact W25
    iexact HD
  iintro ⟨HD, W25, Hk3⟩
  iapply (ld (m := Memref.whole cc0_scratch0) c (slotK 3) fullShare (KB I c) (sub_kb 3 0 0)) $$ [Hk3]; · iexact Hk3
  iintro Hk3
  iapply (ld (m := Memref.whole cc0_scratch0) c (slotK 3) fullShare (KB I c) (sub_kb 3 0 64)) $$ [Hk3]; · iexact Hk3
  iintro Hk3
  iapply (fin_to c (b := ⟨(v485 I c), (v491 I c), (v497 I c), (v503 I c), (v505 I c), (v511 I c)⟩) ?_)
  · rfl
  iapply Hk
  isplitl [W25]; · iexact W25
  isplitl [Hk3]; · iexact Hk3
  iexact HD

/-- A part that reads the received blocks. -/
theorem part26_run {Q} :
    iprop(kR I c 3)
      ⊢ iprop(((kR I c 3) -∗ Q ⟨(v517 I c), (v523 I c), (v529 I c), (v537 I c), (v543 I c), (v549 I c), (v553 I c), cst_314⟩) -∗ wp frame (wpE (defs₀ (F := F)) 𝒱₀ (c : Thread nD τ) none) Set.univ (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v129 I c) (v134 I c) (v505 I c)) Q) := by
  rw [k0_part26_eq_skeleton]
  unfold k0_part26_skel
  iintro ⟨Hk3⟩ Hk
  iapply (ld (m := Memref.whole cc0_scratch0) c (slotK 3) fullShare (KB I c) (sub_kb 3 1 0)) $$ [Hk3]; · iexact Hk3
  iintro Hk3
  iapply (fin_to c (b := ⟨(v517 I c), (v523 I c), (v529 I c), (v537 I c), (v543 I c), (v549 I c), (v553 I c), cst_314⟩) ?_)
  · rfl
  iapply Hk
  iexact Hk3

/-- A part that reads the received blocks. -/
theorem part27_run {Q} :
    iprop(kR I c 3)
      ⊢ iprop(((kR I c 3) -∗ Q ⟨(v555 I c), (v563 I c), (v569 I c), (v575 I c), (v581 I c), (v592 I c), (v595 I c), (v597 I c)⟩) -∗ wp frame (wpE (defs₀ (F := F)) 𝒱₀ (c : Thread nD τ) none) Set.univ (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v134 I c) (v152 I c) (v263 I c) (v374 I c) (v485 I c) (v553 I c) cst_314) Q) := by
  rw [k0_part27_eq_skeleton]
  unfold k0_part27_skel
  iintro ⟨Hk3⟩ Hk
  iapply (ld (m := Memref.whole cc0_scratch0) c (slotK 3) fullShare (KB I c) (sub_kb 3 1 64)) $$ [Hk3]; · iexact Hk3
  iintro Hk3
  iapply (fin_to c (b := ⟨(v555 I c), (v563 I c), (v569 I c), (v575 I c), (v581 I c), (v592 I c), (v595 I c), (v597 I c)⟩) ?_)
  · rfl
  iapply Hk
  iexact Hk3

/-- A part that only computes. -/
theorem part28_run {Q} :
    (iprop(Q ⟨(v618 I c), (v621 I c), (v624 I c), (v627 I c), (v641 I c), (v644 I c), (v647 I c), (v649 I c)⟩) : sProp (MT nD τ sig ℕ (Elt F) ℕ UU ℕ)) ⊢ wp frame (wpE (defs₀ (F := F)) 𝒱₀ (c : Thread nD τ) none) Set.univ (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v158 I c) (v269 I c) (v374 I c) (v380 I c) (v485 I c) (v491 I c) (v592 I c) (v595 I c) (v597 I c)) Q := by
  rw [k0_part28_eq_skeleton]
  unfold k0_part28_skel
  exact wp_fin c _

/-- A part that only computes. -/
theorem part29_run {Q} :
    (iprop(Q ⟨(v664 I c), (v667 I c), (v670 I c), (v673 I c), (v687 I c), (v690 I c), (v693 I c), (v696 I c), (v698 I c), (v699 I c)⟩) : sProp (MT nD τ sig ℕ (Elt F) ℕ UU ℕ)) ⊢ wp frame (wpE (defs₀ (F := F)) 𝒱₀ (c : Thread nD τ) none) Set.univ (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v164 I c) (v275 I c) (v386 I c) (v497 I c) (v641 I c) (v644 I c) (v647 I c) (v649 I c)) Q := by
  rw [k0_part29_eq_skeleton]
  unfold k0_part29_skel
  exact wp_fin c _

/-- A part that only computes. -/
theorem part30_run {Q} :
    (iprop(Q ⟨(v710 I c), (v713 I c), (v716 I c), (v719 I c), (v733 I c), (v736 I c), (v739 I c), (v742 I c), (v744 I c), (v746 I c), (v748 I c), (v749 I c)⟩) : sProp (MT nD τ sig ℕ (Elt F) ℕ UU ℕ)) ⊢ wp frame (wpE (defs₀ (F := F)) 𝒱₀ (c : Thread nD τ) none) Set.univ (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v170 I c) (v281 I c) (v392 I c) (v503 I c) (v687 I c) (v690 I c) (v693 I c) (v696 I c) (v698 I c) (v699 I c)) Q := by
  rw [k0_part30_eq_skeleton]
  unfold k0_part30_skel
  exact wp_fin c _

/-- A part that only computes. -/
theorem part31_run {Q} :
    (iprop(Q ⟨(v756 I c), (v759 I c), (v762 I c), (v765 I c), (v782 I c), (v785 I c), (v788 I c), (v799 I c), (v801 I c)⟩) : sProp (MT nD τ sig ℕ (Elt F) ℕ UU ℕ)) ⊢ wp frame (wpE (defs₀ (F := F)) 𝒱₀ (c : Thread nD τ) none) Set.univ (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v178 I c) (v289 I c) (v400 I c) (v511 I c) (v733 I c) (v736 I c) (v739 I c) (v742 I c) (v744 I c) (v746 I c) (v748 I c) (v749 I c)) Q := by
  rw [k0_part31_eq_skeleton]
  unfold k0_part31_skel
  exact wp_fin c _

/-- A part that only computes. -/
theorem part32_run {Q} :
    (iprop(Q ⟨(v802 I c), (v805 I c), (v808 I c), (v811 I c), (v834 I c), (v845 I c), (v848 I c), (v851 I c), (v853 I c)⟩) : sProp (MT nD τ sig ℕ (Elt F) ℕ UU ℕ)) ⊢ wp frame (wpE (defs₀ (F := F)) 𝒱₀ (c : Thread nD τ) none) Set.univ (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v184 I c) (v295 I c) (v406 I c) (v517 I c) (v782 I c) (v785 I c) (v788 I c) (v799 I c) (v801 I c)) Q := by
  rw [k0_part32_eq_skeleton]
  unfold k0_part32_skel
  exact wp_fin c _

/-- A part that only computes. -/
theorem part33_run {Q} :
    (iprop(Q ⟨(v854 I c), (v857 I c), (v894 I c), (v897 I c), (v900 I c), (v903 I c), (v904 I c)⟩) : sProp (MT nD τ sig ℕ (Elt F) ℕ UU ℕ)) ⊢ wp frame (wpE (defs₀ (F := F)) 𝒱₀ (c : Thread nD τ) none) Set.univ (k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v190 I c) (v196 I c) (v301 I c) (v412 I c) (v523 I c) (v834 I c) (v845 I c) (v853 I c)) Q := by
  rw [k0_part33_eq_skeleton]
  unfold k0_part33_skel
  exact wp_fin c _

/-- A part that only computes. -/
theorem part34_run {Q} :
    (iprop(Q ⟨(v940 I c), (v943 I c), (v946 I c), (v949 I c), (v951 I c), (v953 I c), (v954 I c)⟩) : sProp (MT nD τ sig ℕ (Elt F) ℕ UU ℕ)) ⊢ wp frame (wpE (defs₀ (F := F)) 𝒱₀ (c : Thread nD τ) none) Set.univ (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v196 I c) (v204 I c) (v307 I c) (v315 I c) (v418 I c) (v426 I c) (v529 I c) (v904 I c)) Q := by
  rw [k0_part34_eq_skeleton]
  unfold k0_part34_skel
  exact wp_fin c _

/-- A part that only computes. -/
theorem part35_run {Q} :
    (iprop(Q ⟨(v986 I c), (v989 I c), (v992 I c), (v995 I c), (v1003 I c), (v1005 I c)⟩) : sProp (MT nD τ sig ℕ (Elt F) ℕ UU ℕ)) ⊢ wp frame (wpE (defs₀ (F := F)) 𝒱₀ (c : Thread nD τ) none) Set.univ (k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v204 I c) (v210 I c) (v315 I c) (v321 I c) (v426 I c) (v432 I c) (v537 I c) (v543 I c) (v951 I c) (v953 I c) (v954 I c)) Q := by
  rw [k0_part35_eq_skeleton]
  unfold k0_part35_skel
  exact wp_fin c _

/-- A part that only computes. -/
theorem part36_run {Q} :
    (iprop(Q ⟨(v1032 I c), (v1035 I c), (v1038 I c), (v1041 I c), (v1052 I c), (v1055 I c), (v1057 I c)⟩) : sProp (MT nD τ sig ℕ (Elt F) ℕ UU ℕ)) ⊢ wp frame (wpE (defs₀ (F := F)) 𝒱₀ (c : Thread nD τ) none) Set.univ (k0_part36 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v210 I c) (v216 I c) (v321 I c) (v327 I c) (v432 I c) (v438 I c) (v543 I c) (v549 I c) (v1003 I c) (v1005 I c)) Q := by
  rw [k0_part36_eq_skeleton]
  unfold k0_part36_skel
  exact wp_fin c _

/-- A part that only computes. -/
theorem part37_run {Q} :
    (iprop(Q ⟨(v1078 I c), (v1081 I c), (v1084 I c), (v1087 I c), (v1101 I c), (v1104 I c), (v1107 I c), (v1109 I c)⟩) : sProp (MT nD τ sig ℕ (Elt F) ℕ UU ℕ)) ⊢ wp frame (wpE (defs₀ (F := F)) 𝒱₀ (c : Thread nD τ) none) Set.univ (k0_part37 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v222 I c) (v333 I c) (v438 I c) (v444 I c) (v549 I c) (v555 I c) (v1052 I c) (v1055 I c) (v1057 I c)) Q := by
  rw [k0_part37_eq_skeleton]
  unfold k0_part37_skel
  exact wp_fin c _

/-- A part that only computes. -/
theorem part38_run {Q} :
    (iprop(Q ⟨(v1124 I c), (v1127 I c), (v1130 I c), (v1133 I c), (v1147 I c), (v1150 I c), (v1153 I c), (v1156 I c), (v1158 I c), (v1159 I c)⟩) : sProp (MT nD τ sig ℕ (Elt F) ℕ UU ℕ)) ⊢ wp frame (wpE (defs₀ (F := F)) 𝒱₀ (c : Thread nD τ) none) Set.univ (k0_part38 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v230 I c) (v341 I c) (v452 I c) (v563 I c) (v1101 I c) (v1104 I c) (v1107 I c) (v1109 I c)) Q := by
  rw [k0_part38_eq_skeleton]
  unfold k0_part38_skel
  exact wp_fin c _

/-- A part that only computes. -/
theorem part39_run {Q} :
    (iprop(Q ⟨(v1170 I c), (v1173 I c), (v1176 I c), (v1179 I c), (v1193 I c), (v1196 I c), (v1199 I c), (v1202 I c), (v1204 I c), (v1206 I c), (v1208 I c), (v1209 I c)⟩) : sProp (MT nD τ sig ℕ (Elt F) ℕ UU ℕ)) ⊢ wp frame (wpE (defs₀ (F := F)) 𝒱₀ (c : Thread nD τ) none) Set.univ (k0_part39 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v236 I c) (v347 I c) (v458 I c) (v569 I c) (v1147 I c) (v1150 I c) (v1153 I c) (v1156 I c) (v1158 I c) (v1159 I c)) Q := by
  rw [k0_part39_eq_skeleton]
  unfold k0_part39_skel
  exact wp_fin c _

/-- A part that only computes. -/
theorem part40_run {Q} :
    (iprop(Q ⟨(v1216 I c), (v1219 I c), (v1222 I c), (v1225 I c), (v1242 I c), (v1245 I c), (v1248 I c), (v1259 I c), (v1261 I c)⟩) : sProp (MT nD τ sig ℕ (Elt F) ℕ UU ℕ)) ⊢ wp frame (wpE (defs₀ (F := F)) 𝒱₀ (c : Thread nD τ) none) Set.univ (k0_part40 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v242 I c) (v353 I c) (v464 I c) (v575 I c) (v1193 I c) (v1196 I c) (v1199 I c) (v1202 I c) (v1204 I c) (v1206 I c) (v1208 I c) (v1209 I c)) Q := by
  rw [k0_part40_eq_skeleton]
  unfold k0_part40_skel
  exact wp_fin c _

/-- A part that only computes. -/
theorem part41_run {Q} :
    (iprop(Q ⟨(v1262 I c), (v1265 I c), (v1268 I c), (v1271 I c), (v1294 I c), (v1305 I c), (v1308 I c), (v1311 I c), (v1313 I c)⟩) : sProp (MT nD τ sig ℕ (Elt F) ℕ UU ℕ)) ⊢ wp frame (wpE (defs₀ (F := F)) 𝒱₀ (c : Thread nD τ) none) Set.univ (k0_part41 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v248 I c) (v359 I c) (v470 I c) (v581 I c) (v1242 I c) (v1245 I c) (v1248 I c) (v1259 I c) (v1261 I c)) Q := by
  rw [k0_part41_eq_skeleton]
  unfold k0_part41_skel
  exact wp_fin c _

/-- A part that reads the received blocks. -/
theorem part42_run {Q} :
    iprop(Ctx I κ ∗ Wt c (26 + 0) ∗ Due c (rsE c ++ (agE c ++ s2E c)))
      ⊢ iprop(((Don c (26 + 0) ∗ vR I c 0 ∗ Due c (rsE c ++ (agE c ++ s2E c))) -∗ Q ⟨(v1314 I c), (v1317 I c), (v1328 I c), (v1330 I c), (v1332 I c), (v1334 I c), (v1338 I c), (v1340 I c), (v1342 I c), (v1344 I c)⟩) -∗ wp frame (wpE (defs₀ (F := F)) 𝒱₀ (c : Thread nD τ) none) Set.univ (k0_part42 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v618 I c) (v664 I c) (v710 I c) (v756 I c) (v802 I c) (v848 I c) (v894 I c) (v940 I c) (v1294 I c) (v1305 I c) (v1313 I c)) Q) := by
  rw [k0_part42_eq_skeleton]
  unfold k0_part42_skel
  iintro ⟨#HC, W26, HD⟩ Hk
  iapply (wait_one I κ c (26 + 0) _ (sem18 0 rfl) (by omega) (by rw [amtN_k (by omega)]; rfl) (one_kv c _ (by omega)) (fun p => payN_vb I c p (by omega)) (lv_kv c)) $$ [W26 HD]
  · isplitr; · iexact HC
    isplitl [W26]; · iexact W26
    iexact HD
  iintro ⟨HD, W26, Hv0⟩
  iapply (ld (m := Memref.whole cc0_scratch1) c (slotK 0) fullShare (VB I c) (sub_vb 0 0 0)) $$ [Hv0]; · iexact Hv0
  iintro Hv0
  iapply (ld (m := Memref.whole cc0_scratch1) c (slotK 0) fullShare (VB I c) (sub_vb 0 0 64)) $$ [Hv0]; · iexact Hv0
  iintro Hv0
  iapply (fin_to c (b := ⟨(v1314 I c), (v1317 I c), (v1328 I c), (v1330 I c), (v1332 I c), (v1334 I c), (v1338 I c), (v1340 I c), (v1342 I c), (v1344 I c)⟩) ?_)
  · rfl
  iapply Hk
  isplitl [W26]; · iexact W26
  isplitl [Hv0]; · iexact Hv0
  iexact HD

/-- A part that reads the received blocks. -/
theorem part43_run {Q} :
    iprop(Ctx I κ ∗ vR I c 0 ∗ Wt c (26 + 1) ∗ Due c (rsE c ++ (agE c ++ s2E c)))
      ⊢ iprop(((vR I c 0 ∗ Don c (26 + 1) ∗ vR I c 1 ∗ Due c (rsE c ++ (agE c ++ s2E c))) -∗ Q ⟨(v1348 I c), (v1350 I c), (v1352 I c), (v1354 I c), (v1358 I c), (v1360 I c), (v1362 I c), (v1364 I c)⟩) -∗ wp frame (wpE (defs₀ (F := F)) 𝒱₀ (c : Thread nD τ) none) Set.univ (k0_part43 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v986 I c) (v1032 I c) (v1078 I c) (v1124 I c) (v1170 I c) (v1216 I c) (v1262 I c) (v1308 I c)) Q) := by
  rw [k0_part43_eq_skeleton]
  unfold k0_part43_skel
  iintro ⟨#HC, Hv0, W27, HD⟩ Hk
  iapply (ld (m := Memref.whole cc0_scratch1) c (slotK 0) fullShare (VB I c) (sub_vb 0 1 0)) $$ [Hv0]; · iexact Hv0
  iintro Hv0
  iapply (ld (m := Memref.whole cc0_scratch1) c (slotK 0) fullShare (VB I c) (sub_vb 0 1 64)) $$ [Hv0]; · iexact Hv0
  iintro Hv0
  iapply (wait_one I κ c (26 + 1) _ (sem18 1 rfl) (by omega) (by rw [amtN_k (by omega)]; rfl) (one_kv c _ (by omega)) (fun p => payN_vb I c p (by omega)) (lv_kv c)) $$ [W27 HD]
  · isplitr; · iexact HC
    isplitl [W27]; · iexact W27
    iexact HD
  iintro ⟨HD, W27, Hv1⟩
  iapply (fin_to c (b := ⟨(v1348 I c), (v1350 I c), (v1352 I c), (v1354 I c), (v1358 I c), (v1360 I c), (v1362 I c), (v1364 I c)⟩) ?_)
  · rfl
  iapply Hk
  isplitl [Hv0]; · iexact Hv0
  isplitl [W27]; · iexact W27
  isplitl [Hv1]; · iexact Hv1
  iexact HD

/-- A part that reads the received blocks. -/
theorem part44_run {Q} :
    iprop(vR I c 1)
      ⊢ iprop(((vR I c 1) -∗ Q ⟨(v1376 I c), (v1379 I c), (v1382 I c), (v1385 I c), (v1390 I c), (v1393 I c), (v1396 I c), (v1399 I c), (v1404 I c), (v1407 I c), (v1410 I c), (v1411 I c), cst_534⟩) -∗ wp frame (wpE (defs₀ (F := F)) 𝒱₀ (c : Thread nD τ) none) Set.univ (k0_part44 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v621 I c) (v667 I c) (v713 I c) (v759 I c) (v805 I c) (v851 I c) (v897 I c) (v943 I c) (v989 I c) (v1035 I c) (v1081 I c) (v1328 I c) (v1330 I c) (v1332 I c) (v1334 I c) (v1338 I c) (v1340 I c) (v1342 I c) (v1344 I c) (v1348 I c) (v1350 I c) (v1352 I c)) Q) := by
  rw [k0_part44_eq_skeleton]
  unfold k0_part44_skel
  iintro ⟨Hv1⟩ Hk
  iapply (ld (m := Memref.whole cc0_scratch1) c (slotK 1) fullShare (VB I c) (sub_vb 1 0 0)) $$ [Hv1]; · iexact Hv1
  iintro Hv1
  iapply (ld (m := Memref.whole cc0_scratch1) c (slotK 1) fullShare (VB I c) (sub_vb 1 0 64)) $$ [Hv1]; · iexact Hv1
  iintro Hv1
  iapply (ld (m := Memref.whole cc0_scratch1) c (slotK 1) fullShare (VB I c) (sub_vb 1 1 0)) $$ [Hv1]; · iexact Hv1
  iintro Hv1
  iapply (fin_to c (b := ⟨(v1376 I c), (v1379 I c), (v1382 I c), (v1385 I c), (v1390 I c), (v1393 I c), (v1396 I c), (v1399 I c), (v1404 I c), (v1407 I c), (v1410 I c), (v1411 I c), cst_534⟩) ?_)
  · rfl
  iapply Hk
  iexact Hv1

/-- A part that reads the received blocks. -/
theorem part45_run {Q} :
    iprop(Ctx I κ ∗ vR I c 1 ∗ Wt c (26 + 2) ∗ Due c (rsE c ++ (agE c ++ s2E c)))
      ⊢ iprop(((vR I c 1 ∗ Don c (26 + 2) ∗ vR I c 2 ∗ Due c (rsE c ++ (agE c ++ s2E c))) -∗ Q ⟨(v1413 I c), (v1418 I c), (v1421 I c), (v1424 I c), (v1427 I c), (v1436 I c), (v1439 I c), (v1442 I c), (v1443 I c), cst_561⟩) -∗ wp frame (wpE (defs₀ (F := F)) 𝒱₀ (c : Thread nD τ) none) Set.univ (k0_part45 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v624 I c) (v670 I c) (v1127 I c) (v1173 I c) (v1219 I c) (v1265 I c) (v1311 I c) (v1354 I c) (v1358 I c) (v1360 I c) (v1362 I c) (v1364 I c) (v1376 I c) (v1379 I c) (v1411 I c) cst_534) Q) := by
  rw [k0_part45_eq_skeleton]
  unfold k0_part45_skel
  iintro ⟨#HC, Hv1, W28, HD⟩ Hk
  iapply (ld (m := Memref.whole cc0_scratch1) c (slotK 1) fullShare (VB I c) (sub_vb 1 1 64)) $$ [Hv1]; · iexact Hv1
  iintro Hv1
  iapply (wait_one I κ c (26 + 2) _ (sem18 2 rfl) (by omega) (by rw [amtN_k (by omega)]; rfl) (one_kv c _ (by omega)) (fun p => payN_vb I c p (by omega)) (lv_kv c)) $$ [W28 HD]
  · isplitr; · iexact HC
    isplitl [W28]; · iexact W28
    iexact HD
  iintro ⟨HD, W28, Hv2⟩
  iapply (ld (m := Memref.whole cc0_scratch1) c (slotK 2) fullShare (VB I c) (sub_vb 2 0 0)) $$ [Hv2]; · iexact Hv2
  iintro Hv2
  iapply (fin_to c (b := ⟨(v1413 I c), (v1418 I c), (v1421 I c), (v1424 I c), (v1427 I c), (v1436 I c), (v1439 I c), (v1442 I c), (v1443 I c), cst_561⟩) ?_)
  · rfl
  iapply Hk
  isplitl [Hv1]; · iexact Hv1
  isplitl [W28]; · iexact W28
  isplitl [Hv2]; · iexact Hv2
  iexact HD

/-- A part that reads the received blocks. -/
theorem part46_run {Q} :
    iprop(vR I c 2)
      ⊢ iprop(((vR I c 2) -∗ Q ⟨(v1445 I c), (v1448 I c), (v1453 I c), (v1456 I c), (v1459 I c), (v1462 I c), (v1467 I c), (v1470 I c), (v1473 I c), (v1476 I c), (v1478 I c), (v1481 I c)⟩) -∗ wp frame (wpE (defs₀ (F := F)) 𝒱₀ (c : Thread nD τ) none) Set.univ (k0_part46 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v716 I c) (v762 I c) (v808 I c) (v854 I c) (v900 I c) (v946 I c) (v992 I c) (v1038 I c) (v1084 I c) (v1130 I c) (v1176 I c) (v1382 I c) (v1385 I c) (v1390 I c) (v1393 I c) (v1396 I c) (v1399 I c) (v1404 I c) (v1407 I c) (v1410 I c) (v1413 I c) (v1418 I c) (v1436 I c) (v1443 I c) cst_561) Q) := by
  rw [k0_part46_eq_skeleton]
  unfold k0_part46_skel
  iintro ⟨Hv2⟩ Hk
  iapply (ld (m := Memref.whole cc0_scratch1) c (slotK 2) fullShare (VB I c) (sub_vb 2 0 64)) $$ [Hv2]; · iexact Hv2
  iintro Hv2
  iapply (ld (m := Memref.whole cc0_scratch1) c (slotK 2) fullShare (VB I c) (sub_vb 2 1 0)) $$ [Hv2]; · iexact Hv2
  iintro Hv2
  iapply (ld (m := Memref.whole cc0_scratch1) c (slotK 2) fullShare (VB I c) (sub_vb 2 1 64)) $$ [Hv2]; · iexact Hv2
  iintro Hv2
  iapply (fin_to c (b := ⟨(v1445 I c), (v1448 I c), (v1453 I c), (v1456 I c), (v1459 I c), (v1462 I c), (v1467 I c), (v1470 I c), (v1473 I c), (v1476 I c), (v1478 I c), (v1481 I c)⟩) ?_)
  · rfl
  iapply Hk
  iexact Hv2

/-- A part that reads the received blocks. -/
theorem part47_run {Q} :
    iprop(Ctx I κ ∗ Wt c (26 + 3) ∗ Due c (rsE c ++ (agE c ++ s2E c)))
      ⊢ iprop(((Don c (26 + 3) ∗ vR I c 3 ∗ Due c (rsE c ++ (agE c ++ s2E c))) -∗ Q ⟨(v1484 I c), (v1487 I c), (v1490 I c), (v1502 I c), (v1505 I c), (v1508 I c), (v1511 I c), (v1513 I c)⟩) -∗ wp frame (wpE (defs₀ (F := F)) 𝒱₀ (c : Thread nD τ) none) Set.univ (k0_part47 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v627 I c) (v673 I c) (v719 I c) (v765 I c) (v1222 I c) (v1268 I c) (v1314 I c) (v1421 I c) (v1424 I c) (v1427 I c) (v1439 I c) (v1442 I c) (v1445 I c) (v1448 I c) (v1478 I c)) Q) := by
  rw [k0_part47_eq_skeleton]
  unfold k0_part47_skel
  iintro ⟨#HC, W29, HD⟩ Hk
  iapply (wait_one I κ c (26 + 3) _ (sem18 3 rfl) (by omega) (by rw [amtN_k (by omega)]; rfl) (one_kv c _ (by omega)) (fun p => payN_vb I c p (by omega)) (lv_kv c)) $$ [W29 HD]
  · isplitr; · iexact HC
    isplitl [W29]; · iexact W29
    iexact HD
  iintro ⟨HD, W29, Hv3⟩
  iapply (ld (m := Memref.whole cc0_scratch1) c (slotK 3) fullShare (VB I c) (sub_vb 3 0 0)) $$ [Hv3]; · iexact Hv3
  iintro Hv3
  iapply (ld (m := Memref.whole cc0_scratch1) c (slotK 3) fullShare (VB I c) (sub_vb 3 0 64)) $$ [Hv3]; · iexact Hv3
  iintro Hv3
  iapply (fin_to c (b := ⟨(v1484 I c), (v1487 I c), (v1490 I c), (v1502 I c), (v1505 I c), (v1508 I c), (v1511 I c), (v1513 I c)⟩) ?_)
  · rfl
  iapply Hk
  isplitl [W29]; · iexact W29
  isplitl [Hv3]; · iexact Hv3
  iexact HD

/-- A part that reads the received blocks. -/
theorem part48_run {Q} :
    iprop(vR I c 3)
      ⊢ iprop(((vR I c 3) -∗ Q ⟨(v1516 I c), (v1519 I c), (v1522 I c), (v1525 I c), (v1530 I c), (v1533 I c), (v1536 I c), (v1539 I c), (v1544 I c), (v1547 I c), (v1550 I c), (v1553 I c)⟩) -∗ wp frame (wpE (defs₀ (F := F)) 𝒱₀ (c : Thread nD τ) none) Set.univ (k0_part48 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v811 I c) (v857 I c) (v903 I c) (v949 I c) (v995 I c) (v1041 I c) (v1087 I c) (v1133 I c) (v1179 I c) (v1225 I c) (v1271 I c) (v1317 I c) (v1453 I c) (v1456 I c) (v1459 I c) (v1462 I c) (v1467 I c) (v1470 I c) (v1473 I c) (v1476 I c) (v1481 I c) (v1484 I c) (v1487 I c) (v1490 I c) (v1513 I c)) Q) := by
  rw [k0_part48_eq_skeleton]
  unfold k0_part48_skel
  iintro ⟨Hv3⟩ Hk
  iapply (ld (m := Memref.whole cc0_scratch1) c (slotK 3) fullShare (VB I c) (sub_vb 3 1 0)) $$ [Hv3]; · iexact Hv3
  iintro Hv3
  iapply (ld (m := Memref.whole cc0_scratch1) c (slotK 3) fullShare (VB I c) (sub_vb 3 1 64)) $$ [Hv3]; · iexact Hv3
  iintro Hv3
  iapply (fin_to c (b := ⟨(v1516 I c), (v1519 I c), (v1522 I c), (v1525 I c), (v1530 I c), (v1533 I c), (v1536 I c), (v1539 I c), (v1544 I c), (v1547 I c), (v1550 I c), (v1553 I c)⟩) ?_)
  · rfl
  iapply Hk
  iexact Hv3

end Parts

end Cert.KernelIdeal.Hand

end
-- ==== Proof.Sends.lean ====
/-
  The barrier, the sends of the blocks of K and V by the even devices, and their relay by the odd ones.
-/
module

public import proofs.«01_k».proof.Proof.Reads

@[expose] public section

set_option maxRecDepth 16384

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## What the barrier brings -/

section Bar

theorem sepL_filter {M : Type} [URA M] {α : Type} (p : α → Bool) (l : List α) (Φ : α → sProp M) :
    bigSepL (l.filter p) Φ = bigSepL l fun a => if p a then Φ a else iprop(emp) := by
  induction l with
  | nil => rfl
  | cons a l ih =>
      by_cases h : p a
      · rw [List.filter_cons_of_pos h, bigSepL_cons, bigSepL_cons, ih, if_pos h]
      · rw [List.filter_cons_of_neg h, bigSepL_cons, ih, if_neg h]
        exact eq_of_both BI.emp_sep.2 BI.emp_sep.1

/-- The entries after the barrier. -/
def restE (c : Dev nD) : List Ent := kvE c ++ (rlE c ++ (rsE c ++ (agE c ++ s2E c)))

theorem allE_rest (c : Dev nD) : allE c = barE c ++ restE c := rfl

theorem dst_perm (c : Dev nD) : ((List.finRange nD).flatMap fun d => (rcvFrom c d).map fun n => (d, n)).Perm
    (((restE c).filter fun e => e.2.2 ≠ 0).map fun e => (e.1, e.2.1)) := by
  revert c; decide +kernel

theorem rest_mem (c : Dev nD) : ∀ e ∈ restE c, e ∈ allE c := fun e h => by
  rw [allE_rest]; exact List.mem_append_right _ h

theorem dst_all (c : Dev nD) : bigSepL (List.finRange nD) (fun d => bigSepL (rcvFrom c d) (dstN (F := F) d)) = bigSepL (restE c) (dstE (F := F)) := by
  rw [show (fun d => bigSepL (rcvFrom c d) (dstN (F := F) d)) = fun d => bigSepL ((rcvFrom c d).map fun n => (d, n)) fun x => dstN (F := F) x.1 x.2 from
    funext fun d => (bigSepL_map (fun n => (d, n)) (rcvFrom c d) (fun x : Dev nD × ℕ => dstN (F := F) x.1 x.2)).symm, ← sepL_flatMap, sepL_perm (dst_perm c), bigSepL_map, sepL_filter]
  congr 1
  funext e
  unfold dstE
  by_cases h : e.2.2 = 0
  · simp [h]
  · simp [h]

variable (I : Ins F) (κ : GSem nD τ sig → ℕ) (c : Dev nD)

/-- The regions of every device, and that its cells are open, as the barrier hands them over. -/
theorem bar_open : iprop(Base I κ ∗ barPay (F := F) c c ∗ (bigSep (payers c 0) fun d => payN I c 0 d) ∗ bigSepL (restE c) (tokE (F := F) c) ∗ Owe (F := F) c (restE c))
    ⊢ iprop(Ctx I κ ∗ Due c (restE c)) := by
  have e1 : iprop(barPay (F := F) c c ∗ (bigSep (payers c 0) fun d => payN I c 0 d))
      = iprop((bigSepL (restE c) (dstE (F := F))) ∗ bigSepL (List.finRange nD) (openedAt (F := F))) := by
    rw [payers_bar, ← dst_all, ← sepL_sep, ← bigSep_univ_eq_bigSepL (List.finRange nD) (by decide) (by decide), bigSep_erase (Finset.mem_univ c)]
    rfl
  have e2 : bigSepL (restE c) (fun e => iprop(tokE (F := F) c e ∗ dstE e)) = iprop(bigSepL (restE c) (tokE (F := F) c) ∗ bigSepL (restE c) (dstE (F := F))) := sepL_sep _ _ _
  unfold Ctx Due
  rw [e2]
  iintro ⟨HB, B, Bs, HT, HO⟩
  ihave H := (Entails.of_eq e1) $$ [B Bs]
  · isplitl [B]; · iexact B
    iexact Bs
  icases H with ⟨HD, HS⟩
  isplitl [HB HS]
  · isplitl [HB]; · iexact HB
    iexact HS
  isplitr
  · ipureintro; exact rest_mem c
  isplitl [HO]; · iexact HO
  isplitl [HT]; · iexact HT
  iexact HD

/-- What device `c` needs to signal the device at distance `j`. -/
abbrev sig1 (j : ℕ) : sProp (MT nD τ sig ℕ (Elt F) ℕ UU ℕ) := iprop(tokE c (ad c j, 0, 0) ∗ barPay (ad c j) c ∗ reached ER (cell (ad c j) 0) 0)

end Bar

section Sends

variable (I : Ins F) (κ : GSem nD τ sig → ℕ) (c : Dev nD)

/-- Copies of K blocks by an even device. -/
theorem part1_run {Q} (h : k0_cond1 c = 1#1) (v2 : BitVec 32) (l : List Ent) :
    iprop(Ctx I κ ∗ kS I c 0 ∗ kS I c 1 ∗ Due c ((xr c 0, 22 + c.val / 2, 6 + 0) :: (xr c 1, 22 + c.val / 2, 6 + 1) :: l))
      ⊢ iprop(((Wt c (6 + 0) ∗ Wt c (6 + 1) ∗ Due c l) -∗ Q ⟨⟩) -∗ wp frame (wpE (defs₀ (F := F)) 𝒱₀ (c : Thread nD τ) none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v2 h) Q) := by
  have he := (cond1_iff c).mp h
  have hm : c.val / 2 < 4 := by have := c.isLt; change c.val < 8 at this; omega
  rw [k0_part1_eq_skeleton]
  unfold k0_part1_skel
  iintro ⟨#HC, Hk0, Hk1, HD⟩ Hk
  iapply (send_k I κ c he 0 (by omega) _ (dev8_xr c h) (off3_col c) (off2_half c) (sem17 ⟨c.val / 2, hm⟩ (off1_half c)) (sem15 0 rfl)) $$ [Hk0 HD]
  · isplitr; · iexact HC
    isplitl [Hk0]; · iexact Hk0
    iexact HD
  iintro ⟨Hk0, HD⟩
  iapply (send_k I κ c he 1 (by omega) _ (dev9_xr c h) (off4_1 c) (off2_half c) (sem17 ⟨c.val / 2, hm⟩ (off1_half c)) (sem15 1 rfl)) $$ [Hk1 HD]
  · isplitr; · iexact HC
    isplitl [Hk1]; · iexact Hk1
    iexact HD
  iintro ⟨Hk1, HD⟩
  iapply (wp_fin c)
  iapply Hk
  isplitl [Hk0]; · iexact Hk0
  isplitl [Hk1]; · iexact Hk1
  iexact HD

/-- Copies of K blocks by an even device. -/
theorem part2_run {Q} (h : k0_cond1 c = 1#1) (v2 : BitVec 32) (l : List Ent) :
    iprop(Ctx I κ ∗ kS I c 2 ∗ kS I c 3 ∗ kS I c 4 ∗ Due c ((xr c 3, 62, 8) :: (xr c 3, 22 + c.val / 2, 6 + 3) :: (xr c 4, 22 + c.val / 2, 6 + 4) :: l))
      ⊢ iprop(((Wt c (6 + 2) ∗ Wt c (6 + 3) ∗ Wt c (6 + 4) ∗ Due c l) -∗ ∀ r, Q r) -∗ wp frame (wpE (defs₀ (F := F)) 𝒱₀ (c : Thread nD τ) none) Set.univ (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v2 h) Q) := by
  have he := (cond1_iff c).mp h
  have hm : c.val / 2 < 4 := by have := c.isLt; change c.val < 8 at this; omega
  rw [k0_part2_eq_skeleton]
  unfold k0_part2_skel
  iintro ⟨#HC, Hk2, Hk3, Hk4, HD⟩ Hk
  iapply (send_kst I κ c _ (dev10_xr c h) (off4_2 c) (sem23 0 rfl) (sem15 2 rfl)) $$ [Hk2 HD]
  · isplitr; · iexact HC
    isplitl [Hk2]; · iexact Hk2
    iexact HD
  iintro ⟨Hk2, HD⟩
  iapply (send_k I κ c he 3 (by omega) _ (dev11_xr c h) (off4_3 c) (off2_half c) (sem17 ⟨c.val / 2, hm⟩ (off1_half c)) (sem15 3 rfl)) $$ [Hk3 HD]
  · isplitr; · iexact HC
    isplitl [Hk3]; · iexact Hk3
    iexact HD
  iintro ⟨Hk3, HD⟩
  iapply (send_k I κ c he 4 (by omega) _ (dev12_xr c h) (off4_4 c) (off2_half c) (sem17 ⟨c.val / 2, hm⟩ (off1_half c)) (sem15 4 rfl)) $$ [Hk4 HD]
  · isplitr; · iexact HC
    isplitl [Hk4]; · iexact Hk4
    iexact HD
  iintro ⟨Hk4, HD⟩
  iapply (wp_fin c)
  ispecialize Hk $$ [Hk2 Hk3 Hk4 HD]
  · isplitl [Hk2]; · iexact Hk2
    isplitl [Hk3]; · iexact Hk3
    isplitl [Hk4]; · iexact Hk4
    iexact HD
  iapply Hk

/-- Copies of K blocks by an even device. -/
theorem part3_run {Q} (h : k0_cond1 c = 1#1) (v2 v2296 c0_i32_1236 : BitVec 32) (l : List Ent) :
    iprop(Ctx I κ ∗ kS I c 5 ∗ kS I c 6 ∗ kS I c 7 ∗ Due c ((xr c 5, 22 + c.val / 2, 6 + 5) :: (xr c 6, 22 + c.val / 2, 6 + 6) :: (xr c 7, 22 + c.val / 2, 6 + 7) :: l))
      ⊢ iprop(((Wt c (6 + 5) ∗ Wt c (6 + 6) ∗ Wt c (6 + 7) ∗ Due c l) -∗ Q ⟨⟩) -∗ wp frame (wpE (defs₀ (F := F)) 𝒱₀ (c : Thread nD τ) none) Set.univ (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v2 h v2296 c0_i32_1236) Q) := by
  have he := (cond1_iff c).mp h
  have hm : c.val / 2 < 4 := by have := c.isLt; change c.val < 8 at this; omega
  rw [k0_part3_eq_skeleton]
  unfold k0_part3_skel
  iintro ⟨#HC, Hk5, Hk6, Hk7, HD⟩ Hk
  iapply (send_k I κ c he 5 (by omega) _ (dev13_xr c h) (off4_5 c) (off2_half c) (sem17 ⟨c.val / 2, hm⟩ (off1_half c)) (sem15 5 rfl)) $$ [Hk5 HD]
  · isplitr; · iexact HC
    isplitl [Hk5]; · iexact Hk5
    iexact HD
  iintro ⟨Hk5, HD⟩
  iapply (send_k I κ c he 6 (by omega) _ (dev14_xr c h) (off4_6 c) (off2_half c) (sem17 ⟨c.val / 2, hm⟩ (off1_half c)) (sem15 6 rfl)) $$ [Hk6 HD]
  · isplitr; · iexact HC
    isplitl [Hk6]; · iexact Hk6
    iexact HD
  iintro ⟨Hk6, HD⟩
  iapply (send_k I κ c he 7 (by omega) _ (dev15_xr c h) (off4_7 c) (off2_half c) (sem17 ⟨c.val / 2, hm⟩ (off1_half c)) (sem15 7 rfl)) $$ [Hk7 HD]
  · isplitr; · iexact HC
    isplitl [Hk7]; · iexact Hk7
    iexact HD
  iintro ⟨Hk7, HD⟩
  iapply (wp_fin c)
  iapply Hk
  isplitl [Hk5]; · iexact Hk5
  isplitl [Hk6]; · iexact Hk6
  isplitl [Hk7]; · iexact Hk7
  iexact HD

/-- Copies of V blocks by an even device. -/
theorem part4_run {Q} (h : k0_cond1 c = 1#1) (v2 : BitVec 32) (l : List Ent) :
    iprop(Ctx I κ ∗ vS I c 0 ∗ vS I c 1 ∗ Due c ((xr c 0, 26 + c.val / 2, 14 + 0) :: (xr c 1, 26 + c.val / 2, 14 + 1) :: l))
      ⊢ iprop(((Wt c (14 + 0) ∗ Wt c (14 + 1) ∗ Due c l) -∗ Q ⟨⟩) -∗ wp frame (wpE (defs₀ (F := F)) 𝒱₀ (c : Thread nD τ) none) Set.univ (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v2 h) Q) := by
  have he := (cond1_iff c).mp h
  have hm : c.val / 2 < 4 := by have := c.isLt; change c.val < 8 at this; omega
  rw [k0_part4_eq_skeleton]
  unfold k0_part4_skel
  iintro ⟨#HC, Hv0, Hv1, HD⟩ Hk
  iapply (send_v I κ c he 0 (by omega) _ (dev16_xr c h) (off3_col c) (off2_half c) (sem18 ⟨c.val / 2, hm⟩ (off1_half c)) (sem16 0 rfl)) $$ [Hv0 HD]
  · isplitr; · iexact HC
    isplitl [Hv0]; · iexact Hv0
    iexact HD
  iintro ⟨Hv0, HD⟩
  iapply (send_v I κ c he 1 (by omega) _ (dev17_xr c h) (off4_1 c) (off2_half c) (sem18 ⟨c.val / 2, hm⟩ (off1_half c)) (sem16 1 rfl)) $$ [Hv1 HD]
  · isplitr; · iexact HC
    isplitl [Hv1]; · iexact Hv1
    iexact HD
  iintro ⟨Hv1, HD⟩
  iapply (wp_fin c)
  iapply Hk
  isplitl [Hv0]; · iexact Hv0
  isplitl [Hv1]; · iexact Hv1
  iexact HD

/-- Copies of V blocks by an even device. -/
theorem part5_run {Q} (h : k0_cond1 c = 1#1) (v2 : BitVec 32) (l : List Ent) :
    iprop(Ctx I κ ∗ vS I c 2 ∗ vS I c 3 ∗ vS I c 4 ∗ Due c ((xr c 3, 63, 16) :: (xr c 3, 26 + c.val / 2, 14 + 3) :: (xr c 4, 26 + c.val / 2, 14 + 4) :: l))
      ⊢ iprop(((Wt c (14 + 2) ∗ Wt c (14 + 3) ∗ Wt c (14 + 4) ∗ Due c l) -∗ Q ⟨⟩) -∗ wp frame (wpE (defs₀ (F := F)) 𝒱₀ (c : Thread nD τ) none) Set.univ (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v2 h) Q) := by
  have he := (cond1_iff c).mp h
  have hm : c.val / 2 < 4 := by have := c.isLt; change c.val < 8 at this; omega
  rw [k0_part5_eq_skeleton]
  unfold k0_part5_skel
  iintro ⟨#HC, Hv2, Hv3, Hv4, HD⟩ Hk
  iapply (send_vst I κ c _ (dev18_xr c h) (off4_2 c) (sem23 1 rfl) (sem16 2 rfl)) $$ [Hv2 HD]
  · isplitr; · iexact HC
    isplitl [Hv2]; · iexact Hv2
    iexact HD
  iintro ⟨Hv2, HD⟩
  iapply (send_v I κ c he 3 (by omega) _ (dev19_xr c h) (off4_3 c) (off2_half c) (sem18 ⟨c.val / 2, hm⟩ (off1_half c)) (sem16 3 rfl)) $$ [Hv3 HD]
  · isplitr; · iexact HC
    isplitl [Hv3]; · iexact Hv3
    iexact HD
  iintro ⟨Hv3, HD⟩
  iapply (send_v I κ c he 4 (by omega) _ (dev20_xr c h) (off4_4 c) (off2_half c) (sem18 ⟨c.val / 2, hm⟩ (off1_half c)) (sem16 4 rfl)) $$ [Hv4 HD]
  · isplitr; · iexact HC
    isplitl [Hv4]; · iexact Hv4
    iexact HD
  iintro ⟨Hv4, HD⟩
  iapply (wp_fin c)
  iapply Hk
  isplitl [Hv2]; · iexact Hv2
  isplitl [Hv3]; · iexact Hv3
  isplitl [Hv4]; · iexact Hv4
  iexact HD

/-- All of an even device's copies but the last. -/
theorem part6_run {Q} (h : k0_cond1 c = 1#1) (v2 : BitVec 32) (l : List Ent) :
    iprop(Ctx I κ ∗ kS I c 0 ∗ kS I c 1 ∗ kS I c 2 ∗ kS I c 3 ∗ kS I c 4 ∗ kS I c 5 ∗ kS I c 6 ∗ kS I c 7 ∗ vS I c 0 ∗ vS I c 1 ∗ vS I c 2 ∗ vS I c 3 ∗ vS I c 4 ∗ vS I c 5 ∗ vS I c 6 ∗ Due c ((xr c 0, 22 + c.val / 2, 6 + 0) :: (xr c 1, 22 + c.val / 2, 6 + 1) :: (xr c 3, 62, 8) :: (xr c 3, 22 + c.val / 2, 6 + 3) :: (xr c 4, 22 + c.val / 2, 6 + 4) :: (xr c 5, 22 + c.val / 2, 6 + 5) :: (xr c 6, 22 + c.val / 2, 6 + 6) :: (xr c 7, 22 + c.val / 2, 6 + 7) :: (xr c 0, 26 + c.val / 2, 14 + 0) :: (xr c 1, 26 + c.val / 2, 14 + 1) :: (xr c 3, 63, 16) :: (xr c 3, 26 + c.val / 2, 14 + 3) :: (xr c 4, 26 + c.val / 2, 14 + 4) :: (xr c 5, 26 + c.val / 2, 14 + 5) :: (xr c 6, 26 + c.val / 2, 14 + 6) :: l))
      ⊢ iprop(((Wt c (6 + 0) ∗ Wt c (6 + 1) ∗ Wt c (6 + 2) ∗ Wt c (6 + 3) ∗ Wt c (6 + 4) ∗ Wt c (6 + 5) ∗ Wt c (6 + 6) ∗ Wt c (6 + 7) ∗ Wt c (14 + 0) ∗ Wt c (14 + 1) ∗ Wt c (14 + 2) ∗ Wt c (14 + 3) ∗ Wt c (14 + 4) ∗ Wt c (14 + 5) ∗ Wt c (14 + 6) ∗ Due c l) -∗ Q ⟨⟩) -∗ wp frame (wpE (defs₀ (F := F)) 𝒱₀ (c : Thread nD τ) none) Set.univ (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v2 h) Q) := by
  have he := (cond1_iff c).mp h
  have hm : c.val / 2 < 4 := by have := c.isLt; change c.val < 8 at this; omega
  rw [k0_part6_eq_skeleton]
  unfold k0_part6_skel
  iintro ⟨#HC, Hk0, Hk1, Hk2, Hk3, Hk4, Hk5, Hk6, Hk7, Hv0, Hv1, Hv2, Hv3, Hv4, Hv5, Hv6, HD⟩ Hk
  rw [wp_bind]
  iapply (part1_run I κ c h _ _) $$ [Hk0 Hk1 HD]
  · isplitr; · iexact HC
    isplitl [Hk0]; · iexact Hk0
    isplitl [Hk1]; · iexact Hk1
    iexact HD
  iintro ⟨Hk0, Hk1, HD⟩
  rw [wp_bind]
  iapply (part2_run I κ c h _ _) $$ [Hk2 Hk3 Hk4 HD]
  · isplitr; · iexact HC
    isplitl [Hk2]; · iexact Hk2
    isplitl [Hk3]; · iexact Hk3
    isplitl [Hk4]; · iexact Hk4
    iexact HD
  iintro ⟨Hk2, Hk3, Hk4, HD⟩ %r
  rw [wp_bind]
  iapply (part3_run I κ c h _ _ _ _) $$ [Hk5 Hk6 Hk7 HD]
  · isplitr; · iexact HC
    isplitl [Hk5]; · iexact Hk5
    isplitl [Hk6]; · iexact Hk6
    isplitl [Hk7]; · iexact Hk7
    iexact HD
  iintro ⟨Hk5, Hk6, Hk7, HD⟩
  rw [wp_bind]
  iapply (part4_run I κ c h _ _) $$ [Hv0 Hv1 HD]
  · isplitr; · iexact HC
    isplitl [Hv0]; · iexact Hv0
    isplitl [Hv1]; · iexact Hv1
    iexact HD
  iintro ⟨Hv0, Hv1, HD⟩
  rw [wp_bind]
  iapply (part5_run I κ c h _ _) $$ [Hv2 Hv3 Hv4 HD]
  · isplitr; · iexact HC
    isplitl [Hv2]; · iexact Hv2
    isplitl [Hv3]; · iexact Hv3
    isplitl [Hv4]; · iexact Hv4
    iexact HD
  iintro ⟨Hv2, Hv3, Hv4, HD⟩
  iapply (send_v I κ c he 5 (by omega) _ (dev21_xr c h) (off4_5 c) (off2_half c) (sem18 ⟨c.val / 2, hm⟩ (off1_half c)) (sem16 5 rfl)) $$ [Hv5 HD]
  · isplitr; · iexact HC
    isplitl [Hv5]; · iexact Hv5
    iexact HD
  iintro ⟨Hv5, HD⟩
  iapply (send_v I κ c he 6 (by omega) _ (dev22_xr c h) (off4_6 c) (off2_half c) (sem18 ⟨c.val / 2, hm⟩ (off1_half c)) (sem16 6 rfl)) $$ [Hv6 HD]
  · isplitr; · iexact HC
    isplitl [Hv6]; · iexact Hv6
    iexact HD
  iintro ⟨Hv6, HD⟩
  iapply (wp_fin c)
  iapply Hk
  isplitl [Hk0]; · iexact Hk0
  isplitl [Hk1]; · iexact Hk1
  isplitl [Hk2]; · iexact Hk2
  isplitl [Hk3]; · iexact Hk3
  isplitl [Hk4]; · iexact Hk4
  isplitl [Hk5]; · iexact Hk5
  isplitl [Hk6]; · iexact Hk6
  isplitl [Hk7]; · iexact Hk7
  isplitl [Hv0]; · iexact Hv0
  isplitl [Hv1]; · iexact Hv1
  isplitl [Hv2]; · iexact Hv2
  isplitl [Hv3]; · iexact Hv3
  isplitl [Hv4]; · iexact Hv4
  isplitl [Hv5]; · iexact Hv5
  isplitl [Hv6]; · iexact Hv6
  iexact HD

end Sends

end Cert.KernelIdeal.Hand

end
-- ==== Proof.Start.lean ====
/-
  The start of the body: the barrier, the copies out of the even devices, the relay by the odd ones, and the loads of x and Wq.
-/
module

public import proofs.«01_k».proof.Proof.Sends

@[expose] public section

set_option maxRecDepth 16384

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

section Start

variable (I : Ins F) (κ : GSem nD τ sig → ℕ) (c : Dev nD)

/-- A branch whose two sides do the same to what is held and go on the same way. -/
theorem dite_join {α : Type} {p : Prop} [Decidable p] {t : p → Prog (TpuEff nD τ sig (Elt F) Λ₀ .tc) α} {e : ¬p → Prog (TpuEff nD τ sig (Elt F) Λ₀ .tc) α}
    {J : Prog (TpuEff nD τ sig (Elt F) Λ₀ .tc) α} {Q : α → sProp (MT nD τ sig ℕ (Elt F) ℕ UU ℕ)} (R S : sProp (MT nD τ sig ℕ (Elt F) ℕ UU ℕ))
    (h2 : ∀ h, R ⊢ iprop((S -∗ wp frame (wpE (defs₀ (F := F)) 𝒱₀ (c : Thread nD τ) none) Set.univ J Q) -∗ wp frame (wpE (defs₀ (F := F)) 𝒱₀ (c : Thread nD τ) none) Set.univ (e h) Q)) (h1 : ∀ h, R ⊢ iprop((S -∗ wp frame (wpE (defs₀ (F := F)) 𝒱₀ (c : Thread nD τ) none) Set.univ J Q) -∗ wp frame (wpE (defs₀ (F := F)) 𝒱₀ (c : Thread nD τ) none) Set.univ (t h) Q)) :
    R ⊢ iprop((S -∗ wp frame (wpE (defs₀ (F := F)) 𝒱₀ (c : Thread nD τ) none) Set.univ J Q) -∗ wp frame (wpE (defs₀ (F := F)) 𝒱₀ (c : Thread nD τ) none) Set.univ (dite p t e) Q) := by
  by_cases h : p
  · rw [dif_pos h]; exact h1 h
  · rw [dif_neg h]; exact h2 h

/-- A program run before another. -/
theorem bind_in {α β : Type} {x : Prog (TpuEff nD τ sig (Elt F) Λ₀ .tc) β} {k : β → Prog (TpuEff nD τ sig (Elt F) Λ₀ .tc) α} {Q : α → sProp (MT nD τ sig ℕ (Elt F) ℕ UU ℕ)} :
    wp frame (wpE (defs₀ (F := F)) 𝒱₀ (c : Thread nD τ) none) Set.univ x (fun r => wp frame (wpE (defs₀ (F := F)) 𝒱₀ (c : Thread nD τ) none) Set.univ (k r) Q) ⊢ wp frame (wpE (defs₀ (F := F)) 𝒱₀ (c : Thread nD τ) none) Set.univ (x >>= k) Q := Entails.of_eq (wp_bind ..).symm

/-- One signal of the opening barrier. -/
theorem sig_bar (j : ℕ) (l : List Ent) {α : Type} {d : Dev nD} {sm : Sem sig} {k : PUnit → Prog (TpuEff nD τ sig (Elt F) Λ₀ .tc) α} {Q : α → sProp (MT nD τ sig ℕ (Elt F) ℕ UU ℕ)}
    (hd : d = ad c j) (hsm : SemLoc.reg sm = semOf 0) (he : (ad c j, 0, 0) ∈ allE c) :
    iprop(Base I κ ∗ sig1 c j ∗ Owe c ((ad c j, 0, 0) :: l))
      ⊢ iprop((Owe c l -∗ wp frame (wpE (defs₀ (F := F)) 𝒱₀ (c : Thread nD τ) none) Set.univ (k ⟨⟩) Q) -∗ wp frame (wpE (defs₀ (F := F)) 𝒱₀ (c : Thread nD τ) none) Set.univ (semSignalWord d sm 1#32 >>= k) Q) := by
  subst hd
  have e : (semSignalWord (ad c j) sm 1#32 >>= k : Prog (TpuEff nD τ sig (Elt F) Λ₀ .tc) α) = .op (.semSignal (Dev.tc (ad c j)) sm 1) k := by
    show Prog.op (TpuEff.semSignal _ sm (1#32 : BitVec 32).toInt) _ = _
    rw [show (1#32 : BitVec 32).toInt = ((1 : ℕ) : ℤ) by decide]; rfl
  have ep : payN I (ad c j) 0 c = barPay (ad c j) c := rfl
  have h := step_signal (Q := Q) (k := k) I κ c (ad c j) 0 l hsm List.mem_cons_self rfl he
  rw [e]
  rw [ep] at h
  iintro ⟨HB, ⟨HT, HP, HR⟩, HO⟩
  iapply h
  isplitl [HB]; · iexact HB
  isplitl [HO]; · iexact HO
  isplitl [HT]; · iexact HT
  isplitl [HP]; · iexact HP
  iexact HR

/-- A wait for the seven signals of the other devices. -/
theorem wait_seven (n : ℕ) (l : List Ent) {α : Type} {sm : Sem sig} {k : PUnit → Prog (TpuEff nD τ sig (Elt F) Λ₀ .tc) α} {Q : α → sProp (MT nD τ sig ℕ (Elt F) ℕ UU ℕ)}
    (hsm : SemLoc.reg sm = semOf n) (hn : n ∈ 0 :: scopedL) (hk : totN n = 7) (hp : (payers c n).card * amtN n = totN n) (hl : ∀ e ∈ l, lvN n < lvN e.2.1) :
    iprop(Base I κ ∗ Wt c n ∗ Owe c l)
      ⊢ iprop(((Owe c l ∗ Don c n ∗ bigSep (payers c n) fun d => payN I c n d) -∗ wp frame (wpE (defs₀ (F := F)) 𝒱₀ (c : Thread nD τ) none) Set.univ (k ⟨⟩) Q) -∗ wp frame (wpE (defs₀ (F := F)) 𝒱₀ (c : Thread nD τ) none) Set.univ (semWaitWord sm 7#32 >>= k) Q) := by
  have e : (semWaitWord sm 7#32 >>= k : Prog (TpuEff nD τ sig (Elt F) Λ₀ .tc) α) = .op (.semWait sm 7) k := by
    show Prog.op (TpuEff.semWait sm (7#32 : BitVec 32).toInt) _ = _
    rw [show (7#32 : BitVec 32).toInt = ((7 : ℕ) : ℤ) by decide]; rfl
  rw [e]
  exact step_wait' I κ c n l (fun K => by rw [← hsm]; rfl) hn hk.symm hp hl

theorem bar_mem (j : ℕ) (h : 1 ≤ j ∧ j < 8) : (ad c j, 0, 0) ∈ allE c := by
  rw [allE_rest, barE_eq]
  have h' : j = 1 ∨ j = 2 ∨ j = 3 ∨ j = 4 ∨ j = 5 ∨ j = 6 ∨ j = 7 := by omega
  rcases h' with rfl | rfl | rfl | rfl | rfl | rfl | rfl <;> simp

/-- The words a device computes of its number. -/
theorem part12_run {Q} : (iprop(Q ⟨c, (v2 c), (v13 c), (SemArray.scalar (sig.barrier 0 rfl)), (v34 c), (v35 c), (v36 c), (c0_i32_17 c)⟩) : sProp (MT nD τ sig ℕ (Elt F) ℕ UU ℕ)) ⊢ wp frame (wpE (defs₀ (F := F)) 𝒱₀ (c : Thread nD τ) none) Set.univ (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 ) Q := by
  rw [k0_part12_eq_skeleton]
  unfold k0_part12_skel
  refine .trans ?_ (Entails.of_eq (wp_deviceId 𝒱₀ (c : Thread nD τ) none Set.univ).symm)
  exact wp_fin c _

/-- Signals of the opening barrier. -/
theorem part13_run {Q} (l : List Ent) : iprop(Base I κ ∗ sig1 c 1 ∗ sig1 c 2 ∗ Owe c ((ad c 1, 0, 0) :: (ad c 2, 0, 0) :: l))
    ⊢ iprop((Owe c l -∗ Q ⟨⟩) -∗ wp frame (wpE (defs₀ (F := F)) 𝒱₀ (c : Thread nD τ) none) Set.univ (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (SemArray.scalar (sig.barrier 0 rfl)) (v34 c) (v35 c) (v36 c) (c0_i32_17 c)) Q) := by
  rw [k0_part13_eq_skeleton]
  unfold k0_part13_skel
  iintro ⟨#HB, H1, H2, HO⟩ Hk
  iapply (sig_bar I κ c 1 _ (dev1_ad c) rfl (bar_mem c 1 (by omega))) $$ [H1 HO]
  · isplitr; · iexact HB
    isplitl [H1]; · iexact H1
    iexact HO
  iintro HO
  iapply (sig_bar I κ c 2 _ (dev2_ad c) rfl (bar_mem c 2 (by omega))) $$ [H2 HO]
  · isplitr; · iexact HB
    isplitl [H2]; · iexact H2
    iexact HO
  iintro HO
  iapply (wp_fin c)
  iapply Hk
  iexact HO

/-- Signals of the opening barrier. -/
theorem part14_run {Q} (l : List Ent) : iprop(Base I κ ∗ sig1 c 3 ∗ sig1 c 4 ∗ sig1 c 5 ∗ Owe c ((ad c 3, 0, 0) :: (ad c 4, 0, 0) :: (ad c 5, 0, 0) :: l))
    ⊢ iprop((Owe c l -∗ Q ⟨(v99 c), (v100 c), (v101 c), (c0_i32_63 c)⟩) -∗ wp frame (wpE (defs₀ (F := F)) 𝒱₀ (c : Thread nD τ) none) Set.univ (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (SemArray.scalar (sig.barrier 0 rfl))) Q) := by
  rw [k0_part14_eq_skeleton]
  unfold k0_part14_skel
  iintro ⟨#HB, H3, H4, H5, HO⟩ Hk
  iapply (sig_bar I κ c 3 _ (dev3_ad c) rfl (bar_mem c 3 (by omega))) $$ [H3 HO]
  · isplitr; · iexact HB
    isplitl [H3]; · iexact H3
    iexact HO
  iintro HO
  iapply (sig_bar I κ c 4 _ (dev4_ad c) rfl (bar_mem c 4 (by omega))) $$ [H4 HO]
  · isplitr; · iexact HB
    isplitl [H4]; · iexact H4
    iexact HO
  iintro HO
  iapply (sig_bar I κ c 5 _ (dev5_ad c) rfl (bar_mem c 5 (by omega))) $$ [H5 HO]
  · isplitr; · iexact HB
    isplitl [H5]; · iexact H5
    iexact HO
  iintro HO
  iapply (fin_to c (b := ⟨(v99 c), (v100 c), (v101 c), (c0_i32_63 c)⟩) ?_)
  · rfl
  iapply Hk
  iexact HO

/-- The column blocks of K and of V. -/
def kvAll : sProp (MT nD τ sig ℕ (Elt F) ℕ UU ℕ) := iprop(kS I c 0 ∗ kS I c 1 ∗ kS I c 2 ∗ kS I c 3 ∗ kS I c 4 ∗ kS I c 5 ∗ kS I c 6 ∗ kS I c 7 ∗ vS I c 0 ∗ vS I c 1 ∗ vS I c 2 ∗ vS I c 3 ∗ vS I c 4 ∗ vS I c 5 ∗ vS I c 6 ∗ vS I c 7)
/-- The waits for the copies of those blocks. -/
def kvWt : sProp (MT nD τ sig ℕ (Elt F) ℕ UU ℕ) := iprop(Wt c (6 + 0) ∗ Wt c (6 + 1) ∗ Wt c (6 + 2) ∗ Wt c (6 + 3) ∗ Wt c (6 + 4) ∗ Wt c (6 + 5) ∗ Wt c (6 + 6) ∗ Wt c (6 + 7) ∗ Wt c (14 + 0) ∗ Wt c (14 + 1) ∗ Wt c (14 + 2) ∗ Wt c (14 + 3) ∗ Wt c (14 + 4) ∗ Wt c (14 + 5) ∗ Wt c (14 + 6) ∗ Wt c (14 + 7))

/-- The blocks, or the waits for their copies at an even device. -/
def kvHalf : sProp (MT nD τ sig ℕ (Elt F) ℕ UU ℕ) := if c.val % 2 = 0 then kvWt c else kvAll I c

set_option maxHeartbeats 1600000 in
/-- The barrier ends and the even devices copy their blocks out. -/
theorem part15_run {Q} : iprop(Base I κ ∗ sig1 c 6 ∗ sig1 c 7 ∗ Owe c ((ad c 6, 0, 0) :: (ad c 7, 0, 0) :: restE c) ∗ Wt c 0 ∗ barPay c c ∗ bigSepL (restE c) (tokE c) ∗ kvAll I c ∗ xR I c ∗ wqR I c)
    ⊢ iprop(((Ctx I κ ∗ Don c 0 ∗ Due c (rlE c ++ (rsE c ++ (agE c ++ s2E c))) ∗ kvHalf I c ∗ xR I c ∗ wqR I c) -∗ Q ⟨(v129 I c), (v131 I c)⟩) -∗ wp frame (wpE (defs₀ (F := F)) 𝒱₀ (c : Thread nD τ) none) Set.univ (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (v13 c) (SemArray.scalar (sig.barrier 0 rfl)) (v99 c) (v100 c) (v101 c) (c0_i32_63 c)) Q) := by
  rw [k0_part15_eq_skeleton]
  unfold k0_part15_skel
  iintro ⟨#HB, H6, H7, HO, HW, HP, HT, HK, HX, HQ⟩ Hk
  iapply (sig_bar I κ c 6 _ (dev6_ad c) rfl (bar_mem c 6 (by omega))) $$ [H6 HO]
  · isplitr; · iexact HB
    isplitl [H6]; · iexact H6
    iexact HO
  iintro HO
  iapply (sig_bar I κ c 7 _ (dev7_ad c) rfl (bar_mem c 7 (by omega))) $$ [H7 HO]
  · isplitr; · iexact HB
    isplitl [H7]; · iexact H7
    iexact HO
  iintro HO
  iapply (wait_seven I κ c 0 _ rfl List.mem_cons_self rfl (by rw [payers_bar, Finset.card_erase_of_mem (Finset.mem_univ c)]; rfl) (lv_bar c)) $$ [HW HO]
  · isplitr; · iexact HB
    isplitl [HW]; · iexact HW
    iexact HO
  iintro ⟨HO, HW, HS⟩
  ihave HC := (bar_open I κ c) $$ [HP HT HS HO]
  · isplitr; · iexact HB
    isplitl [HP]; · iexact HP
    isplitl [HS]; · iexact HS
    isplitl [HT]; · iexact HT
    iexact HO
  icases HC with ⟨#HC, HD⟩
  unfold restE
  iapply (dite_join c iprop(Ctx I κ ∗ kvAll I c ∗ Due c (kvE c ++ (rlE c ++ (rsE c ++ (agE c ++ s2E c))))) iprop(kvHalf I c ∗ Due c (rlE c ++ (rsE c ++ (agE c ++ s2E c)))) ?_ ?_) $$ [HK HD]
  · intro h
    have ho : ¬ c.val % 2 = 0 := fun e => h ((cond1_iff c).mpr e)
    unfold kvHalf
    rw [if_neg ho, show kvE c = [] from if_neg ho, List.nil_append]
    iintro ⟨-, HK, HD⟩ Hk
    iapply Hk
    isplitl [HK]; · iexact HK
    iexact HD
  · intro h
    have he := (cond1_iff c).mp h
    have hm : c.val / 2 < 4 := by have := c.isLt; change c.val < 8 at this; omega
    unfold kvHalf kvAll kvWt
    rw [if_pos he, show kvE c = kE c ++ vE c from if_pos he, kE_eq, vE_eq]
    simp only [List.cons_append, List.nil_append]
    iintro ⟨#HC, ⟨Hk0, Hk1, Hk2, Hk3, Hk4, Hk5, Hk6, Hk7, Hv0, Hv1, Hv2, Hv3, Hv4, Hv5, Hv6, Hv7⟩, HD⟩ Hk
    iapply (bind_in c)
    iapply (part6_run I κ c h _ _) $$ [Hk0 Hk1 Hk2 Hk3 Hk4 Hk5 Hk6 Hk7 Hv0 Hv1 Hv2 Hv3 Hv4 Hv5 Hv6 HD]
    · isplitr; · iexact HC
      isplitl [Hk0]; · iexact Hk0
      isplitl [Hk1]; · iexact Hk1
      isplitl [Hk2]; · iexact Hk2
      isplitl [Hk3]; · iexact Hk3
      isplitl [Hk4]; · iexact Hk4
      isplitl [Hk5]; · iexact Hk5
      isplitl [Hk6]; · iexact Hk6
      isplitl [Hk7]; · iexact Hk7
      isplitl [Hv0]; · iexact Hv0
      isplitl [Hv1]; · iexact Hv1
      isplitl [Hv2]; · iexact Hv2
      isplitl [Hv3]; · iexact Hv3
      isplitl [Hv4]; · iexact Hv4
      isplitl [Hv5]; · iexact Hv5
      isplitl [Hv6]; · iexact Hv6
      iexact HD
    iintro ⟨Hk0, Hk1, Hk2, Hk3, Hk4, Hk5, Hk6, Hk7, Hv0, Hv1, Hv2, Hv3, Hv4, Hv5, Hv6, HD⟩
    iapply (send_v I κ c he 7 (by omega) _ (dev23_xr c h) (off4_7 c) (off2_half c) (sem18 ⟨c.val / 2, hm⟩ (off1_half c)) (sem16 7 rfl)) $$ [Hv7 HD]
    · isplitr; · iexact HC
      isplitl [Hv7]; · iexact Hv7
      iexact HD
    iintro ⟨Hv7, HD⟩
    iapply Hk
    isplitr [HD]
    · isplitl [Hk0]; · iexact Hk0
      isplitl [Hk1]; · iexact Hk1
      isplitl [Hk2]; · iexact Hk2
      isplitl [Hk3]; · iexact Hk3
      isplitl [Hk4]; · iexact Hk4
      isplitl [Hk5]; · iexact Hk5
      isplitl [Hk6]; · iexact Hk6
      isplitl [Hk7]; · iexact Hk7
      isplitl [Hv0]; · iexact Hv0
      isplitl [Hv1]; · iexact Hv1
      isplitl [Hv2]; · iexact Hv2
      isplitl [Hv3]; · iexact Hv3
      isplitl [Hv4]; · iexact Hv4
      isplitl [Hv5]; · iexact Hv5
      isplitl [Hv6]; · iexact Hv6
      iexact Hv7
    iexact HD
  · isplitr; · iexact HC
    isplitl [HK]; · iexact HK
    iexact HD
  iintro ⟨HK, HD⟩
  iapply (ldw (m := Memref.whole cc0_stg0_0) c fullShare (I.x c)) $$ [HX]; · iexact HX
  iintro HX
  iapply (ldw (m := Memref.whole cc0_stg1_0) c fullShare (I.wq c)) $$ [HQ]; · iexact HQ
  iintro HQ
  iapply (ldw (m := Memref.whole cc0_stg0_0) c fullShare (I.x c)) $$ [HX]; · iexact HX
  iintro HX
  iapply (fin_to c (b := ⟨(v129 I c), (v131 I c)⟩) ?_)
  · rfl
  iapply Hk
  isplitr; · iexact HC
  isplitl [HW]; · iexact HW
  isplitl [HD]; · iexact HD
  isplitl [HK]; · iexact HK
  isplitl [HX]; · iexact HX
  iexact HQ

/-- Before the relay: an odd device's waits for the blocks it passes on. -/
def rlPre : sProp (MT nD τ sig ℕ (Elt F) ℕ UU ℕ) := if c.val % 2 = 1 then iprop(Wt c 62 ∗ Wt c 63) else iprop(emp)
/-- After it. -/
def rlPost : sProp (MT nD τ sig ℕ (Elt F) ℕ UU ℕ) := if c.val % 2 = 1 then iprop(Don c 62 ∗ Don c 63 ∗ Wt c 64 ∗ Wt c 65) else iprop(emp)

theorem one_in (n : ℕ) (h : n ∈ inE c) : (payers c n).card = 1 := payers_in c n h
theorem in_odd (ho : c.val % 2 = 1) : 62 ∈ inE c ∧ 63 ∈ inE c := by
  unfold inE; rw [if_neg (by omega)]; exact ⟨by simp, by simp⟩

/-- An odd device passes a block of K on. -/
theorem part7_run {Q} (h : k0_cond2 c = 1#1) (v2 : BitVec 32) (l : List Ent) (hl : ∀ e ∈ (xr c 1, 22 + (xr c 3).val / 2, 64) :: l, 2 < lvN e.2.1) :
    iprop(Ctx I κ ∗ Wt c 62 ∗ Due c ((xr c 1, 22 + (xr c 3).val / 2, 64) :: l))
      ⊢ iprop(((Don c 62 ∗ Wt c 64 ∗ Due c l) -∗ ∀ r, Q r) -∗ wp frame (wpE (defs₀ (F := F)) 𝒱₀ (c : Thread nD τ) none) Set.univ (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v2 h) Q) := by
  have ho := (cond2_iff c).mp h
  have hm : (xr c 3).val / 2 < 4 := by have := (xr c 3).isLt; change (xr c 3).val < 8 at this; omega
  rw [k0_part7_eq_skeleton]
  unfold k0_part7_skel
  iintro ⟨#HC, W, HD⟩ Hk
  iapply (wait_one I κ c 62 _ (sem23 0 rfl) (by omega) (by rw [amtN_s (by omega)]; rfl) (one_in c _ (in_odd c ho).1) (fun p => payN_62 I c p) hl) $$ [W HD]
  · isplitr; · iexact HC
    isplitl [W]; · iexact W
    iexact HD
  iintro ⟨HD, W, HK⟩
  iapply (relay_k I κ c ho _ (dev24_xr c h) (off6_half c ho) (sem17 ⟨(xr c 3).val / 2, hm⟩ (off5_half c ho)) (sem24 0 rfl)) $$ [HK HD]
  · isplitr; · iexact HC
    isplitl [HK]; · iexact HK
    iexact HD
  iintro ⟨W2, HD⟩
  iapply (wp_fin c)
  ispecialize Hk $$ [W W2 HD]
  · isplitl [W]; · iexact W
    isplitl [W2]; · iexact W2
    iexact HD
  iapply Hk

set_option maxHeartbeats 1600000 in
/-- The relay by the odd devices, and the first block of K. -/
theorem part16_run {Q} : iprop(Ctx I κ ∗ wqR I c ∗ rlPre c ∗ Wt c (22 + 0) ∗ Due c (rlE c ++ (rsE c ++ (agE c ++ s2E c))))
    ⊢ iprop(((wqR I c ∗ rlPost c ∗ Don c (22 + 0) ∗ kR I c 0 ∗ Due c (rsE c ++ (agE c ++ s2E c))) -∗ Q ⟨(v134 I c), (v146 I c), (v152 I c), (v158 I c), (v162 I c), cst_111⟩) -∗ wp frame (wpE (defs₀ (F := F)) 𝒱₀ (c : Thread nD τ) none) Set.univ (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (v13 c) (v129 I c) (v131 I c)) Q) := by
  rw [k0_part16_eq_skeleton]
  unfold k0_part16_skel
  iintro ⟨#HC, HQ, HR, W22, HD⟩ Hk
  iapply (ldw (m := Memref.whole cc0_stg1_0) c fullShare (I.wq c)) $$ [HQ]; · iexact HQ
  iintro HQ
  iapply (dite_join c iprop(Ctx I κ ∗ rlPre c ∗ Due c (rlE c ++ (rsE c ++ (agE c ++ s2E c)))) iprop(rlPost c ∗ Due c (rsE c ++ (agE c ++ s2E c))) ?_ ?_) $$ [HR HD]
  · intro h
    have ho : ¬ c.val % 2 = 1 := fun e => h ((cond2_iff c).mpr e)
    unfold rlPre rlPost
    rw [if_neg ho, if_neg ho, show rlE c = [] from if_pos (by omega), List.nil_append]
    iintro ⟨-, H, HD⟩ Hk
    iapply Hk
    isplitl [H]; · iexact H
    iexact HD
  · intro h
    have ho := (cond2_iff c).mp h
    have hm : (xr c 3).val / 2 < 4 := by have := (xr c 3).isLt; change (xr c 3).val < 8 at this; omega
    have hl := lv_rl c
    unfold rlPre rlPost
    rw [if_pos ho, if_pos ho]
    rw [show rlE c = [(xr c 1, 22 + (xr c 3).val / 2, 64), (xr c 1, 26 + (xr c 3).val / 2, 65)] from if_neg (by omega)] at hl ⊢
    simp only [List.cons_append, List.nil_append] at hl ⊢
    iintro ⟨#HC, ⟨W, W3⟩, HD⟩ Hk
    iapply (bind_in c)
    iapply (part7_run I κ c h _ _ hl) $$ [W HD]
    · isplitr; · iexact HC
      isplitl [W]; · iexact W
      iexact HD
    iintro ⟨W, W4, HD⟩ %r
    iapply (wait_one I κ c 63 _ (sem23 1 rfl) (by omega) (by rw [amtN_s (by omega)]; rfl) (one_in c _ (in_odd c ho).2) (fun p => payN_63 I c p) (fun e he => hl e (List.mem_cons_of_mem _ he))) $$ [W3 HD]
    · isplitr; · iexact HC
      isplitl [W3]; · iexact W3
      iexact HD
    iintro ⟨HD, W3, HK⟩
    iapply (relay_v I κ c ho _ (dev25_xr c h) (off6_half c ho) (sem18 ⟨(xr c 3).val / 2, hm⟩ (off5_half c ho)) (sem24 1 rfl)) $$ [HK HD]
    · isplitr; · iexact HC
      isplitl [HK]; · iexact HK
      iexact HD
    iintro ⟨W5, HD⟩
    iapply Hk
    isplitr [HD]
    · isplitl [W]; · iexact W
      isplitl [W3]; · iexact W3
      isplitl [W4]; · iexact W4
      iexact W5
    iexact HD
  · isplitr; · iexact HC
    isplitl [HR]; · iexact HR
    iexact HD
  iintro ⟨HR, HD⟩
  iapply (wait_one I κ c (22 + 0) _ (sem17 0 rfl) (by omega) (by rw [amtN_k (by omega)]; rfl) (one_kv c _ (by omega)) (fun p => payN_kb I c p (by omega)) (lv_kv c)) $$ [W22 HD]
  · isplitr; · iexact HC
    isplitl [W22]; · iexact W22
    iexact HD
  iintro ⟨HD, W22, HK⟩
  iapply (ld (m := Memref.whole cc0_scratch0) c (slotK 0) fullShare (KB I c) (sub_kb 0 0 0)) $$ [HK]; · iexact HK
  iintro HK
  iapply (fin_to c (b := ⟨(v134 I c), (v146 I c), (v152 I c), (v158 I c), (v162 I c), cst_111⟩) ?_)
  · rfl
  iapply Hk
  isplitl [HQ]; · iexact HQ
  isplitl [HR]; · iexact HR
  isplitl [W22]; · iexact W22
  isplitl [HK]; · iexact HK
  iexact HD

end Start

end Cert.KernelIdeal.Hand

end
-- ==== Proof.Middle.lean ====
/-
  The partial result of the device's heads, its rows sent to the devices that sum them, and the rows received from the others.
-/
module

public import proofs.«01_k».proof.Proof.Start

@[expose] public section

set_option maxRecDepth 16384

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-- A block of 64 rows of one batch entry, as the partial result is stored. -/
abbrev blkS (n : ℕ) : Finset S2x128x512.Idx := Finset.univ.filter fun i => 2 * ((i 1).val / 64) + (i 0).val = n

theorem blk_set {off : Fin 3 → ℕ} {inb} (b h : ℕ) (hb : b < 2) (e : off = ![b, 64 * h, 0]) :
    (Rect.unit (s := S2x128x512) off S1x64x512.size inb).set = blkS (2 * h + b) := by
  subst e; ext i
  have h0 : (i 0).val < 2 := (i 0).isLt
  have h2 : (i 2).val < 512 := (i 2).isLt
  rw [Rect.mem_set_unit, Finset.mem_filter]
  constructor
  · intro H
    have H0 := H 0
    have H1 := H 1
    change b ≤ (i 0).val ∧ (i 0).val < b + 1 at H0
    change 64 * h ≤ (i 1).val ∧ (i 1).val < 64 * h + 64 at H1
    exact ⟨Finset.mem_univ _, by omega⟩
  · rintro ⟨-, H⟩ a
    fin_cases a
    · change b ≤ (i 0).val ∧ (i 0).val < b + 1; omega
    · change 64 * h ≤ (i 1).val ∧ (i 1).val < 64 * h + 64; omega
    · change 0 ≤ (i 2).val ∧ (i 2).val < 0 + 512; omega

theorem blk_emb {off : Fin 3 → ℕ} {inb} (b h : Fin 2) (e : off = ![b.val, 64 * h.val, 0]) (x : Fin 1) (y : Fin 64) (z : Fin 512) :
    (Rect.unit (s := S2x128x512) off S1x64x512.size inb).emb (ix3 x y z) = ix3 b ⟨64 * h.val + y.val, by have := h.isLt; have := y.isLt; omega⟩ z := by
  subst e; funext a; apply Fin.ext
  fin_cases a
  · change b.val + 1 * x.val = b.val; have := x.isLt; omega
  · change 64 * h.val + 1 * y.val = 64 * h.val + y.val; omega
  · change 0 + 1 * z.val = z.val; omega

theorem blk4_ix {α : Type} (a00 a10 a01 a11 : S1x64x512.Idx → α) (b h : Fin 2) (y : Fin 64) (z : Fin 512) (hy) :
    blk4 a00 a10 a01 a11 (ix3 b ⟨64 * h.val + y.val, hy⟩ z) = (![![a00, a10], ![a01, a11]] h b) (ix3 0 y z) := by
  have hl := y.isLt
  unfold blk4
  have hb : ∀ b : Fin 2, (ix3 b (⟨64 * h.val + y.val, hy⟩ : Fin 128) z 0).val = b.val := fun _ => rfl
  obtain rfl | rfl : h = 0 ∨ h = 1 := by omega
  · refine (dif_pos (show 64 * 0 + y.val < 64 by omega)).trans ?_
    have e : ∀ q, (⟨64 * 0 + y.val, q⟩ : Fin 64) = y := fun q => Fin.ext (by show 64 * 0 + y.val = _; omega)
    refine (congrArg (fun w => (if b.val = 0 then a00 else a10) (ix3 0 w z)) (e (by omega))).trans ?_
    obtain rfl | rfl : b = 0 ∨ b = 1 := by omega
    · rfl
    · rfl
  · refine (dif_neg (show ¬ (64 * 1 + y.val < 64) by omega)).trans ?_
    have e : ∀ q, (⟨64 * 1 + y.val - 64, q⟩ : Fin 64) = y := fun q => Fin.ext (by show 64 * 1 + y.val - 64 = _; omega)
    refine (congrArg (fun w => (if b.val = 0 then a01 else a11) (ix3 0 w z)) (e (by omega))).trans ?_
    obtain rfl | rfl : b = 0 ∨ b = 1 := by omega
    · rfl
    · rfl

theorem blk4_emb {α : Type} (a00 a10 a01 a11 : S1x64x512.Idx → α) {off : Fin 3 → ℕ} {inb} (b h : Fin 2) (e : off = ![b.val, 64 * h.val, 0]) (x : S1x64x512.Idx) :
    blk4 a00 a10 a01 a11 ((Rect.unit (s := S2x128x512) off S1x64x512.size inb).emb x) = (![![a00, a10], ![a01, a11]] h b) x := by
  have hx : ix3 (0 : Fin 1) (x 1) (x 2) = x := (congrArg (fun w : Fin 1 => ix3 w (x 1) (x 2)) (Subsingleton.elim (0 : Fin 1) (x 0))).trans (eq_ix3 x).symm
  refine (congrArg (blk4 a00 a10 a01 a11) ((congrArg (Rect.unit (s := S2x128x512) off S1x64x512.size inb).emb hx.symm).trans (blk_emb b h e 0 (x 1) (x 2)))).trans ?_
  exact (blk4_ix a00 a10 a01 a11 b h (x 1) (x 2) _).trans (congrArg _ hx)

/-- Both batch entries' blocks of 64 rows are four blocks of 16 rows. -/
theorem rows_of_blk (n : ℕ) : (fibs (ℓ := (((0 : Dev nD) : Thread nD τ)).loc cc0_scratch3) (fun i : S2x128x512.Idx => 2 * ((i 1).val / 64) + (i 0).val) [2 * n, 2 * n + 1])
    = fibs (ℓ := (((0 : Dev nD) : Thread nD τ)).loc cc0_scratch3) (fun i : S2x128x512.Idx => (i 1).val / 16) [4 * n, 4 * n + 1, 4 * n + 2, 4 * n + 3] := by
  ext (i : S2x128x512.Idx)
  have h0 : (i 0).val < 2 := (i 0).isLt
  simp only [Finset.mem_filter, Finset.mem_univ, true_and, List.mem_cons, List.not_mem_nil, or_false]
  omega

theorem all_blk : (fibs (ℓ := (((0 : Dev nD) : Thread nD τ)).loc cc0_scratch2) (fun i : S2x128x512.Idx => 2 * ((i 1).val / 64) + (i 0).val) [0, 1, 2, 3]) = Finset.univ := by
  ext (i : S2x128x512.Idx)
  have h0 : (i 0).val < 2 := (i 0).isLt
  have h1 : (i 1).val < 128 := (i 1).isLt
  simp only [Finset.mem_filter, Finset.mem_univ, true_and, List.mem_cons, List.not_mem_nil, or_false, iff_true]
  omega

section Blocks

variable (c : Dev nD)

theorem pb_cut (f) : (pt c cc0_scratch2 Finset.univ f : sProp (MT nD τ sig ℕ (Elt F) ℕ UU ℕ)) = bigSepL [0, 1, 2, 3] fun n => pt c cc0_scratch2 (blkS n) f :=
  (congrArg (fun S => pt c cc0_scratch2 S f) all_blk.symm).trans (pt_fibs (ℓ := (c : Thread nD τ).loc cc0_scratch2) _ [0, 1, 2, 3] (by decide) f)

theorem qb_cut (f) : (pt c cc0_scratch3 Finset.univ f : sProp (MT nD τ sig ℕ (Elt F) ℕ UU ℕ)) = bigSepL [0, 1, 2, 3] fun n => pt c cc0_scratch3 (blkS n) f :=
  (congrArg (fun S => pt c cc0_scratch3 S f) all_blk.symm).trans (pt_fibs (ℓ := (c : Thread nD τ).loc cc0_scratch3) _ [0, 1, 2, 3] (by decide) f)

theorem qb_rows (n : ℕ) (f) : (bigSepL [2 * n, 2 * n + 1] fun n => (pt c cc0_scratch3 (blkS n) f : sProp (MT nD τ sig ℕ (Elt F) ℕ UU ℕ)))
    = bigSepL [4 * n, 4 * n + 1, 4 * n + 2, 4 * n + 3] fun j => pt c cc0_scratch3 (rowS j) f :=
  (pt_fibs (ℓ := (c : Thread nD τ).loc cc0_scratch3) _ [2 * n, 2 * n + 1] (by simp) f).symm.trans
    ((congrArg (fun S => pt c cc0_scratch3 S f) (rows_of_blk n)).trans
      (pt_fibs (ℓ := (c : Thread nD τ).loc cc0_scratch3) _ [4 * n, 4 * n + 1, 4 * n + 2, 4 * n + 3] (by simp) f))

end Blocks

theorem sub_rb (m : ℕ) {off : Fin 4 → ℕ} {inb} (h : off = ![m, 0, 0, 0]) : ((Memref.whole cc0_scratch4).access (Rect.unit (s := S8x2x16x512) off S1x2x16x512.size inb)).set ⊆ slotR m :=
  ((View.set_slice_whole _ _).trans (slotR_set m h)).le
theorem sub_ab (m : ℕ) {off : Fin 4 → ℕ} {inb} (h : off = ![m, 0, 0, 0]) : ((Memref.whole cc0_scratch6).access (Rect.unit (s := S8x2x16x512) off S1x2x16x512.size inb)).set ⊆ slotR m :=
  ((View.set_slice_whole _ _).trans (slotR_set m h)).le
theorem sub_out (m : ℕ) {off : Fin 3 → ℕ} {inb} (h : off = ![0, 16 * m, 0]) : ((Memref.whole cc0_stg5_0).access (Rect.unit (s := S2x128x512) off S2x16x512.size inb)).set = rowS m :=
  (View.set_slice_whole _ _).trans (row_set m h)

theorem one_rs (c : Dev nD) (j : ℕ) (h : 1 ≤ j ∧ j < 8) : (payers c (38 + (ad c j).val)).card = 1 ∧ (payers c (54 + (ad c j).val)).card = 1 := by
  have h' : j = 1 ∨ j = 2 ∨ j = 3 ∨ j = 4 ∨ j = 5 ∨ j = 6 ∨ j = 7 := by omega
  rcases h' with rfl | rfl | rfl | rfl | rfl | rfl | rfl <;> revert c <;> decide +kernel

theorem lv_rsw (c : Dev nD) (j : ℕ) : ∀ e ∈ agE c ++ s2E c, lvN (38 + (ad c j).val) < lvN e.2.1 := by
  have h : ∀ n : Fin 8, lvN (38 + n.val) = 4 := by decide
  rw [h]; exact lv_rs c
theorem lv_agw (c : Dev nD) (j : ℕ) : ∀ e ∈ s2E c, lvN (54 + (ad c j).val) < lvN e.2.1 := by
  have h : ∀ n : Fin 8, lvN (54 + n.val) = 5 := by decide
  rw [h]; exact lv_ag c

theorem ad_lt (c : Dev nD) (j : ℕ) : (ad c j).val < 8 := (ad c j).isLt

theorem ag_emb (x : S2x16x512.Idx) : (Rect.unit (s := S2x16x512) ![0, 0, 0] S2x16x512.size inb_S2x16x512_S2x16x512_0_0_0).emb x = x := by
  funext a; apply Fin.ext
  fin_cases a
  · change 0 + 1 * (x 0).val = (x 0).val; omega
  · change 0 + 1 * (x 1).val = (x 1).val; omega
  · change 0 + 1 * (x 2).val = (x 2).val; omega

theorem all_ag : (Rect.unit (s := S2x16x512) ![0, 0, 0] S2x16x512.size inb_S2x16x512_S2x16x512_0_0_0).set = Finset.univ := by
  ext x
  simp only [Finset.mem_univ, iff_true]
  rw [Rect.mem_set_unit]
  intro a
  exact ⟨by fin_cases a <;> exact Nat.zero_le _, by fin_cases a <;> (refine (x _).isLt.trans_le (Nat.le_add_left _ _))⟩

section Middle

variable (I : Ins F) (κ : GSem nD τ sig → ℕ) (c : Dev nD)

/-- The store of 64 rows of the partial result. -/
theorem st_pb (b h : Fin 2) {off : Fin 3 → ℕ} {inb} {w : S1x64x512.Idx → F .f32} {hx hm} {α : Type} {k : PUnit → Prog (TpuEff nD τ sig (Elt F) Λ₀ .tc) α} {Q} (f) (e : off = ![b.val, 64 * h.val, 0])
    (hw : ∀ x, PB I c ((Rect.unit (s := S2x128x512) off S1x64x512.size inb).emb x) = w x) :
    pt c cc0_scratch2 (blkS (2 * h.val + b.val)) f
      ⊢ iprop((pt c cc0_scratch2 (blkS (2 * h.val + b.val)) (PB I c) -∗ wp frame (wpE (defs₀ (F := F)) 𝒱₀ (c : Thread nD τ) none) Set.univ (k ⟨⟩) Q) -∗ wp frame (wpE (defs₀ (F := F)) 𝒱₀ (c : Thread nD τ) none) Set.univ (.op (.store (Memref.whole cc0_scratch2) (Rect.unit (s := S2x128x512) off S1x64x512.size inb) w Finset.univ hx hm) k) Q) :=
  st (m := Memref.whole cc0_scratch2) (r := Rect.unit (s := S2x128x512) off S1x64x512.size inb) (w := w) c (blkS (2 * h.val + b.val)) f (PB I c) ((View.set_slice_whole _ _).trans (blk_set b.val h.val b.isLt e)) hw

/-- The store of 64 rows of the partial result. -/
theorem st_qb (b h : Fin 2) {off : Fin 3 → ℕ} {inb} {w : S1x64x512.Idx → F .bf16} {hx hm} {α : Type} {k : PUnit → Prog (TpuEff nD τ sig (Elt F) Λ₀ .tc) α} {Q} (f) (e : off = ![b.val, 64 * h.val, 0])
    (hw : ∀ x, P16 I c ((Rect.unit (s := S2x128x512) off S1x64x512.size inb).emb x) = w x) :
    pt c cc0_scratch3 (blkS (2 * h.val + b.val)) f
      ⊢ iprop((pt c cc0_scratch3 (blkS (2 * h.val + b.val)) (P16 I c) -∗ wp frame (wpE (defs₀ (F := F)) 𝒱₀ (c : Thread nD τ) none) Set.univ (k ⟨⟩) Q) -∗ wp frame (wpE (defs₀ (F := F)) 𝒱₀ (c : Thread nD τ) none) Set.univ (.op (.store (Memref.whole cc0_scratch3) (Rect.unit (s := S2x128x512) off S1x64x512.size inb) w Finset.univ hx hm) k) Q) :=
  st (m := Memref.whole cc0_scratch3) (r := Rect.unit (s := S2x128x512) off S1x64x512.size inb) (w := w) c (blkS (2 * h.val + b.val)) f (P16 I c) ((View.set_slice_whole _ _).trans (blk_set b.val h.val b.isLt e)) hw

/-- The store of the rows as the other devices receive them. -/
theorem st_ag {inb} {w : S2x16x512.Idx → F .bf16} {hx hm} {α : Type} {k : PUnit → Prog (TpuEff nD τ sig (Elt F) Λ₀ .tc) α} {Q} (f)
    (hw : ∀ x, AG I c ((Rect.unit (s := S2x16x512) ![0, 0, 0] S2x16x512.size inb).emb x) = w x) :
    pt c cc0_scratch5 Finset.univ f
      ⊢ iprop((pt c cc0_scratch5 Finset.univ (AG I c) -∗ wp frame (wpE (defs₀ (F := F)) 𝒱₀ (c : Thread nD τ) none) Set.univ (k ⟨⟩) Q) -∗ wp frame (wpE (defs₀ (F := F)) 𝒱₀ (c : Thread nD τ) none) Set.univ (.op (.store (Memref.whole cc0_scratch5) (Rect.unit (s := S2x16x512) ![0, 0, 0] S2x16x512.size inb) w Finset.univ hx hm) k) Q) :=
  st (m := Memref.whole cc0_scratch5) (r := Rect.unit (s := S2x16x512) ![0, 0, 0] S2x16x512.size inb) (w := w) c Finset.univ f (AG I c) ((View.set_slice_whole _ _).trans all_ag) hw

/-- Rows `16 * j` onwards of the partial result: kept when device `j` is the device itself, on their way to it otherwise. -/
def rsR (j : ℕ) : sProp (MT nD τ sig ℕ (Elt F) ℕ UU ℕ) := if dv j = c then pt c cc0_scratch3 (rowS j) (P16 I c) else Wt c (30 + j)
abbrev rowR (j : ℕ) : sProp (MT nD τ sig ℕ (Elt F) ℕ UU ℕ) := pt c cc0_scratch3 (rowS j) (P16 I c)
/-- The slot of device `c + j`, received. -/
abbrev rbR (j : ℕ) : sProp (MT nD τ sig ℕ (Elt F) ℕ UU ℕ) := pt c cc0_scratch4 (slotR (ad c j).val) (RSB I c)

/-- One send of rows, or none when they are the device's own. -/
theorem rs_join (j : ℕ) (js : List ℕ) (l : List Ent) {α : Type} {p : Prop} [Decidable p] {t : p → Prog (TpuEff nD τ sig (Elt F) Λ₀ .tc) α} {J : Prog (TpuEff nD τ sig (Elt F) Λ₀ .tc) α}
    {Q : α → sProp (MT nD τ sig ℕ (Elt F) ℕ UU ℕ)} (hp : p ↔ dv j ≠ c)
    (h1 : ∀ h, iprop(Ctx I κ ∗ rowR I c j ∗ Due c ((dv j, 38 + c.val, 30 + j) :: (rsF c js ++ l)))
      ⊢ iprop(((Wt c (30 + j) ∗ Due c (rsF c js ++ l)) -∗ wp frame (wpE (defs₀ (F := F)) 𝒱₀ (c : Thread nD τ) none) Set.univ J Q) -∗ wp frame (wpE (defs₀ (F := F)) 𝒱₀ (c : Thread nD τ) none) Set.univ (t h) Q)) :
    iprop(Ctx I κ ∗ rowR I c j ∗ Due c (rsF c (j :: js) ++ l))
      ⊢ iprop(((rsR I c j ∗ Due c (rsF c js ++ l)) -∗ wp frame (wpE (defs₀ (F := F)) 𝒱₀ (c : Thread nD τ) none) Set.univ J Q) -∗ wp frame (wpE (defs₀ (F := F)) 𝒱₀ (c : Thread nD τ) none) Set.univ (dite p t fun _ => J) Q) := by
  unfold rsR
  by_cases h : dv j = c
  · rw [dif_neg (fun hh => hp.mp hh h), if_pos h, rsF_self c j js h]
    iintro ⟨-, HR, HD⟩ Hk
    iapply Hk
    isplitl [HR]; · iexact HR
    iexact HD
  · rw [dif_pos (hp.mpr h), if_neg h, rsF_other c j js h]
    exact h1 _

set_option maxHeartbeats 1600000 in
/-- The first 64 rows of the partial result, and the copies to devices 0 and 1. -/
theorem part49_run {Q} : iprop(Ctx I κ ∗ woR I c ∗ (∃ f, pt c cc0_scratch2 (blkS 0) f) ∗ (∃ f, pt c cc0_scratch3 (blkS 0) f) ∗ (∃ f, pt c cc0_scratch2 (blkS 1) f) ∗ (∃ f, pt c cc0_scratch3 (blkS 1) f) ∗ Due c (rsF c [0, 1, 2, 3, 4, 5, 6, 7] ++ (agE c ++ s2E c)))
    ⊢ iprop(((woR I c ∗ pt c cc0_scratch2 (blkS 0) (PB I c) ∗ pt c cc0_scratch2 (blkS 1) (PB I c) ∗ rsR I c 0 ∗ rsR I c 1 ∗ rowR I c 2 ∗ rowR I c 3 ∗ Due c (rsF c [2, 3, 4, 5, 6, 7] ++ (agE c ++ s2E c))) -∗ Q ⟨(v1583 c), (c0_i32_654 c)⟩) -∗ wp frame (wpE (defs₀ (F := F)) 𝒱₀ (c : Thread nD τ) none) Set.univ (k0_part49 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (v1502 I c) (v1505 I c) (v1508 I c) (v1511 I c) (v1530 I c) (v1533 I c) (v1536 I c) (v1539 I c)) Q) := by
  rw [k0_part49_eq_skeleton]
  unfold k0_part49_skel
  iintro ⟨#HC, HW, ⟨%fp0, Hp0⟩, ⟨%fq0, Hq0⟩, ⟨%fp1, Hp1⟩, ⟨%fq1, Hq1⟩, HD⟩ Hk
  iapply (ldw (m := Memref.whole cc0_stg4_0) c fullShare (I.wo c)) $$ [HW]; · iexact HW
  iintro HW
  iapply (ld (m := Memref.whole cc0_scratch2) c (blkS 0) fullShare fp0 ((View.set_slice_whole _ _).trans (blk_set 0 0 (by omega) rfl)).le) $$ [Hp0]; · iexact Hp0
  iintro Hp0
  iapply (st_pb I c 0 0 fp0 rfl (fun x => blk4_emb _ _ _ _ 0 0 rfl x)) $$ [Hp0]; · iexact Hp0
  iintro Hp0
  iapply (ld (m := Memref.whole cc0_scratch3) c (blkS 0) fullShare fq0 ((View.set_slice_whole _ _).trans (blk_set 0 0 (by omega) rfl)).le) $$ [Hq0]; · iexact Hq0
  iintro Hq0
  iapply (st_qb I c 0 0 fq0 rfl (fun x => blk4_emb _ _ _ _ 0 0 rfl x)) $$ [Hq0]; · iexact Hq0
  iintro Hq0
  iapply (ldw (m := Memref.whole cc0_stg4_0) c fullShare (I.wo c)) $$ [HW]; · iexact HW
  iintro HW
  iapply (ld (m := Memref.whole cc0_scratch2) c (blkS 1) fullShare fp1 ((View.set_slice_whole _ _).trans (blk_set 1 0 (by omega) rfl)).le) $$ [Hp1]; · iexact Hp1
  iintro Hp1
  iapply (st_pb I c 1 0 fp1 rfl (fun x => blk4_emb _ _ _ _ 1 0 rfl x)) $$ [Hp1]; · iexact Hp1
  iintro Hp1
  iapply (ld (m := Memref.whole cc0_scratch3) c (blkS 1) fullShare fq1 ((View.set_slice_whole _ _).trans (blk_set 1 0 (by omega) rfl)).le) $$ [Hq1]; · iexact Hq1
  iintro Hq1
  iapply (st_qb I c 1 0 fq1 rfl (fun x => blk4_emb _ _ _ _ 1 0 rfl x)) $$ [Hq1]; · iexact Hq1
  iintro Hq1
  ihave HQ := (Entails.of_eq (qb_rows c 0 (P16 I c))) $$ [Hq0 Hq1]
  · iapply (Entails.of_eq (show iprop(pt c cc0_scratch3 (blkS 0) (P16 I c) ∗ pt c cc0_scratch3 (blkS 1) (P16 I c)) = bigSepL [2 * 0, 2 * 0 + 1] fun n => (pt c cc0_scratch3 (blkS n) (P16 I c) : sProp (MT nD τ sig ℕ (Elt F) ℕ UU ℕ)) from rfl))
    isplitl [Hq0]; · iexact Hq0
    iexact Hq1
  ihave HQ := (Entails.of_eq (show (bigSepL [4 * 0, 4 * 0 + 1, 4 * 0 + 2, 4 * 0 + 3] fun j => (pt c cc0_scratch3 (rowS j) (P16 I c) : sProp (MT nD τ sig ℕ (Elt F) ℕ UU ℕ)))
    = iprop(rowR I c 0 ∗ rowR I c 1 ∗ rowR I c 2 ∗ rowR I c 3) from rfl)) $$ HQ
  icases HQ with ⟨Hr0, Hr1, Hr2, Hr3⟩
  iapply (rs_join I κ c 0 [1, 2, 3, 4, 5, 6, 7] (agE c ++ s2E c) (cond3_iff c) ?_) $$ [Hr0 HD]
  · intro h
    iintro ⟨#HC, HR, HD⟩ Hk
    iapply (send_rs I κ c 0 (by omega) _ (dev26_dv c h) rfl (off8_c c) (sem20 c (off7_c c)) (sem19 0 rfl)) $$ [HR HD]
    · isplitr; · iexact HC
      isplitl [HR]; · iexact HR
      iexact HD
    iintro H
    iapply Hk
    iexact H
  · isplitr; · iexact HC
    isplitl [Hr0]; · iexact Hr0
    iexact HD
  iintro ⟨Hr0, HD⟩
  iapply (rs_join I κ c 1 [2, 3, 4, 5, 6, 7] (agE c ++ s2E c) (cond4_iff c) ?_) $$ [Hr1 HD]
  · intro h
    iintro ⟨#HC, HR, HD⟩ Hk
    iapply (send_rs I κ c 1 (by omega) _ (dev27_dv c h) rfl (off10_c c) (sem20 c (off9_c c)) (sem19 1 rfl)) $$ [HR HD]
    · isplitr; · iexact HC
      isplitl [HR]; · iexact HR
      iexact HD
    iintro H
    iapply Hk
    iexact H
  · isplitr; · iexact HC
    isplitl [Hr1]; · iexact Hr1
    iexact HD
  iintro ⟨Hr1, HD⟩
  iapply (fin_to c (b := ⟨(v1583 c), (c0_i32_654 c)⟩) ?_)
  · rfl
  iapply Hk
  isplitl [HW]; · iexact HW
  isplitl [Hp0]; · iexact Hp0
  isplitl [Hp1]; · iexact Hp1
  isplitl [Hr0]; · iexact Hr0
  isplitl [Hr1]; · iexact Hr1
  isplitl [Hr2]; · iexact Hr2
  isplitl [Hr3]; · iexact Hr3
  iexact HD

set_option maxHeartbeats 1600000 in
/-- The other 64 rows, and the copies to devices 2, 3 and 4. -/
theorem part50_run {Q} : iprop(Ctx I κ ∗ woR I c ∗ rowR I c 2 ∗ rowR I c 3 ∗ pt c cc0_scratch2 (blkS 0) (PB I c) ∗ pt c cc0_scratch2 (blkS 1) (PB I c) ∗ (∃ f, pt c cc0_scratch2 (blkS 2) f) ∗ (∃ f, pt c cc0_scratch3 (blkS 2) f) ∗ (∃ f, pt c cc0_scratch2 (blkS 3) f) ∗ (∃ f, pt c cc0_scratch3 (blkS 3) f) ∗ Due c (rsF c [2, 3, 4, 5, 6, 7] ++ (agE c ++ s2E c)))
    ⊢ iprop(((woR I c ∗ pt c cc0_scratch2 Finset.univ (PB I c) ∗ rsR I c 2 ∗ rsR I c 3 ∗ rsR I c 4 ∗ rowR I c 5 ∗ rowR I c 6 ∗ rowR I c 7 ∗ Due c (rsF c [5, 6, 7] ++ (agE c ++ s2E c))) -∗ Q (v1613 c)) -∗ wp frame (wpE (defs₀ (F := F)) 𝒱₀ (c : Thread nD τ) none) Set.univ (k0_part50 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (v1516 I c) (v1519 I c) (v1522 I c) (v1525 I c) (v1544 I c) (v1547 I c) (v1550 I c) (v1553 I c) (v1583 c) (c0_i32_654 c)) Q) := by
  rw [k0_part50_eq_skeleton]
  unfold k0_part50_skel
  iintro ⟨#HC, HW, Hr2, Hr3, Hp0, Hp1, ⟨%fp2, Hp2⟩, ⟨%fq2, Hq2⟩, ⟨%fp3, Hp3⟩, ⟨%fq3, Hq3⟩, HD⟩ Hk
  iapply (rs_join I κ c 2 [3, 4, 5, 6, 7] (agE c ++ s2E c) (cond5_iff c) ?_) $$ [Hr2 HD]
  · intro h
    iintro ⟨#HC, HR, HD⟩ Hk
    iapply (send_rs I κ c 2 (by omega) _ (dev28_dv c h) rfl (off12_c c) (sem20 c (off11_c c)) (sem19 2 rfl)) $$ [HR HD]
    · isplitr; · iexact HC
      isplitl [HR]; · iexact HR
      iexact HD
    iintro H
    iapply Hk
    iexact H
  · isplitr; · iexact HC
    isplitl [Hr2]; · iexact Hr2
    iexact HD
  iintro ⟨Hr2, HD⟩
  iapply (rs_join I κ c 3 [4, 5, 6, 7] (agE c ++ s2E c) (cond6_iff c) ?_) $$ [Hr3 HD]
  · intro h
    iintro ⟨#HC, HR, HD⟩ Hk
    iapply (send_rs I κ c 3 (by omega) _ (dev29_dv c h) rfl (off14_c c) (sem20 c (off13_c c)) (sem19 3 rfl)) $$ [HR HD]
    · isplitr; · iexact HC
      isplitl [HR]; · iexact HR
      iexact HD
    iintro H
    iapply Hk
    iexact H
  · isplitr; · iexact HC
    isplitl [Hr3]; · iexact Hr3
    iexact HD
  iintro ⟨Hr3, HD⟩
  iapply (ldw (m := Memref.whole cc0_stg4_0) c fullShare (I.wo c)) $$ [HW]; · iexact HW
  iintro HW
  iapply (ld (m := Memref.whole cc0_scratch2) c (blkS 2) fullShare fp2 ((View.set_slice_whole _ _).trans (blk_set 0 1 (by omega) rfl)).le) $$ [Hp2]; · iexact Hp2
  iintro Hp2
  iapply (st_pb I c 0 1 fp2 rfl (fun x => blk4_emb _ _ _ _ 0 1 rfl x)) $$ [Hp2]; · iexact Hp2
  iintro Hp2
  iapply (ld (m := Memref.whole cc0_scratch3) c (blkS 2) fullShare fq2 ((View.set_slice_whole _ _).trans (blk_set 0 1 (by omega) rfl)).le) $$ [Hq2]; · iexact Hq2
  iintro Hq2
  iapply (st_qb I c 0 1 fq2 rfl (fun x => blk4_emb _ _ _ _ 0 1 rfl x)) $$ [Hq2]; · iexact Hq2
  iintro Hq2
  iapply (ldw (m := Memref.whole cc0_stg4_0) c fullShare (I.wo c)) $$ [HW]; · iexact HW
  iintro HW
  iapply (ld (m := Memref.whole cc0_scratch2) c (blkS 3) fullShare fp3 ((View.set_slice_whole _ _).trans (blk_set 1 1 (by omega) rfl)).le) $$ [Hp3]; · iexact Hp3
  iintro Hp3
  iapply (st_pb I c 1 1 fp3 rfl (fun x => blk4_emb _ _ _ _ 1 1 rfl x)) $$ [Hp3]; · iexact Hp3
  iintro Hp3
  iapply (ld (m := Memref.whole cc0_scratch3) c (blkS 3) fullShare fq3 ((View.set_slice_whole _ _).trans (blk_set 1 1 (by omega) rfl)).le) $$ [Hq3]; · iexact Hq3
  iintro Hq3
  iapply (st_qb I c 1 1 fq3 rfl (fun x => blk4_emb _ _ _ _ 1 1 rfl x)) $$ [Hq3]; · iexact Hq3
  iintro Hq3
  ihave HP := (Entails.of_eq (pb_cut c (PB I c)).symm) $$ [Hp0 Hp1 Hp2 Hp3]
  · iapply (Entails.of_eq (show iprop(pt c cc0_scratch2 (blkS 0) (PB I c) ∗ pt c cc0_scratch2 (blkS 1) (PB I c) ∗ pt c cc0_scratch2 (blkS 2) (PB I c) ∗ pt c cc0_scratch2 (blkS 3) (PB I c))
      = bigSepL [0, 1, 2, 3] fun n => (pt c cc0_scratch2 (blkS n) (PB I c) : sProp (MT nD τ sig ℕ (Elt F) ℕ UU ℕ)) from rfl))
    isplitl [Hp0]; · iexact Hp0
    isplitl [Hp1]; · iexact Hp1
    isplitl [Hp2]; · iexact Hp2
    iexact Hp3
  ihave HQ := (Entails.of_eq (qb_rows c 1 (P16 I c))) $$ [Hq2 Hq3]
  · iapply (Entails.of_eq (show iprop(pt c cc0_scratch3 (blkS 2) (P16 I c) ∗ pt c cc0_scratch3 (blkS 3) (P16 I c)) = bigSepL [2 * 1, 2 * 1 + 1] fun n => (pt c cc0_scratch3 (blkS n) (P16 I c) : sProp (MT nD τ sig ℕ (Elt F) ℕ UU ℕ)) from rfl))
    isplitl [Hq2]; · iexact Hq2
    iexact Hq3
  ihave HQ := (Entails.of_eq (show (bigSepL [4 * 1, 4 * 1 + 1, 4 * 1 + 2, 4 * 1 + 3] fun j => (pt c cc0_scratch3 (rowS j) (P16 I c) : sProp (MT nD τ sig ℕ (Elt F) ℕ UU ℕ)))
    = iprop(rowR I c 4 ∗ rowR I c 5 ∗ rowR I c 6 ∗ rowR I c 7) from rfl)) $$ HQ
  icases HQ with ⟨Hr4, Hr5, Hr6, Hr7⟩
  iapply (rs_join I κ c 4 [5, 6, 7] (agE c ++ s2E c) (cond7_iff c) ?_) $$ [Hr4 HD]
  · intro h
    iintro ⟨#HC, HR, HD⟩ Hk
    iapply (send_rs I κ c 4 (by omega) _ (dev30_dv c h) rfl (off16_c c) (sem20 c (off15_c c)) (sem19 4 rfl)) $$ [HR HD]
    · isplitr; · iexact HC
      isplitl [HR]; · iexact HR
      iexact HD
    iintro H
    iapply Hk
    iexact H
  · isplitr; · iexact HC
    isplitl [Hr4]; · iexact Hr4
    iexact HD
  iintro ⟨Hr4, HD⟩
  iapply (fin_to c (b := (v1613 c)) ?_)
  · rfl
  iapply Hk
  isplitl [HW]; · iexact HW
  isplitl [HP]; · iexact HP
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  iexact HD

set_option maxHeartbeats 1600000 in
/-- The copies to devices 5, 6 and 7, and the first wait for another device's rows. -/
theorem part51_run {Q} : iprop(Ctx I κ ∗ rowR I c 5 ∗ rowR I c 6 ∗ rowR I c 7 ∗ Wt c (38 + (ad c 1).val) ∗ Due c (rsF c [5, 6, 7] ++ (agE c ++ s2E c)))
    ⊢ iprop(((rsR I c 5 ∗ rsR I c 6 ∗ rsR I c 7 ∗ Don c (38 + (ad c 1).val) ∗ rbR I c 1 ∗ Due c (agE c ++ s2E c)) -∗ Q ⟨(v1623 c), (v1642 c), (c8_i32_701 c), (v1643 c)⟩) -∗ wp frame (wpE (defs₀ (F := F)) 𝒱₀ (c : Thread nD τ) none) Set.univ (k0_part51 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (v1613 c)) Q) := by
  rw [k0_part51_eq_skeleton]
  unfold k0_part51_skel
  iintro ⟨#HC, Hr5, Hr6, Hr7, W1, HD⟩ Hk
  iapply (rs_join I κ c 5 [6, 7] (agE c ++ s2E c) (cond8_iff c) ?_) $$ [Hr5 HD]
  · intro h
    iintro ⟨#HC, HR, HD⟩ Hk
    iapply (send_rs I κ c 5 (by omega) _ (dev31_dv c h) rfl (off18_c c) (sem20 c (off17_c c)) (sem19 5 rfl)) $$ [HR HD]
    · isplitr; · iexact HC
      isplitl [HR]; · iexact HR
      iexact HD
    iintro H
    iapply Hk
    iexact H
  · isplitr; · iexact HC
    isplitl [Hr5]; · iexact Hr5
    iexact HD
  iintro ⟨Hr5, HD⟩
  iapply (rs_join I κ c 6 [7] (agE c ++ s2E c) (cond9_iff c) ?_) $$ [Hr6 HD]
  · intro h
    iintro ⟨#HC, HR, HD⟩ Hk
    iapply (send_rs I κ c 6 (by omega) _ (dev32_dv c h) rfl (off20_c c) (sem20 c (off19_c c)) (sem19 6 rfl)) $$ [HR HD]
    · isplitr; · iexact HC
      isplitl [HR]; · iexact HR
      iexact HD
    iintro H
    iapply Hk
    iexact H
  · isplitr; · iexact HC
    isplitl [Hr6]; · iexact Hr6
    iexact HD
  iintro ⟨Hr6, HD⟩
  iapply (rs_join I κ c 7 [] (agE c ++ s2E c) (cond10_iff c) ?_) $$ [Hr7 HD]
  · intro h
    iintro ⟨#HC, HR, HD⟩ Hk
    iapply (send_rs I κ c 7 (by omega) _ (dev33_dv c h) rfl (off22_c c) (sem20 c (off21_c c)) (sem19 7 rfl)) $$ [HR HD]
    · isplitr; · iexact HC
      isplitl [HR]; · iexact HR
      iexact HD
    iintro H
    iapply Hk
    iexact H
  · isplitr; · iexact HC
    isplitl [Hr7]; · iexact Hr7
    iexact HD
  iintro ⟨Hr7, HD⟩
  ihave HD := (Entails.of_eq (show Due (F := F) c (rsF c [] ++ (agE c ++ s2E c)) = Due c (agE c ++ s2E c) from rfl)) $$ HD
  iapply (wait_one I κ c (38 + (ad c 1).val) _ (sem20 (ad c 1) (off23_1 c)) (by have := ad_lt c 1; omega) (by rw [amtN_r (by have := ad_lt c 1; omega)]; rfl) (one_rs c 1 (by omega)).1 (fun p => payN_rsb I c p (ad_lt c 1)) (lv_rsw c 1)) $$ [W1 HD]
  · isplitr; · iexact HC
    isplitl [W1]; · iexact W1
    iexact HD
  iintro ⟨HD, W1, Hb1⟩
  iapply (fin_to c (b := ⟨(v1623 c), (v1642 c), (c8_i32_701 c), (v1643 c)⟩) ?_)
  · rfl
  iapply Hk
  isplitl [Hr5]; · iexact Hr5
  isplitl [Hr6]; · iexact Hr6
  isplitl [Hr7]; · iexact Hr7
  isplitl [W1]; · iexact W1
  isplitl [Hb1]; · iexact Hb1
  iexact HD

/-- Waits for other devices' rows. -/
theorem part52_run {Q} : iprop(Ctx I κ ∗ Wt c (38 + (ad c 2).val) ∗ Due c (agE c ++ s2E c))
    ⊢ iprop(((Don c (38 + (ad c 2).val) ∗ rbR I c 2 ∗ Due c (agE c ++ s2E c)) -∗ Q ⟨⟩) -∗ wp frame (wpE (defs₀ (F := F)) 𝒱₀ (c : Thread nD τ) none) Set.univ (k0_part52 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (v1642 c) (c8_i32_701 c) (v1643 c)) Q) := by
  rw [k0_part52_eq_skeleton]
  unfold k0_part52_skel
  iintro ⟨#HC, W2, HD⟩ Hk
  iapply (wait_one I κ c (38 + (ad c 2).val) _ (sem20 (ad c 2) (off23_2 c)) (by have := ad_lt c 2; omega) (by rw [amtN_r (by have := ad_lt c 2; omega)]; rfl) (one_rs c 2 (by omega)).1 (fun p => payN_rsb I c p (ad_lt c 2)) (lv_rsw c 2)) $$ [W2 HD]
  · isplitr; · iexact HC
    isplitl [W2]; · iexact W2
    iexact HD
  iintro ⟨HD, W2, Hb2⟩
  iapply (wp_fin c)
  iapply Hk
  isplitl [W2]; · iexact W2
  isplitl [Hb2]; · iexact Hb2
  iexact HD

/-- Waits for other devices' rows. -/
theorem part53_run {Q} : iprop(Ctx I κ ∗ Wt c (38 + (ad c 3).val) ∗ Wt c (38 + (ad c 4).val) ∗ Due c (agE c ++ s2E c))
    ⊢ iprop(((Don c (38 + (ad c 3).val) ∗ rbR I c 3 ∗ Don c (38 + (ad c 4).val) ∗ rbR I c 4 ∗ Due c (agE c ++ s2E c)) -∗ Q ⟨(v1699 c), (v1704 c), (v1705 c)⟩) -∗ wp frame (wpE (defs₀ (F := F)) 𝒱₀ (c : Thread nD τ) none) Set.univ (k0_part53 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c)) Q) := by
  rw [k0_part53_eq_skeleton]
  unfold k0_part53_skel
  iintro ⟨#HC, W3, W4, HD⟩ Hk
  iapply (wait_one I κ c (38 + (ad c 3).val) _ (sem20 (ad c 3) (off23_3 c)) (by have := ad_lt c 3; omega) (by rw [amtN_r (by have := ad_lt c 3; omega)]; rfl) (one_rs c 3 (by omega)).1 (fun p => payN_rsb I c p (ad_lt c 3)) (lv_rsw c 3)) $$ [W3 HD]
  · isplitr; · iexact HC
    isplitl [W3]; · iexact W3
    iexact HD
  iintro ⟨HD, W3, Hb3⟩
  iapply (wait_one I κ c (38 + (ad c 4).val) _ (sem20 (ad c 4) (off23_4 c)) (by have := ad_lt c 4; omega) (by rw [amtN_r (by have := ad_lt c 4; omega)]; rfl) (one_rs c 4 (by omega)).1 (fun p => payN_rsb I c p (ad_lt c 4)) (lv_rsw c 4)) $$ [W4 HD]
  · isplitr; · iexact HC
    isplitl [W4]; · iexact W4
    iexact HD
  iintro ⟨HD, W4, Hb4⟩
  iapply (fin_to c (b := ⟨(v1699 c), (v1704 c), (v1705 c)⟩) ?_)
  · rfl
  iapply Hk
  isplitl [W3]; · iexact W3
  isplitl [Hb3]; · iexact Hb3
  isplitl [W4]; · iexact W4
  isplitl [Hb4]; · iexact Hb4
  iexact HD

/-- Waits for other devices' rows. -/
theorem part54_run {Q} : iprop(Ctx I κ ∗ Wt c (38 + (ad c 5).val) ∗ Wt c (38 + (ad c 6).val) ∗ Due c (agE c ++ s2E c))
    ⊢ iprop(((Don c (38 + (ad c 5).val) ∗ rbR I c 5 ∗ Don c (38 + (ad c 6).val) ∗ rbR I c 6 ∗ Due c (agE c ++ s2E c)) -∗ Q ⟨(v1732 c), (c8_i32_786 c), (v1733 c)⟩) -∗ wp frame (wpE (defs₀ (F := F)) 𝒱₀ (c : Thread nD τ) none) Set.univ (k0_part54 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (v1699 c) (v1704 c) (v1705 c)) Q) := by
  rw [k0_part54_eq_skeleton]
  unfold k0_part54_skel
  iintro ⟨#HC, W5, W6, HD⟩ Hk
  iapply (wait_one I κ c (38 + (ad c 5).val) _ (sem20 (ad c 5) (off23_5 c)) (by have := ad_lt c 5; omega) (by rw [amtN_r (by have := ad_lt c 5; omega)]; rfl) (one_rs c 5 (by omega)).1 (fun p => payN_rsb I c p (ad_lt c 5)) (lv_rsw c 5)) $$ [W5 HD]
  · isplitr; · iexact HC
    isplitl [W5]; · iexact W5
    iexact HD
  iintro ⟨HD, W5, Hb5⟩
  iapply (wait_one I κ c (38 + (ad c 6).val) _ (sem20 (ad c 6) (off23_6 c)) (by have := ad_lt c 6; omega) (by rw [amtN_r (by have := ad_lt c 6; omega)]; rfl) (one_rs c 6 (by omega)).1 (fun p => payN_rsb I c p (ad_lt c 6)) (lv_rsw c 6)) $$ [W6 HD]
  · isplitr; · iexact HC
    isplitl [W6]; · iexact W6
    iexact HD
  iintro ⟨HD, W6, Hb6⟩
  iapply (fin_to c (b := ⟨(v1732 c), (c8_i32_786 c), (v1733 c)⟩) ?_)
  · rfl
  iapply Hk
  isplitl [W5]; · iexact W5
  isplitl [Hb5]; · iexact Hb5
  isplitl [W6]; · iexact W6
  isplitl [Hb6]; · iexact Hb6
  iexact HD

/-- The last wait, and the own rows and the first others read. -/
theorem part55_run {Q} : iprop(Ctx I κ ∗ Wt c (38 + (ad c 7).val) ∗ pt c cc0_scratch2 Finset.univ (PB I c) ∗ rbR I c 1 ∗ Due c (agE c ++ s2E c))
    ⊢ iprop(((Don c (38 + (ad c 7).val) ∗ rbR I c 7 ∗ pt c cc0_scratch2 Finset.univ (PB I c) ∗ rbR I c 1 ∗ Due c (agE c ++ s2E c)) -∗ Q ⟨(v1751 I c), (v1766 I c)⟩) -∗ wp frame (wpE (defs₀ (F := F)) 𝒱₀ (c : Thread nD τ) none) Set.univ (k0_part55 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (v1623 c) (v1732 c) (c8_i32_786 c) (v1733 c)) Q) := by
  rw [k0_part55_eq_skeleton]
  unfold k0_part55_skel
  iintro ⟨#HC, W7, HP, Hb1, HD⟩ Hk
  iapply (wait_one I κ c (38 + (ad c 7).val) _ (sem20 (ad c 7) (off23_7 c)) (by have := ad_lt c 7; omega) (by rw [amtN_r (by have := ad_lt c 7; omega)]; rfl) (one_rs c 7 (by omega)).1 (fun p => payN_rsb I c p (ad_lt c 7)) (lv_rsw c 7)) $$ [W7 HD]
  · isplitr; · iexact HC
    isplitl [W7]; · iexact W7
    iexact HD
  iintro ⟨HD, W7, Hb7⟩
  iapply (ldw (m := Memref.whole cc0_scratch2) c fullShare (PB I c)) $$ [HP]; · iexact HP
  iintro HP
  iapply (ld (m := Memref.whole cc0_scratch4) c (slotR (ad c 1).val) fullShare (RSB I c) (sub_rb _ (off26_1 c))) $$ [Hb1]; · iexact Hb1
  iintro Hb1
  iapply (fin_to c (b := ⟨(v1751 I c), (v1766 I c)⟩) ?_)
  · rfl
  iapply Hk
  isplitl [W7]; · iexact W7
  isplitl [Hb7]; · iexact Hb7
  isplitl [HP]; · iexact HP
  isplitl [Hb1]; · iexact Hb1
  iexact HD

/-- The sum goes on. -/
theorem part56_run {Q} : iprop(rbR I c 2 ∗ rbR I c 3)
    ⊢ iprop(((rbR I c 2 ∗ rbR I c 3) -∗ Q ⟨(v1799 I c), (v1800 c), (v1802 c)⟩) -∗ wp frame (wpE (defs₀ (F := F)) 𝒱₀ (c : Thread nD τ) none) Set.univ (k0_part56 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (v1751 I c) (v1766 I c)) Q) := by
  rw [k0_part56_eq_skeleton]
  unfold k0_part56_skel
  iintro ⟨Hb2, Hb3⟩ Hk
  iapply (ld (m := Memref.whole cc0_scratch4) c (slotR (ad c 2).val) fullShare (RSB I c) (sub_rb _ (off26_2 c))) $$ [Hb2]; · iexact Hb2
  iintro Hb2
  iapply (ld (m := Memref.whole cc0_scratch4) c (slotR (ad c 3).val) fullShare (RSB I c) (sub_rb _ (off26_3 c))) $$ [Hb3]; · iexact Hb3
  iintro Hb3
  iapply (fin_to c (b := ⟨(v1799 I c), (v1800 c), (v1802 c)⟩) ?_)
  · rfl
  iapply Hk
  isplitl [Hb2]; · iexact Hb2
  iexact Hb3

/-- The sum goes on. -/
theorem part57_run {Q} : iprop(rbR I c 4 ∗ rbR I c 5)
    ⊢ iprop(((rbR I c 4 ∗ rbR I c 5) -∗ Q ⟨(v1831 I c), (v1834 c), (v1835 c), (v1836 c), (v1839 c)⟩) -∗ wp frame (wpE (defs₀ (F := F)) 𝒱₀ (c : Thread nD τ) none) Set.univ (k0_part57 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (v1799 I c) (v1800 c) (v1802 c)) Q) := by
  rw [k0_part57_eq_skeleton]
  unfold k0_part57_skel
  iintro ⟨Hb4, Hb5⟩ Hk
  iapply (ld (m := Memref.whole cc0_scratch4) c (slotR (ad c 4).val) fullShare (RSB I c) (sub_rb _ (off26_4 c))) $$ [Hb4]; · iexact Hb4
  iintro Hb4
  iapply (ld (m := Memref.whole cc0_scratch4) c (slotR (ad c 5).val) fullShare (RSB I c) (sub_rb _ (off26_5 c))) $$ [Hb5]; · iexact Hb5
  iintro Hb5
  iapply (fin_to c (b := ⟨(v1831 I c), (v1834 c), (v1835 c), (v1836 c), (v1839 c)⟩) ?_)
  · rfl
  iapply Hk
  isplitl [Hb4]; · iexact Hb4
  iexact Hb5

/-- The own rows of the result, where they are stored. -/
theorem out_own {off : Fin 3 → ℕ} {inb} (h : off = ![0, 16 * c.val, 0]) (x : S2x16x512.Idx) :
    OUT I c ((Rect.unit (s := S2x128x512) off S2x16x512.size inb).emb x) = OWN I c x := by
  refine (congrArg (OUT I c) ((congrArg (Rect.unit (s := S2x128x512) off S2x16x512.size inb).emb (eq_ix3 x)).trans (row_emb c h (x 0) (x 1) (x 2)))).trans ?_
  unfold OUT
  have h1 : (x 1).val < 16 := (x 1).isLt
  have e1 : (ix3 (x 0) (row c (x 1)) (x 2) (1 : Fin 3)).val = c.val * 16 + (x 1).val := rfl
  rw [if_pos (by rw [e1]; omega)]
  refine congrArg (OWN I c) (.trans ?_ (eq_ix3 x).symm)
  rw [show (⟨(ix3 (x 0) (row c (x 1)) (x 2) (1 : Fin 3)).val % 16, Nat.mod_lt _ (by decide)⟩ : Fin 16) = x 1 from Fin.ext (by show (c.val * 16 + (x 1).val) % 16 = _; omega)]
  rfl

/-- The store of 16 rows of the result. -/
theorem st_out (d : ℕ) {off : Fin 3 → ℕ} {inb} {w : S2x16x512.Idx → F .f32} {hx hm} {α : Type} {k : PUnit → Prog (TpuEff nD τ sig (Elt F) Λ₀ .tc) α} {Q} (f) (h : off = ![0, 16 * d, 0])
    (hw : ∀ x, OUT I c ((Rect.unit (s := S2x128x512) off S2x16x512.size inb).emb x) = w x) :
    pt c cc0_stg5_0 (rowS d) f
      ⊢ iprop((pt c cc0_stg5_0 (rowS d) (OUT I c) -∗ wp frame (wpE (defs₀ (F := F)) 𝒱₀ (c : Thread nD τ) none) Set.univ (k ⟨⟩) Q) -∗ wp frame (wpE (defs₀ (F := F)) 𝒱₀ (c : Thread nD τ) none) Set.univ (.op (.store (Memref.whole cc0_stg5_0) (Rect.unit (s := S2x128x512) off S2x16x512.size inb) w Finset.univ hx hm) k) Q) :=
  st (m := Memref.whole cc0_stg5_0) (r := Rect.unit (s := S2x128x512) off S2x16x512.size inb) (w := w) c (rowS d) f (OUT I c) (sub_out d h) hw

/-- The sum ends: the own rows of the result, and their copy for the other devices. -/
theorem part58_run {Q} : iprop(rbR I c 6 ∗ rbR I c 7 ∗ (∃ f, pt c cc0_stg5_0 (rowS c.val) f) ∗ (∃ f, pt c cc0_scratch5 Finset.univ f))
    ⊢ iprop(((rbR I c 6 ∗ rbR I c 7 ∗ pt c cc0_stg5_0 (rowS c.val) (OUT I c) ∗ pt c cc0_scratch5 Finset.univ (AG I c)) -∗ Q ⟨(v1872 c), (v1873 c), (v1874 c)⟩) -∗ wp frame (wpE (defs₀ (F := F)) 𝒱₀ (c : Thread nD τ) none) Set.univ (k0_part58 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (v1623 c) (v1831 I c) (v1834 c) (v1835 c) (v1836 c) (v1839 c)) Q) := by
  rw [k0_part58_eq_skeleton]
  unfold k0_part58_skel
  iintro ⟨Hb6, Hb7, ⟨%f, HO⟩, ⟨%g, HA⟩⟩ Hk
  iapply (ld (m := Memref.whole cc0_scratch4) c (slotR (ad c 6).val) fullShare (RSB I c) (sub_rb _ (off26_6 c))) $$ [Hb6]; · iexact Hb6
  iintro Hb6
  iapply (ld (m := Memref.whole cc0_scratch4) c (slotR (ad c 7).val) fullShare (RSB I c) (sub_rb _ (off26_7 c))) $$ [Hb7]; · iexact Hb7
  iintro Hb7
  iapply (ld (m := Memref.whole cc0_stg5_0) c (rowS c.val) fullShare f (sub_out _ (off25_c c)).le) $$ [HO]; · iexact HO
  iintro HO
  iapply (st_out I c c.val f (off25_c c) (fun x => out_own I c (off25_c c) x)) $$ [HO]; · iexact HO
  iintro HO
  iapply (ldw (m := Memref.whole cc0_scratch5) c fullShare g) $$ [HA]; · iexact HA
  iintro HA
  iapply (st_ag I c g (fun x => congrArg (AG I c) (ag_emb x))) $$ [HA]; · iexact HA
  iintro HA
  iapply (fin_to c (b := ⟨(v1872 c), (v1873 c), (v1874 c)⟩) ?_)
  · rfl
  iapply Hk
  isplitl [Hb6]; · iexact Hb6
  isplitl [Hb7]; · iexact Hb7
  isplitl [HO]; · iexact HO
  iexact HA

end Middle

end Cert.KernelIdeal.Hand

end
-- ==== Proof.Last.lean ====
/-
  The summed rows sent round and received, the waits for the own copies, and the barrier at the end.
-/
module

public import proofs.«01_k».proof.Proof.Middle

@[expose] public section

set_option maxRecDepth 16384

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

theorem one_out (c : Dev nD) (j : Fin 8) : ((dv j.val ≠ c) → (payers c (30 + j.val)).card = 1) ∧ (1 ≤ j.val → (payers c (46 + j.val)).card = 1)
    ∧ (c.val % 2 = 0 → (payers c (6 + j.val)).card = 1 ∧ (payers c (14 + j.val)).card = 1) ∧ (c.val % 2 = 1 → (payers c 64).card = 1 ∧ (payers c 65).card = 1) := by
  revert c j; decide +kernel

theorem lv_end (c : Dev nD) (n : ℕ) (h : lvN n = 0) : ∀ e ∈ s2E c, lvN n < lvN e.2.1 := by
  rw [h]; revert c; decide +kernel
theorem lv_low : ∀ j : Fin 8, lvN (6 + j.val) = 0 ∧ lvN (14 + j.val) = 0 ∧ lvN (30 + j.val) = 0 ∧ lvN (46 + j.val) = 0 := by decide

theorem ad_ne (c : Dev nD) (j : ℕ) (h : 1 ≤ j ∧ j < 8) : ad c j ≠ c := by
  have h' : j = 1 ∨ j = 2 ∨ j = 3 ∨ j = 4 ∨ j = 5 ∨ j = 6 ∨ j = 7 := by omega
  rcases h' with rfl | rfl | rfl | rfl | rfl | rfl | rfl <;> revert c <;> decide +kernel

theorem slot_read_emb (d : Dev nD) {off : Fin 4 → ℕ} {inb} (h : off = ![d.val, 0, 0, 0]) (x : S1x2x16x512.Idx) :
    (Rect.unit (s := S8x2x16x512) off S1x2x16x512.size inb).emb x = ix4 d (x 1) (x 2) (x 3) := by
  subst h; funext a; apply Fin.ext
  have h0 : (x 0).val < 1 := (x 0).isLt
  fin_cases a
  · change d.val + 1 * (x 0).val = d.val; omega
  · change 0 + 1 * (x 1).val = (x 1).val; omega
  · change 0 + 1 * (x 2).val = (x 2).val; omega
  · change 0 + 1 * (x 3).val = (x 3).val; omega

theorem ag_half (c : Dev nD) (j : ℕ) (f : Buf (Elt F) ((c : Thread nD τ).loc cc0_scratch5)) :
    ((((c : Thread nD τ).loc cc0_scratch5) ↦[Finset.univ]{qKeep j} f) : sProp (MT nD τ sig ℕ (Elt F) ℕ UU ℕ)) = iprop((((c : Thread nD τ).loc cc0_scratch5) ↦[Finset.univ]{qKeep (j + 1)} f)
      ∗ (((c : Thread nD τ).loc cc0_scratch5) ↦[Finset.univ]{qAt (j + 1)} f)) := by
  exact eq_of_both (pointsTo_share (PosShare.mem_left_op_right (qKeep j))).1 (pointsTo_share (PosShare.mem_left_op_right (qKeep j))).2

section Last

variable (I : Ins F) (κ : GSem nD τ sig → ℕ) (c : Dev nD)

/-- The share of the summed rows that copy `j` reads. -/
abbrev agR (j : ℕ) : sProp (MT nD τ sig ℕ (Elt F) ℕ UU ℕ) := (((c : Thread nD τ).loc cc0_scratch5) ↦[Finset.univ]{qAt j} (AG I c))
abbrev agK : sProp (MT nD τ sig ℕ (Elt F) ℕ UU ℕ) := (((c : Thread nD τ).loc cc0_scratch5) ↦[Finset.univ]{qKeep 7} (AG I c))

theorem ag_split : (pt c cc0_scratch5 Finset.univ (AG I c) : sProp (MT nD τ sig ℕ (Elt F) ℕ UU ℕ)) = iprop(((((((agK I c ∗ agR I c 7) ∗ agR I c 6) ∗ agR I c 5) ∗ agR I c 4) ∗ agR I c 3) ∗ agR I c 2) ∗ agR I c 1) := by
  have h := ag_half (F := F) c 0 (AG I c)
  rw [ag_half c 1, ag_half c 2, ag_half c 3, ag_half c 4, ag_half c 5, ag_half c 6] at h
  exact h

/-- The slot of device `c + j` of the buffer of summed rows, received. -/
abbrev abR (j : ℕ) : sProp (MT nD τ sig ℕ (Elt F) ℕ UU ℕ) := pt c cc0_scratch6 (slotR (ad c j).val) (AGB I)
/-- The rows of device `c + j` of the result. -/
abbrev outR (j : ℕ) : sProp (MT nD τ sig ℕ (Elt F) ℕ UU ℕ) := pt c cc0_stg5_0 (rowS (ad c j).val) (OUT I c)

theorem out_oth (d : Dev nD) (hd : d ≠ c) {off : Fin 3 → ℕ} {inb} (h : off = ![0, 16 * d.val, 0]) {off' : Fin 4 → ℕ} {inb'} (h' : off' = ![d.val, 0, 0, 0]) (x : S2x16x512.Idx) :
    OUT I c ((Rect.unit (s := S2x128x512) off S2x16x512.size inb).emb x)
      = k0_pay383 ((Memref.whole cc0_scratch6).view.readAt (Elt F) (Rect.unit (s := S8x2x16x512) off' S1x2x16x512.size inb').toLoadRect (AGB I)) x := by
  refine (congrArg (OUT I c) ((congrArg (Rect.unit (s := S2x128x512) off S2x16x512.size inb).emb (eq_ix3 x)).trans (row_emb d h (x 0) (x 1) (x 2)))).trans ?_
  unfold OUT
  have h1 : (x 1).val < 16 := (x 1).isLt
  have e1 : (ix3 (x 0) (row d (x 1)) (x 2) (1 : Fin 3)).val = d.val * 16 + (x 1).val := rfl
  have hne : d.val ≠ c.val := fun e => hd (Fin.ext e)
  rw [if_neg (by rw [e1]; omega)]
  have hd' : dv ((ix3 (x 0) (row d (x 1)) (x 2) (1 : Fin 3)).val / 16) = d := by
    have hl : d.val < 8 := d.isLt
    rw [show (ix3 (x 0) (row d (x 1)) (x 2) (1 : Fin 3)).val / 16 = d.val by rw [e1]; omega]
    exact Fin.ext (Nat.mod_eq_of_lt hl)
  rw [hd']
  refine (congrArg (OTH I d) (.trans ?_ (eq_ix3 x).symm)).trans ?_
  · rw [show (⟨(ix3 (x 0) (row d (x 1)) (x 2) (1 : Fin 3)).val % 16, Nat.mod_lt _ (by decide)⟩ : Fin 16) = x 1 from Fin.ext (by show (d.val * 16 + (x 1).val) % 16 = _; omega)]
    rfl
  · unfold OTH
    refine congrArg (fun w => k0_pay383 w x) (funext fun y => ?_)
    exact (congrArg (AGB I) (slot_read_emb d h' y)).symm

/-- A signal of the barrier at the end. -/
theorem sig_end (j : ℕ) (l : List Ent) {α : Type} {d : Dev nD} {sm : Sem sig} {k : PUnit → Prog (TpuEff nD τ sig (Elt F) Λ₀ .tc) α} {Q : α → sProp (MT nD τ sig ℕ (Elt F) ℕ UU ℕ)}
    (hd : d = ad c j) (hsm : SemLoc.reg sm = semOf 66) :
    iprop(Ctx I κ ∗ Due c ((ad c j, 66, 0) :: l))
      ⊢ iprop((Due c l -∗ wp frame (wpE (defs₀ (F := F)) 𝒱₀ (c : Thread nD τ) none) Set.univ (k ⟨⟩) Q) -∗ wp frame (wpE (defs₀ (F := F)) 𝒱₀ (c : Thread nD τ) none) Set.univ (semSignalWord d sm 1#32 >>= k) Q) := by
  subst hd
  have e : (semSignalWord (ad c j) sm 1#32 >>= k : Prog (TpuEff nD τ sig (Elt F) Λ₀ .tc) α) = .op (.semSignal (Dev.tc (ad c j)) sm 1) k := by
    show Prog.op (TpuEff.semSignal _ sm (1#32 : BitVec 32).toInt) _ = _
    rw [show (1#32 : BitVec 32).toInt = ((1 : ℕ) : ℤ) by decide]; rfl
  rw [e]
  unfold Due
  rw [bigSepL_cons']
  iintro ⟨#HC, %hl, HO, ⟨HT, HZ⟩, HR⟩ Hk
  have h := step_signal (Q := Q) (k := k) I κ c (ad c j) 66 l hsm (List.mem_cons_of_mem _ (scoped_mem (by omega))) rfl (hl _ List.mem_cons_self)
  rw [payN_66] at h
  iapply h $$ [HO HT]
  · isplitr; · iapply (Ctx_base I κ); iexact HC
    isplitl [HO]; · iexact HO
    isplitl [HT]; · iexact HT
    isplitr; · iempintro
    iapply (open_at I κ (ad c j) (n := 66) (scoped_mem (by omega))); iexact HC
  iintro HO
  iapply Hk
  isplitr
  · ipureintro; exact fun e he => hl e (List.mem_cons_of_mem _ he)
  isplitl [HO]; · iexact HO
  iexact HR

/-- The entry of a copy of rows past its end, when there was one. -/
def rsZ (j : ℕ) : sProp (MT nD τ sig ℕ (Elt F) ℕ UU ℕ) := if dv j = c then iprop(emp) else Don c (30 + j)

/-- The wait for the end of a copy of rows, or none when they were the device's own. -/
theorem rs_end (j : ℕ) (D : sProp (MT nD τ sig ℕ (Elt F) ℕ UU ℕ)) {α : Type} {p : Prop} [Decidable p] {w : TpuEff nD τ sig (Elt F) Λ₀ .tc PUnit} {J : Prog (TpuEff nD τ sig (Elt F) Λ₀ .tc) α}
    {Q : α → sProp (MT nD τ sig ℕ (Elt F) ℕ UU ℕ)} (hp : p ↔ dv j ≠ c)
    (h1 : ∀ (_ : dv j ≠ c) (Q' : PUnit → sProp (MT nD τ sig ℕ (Elt F) ℕ UU ℕ)), iprop(Ctx I κ ∗ Wt c (30 + j) ∗ D) ⊢ iprop(((D ∗ Don c (30 + j) ∗ rowR I c j) -∗ wp frame (wpE (defs₀ (F := F)) 𝒱₀ (c : Thread nD τ) none) Set.univ (.ret ⟨⟩) Q') -∗ wp frame (wpE (defs₀ (F := F)) 𝒱₀ (c : Thread nD τ) none) Set.univ (Prog.lift w) Q')) :
    iprop(Ctx I κ ∗ rsR I c j ∗ D)
      ⊢ iprop(((D ∗ rsZ c j ∗ rowR I c j) -∗ wp frame (wpE (defs₀ (F := F)) 𝒱₀ (c : Thread nD τ) none) Set.univ J Q) -∗ wp frame (wpE (defs₀ (F := F)) 𝒱₀ (c : Thread nD τ) none) Set.univ (dite p (fun _ => Prog.lift w >>= fun _ => J) fun _ => J) Q) := by
  unfold rsR rsZ
  by_cases h : dv j = c
  · rw [dif_neg (fun hh => hp.mp hh h), if_pos h, if_pos h]
    iintro ⟨-, HR, HD⟩ Hk
    iapply Hk
    isplitl [HD]; · iexact HD
    isplitr; · iempintro
    iexact HR
  · rw [dif_pos (hp.mpr h), if_neg h, if_neg h]
    refine (h1 h _).trans (wand_mono (wand_mono .rfl (wp_fin (Q := fun _ => wp frame (wpE (defs₀ (F := F)) 𝒱₀ (c : Thread nD τ) none) Set.univ J Q) c PUnit.unit)) (bind_in c))

theorem w_rs0 (c : Dev nD) : (Scalar.cmpi .ne (Scalar.extui (Scalar.cmpi .ne (v2 c) 0#32) : BitVec 32) 0#32 = 1#1) ↔ dv 0 ≠ c := by revert c; decide +kernel
theorem w_rs1 (c : Dev nD) : (Scalar.cmpi .ne (Scalar.extui (Scalar.cmpi .ne (v2 c) 1#32) : BitVec 32) 0#32 = 1#1) ↔ dv 1 ≠ c := by revert c; decide +kernel
theorem w_rs2 (c : Dev nD) : (Scalar.cmpi .ne (Scalar.extui (Scalar.cmpi .ne (v2 c) 2#32) : BitVec 32) 0#32 = 1#1) ↔ dv 2 ≠ c := by revert c; decide +kernel
theorem w_rs3 (c : Dev nD) : (Scalar.cmpi .ne (Scalar.extui (Scalar.cmpi .ne (v2 c) 3#32) : BitVec 32) 0#32 = 1#1) ↔ dv 3 ≠ c := by revert c; decide +kernel
theorem w_rs4 (c : Dev nD) : (Scalar.cmpi .ne (Scalar.extui (Scalar.cmpi .ne (v2 c) 4#32) : BitVec 32) 0#32 = 1#1) ↔ dv 4 ≠ c := by revert c; decide +kernel
theorem w_rs5 (c : Dev nD) : (Scalar.cmpi .ne (Scalar.extui (Scalar.cmpi .ne (v2 c) 5#32) : BitVec 32) 0#32 = 1#1) ↔ dv 5 ≠ c := by revert c; decide +kernel
theorem w_rs6 (c : Dev nD) : (Scalar.cmpi .ne (Scalar.extui (Scalar.cmpi .ne (v2 c) 6#32) : BitVec 32) 0#32 = 1#1) ↔ dv 6 ≠ c := by revert c; decide +kernel
theorem w_rs7 (c : Dev nD) : (Scalar.cmpi .ne (Scalar.extui (Scalar.cmpi .ne (v2 c) 7#32) : BitVec 32) 0#32 = 1#1) ↔ dv 7 ≠ c := by revert c; decide +kernel
theorem w_even (c : Dev nD) : (Scalar.cmpi .ne (Scalar.extui (v13 c) : BitVec 32) 0#32 = 1#1) ↔ c.val % 2 = 0 := by revert c; decide +kernel
theorem w_odd (c : Dev nD) : (Scalar.cmpi .ne (Scalar.extui (Scalar.xori (v13 c) 1#1) : BitVec 32) 0#32 = 1#1) ↔ c.val % 2 = 1 := by revert c; decide +kernel

/-- Copies of the summed rows to the other devices. -/
theorem part59_run {Q} : iprop(Ctx I κ ∗ agR I c 1 ∗ agR I c 2 ∗ Due c ([(ad c 1, 54 + c.val, 46 + 1), (ad c 2, 54 + c.val, 46 + 2), (ad c 3, 54 + c.val, 46 + 3), (ad c 4, 54 + c.val, 46 + 4), (ad c 5, 54 + c.val, 46 + 5), (ad c 6, 54 + c.val, 46 + 6), (ad c 7, 54 + c.val, 46 + 7)] ++ s2E c))
    ⊢ iprop(((Wt c (46 + 1) ∗ Wt c (46 + 2) ∗ Due c ([(ad c 3, 54 + c.val, 46 + 3), (ad c 4, 54 + c.val, 46 + 4), (ad c 5, 54 + c.val, 46 + 5), (ad c 6, 54 + c.val, 46 + 6), (ad c 7, 54 + c.val, 46 + 7)] ++ s2E c)) -∗ Q ⟨(v1908 c), (c8_i32_906 c), (c0_i32_907 c)⟩) -∗ wp frame (wpE (defs₀ (F := F)) 𝒱₀ (c : Thread nD τ) none) Set.univ (k0_part59 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (v1872 c) (v1873 c) (v1874 c)) Q) := by
  rw [k0_part59_eq_skeleton]
  unfold k0_part59_skel
  iintro ⟨#HC, G1, G2, HD⟩ Hk
  iapply (send_ag I κ c 1 (by omega) _ (dev34_ad c) (off28_c c) (sem22 c (off27_c c)) (sem21 1 rfl)) $$ [G1 HD]
  · isplitr; · iexact HC
    isplitl [G1]; · iexact G1
    iexact HD
  iintro ⟨G1, HD⟩
  iapply (send_ag I κ c 2 (by omega) _ (dev35_ad c) (off28_c c) (sem22 c (off27_c c)) (sem21 2 rfl)) $$ [G2 HD]
  · isplitr; · iexact HC
    isplitl [G2]; · iexact G2
    iexact HD
  iintro ⟨G2, HD⟩
  iapply (fin_to c (b := ⟨(v1908 c), (c8_i32_906 c), (c0_i32_907 c)⟩) ?_)
  · rfl
  iapply Hk
  isplitl [G1]; · iexact G1
  isplitl [G2]; · iexact G2
  iexact HD

/-- Copies of the summed rows to the other devices. -/
theorem part60_run {Q} : iprop(Ctx I κ ∗ agR I c 3 ∗ Due c ([(ad c 3, 54 + c.val, 46 + 3), (ad c 4, 54 + c.val, 46 + 4), (ad c 5, 54 + c.val, 46 + 5), (ad c 6, 54 + c.val, 46 + 6), (ad c 7, 54 + c.val, 46 + 7)] ++ s2E c))
    ⊢ iprop(((Wt c (46 + 3) ∗ Due c ([(ad c 4, 54 + c.val, 46 + 4), (ad c 5, 54 + c.val, 46 + 5), (ad c 6, 54 + c.val, 46 + 6), (ad c 7, 54 + c.val, 46 + 7)] ++ s2E c)) -∗ Q ⟨⟩) -∗ wp frame (wpE (defs₀ (F := F)) 𝒱₀ (c : Thread nD τ) none) Set.univ (k0_part60 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (v1908 c) (c8_i32_906 c) (c0_i32_907 c)) Q) := by
  rw [k0_part60_eq_skeleton]
  unfold k0_part60_skel
  iintro ⟨#HC, G3, HD⟩ Hk
  iapply (send_ag I κ c 3 (by omega) _ (dev36_ad c) (off28_c c) (sem22 c (off27_c c)) (sem21 3 rfl)) $$ [G3 HD]
  · isplitr; · iexact HC
    isplitl [G3]; · iexact G3
    iexact HD
  iintro ⟨G3, HD⟩
  iapply (wp_fin c)
  iapply Hk
  isplitl [G3]; · iexact G3
  iexact HD

/-- Copies of the summed rows to the other devices. -/
theorem part61_run {Q} : iprop(Ctx I κ ∗ agR I c 4 ∗ agR I c 5 ∗ Due c ([(ad c 4, 54 + c.val, 46 + 4), (ad c 5, 54 + c.val, 46 + 5), (ad c 6, 54 + c.val, 46 + 6), (ad c 7, 54 + c.val, 46 + 7)] ++ s2E c))
    ⊢ iprop(((Wt c (46 + 4) ∗ Wt c (46 + 5) ∗ Due c ([(ad c 6, 54 + c.val, 46 + 6), (ad c 7, 54 + c.val, 46 + 7)] ++ s2E c)) -∗ Q ⟨⟩) -∗ wp frame (wpE (defs₀ (F := F)) 𝒱₀ (c : Thread nD τ) none) Set.univ (k0_part61 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c)) Q) := by
  rw [k0_part61_eq_skeleton]
  unfold k0_part61_skel
  iintro ⟨#HC, G4, G5, HD⟩ Hk
  iapply (send_ag I κ c 4 (by omega) _ (dev37_ad c) (off28_c c) (sem22 c (off27_c c)) (sem21 4 rfl)) $$ [G4 HD]
  · isplitr; · iexact HC
    isplitl [G4]; · iexact G4
    iexact HD
  iintro ⟨G4, HD⟩
  iapply (send_ag I κ c 5 (by omega) _ (dev38_ad c) (off28_c c) (sem22 c (off27_c c)) (sem21 5 rfl)) $$ [G5 HD]
  · isplitr; · iexact HC
    isplitl [G5]; · iexact G5
    iexact HD
  iintro ⟨G5, HD⟩
  iapply (wp_fin c)
  iapply Hk
  isplitl [G4]; · iexact G4
  isplitl [G5]; · iexact G5
  iexact HD

/-- Copies of the summed rows to the other devices. -/
theorem part62_run {Q} : iprop(Ctx I κ ∗ agR I c 6 ∗ agR I c 7 ∗ Due c ([(ad c 6, 54 + c.val, 46 + 6), (ad c 7, 54 + c.val, 46 + 7)] ++ s2E c))
    ⊢ iprop(((Wt c (46 + 6) ∗ Wt c (46 + 7) ∗ Due c (s2E c)) -∗ Q (v2013 c)) -∗ wp frame (wpE (defs₀ (F := F)) 𝒱₀ (c : Thread nD τ) none) Set.univ (k0_part62 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c)) Q) := by
  rw [k0_part62_eq_skeleton]
  unfold k0_part62_skel
  iintro ⟨#HC, G6, G7, HD⟩ Hk
  iapply (send_ag I κ c 6 (by omega) _ (dev39_ad c) (off28_c c) (sem22 c (off27_c c)) (sem21 6 rfl)) $$ [G6 HD]
  · isplitr; · iexact HC
    isplitl [G6]; · iexact G6
    iexact HD
  iintro ⟨G6, HD⟩
  iapply (send_ag I κ c 7 (by omega) _ (dev40_ad c) (off28_c c) (sem22 c (off27_c c)) (sem21 7 rfl)) $$ [G7 HD]
  · isplitr; · iexact HC
    isplitl [G7]; · iexact G7
    iexact HD
  iintro ⟨G7, HD⟩
  iapply (fin_to c (b := (v2013 c)) ?_)
  · rfl
  iapply Hk
  isplitl [G6]; · iexact G6
  isplitl [G7]; · iexact G7
  iexact HD

/-- The other devices' rows received and stored. -/
theorem part63_run {Q} : iprop(Ctx I κ ∗ Wt c (54 + (ad c 1).val) ∗ (∃ f, pt c cc0_stg5_0 (rowS (ad c 1).val) f) ∗ Wt c (54 + (ad c 2).val) ∗ Due c (s2E c))
    ⊢ iprop(((Don c (54 + (ad c 1).val) ∗ abR I c 1 ∗ outR I c 1 ∗ Don c (54 + (ad c 2).val) ∗ abR I c 2 ∗ Due c (s2E c)) -∗ Q (v2038 c)) -∗ wp frame (wpE (defs₀ (F := F)) 𝒱₀ (c : Thread nD τ) none) Set.univ (k0_part63 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (v2013 c)) Q) := by
  rw [k0_part63_eq_skeleton]
  unfold k0_part63_skel
  iintro ⟨#HC, W1, O1, W2, HD⟩ Hk
  iapply (wait_one I κ c (54 + (ad c 1).val) _ (sem22 (ad c 1) (off23_1 c)) (by have := ad_lt c 1; omega) (by rw [amtN_r (by have := ad_lt c 1; omega)]; rfl) (one_rs c 1 (by omega)).2 (fun p => payN_agb I c p (ad_lt c 1)) (lv_agw c 1)) $$ [W1 HD]
  · isplitr; · iexact HC
    isplitl [W1]; · iexact W1
    iexact HD
  iintro ⟨HD, W1, B1⟩
  iapply (ld (m := Memref.whole cc0_scratch6) c (slotR (ad c 1).val) fullShare (AGB I) (sub_ab _ (off26_1 c))) $$ [B1]; · iexact B1
  iintro B1
  icases O1 with ⟨%f1, O1⟩
  iapply (ld (m := Memref.whole cc0_stg5_0) c (rowS (ad c 1).val) fullShare f1 (sub_out _ (off29_1 c)).le) $$ [O1]; · iexact O1
  iintro O1
  iapply (st_out I c (ad c 1).val f1 (off29_1 c) (fun x => out_oth I c (ad c 1) (ad_ne c 1 (by omega)) (off29_1 c) (off26_1 c) x)) $$ [O1]; · iexact O1
  iintro O1
  iapply (wait_one I κ c (54 + (ad c 2).val) _ (sem22 (ad c 2) (off23_2 c)) (by have := ad_lt c 2; omega) (by rw [amtN_r (by have := ad_lt c 2; omega)]; rfl) (one_rs c 2 (by omega)).2 (fun p => payN_agb I c p (ad_lt c 2)) (lv_agw c 2)) $$ [W2 HD]
  · isplitr; · iexact HC
    isplitl [W2]; · iexact W2
    iexact HD
  iintro ⟨HD, W2, B2⟩
  iapply (fin_to c (b := (v2038 c)) ?_)
  · rfl
  iapply Hk
  isplitl [W1]; · iexact W1
  isplitl [B1]; · iexact B1
  isplitl [O1]; · iexact O1
  isplitl [W2]; · iexact W2
  isplitl [B2]; · iexact B2
  iexact HD

/-- The other devices' rows received and stored. -/
theorem part64_run {Q} : iprop(Ctx I κ ∗ abR I c 2 ∗ (∃ f, pt c cc0_stg5_0 (rowS (ad c 2).val) f) ∗ Wt c (54 + (ad c 3).val) ∗ Due c (s2E c))
    ⊢ iprop(((abR I c 2 ∗ outR I c 2 ∗ Don c (54 + (ad c 3).val) ∗ abR I c 3 ∗ Due c (s2E c)) -∗ Q (v2073 I c)) -∗ wp frame (wpE (defs₀ (F := F)) 𝒱₀ (c : Thread nD τ) none) Set.univ (k0_part64 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (v2038 c)) Q) := by
  rw [k0_part64_eq_skeleton]
  unfold k0_part64_skel
  iintro ⟨#HC, B2, O2, W3, HD⟩ Hk
  iapply (ld (m := Memref.whole cc0_scratch6) c (slotR (ad c 2).val) fullShare (AGB I) (sub_ab _ (off26_2 c))) $$ [B2]; · iexact B2
  iintro B2
  icases O2 with ⟨%f2, O2⟩
  iapply (ld (m := Memref.whole cc0_stg5_0) c (rowS (ad c 2).val) fullShare f2 (sub_out _ (off29_2 c)).le) $$ [O2]; · iexact O2
  iintro O2
  iapply (st_out I c (ad c 2).val f2 (off29_2 c) (fun x => out_oth I c (ad c 2) (ad_ne c 2 (by omega)) (off29_2 c) (off26_2 c) x)) $$ [O2]; · iexact O2
  iintro O2
  iapply (wait_one I κ c (54 + (ad c 3).val) _ (sem22 (ad c 3) (off23_3 c)) (by have := ad_lt c 3; omega) (by rw [amtN_r (by have := ad_lt c 3; omega)]; rfl) (one_rs c 3 (by omega)).2 (fun p => payN_agb I c p (ad_lt c 3)) (lv_agw c 3)) $$ [W3 HD]
  · isplitr; · iexact HC
    isplitl [W3]; · iexact W3
    iexact HD
  iintro ⟨HD, W3, B3⟩
  iapply (ld (m := Memref.whole cc0_scratch6) c (slotR (ad c 3).val) fullShare (AGB I) (sub_ab _ (off26_3 c))) $$ [B3]; · iexact B3
  iintro B3
  iapply (fin_to c (b := (v2073 I c)) ?_)
  · rfl
  iapply Hk
  isplitl [B2]; · iexact B2
  isplitl [O2]; · iexact O2
  isplitl [W3]; · iexact W3
  isplitl [B3]; · iexact B3
  iexact HD

/-- The other devices' rows received and stored. -/
theorem part65_run {Q} : iprop(Ctx I κ ∗ (∃ f, pt c cc0_stg5_0 (rowS (ad c 3).val) f) ∗ Wt c (54 + (ad c 4).val) ∗ (∃ f, pt c cc0_stg5_0 (rowS (ad c 4).val) f) ∗ Due c (s2E c))
    ⊢ iprop(((outR I c 3 ∗ Don c (54 + (ad c 4).val) ∗ abR I c 4 ∗ outR I c 4 ∗ Due c (s2E c)) -∗ Q ⟨(v2105 c), (v2106 c), (v2107 c), (c0_i32_1055 c)⟩) -∗ wp frame (wpE (defs₀ (F := F)) 𝒱₀ (c : Thread nD τ) none) Set.univ (k0_part65 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (v2073 I c)) Q) := by
  rw [k0_part65_eq_skeleton]
  unfold k0_part65_skel
  iintro ⟨#HC, O3, W4, O4, HD⟩ Hk
  icases O3 with ⟨%f3, O3⟩
  iapply (ld (m := Memref.whole cc0_stg5_0) c (rowS (ad c 3).val) fullShare f3 (sub_out _ (off29_3 c)).le) $$ [O3]; · iexact O3
  iintro O3
  iapply (st_out I c (ad c 3).val f3 (off29_3 c) (fun x => out_oth I c (ad c 3) (ad_ne c 3 (by omega)) (off29_3 c) (off26_3 c) x)) $$ [O3]; · iexact O3
  iintro O3
  iapply (wait_one I κ c (54 + (ad c 4).val) _ (sem22 (ad c 4) (off23_4 c)) (by have := ad_lt c 4; omega) (by rw [amtN_r (by have := ad_lt c 4; omega)]; rfl) (one_rs c 4 (by omega)).2 (fun p => payN_agb I c p (ad_lt c 4)) (lv_agw c 4)) $$ [W4 HD]
  · isplitr; · iexact HC
    isplitl [W4]; · iexact W4
    iexact HD
  iintro ⟨HD, W4, B4⟩
  iapply (ld (m := Memref.whole cc0_scratch6) c (slotR (ad c 4).val) fullShare (AGB I) (sub_ab _ (off26_4 c))) $$ [B4]; · iexact B4
  iintro B4
  icases O4 with ⟨%f4, O4⟩
  iapply (ld (m := Memref.whole cc0_stg5_0) c (rowS (ad c 4).val) fullShare f4 (sub_out _ (off29_4 c)).le) $$ [O4]; · iexact O4
  iintro O4
  iapply (st_out I c (ad c 4).val f4 (off29_4 c) (fun x => out_oth I c (ad c 4) (ad_ne c 4 (by omega)) (off29_4 c) (off26_4 c) x)) $$ [O4]; · iexact O4
  iintro O4
  iapply (fin_to c (b := ⟨(v2105 c), (v2106 c), (v2107 c), (c0_i32_1055 c)⟩) ?_)
  · rfl
  iapply Hk
  isplitl [O3]; · iexact O3
  isplitl [W4]; · iexact W4
  isplitl [B4]; · iexact B4
  isplitl [O4]; · iexact O4
  iexact HD

/-- The other devices' rows received and stored. -/
theorem part66_run {Q} : iprop(Ctx I κ ∗ Wt c (54 + (ad c 5).val) ∗ (∃ f, pt c cc0_stg5_0 (rowS (ad c 5).val) f) ∗ Due c (s2E c))
    ⊢ iprop(((Don c (54 + (ad c 5).val) ∗ abR I c 5 ∗ outR I c 5 ∗ Due c (s2E c)) -∗ Q (v2138 c)) -∗ wp frame (wpE (defs₀ (F := F)) 𝒱₀ (c : Thread nD τ) none) Set.univ (k0_part66 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (v2105 c) (v2106 c) (v2107 c) (c0_i32_1055 c)) Q) := by
  rw [k0_part66_eq_skeleton]
  unfold k0_part66_skel
  iintro ⟨#HC, W5, O5, HD⟩ Hk
  iapply (wait_one I κ c (54 + (ad c 5).val) _ (sem22 (ad c 5) (off23_5 c)) (by have := ad_lt c 5; omega) (by rw [amtN_r (by have := ad_lt c 5; omega)]; rfl) (one_rs c 5 (by omega)).2 (fun p => payN_agb I c p (ad_lt c 5)) (lv_agw c 5)) $$ [W5 HD]
  · isplitr; · iexact HC
    isplitl [W5]; · iexact W5
    iexact HD
  iintro ⟨HD, W5, B5⟩
  iapply (ld (m := Memref.whole cc0_scratch6) c (slotR (ad c 5).val) fullShare (AGB I) (sub_ab _ (off26_5 c))) $$ [B5]; · iexact B5
  iintro B5
  icases O5 with ⟨%f5, O5⟩
  iapply (ld (m := Memref.whole cc0_stg5_0) c (rowS (ad c 5).val) fullShare f5 (sub_out _ (off29_5 c)).le) $$ [O5]; · iexact O5
  iintro O5
  iapply (st_out I c (ad c 5).val f5 (off29_5 c) (fun x => out_oth I c (ad c 5) (ad_ne c 5 (by omega)) (off29_5 c) (off26_5 c) x)) $$ [O5]; · iexact O5
  iintro O5
  iapply (fin_to c (b := (v2138 c)) ?_)
  · rfl
  iapply Hk
  isplitl [W5]; · iexact W5
  isplitl [B5]; · iexact B5
  isplitl [O5]; · iexact O5
  iexact HD

/-- The other devices' rows received and stored. -/
theorem part67_run {Q} : iprop(Ctx I κ ∗ Wt c (54 + (ad c 6).val) ∗ (∃ f, pt c cc0_stg5_0 (rowS (ad c 6).val) f) ∗ Wt c (54 + (ad c 7).val) ∗ Due c (s2E c))
    ⊢ iprop(((Don c (54 + (ad c 6).val) ∗ abR I c 6 ∗ outR I c 6 ∗ Don c (54 + (ad c 7).val) ∗ abR I c 7 ∗ Due c (s2E c)) -∗ Q ⟨(v2163 c), (v2171 I c)⟩) -∗ wp frame (wpE (defs₀ (F := F)) 𝒱₀ (c : Thread nD τ) none) Set.univ (k0_part67 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (v2138 c)) Q) := by
  rw [k0_part67_eq_skeleton]
  unfold k0_part67_skel
  iintro ⟨#HC, W6, O6, W7, HD⟩ Hk
  iapply (wait_one I κ c (54 + (ad c 6).val) _ (sem22 (ad c 6) (off23_6 c)) (by have := ad_lt c 6; omega) (by rw [amtN_r (by have := ad_lt c 6; omega)]; rfl) (one_rs c 6 (by omega)).2 (fun p => payN_agb I c p (ad_lt c 6)) (lv_agw c 6)) $$ [W6 HD]
  · isplitr; · iexact HC
    isplitl [W6]; · iexact W6
    iexact HD
  iintro ⟨HD, W6, B6⟩
  iapply (ld (m := Memref.whole cc0_scratch6) c (slotR (ad c 6).val) fullShare (AGB I) (sub_ab _ (off26_6 c))) $$ [B6]; · iexact B6
  iintro B6
  icases O6 with ⟨%f6, O6⟩
  iapply (ld (m := Memref.whole cc0_stg5_0) c (rowS (ad c 6).val) fullShare f6 (sub_out _ (off29_6 c)).le) $$ [O6]; · iexact O6
  iintro O6
  iapply (st_out I c (ad c 6).val f6 (off29_6 c) (fun x => out_oth I c (ad c 6) (ad_ne c 6 (by omega)) (off29_6 c) (off26_6 c) x)) $$ [O6]; · iexact O6
  iintro O6
  iapply (wait_one I κ c (54 + (ad c 7).val) _ (sem22 (ad c 7) (off23_7 c)) (by have := ad_lt c 7; omega) (by rw [amtN_r (by have := ad_lt c 7; omega)]; rfl) (one_rs c 7 (by omega)).2 (fun p => payN_agb I c p (ad_lt c 7)) (lv_agw c 7)) $$ [W7 HD]
  · isplitr; · iexact HC
    isplitl [W7]; · iexact W7
    iexact HD
  iintro ⟨HD, W7, B7⟩
  iapply (ld (m := Memref.whole cc0_scratch6) c (slotR (ad c 7).val) fullShare (AGB I) (sub_ab _ (off26_7 c))) $$ [B7]; · iexact B7
  iintro B7
  iapply (fin_to c (b := ⟨(v2163 c), (v2171 I c)⟩) ?_)
  · rfl
  iapply Hk
  isplitl [W6]; · iexact W6
  isplitl [B6]; · iexact B6
  isplitl [O6]; · iexact O6
  isplitl [W7]; · iexact W7
  isplitl [B7]; · iexact B7
  iexact HD

set_option maxHeartbeats 1600000 in
/-- The last store, and the waits for the copies of the partial result's rows. -/
theorem part68_run {Q} : iprop(Ctx I κ ∗ (∃ f, pt c cc0_stg5_0 (rowS (ad c 7).val) f) ∗ rsR I c 0 ∗ rsR I c 1 ∗ rsR I c 2 ∗ rsR I c 3 ∗ rsR I c 4 ∗ rsR I c 5 ∗ rsR I c 6 ∗ rsR I c 7 ∗ Due c (s2E c))
    ⊢ iprop(((outR I c 7 ∗ rsZ c 0 ∗ rsZ c 1 ∗ rsZ c 2 ∗ rsZ c 3 ∗ rsZ c 4 ∗ rsZ c 5 ∗ rsZ c 6 ∗ rsZ c 7 ∗ rowR I c 0 ∗ rowR I c 1 ∗ rowR I c 2 ∗ rowR I c 3 ∗ rowR I c 4 ∗ rowR I c 5 ∗ rowR I c 6 ∗ rowR I c 7 ∗ Due c (s2E c)) -∗ Q ⟨⟩) -∗ wp frame (wpE (defs₀ (F := F)) 𝒱₀ (c : Thread nD τ) none) Set.univ (k0_part68 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (v2163 c) (v2171 I c)) Q) := by
  rw [k0_part68_eq_skeleton]
  unfold k0_part68_skel
  iintro ⟨#HC, O7, R0, R1, R2, R3, R4, R5, R6, R7, HD⟩ Hk
  icases O7 with ⟨%f7, O7⟩
  iapply (ld (m := Memref.whole cc0_stg5_0) c (rowS (ad c 7).val) fullShare f7 (sub_out _ (off29_7 c)).le) $$ [O7]; · iexact O7
  iintro O7
  iapply (st_out I c (ad c 7).val f7 (off29_7 c) (fun x => out_oth I c (ad c 7) (ad_ne c 7 (by omega)) (off29_7 c) (off26_7 c) x)) $$ [O7]; · iexact O7
  iintro O7
  iapply (rs_end I κ c 0 (Due c (s2E c)) (w_rs0 c) ?_) $$ [R0 HD]
  · intro h Q'
    exact wait_one I κ c (30 + 0) _ (sem19 0 rfl) (by omega) (by rw [amtN_r (by omega)]; rfl) ((one_out c 0).1 h) (fun p => payN_p16 I c p (by omega)) (lv_end c _ rfl)
  · isplitr; · iexact HC
    isplitl [R0]; · iexact R0
    iexact HD
  iintro ⟨HD, Z0, R0⟩
  iapply (rs_end I κ c 1 (Due c (s2E c)) (w_rs1 c) ?_) $$ [R1 HD]
  · intro h Q'
    exact wait_one I κ c (30 + 1) _ (sem19 1 rfl) (by omega) (by rw [amtN_r (by omega)]; rfl) ((one_out c 1).1 h) (fun p => payN_p16 I c p (by omega)) (lv_end c _ rfl)
  · isplitr; · iexact HC
    isplitl [R1]; · iexact R1
    iexact HD
  iintro ⟨HD, Z1, R1⟩
  iapply (rs_end I κ c 2 (Due c (s2E c)) (w_rs2 c) ?_) $$ [R2 HD]
  · intro h Q'
    exact wait_one I κ c (30 + 2) _ (sem19 2 rfl) (by omega) (by rw [amtN_r (by omega)]; rfl) ((one_out c 2).1 h) (fun p => payN_p16 I c p (by omega)) (lv_end c _ rfl)
  · isplitr; · iexact HC
    isplitl [R2]; · iexact R2
    iexact HD
  iintro ⟨HD, Z2, R2⟩
  iapply (rs_end I κ c 3 (Due c (s2E c)) (w_rs3 c) ?_) $$ [R3 HD]
  · intro h Q'
    exact wait_one I κ c (30 + 3) _ (sem19 3 rfl) (by omega) (by rw [amtN_r (by omega)]; rfl) ((one_out c 3).1 h) (fun p => payN_p16 I c p (by omega)) (lv_end c _ rfl)
  · isplitr; · iexact HC
    isplitl [R3]; · iexact R3
    iexact HD
  iintro ⟨HD, Z3, R3⟩
  iapply (rs_end I κ c 4 (Due c (s2E c)) (w_rs4 c) ?_) $$ [R4 HD]
  · intro h Q'
    exact wait_one I κ c (30 + 4) _ (sem19 4 rfl) (by omega) (by rw [amtN_r (by omega)]; rfl) ((one_out c 4).1 h) (fun p => payN_p16 I c p (by omega)) (lv_end c _ rfl)
  · isplitr; · iexact HC
    isplitl [R4]; · iexact R4
    iexact HD
  iintro ⟨HD, Z4, R4⟩
  iapply (rs_end I κ c 5 (Due c (s2E c)) (w_rs5 c) ?_) $$ [R5 HD]
  · intro h Q'
    exact wait_one I κ c (30 + 5) _ (sem19 5 rfl) (by omega) (by rw [amtN_r (by omega)]; rfl) ((one_out c 5).1 h) (fun p => payN_p16 I c p (by omega)) (lv_end c _ rfl)
  · isplitr; · iexact HC
    isplitl [R5]; · iexact R5
    iexact HD
  iintro ⟨HD, Z5, R5⟩
  iapply (rs_end I κ c 6 (Due c (s2E c)) (w_rs6 c) ?_) $$ [R6 HD]
  · intro h Q'
    exact wait_one I κ c (30 + 6) _ (sem19 6 rfl) (by omega) (by rw [amtN_r (by omega)]; rfl) ((one_out c 6).1 h) (fun p => payN_p16 I c p (by omega)) (lv_end c _ rfl)
  · isplitr; · iexact HC
    isplitl [R6]; · iexact R6
    iexact HD
  iintro ⟨HD, Z6, R6⟩
  iapply (rs_end I κ c 7 (Due c (s2E c)) (w_rs7 c) ?_) $$ [R7 HD]
  · intro h Q'
    exact wait_one I κ c (30 + 7) _ (sem19 7 rfl) (by omega) (by rw [amtN_r (by omega)]; rfl) ((one_out c 7).1 h) (fun p => payN_p16 I c p (by omega)) (lv_end c _ rfl)
  · isplitr; · iexact HC
    isplitl [R7]; · iexact R7
    iexact HD
  iintro ⟨HD, Z7, R7⟩
  iapply (wp_fin c)
  iapply Hk
  isplitl [O7]; · iexact O7
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  iexact HD

/-- Waits for the copies of the summed rows. -/
theorem part69_run {Q} : iprop(Ctx I κ ∗ Wt c (46 + 1) ∗ Wt c (46 + 2) ∗ Wt c (46 + 3) ∗ Wt c (46 + 4) ∗ Due c (s2E c))
    ⊢ iprop(((Don c (46 + 1) ∗ agR I c 1 ∗ Don c (46 + 2) ∗ agR I c 2 ∗ Don c (46 + 3) ∗ agR I c 3 ∗ Don c (46 + 4) ∗ agR I c 4 ∗ Due c (s2E c)) -∗ Q ⟨⟩) -∗ wp frame (wpE (defs₀ (F := F)) 𝒱₀ (c : Thread nD τ) none) Set.univ (k0_part69 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 ) Q) := by
  rw [k0_part69_eq_skeleton]
  unfold k0_part69_skel
  iintro ⟨#HC, W1, W2, W3, W4, HD⟩ Hk
  iapply (wait_one I κ c (46 + 1) _ (sem21 1 rfl) (by omega) (by rw [amtN_r (by omega)]; rfl) ((one_out c 1).2.1 (by decide)) (fun p => payN_ag I c p (by omega)) (lv_end c _ rfl)) $$ [W1 HD]
  · isplitr; · iexact HC
    isplitl [W1]; · iexact W1
    iexact HD
  iintro ⟨HD, W1, G1⟩
  iapply (wait_one I κ c (46 + 2) _ (sem21 2 rfl) (by omega) (by rw [amtN_r (by omega)]; rfl) ((one_out c 2).2.1 (by decide)) (fun p => payN_ag I c p (by omega)) (lv_end c _ rfl)) $$ [W2 HD]
  · isplitr; · iexact HC
    isplitl [W2]; · iexact W2
    iexact HD
  iintro ⟨HD, W2, G2⟩
  iapply (wait_one I κ c (46 + 3) _ (sem21 3 rfl) (by omega) (by rw [amtN_r (by omega)]; rfl) ((one_out c 3).2.1 (by decide)) (fun p => payN_ag I c p (by omega)) (lv_end c _ rfl)) $$ [W3 HD]
  · isplitr; · iexact HC
    isplitl [W3]; · iexact W3
    iexact HD
  iintro ⟨HD, W3, G3⟩
  iapply (wait_one I κ c (46 + 4) _ (sem21 4 rfl) (by omega) (by rw [amtN_r (by omega)]; rfl) ((one_out c 4).2.1 (by decide)) (fun p => payN_ag I c p (by omega)) (lv_end c _ rfl)) $$ [W4 HD]
  · isplitr; · iexact HC
    isplitl [W4]; · iexact W4
    iexact HD
  iintro ⟨HD, W4, G4⟩
  iapply (wp_fin c)
  iapply Hk
  isplitl [W1]; · iexact W1
  isplitl [G1]; · iexact G1
  isplitl [W2]; · iexact W2
  isplitl [G2]; · iexact G2
  isplitl [W3]; · iexact W3
  isplitl [G3]; · iexact G3
  isplitl [W4]; · iexact W4
  isplitl [G4]; · iexact G4
  iexact HD

/-- An even device waits for its copies of K and V. -/
theorem part8_run {Q} (he : c.val % 2 = 0) : iprop(Ctx I κ ∗ Wt c (6 + 0) ∗ Wt c (14 + 0) ∗ Wt c (6 + 1) ∗ Due c (s2E c))
    ⊢ iprop(((Don c (6 + 0) ∗ kS I c 0 ∗ Don c (14 + 0) ∗ vS I c 0 ∗ Don c (6 + 1) ∗ kS I c 1 ∗ Due c (s2E c)) -∗ Q ⟨⟩) -∗ wp frame (wpE (defs₀ (F := F)) 𝒱₀ (c : Thread nD τ) none) Set.univ (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 ) Q) := by
  rw [k0_part8_eq_skeleton]
  unfold k0_part8_skel
  iintro ⟨#HC, A0, B0, A1, HD⟩ Hk
  iapply (wait_one I κ c (6 + 0) _ (sem15 0 rfl) (by omega) (by rw [amtN_k (by omega)]; rfl) ((one_out c 0).2.2.1 he).1 (fun p => payN_k I c p (by omega)) (lv_end c _ rfl)) $$ [A0 HD]
  · isplitr; · iexact HC
    isplitl [A0]; · iexact A0
    iexact HD
  iintro ⟨HD, A0, K0⟩
  iapply (wait_one I κ c (14 + 0) _ (sem16 0 rfl) (by omega) (by rw [amtN_k (by omega)]; rfl) ((one_out c 0).2.2.1 he).2 (fun p => payN_v I c p (by omega)) (lv_end c _ rfl)) $$ [B0 HD]
  · isplitr; · iexact HC
    isplitl [B0]; · iexact B0
    iexact HD
  iintro ⟨HD, B0, V0⟩
  iapply (wait_one I κ c (6 + 1) _ (sem15 1 rfl) (by omega) (by rw [amtN_k (by omega)]; rfl) ((one_out c 1).2.2.1 he).1 (fun p => payN_k I c p (by omega)) (lv_end c _ rfl)) $$ [A1 HD]
  · isplitr; · iexact HC
    isplitl [A1]; · iexact A1
    iexact HD
  iintro ⟨HD, A1, K1⟩
  iapply (wp_fin c)
  iapply Hk
  isplitl [A0]; · iexact A0
  isplitl [K0]; · iexact K0
  isplitl [B0]; · iexact B0
  isplitl [V0]; · iexact V0
  isplitl [A1]; · iexact A1
  isplitl [K1]; · iexact K1
  iexact HD

/-- An even device waits for its copies of K and V. -/
theorem part9_run {Q} (he : c.val % 2 = 0) : iprop(Ctx I κ ∗ Wt c (14 + 1) ∗ Wt c (6 + 2) ∗ Wt c (14 + 2) ∗ Wt c (6 + 3) ∗ Due c (s2E c))
    ⊢ iprop(((Don c (14 + 1) ∗ vS I c 1 ∗ Don c (6 + 2) ∗ kS I c 2 ∗ Don c (14 + 2) ∗ vS I c 2 ∗ Don c (6 + 3) ∗ kS I c 3 ∗ Due c (s2E c)) -∗ Q ⟨⟩) -∗ wp frame (wpE (defs₀ (F := F)) 𝒱₀ (c : Thread nD τ) none) Set.univ (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 ) Q) := by
  rw [k0_part9_eq_skeleton]
  unfold k0_part9_skel
  iintro ⟨#HC, B1, A2, B2, A3, HD⟩ Hk
  iapply (wait_one I κ c (14 + 1) _ (sem16 1 rfl) (by omega) (by rw [amtN_k (by omega)]; rfl) ((one_out c 1).2.2.1 he).2 (fun p => payN_v I c p (by omega)) (lv_end c _ rfl)) $$ [B1 HD]
  · isplitr; · iexact HC
    isplitl [B1]; · iexact B1
    iexact HD
  iintro ⟨HD, B1, V1⟩
  iapply (wait_one I κ c (6 + 2) _ (sem15 2 rfl) (by omega) (by rw [amtN_k (by omega)]; rfl) ((one_out c 2).2.2.1 he).1 (fun p => payN_k I c p (by omega)) (lv_end c _ rfl)) $$ [A2 HD]
  · isplitr; · iexact HC
    isplitl [A2]; · iexact A2
    iexact HD
  iintro ⟨HD, A2, K2⟩
  iapply (wait_one I κ c (14 + 2) _ (sem16 2 rfl) (by omega) (by rw [amtN_k (by omega)]; rfl) ((one_out c 2).2.2.1 he).2 (fun p => payN_v I c p (by omega)) (lv_end c _ rfl)) $$ [B2 HD]
  · isplitr; · iexact HC
    isplitl [B2]; · iexact B2
    iexact HD
  iintro ⟨HD, B2, V2⟩
  iapply (wait_one I κ c (6 + 3) _ (sem15 3 rfl) (by omega) (by rw [amtN_k (by omega)]; rfl) ((one_out c 3).2.2.1 he).1 (fun p => payN_k I c p (by omega)) (lv_end c _ rfl)) $$ [A3 HD]
  · isplitr; · iexact HC
    isplitl [A3]; · iexact A3
    iexact HD
  iintro ⟨HD, A3, K3⟩
  iapply (wp_fin c)
  iapply Hk
  isplitl [B1]; · iexact B1
  isplitl [V1]; · iexact V1
  isplitl [A2]; · iexact A2
  isplitl [K2]; · iexact K2
  isplitl [B2]; · iexact B2
  isplitl [V2]; · iexact V2
  isplitl [A3]; · iexact A3
  isplitl [K3]; · iexact K3
  iexact HD

/-- An even device waits for its copies of K and V. -/
theorem part10_run {Q} (he : c.val % 2 = 0) : iprop(Ctx I κ ∗ Wt c (14 + 3) ∗ Wt c (6 + 4) ∗ Wt c (14 + 4) ∗ Due c (s2E c))
    ⊢ iprop(((Don c (14 + 3) ∗ vS I c 3 ∗ Don c (6 + 4) ∗ kS I c 4 ∗ Don c (14 + 4) ∗ vS I c 4 ∗ Due c (s2E c)) -∗ Q ⟨⟩) -∗ wp frame (wpE (defs₀ (F := F)) 𝒱₀ (c : Thread nD τ) none) Set.univ (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 ) Q) := by
  rw [k0_part10_eq_skeleton]
  unfold k0_part10_skel
  iintro ⟨#HC, B3, A4, B4, HD⟩ Hk
  iapply (wait_one I κ c (14 + 3) _ (sem16 3 rfl) (by omega) (by rw [amtN_k (by omega)]; rfl) ((one_out c 3).2.2.1 he).2 (fun p => payN_v I c p (by omega)) (lv_end c _ rfl)) $$ [B3 HD]
  · isplitr; · iexact HC
    isplitl [B3]; · iexact B3
    iexact HD
  iintro ⟨HD, B3, V3⟩
  iapply (wait_one I κ c (6 + 4) _ (sem15 4 rfl) (by omega) (by rw [amtN_k (by omega)]; rfl) ((one_out c 4).2.2.1 he).1 (fun p => payN_k I c p (by omega)) (lv_end c _ rfl)) $$ [A4 HD]
  · isplitr; · iexact HC
    isplitl [A4]; · iexact A4
    iexact HD
  iintro ⟨HD, A4, K4⟩
  iapply (wait_one I κ c (14 + 4) _ (sem16 4 rfl) (by omega) (by rw [amtN_k (by omega)]; rfl) ((one_out c 4).2.2.1 he).2 (fun p => payN_v I c p (by omega)) (lv_end c _ rfl)) $$ [B4 HD]
  · isplitr; · iexact HC
    isplitl [B4]; · iexact B4
    iexact HD
  iintro ⟨HD, B4, V4⟩
  iapply (wp_fin c)
  iapply Hk
  isplitl [B3]; · iexact B3
  isplitl [V3]; · iexact V3
  isplitl [A4]; · iexact A4
  isplitl [K4]; · iexact K4
  isplitl [B4]; · iexact B4
  isplitl [V4]; · iexact V4
  iexact HD

/-- An even device waits for its copies of K and V. -/
theorem part11_run {Q} (he : c.val % 2 = 0) : iprop(Ctx I κ ∗ Wt c (6 + 5) ∗ Wt c (14 + 5) ∗ Wt c (6 + 6) ∗ Wt c (14 + 6) ∗ Due c (s2E c))
    ⊢ iprop(((Don c (6 + 5) ∗ kS I c 5 ∗ Don c (14 + 5) ∗ vS I c 5 ∗ Don c (6 + 6) ∗ kS I c 6 ∗ Don c (14 + 6) ∗ vS I c 6 ∗ Due c (s2E c)) -∗ Q ⟨⟩) -∗ wp frame (wpE (defs₀ (F := F)) 𝒱₀ (c : Thread nD τ) none) Set.univ (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 ) Q) := by
  rw [k0_part11_eq_skeleton]
  unfold k0_part11_skel
  iintro ⟨#HC, A5, B5, A6, B6, HD⟩ Hk
  iapply (wait_one I κ c (6 + 5) _ (sem15 5 rfl) (by omega) (by rw [amtN_k (by omega)]; rfl) ((one_out c 5).2.2.1 he).1 (fun p => payN_k I c p (by omega)) (lv_end c _ rfl)) $$ [A5 HD]
  · isplitr; · iexact HC
    isplitl [A5]; · iexact A5
    iexact HD
  iintro ⟨HD, A5, K5⟩
  iapply (wait_one I κ c (14 + 5) _ (sem16 5 rfl) (by omega) (by rw [amtN_k (by omega)]; rfl) ((one_out c 5).2.2.1 he).2 (fun p => payN_v I c p (by omega)) (lv_end c _ rfl)) $$ [B5 HD]
  · isplitr; · iexact HC
    isplitl [B5]; · iexact B5
    iexact HD
  iintro ⟨HD, B5, V5⟩
  iapply (wait_one I κ c (6 + 6) _ (sem15 6 rfl) (by omega) (by rw [amtN_k (by omega)]; rfl) ((one_out c 6).2.2.1 he).1 (fun p => payN_k I c p (by omega)) (lv_end c _ rfl)) $$ [A6 HD]
  · isplitr; · iexact HC
    isplitl [A6]; · iexact A6
    iexact HD
  iintro ⟨HD, A6, K6⟩
  iapply (wait_one I κ c (14 + 6) _ (sem16 6 rfl) (by omega) (by rw [amtN_k (by omega)]; rfl) ((one_out c 6).2.2.1 he).2 (fun p => payN_v I c p (by omega)) (lv_end c _ rfl)) $$ [B6 HD]
  · isplitr; · iexact HC
    isplitl [B6]; · iexact B6
    iexact HD
  iintro ⟨HD, B6, V6⟩
  iapply (wp_fin c)
  iapply Hk
  isplitl [A5]; · iexact A5
  isplitl [K5]; · iexact K5
  isplitl [B5]; · iexact B5
  isplitl [V5]; · iexact V5
  isplitl [A6]; · iexact A6
  isplitl [K6]; · iexact K6
  isplitl [B6]; · iexact B6
  isplitl [V6]; · iexact V6
  iexact HD

/-- The cells of the copies of K and V past their ends. -/
def kvDon : sProp (MT nD τ sig ℕ (Elt F) ℕ UU ℕ) := iprop(Don c (6 + 0) ∗ Don c (6 + 1) ∗ Don c (6 + 2) ∗ Don c (6 + 3) ∗ Don c (6 + 4) ∗ Don c (6 + 5) ∗ Don c (6 + 6) ∗ Don c (6 + 7) ∗ Don c (14 + 0) ∗ Don c (14 + 1) ∗ Don c (14 + 2) ∗ Don c (14 + 3) ∗ Don c (14 + 4) ∗ Don c (14 + 5) ∗ Don c (14 + 6) ∗ Don c (14 + 7))
/-- The blocks of K and V back, at an even device with the cells of their copies. -/
def kvEnd : sProp (MT nD τ sig ℕ (Elt F) ℕ UU ℕ) := if c.val % 2 = 0 then iprop(kvDon c ∗ kvAll I c) else kvAll I c
/-- After the waits for the relay's copies. -/
def rlEnd : sProp (MT nD τ sig ℕ (Elt F) ℕ UU ℕ) := if c.val % 2 = 1 then iprop(Don c 62 ∗ Don c 63 ∗ Don c 64 ∗ Don c 65 ∗ pt c cc0_scratch7 Finset.univ (KST I c) ∗ pt c cc0_scratch8 Finset.univ (VST I c)) else iprop(emp)

set_option maxHeartbeats 1600000 in
/-- The last waits for the device's own copies. -/
theorem part70_run {Q} : iprop(Ctx I κ ∗ Wt c (46 + 5) ∗ Wt c (46 + 6) ∗ Wt c (46 + 7) ∗ kvHalf I c ∗ rlPost c ∗ Due c (s2E c))
    ⊢ iprop(((Don c (46 + 5) ∗ agR I c 5 ∗ Don c (46 + 6) ∗ agR I c 6 ∗ Don c (46 + 7) ∗ agR I c 7 ∗ kvEnd I c ∗ rlEnd I c ∗ Due c (s2E c)) -∗ Q (v2247_r0 c)) -∗ wp frame (wpE (defs₀ (F := F)) 𝒱₀ (c : Thread nD τ) none) Set.univ (k0_part70 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 (v2 c) (v13 c)) Q) := by
  rw [k0_part70_eq_skeleton]
  unfold k0_part70_skel
  iintro ⟨#HC, W5, W6, W7, HK, HL, HD⟩ Hk
  iapply (wait_one I κ c (46 + 5) _ (sem21 5 rfl) (by omega) (by rw [amtN_r (by omega)]; rfl) ((one_out c 5).2.1 (by decide)) (fun p => payN_ag I c p (by omega)) (lv_end c _ rfl)) $$ [W5 HD]
  · isplitr; · iexact HC
    isplitl [W5]; · iexact W5
    iexact HD
  iintro ⟨HD, W5, G5⟩
  iapply (wait_one I κ c (46 + 6) _ (sem21 6 rfl) (by omega) (by rw [amtN_r (by omega)]; rfl) ((one_out c 6).2.1 (by decide)) (fun p => payN_ag I c p (by omega)) (lv_end c _ rfl)) $$ [W6 HD]
  · isplitr; · iexact HC
    isplitl [W6]; · iexact W6
    iexact HD
  iintro ⟨HD, W6, G6⟩
  iapply (wait_one I κ c (46 + 7) _ (sem21 7 rfl) (by omega) (by rw [amtN_r (by omega)]; rfl) ((one_out c 7).2.1 (by decide)) (fun p => payN_ag I c p (by omega)) (lv_end c _ rfl)) $$ [W7 HD]
  · isplitr; · iexact HC
    isplitl [W7]; · iexact W7
    iexact HD
  iintro ⟨HD, W7, G7⟩
  iapply (dite_join c (R := iprop(Ctx I κ ∗ kvHalf I c ∗ Due c (s2E c))) iprop(kvEnd I c ∗ Due c (s2E c)) ?_ ?_) $$ [HK HD]
  · intro h
    have he : ¬ c.val % 2 = 0 := fun e => h ((w_even c).mpr e)
    unfold kvHalf kvEnd
    rw [if_neg he, if_neg he]
    iintro ⟨-, HK, HD⟩ Hk
    iapply Hk
    isplitl [HK]; · iexact HK
    iexact HD
  · intro h
    have he : c.val % 2 = 0 := (w_even c).mp h
    unfold kvHalf kvEnd kvWt kvDon kvAll
    rw [if_pos he, if_pos he]
    iintro ⟨#HC, ⟨A0, A1, A2, A3, A4, A5, A6, A7, B0, B1, B2, B3, B4, B5, B6, B7⟩, HD⟩ Hk
    iapply (bind_in c)
    iapply (part8_run I κ c he) $$ [A0 B0 A1 HD]
    · isplitr; · iexact HC
      isplitl [A0]; · iexact A0
      isplitl [B0]; · iexact B0
      isplitl [A1]; · iexact A1
      iexact HD
    iintro ⟨A0, K0, B0, V0, A1, K1, HD⟩
    iapply (bind_in c)
    iapply (part9_run I κ c he) $$ [B1 A2 B2 A3 HD]
    · isplitr; · iexact HC
      isplitl [B1]; · iexact B1
      isplitl [A2]; · iexact A2
      isplitl [B2]; · iexact B2
      isplitl [A3]; · iexact A3
      iexact HD
    iintro ⟨B1, V1, A2, K2, B2, V2, A3, K3, HD⟩
    iapply (bind_in c)
    iapply (part10_run I κ c he) $$ [B3 A4 B4 HD]
    · isplitr; · iexact HC
      isplitl [B3]; · iexact B3
      isplitl [A4]; · iexact A4
      isplitl [B4]; · iexact B4
      iexact HD
    iintro ⟨B3, V3, A4, K4, B4, V4, HD⟩
    iapply (bind_in c)
    iapply (part11_run I κ c he) $$ [A5 B5 A6 B6 HD]
    · isplitr; · iexact HC
      isplitl [A5]; · iexact A5
      isplitl [B5]; · iexact B5
      isplitl [A6]; · iexact A6
      isplitl [B6]; · iexact B6
      iexact HD
    iintro ⟨A5, K5, B5, V5, A6, K6, B6, V6, HD⟩
    iapply (wait_one I κ c (6 + 7) _ (sem15 7 rfl) (by omega) (by rw [amtN_k (by omega)]; rfl) ((one_out c 7).2.2.1 he).1 (fun p => payN_k I c p (by omega)) (lv_end c _ rfl)) $$ [A7 HD]
    · isplitr; · iexact HC
      isplitl [A7]; · iexact A7
      iexact HD
    iintro ⟨HD, A7, K7⟩
    iapply (wait_one I κ c (14 + 7) _ (sem16 7 rfl) (by omega) (by rw [amtN_k (by omega)]; rfl) ((one_out c 7).2.2.1 he).2 (fun p => payN_v I c p (by omega)) (lv_end c _ rfl)) $$ [B7 HD]
    · isplitr; · iexact HC
      isplitl [B7]; · iexact B7
      iexact HD
    iintro ⟨HD, B7, V7⟩
    iapply Hk
    isplitr [HD]
    · isplitl [A0 A1 A2 A3 A4 A5 A6 A7 B0 B1 B2 B3 B4 B5 B6 B7]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [B0]; · iexact B0
        isplitl [B1]; · iexact B1
        isplitl [B2]; · iexact B2
        isplitl [B3]; · iexact B3
        isplitl [B4]; · iexact B4
        isplitl [B5]; · iexact B5
        isplitl [B6]; · iexact B6
        iexact B7
      isplitl [K0]; · iexact K0
      isplitl [K1]; · iexact K1
      isplitl [K2]; · iexact K2
      isplitl [K3]; · iexact K3
      isplitl [K4]; · iexact K4
      isplitl [K5]; · iexact K5
      isplitl [K6]; · iexact K6
      isplitl [K7]; · iexact K7
      isplitl [V0]; · iexact V0
      isplitl [V1]; · iexact V1
      isplitl [V2]; · iexact V2
      isplitl [V3]; · iexact V3
      isplitl [V4]; · iexact V4
      isplitl [V5]; · iexact V5
      isplitl [V6]; · iexact V6
      iexact V7
    iexact HD
  · isplitr; · iexact HC
    isplitl [HK]; · iexact HK
    iexact HD
  iintro ⟨HK, HD⟩
  iapply (dite_join c (R := iprop(Ctx I κ ∗ rlPost c ∗ Due c (s2E c))) iprop(rlEnd I c ∗ Due c (s2E c)) ?_ ?_) $$ [HL HD]
  · intro h
    have ho : ¬ c.val % 2 = 1 := fun e => h ((w_odd c).mpr e)
    unfold rlPost rlEnd
    rw [if_neg ho, if_neg ho]
    iintro ⟨-, HL, HD⟩ Hk
    iapply Hk
    isplitl [HL]; · iexact HL
    iexact HD
  · intro h
    have ho : c.val % 2 = 1 := (w_odd c).mp h
    unfold rlPost rlEnd
    rw [if_pos ho, if_pos ho]
    iintro ⟨#HC, ⟨D2, D3, W4, W5⟩, HD⟩ Hk
    iapply (wait_one I κ c 64 _ (sem24 0 rfl) (by omega) (by rw [amtN_s (by omega)]; rfl) ((one_out c 0).2.2.2 ho).1 (fun p => payN_64 I c p) (lv_end c _ rfl)) $$ [W4 HD]
    · isplitr; · iexact HC
      isplitl [W4]; · iexact W4
      iexact HD
    iintro ⟨HD, W4, X4⟩
    iapply (wait_one I κ c 65 _ (sem24 1 rfl) (by omega) (by rw [amtN_s (by omega)]; rfl) ((one_out c 0).2.2.2 ho).2 (fun p => payN_65 I c p) (lv_end c _ rfl)) $$ [W5 HD]
    · isplitr; · iexact HC
      isplitl [W5]; · iexact W5
      iexact HD
    iintro ⟨HD, W5, X5⟩
    iapply Hk
    isplitr [HD]
    · isplitl [D2]; · iexact D2
      isplitl [D3]; · iexact D3
      isplitl [W4]; · iexact W4
      isplitl [W5]; · iexact W5
      isplitl [X4]; · iexact X4
      iexact X5
    iexact HD
  · isplitr; · iexact HC
    isplitl [HL]; · iexact HL
    iexact HD
  iintro ⟨HL, HD⟩
  iapply (fin_to c (b := (v2247_r0 c)) ?_)
  · rfl
  iapply Hk
  isplitl [W5]; · iexact W5
  isplitl [G5]; · iexact G5
  isplitl [W6]; · iexact W6
  isplitl [G6]; · iexact G6
  isplitl [W7]; · iexact W7
  isplitl [G7]; · iexact G7
  isplitl [HK]; · iexact HK
  isplitl [HL]; · iexact HL
  iexact HD

/-- The barrier at the end begins. -/
theorem part71_run {Q} : iprop(Ctx I κ ∗ Due c (s2E c))
    ⊢ iprop(((Due c [(ad c 4, 66, 0), (ad c 5, 66, 0), (ad c 6, 66, 0), (ad c 7, 66, 0)]) -∗ Q ⟨(v2277_r0 c), (v2278_r0 c), (c0_i32_1219_r0 c)⟩) -∗ wp frame (wpE (defs₀ (F := F)) 𝒱₀ (c : Thread nD τ) none) Set.univ (k0_part71 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (v2247_r0 c)) Q) := by
  rw [k0_part71_eq_skeleton]
  unfold k0_part71_skel
  iintro ⟨#HC, HD⟩ Hk
  iapply (sig_end I κ c 1 [(ad c 2, 66, 0), (ad c 3, 66, 0), (ad c 4, 66, 0), (ad c 5, 66, 0), (ad c 6, 66, 0), (ad c 7, 66, 0)] (dev41_ad c) rfl) $$ [HD]
  · isplitr; · iexact HC
    iexact HD
  iintro HD
  iapply (sig_end I κ c 2 [(ad c 3, 66, 0), (ad c 4, 66, 0), (ad c 5, 66, 0), (ad c 6, 66, 0), (ad c 7, 66, 0)] (dev42_ad c) rfl) $$ [HD]
  · isplitr; · iexact HC
    iexact HD
  iintro HD
  iapply (sig_end I κ c 3 [(ad c 4, 66, 0), (ad c 5, 66, 0), (ad c 6, 66, 0), (ad c 7, 66, 0)] (dev43_ad c) rfl) $$ [HD]
  · isplitr; · iexact HC
    iexact HD
  iintro HD
  iapply (fin_to c (b := ⟨(v2277_r0 c), (v2278_r0 c), (c0_i32_1219_r0 c)⟩) ?_)
  · rfl
  iapply Hk
  iexact HD

/-- It goes on. -/
theorem part72_run {Q} : iprop(Ctx I κ ∗ Due c [(ad c 4, 66, 0), (ad c 5, 66, 0), (ad c 6, 66, 0), (ad c 7, 66, 0)])
    ⊢ iprop(((Due c [(ad c 6, 66, 0), (ad c 7, 66, 0)]) -∗ ∀ r, Q r) -∗ wp frame (wpE (defs₀ (F := F)) 𝒱₀ (c : Thread nD τ) none) Set.univ (k0_part72 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c (v2 c) (v2277_r0 c) (v2278_r0 c) (c0_i32_1219_r0 c)) Q) := by
  rw [k0_part72_eq_skeleton]
  unfold k0_part72_skel
  iintro ⟨#HC, HD⟩ Hk
  iapply (sig_end I κ c 4 [(ad c 5, 66, 0), (ad c 6, 66, 0), (ad c 7, 66, 0)] (dev44_ad c) rfl) $$ [HD]
  · isplitr; · iexact HC
    iexact HD
  iintro HD
  iapply (sig_end I κ c 5 [(ad c 6, 66, 0), (ad c 7, 66, 0)] (dev45_ad c) rfl) $$ [HD]
  · isplitr; · iexact HC
    iexact HD
  iintro HD
  iapply (wp_fin c)
  ispecialize Hk $$ [HD]
  · iexact HD
  iapply Hk

end Last

end Cert.KernelIdeal.Hand

end
-- ==== Proof.Run.lean ====
/-
  The whole body of the kernel on one device, from its buffers, its credits and its duties to the sum.
-/
module

public import proofs.«01_k».proof.Proof.Last

@[expose] public section

set_option maxRecDepth 16384

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

section Run

variable (I : Ins F) (κ : GSem nD τ sig → ℕ) (c : Dev nD)

/-- What the body starts from, beside the cells' invariants. -/
def runPre : sProp (MT nD τ sig ℕ (Elt F) ℕ UU ℕ) := iprop(sig1 c 1 ∗ sig1 c 2 ∗ Owe c (allE c) ∗ sig1 c 3 ∗ sig1 c 4 ∗ sig1 c 5 ∗ sig1 c 6 ∗ sig1 c 7 ∗ Wt c 0 ∗ barPay c c ∗ bigSepL (restE c) (tokE c) ∗ kvAll I c ∗ xR I c ∗ wqR I c ∗ rlPre c ∗ Wt c (22 + 0) ∗ Wt c (22 + 1) ∗ Wt c (22 + 2) ∗ Wt c (22 + 3) ∗ Wt c (26 + 0) ∗ Wt c (26 + 1) ∗ Wt c (26 + 2) ∗ Wt c (26 + 3) ∗ woR I c ∗ (∃ f, pt c cc0_scratch2 (blkS 0) f) ∗ (∃ f, pt c cc0_scratch3 (blkS 0) f) ∗ (∃ f, pt c cc0_scratch2 (blkS 1) f) ∗ (∃ f, pt c cc0_scratch3 (blkS 1) f) ∗ (∃ f, pt c cc0_scratch2 (blkS 2) f) ∗ (∃ f, pt c cc0_scratch3 (blkS 2) f) ∗ (∃ f, pt c cc0_scratch2 (blkS 3) f) ∗ (∃ f, pt c cc0_scratch3 (blkS 3) f) ∗ Wt c (38 + (ad c 1).val) ∗ Wt c (38 + (ad c 2).val) ∗ Wt c (38 + (ad c 3).val) ∗ Wt c (38 + (ad c 4).val) ∗ Wt c (38 + (ad c 5).val) ∗ Wt c (38 + (ad c 6).val) ∗ Wt c (38 + (ad c 7).val) ∗ (∃ f, pt c cc0_stg5_0 (rowS c.val) f) ∗ (∃ f, pt c cc0_scratch5 Finset.univ f) ∗ Wt c (54 + (ad c 1).val) ∗ (∃ f, pt c cc0_stg5_0 (rowS (ad c 1).val) f) ∗ Wt c (54 + (ad c 2).val) ∗ (∃ f, pt c cc0_stg5_0 (rowS (ad c 2).val) f) ∗ Wt c (54 + (ad c 3).val) ∗ (∃ f, pt c cc0_stg5_0 (rowS (ad c 3).val) f) ∗ Wt c (54 + (ad c 4).val) ∗ (∃ f, pt c cc0_stg5_0 (rowS (ad c 4).val) f) ∗ Wt c (54 + (ad c 5).val) ∗ (∃ f, pt c cc0_stg5_0 (rowS (ad c 5).val) f) ∗ Wt c (54 + (ad c 6).val) ∗ (∃ f, pt c cc0_stg5_0 (rowS (ad c 6).val) f) ∗ Wt c (54 + (ad c 7).val) ∗ (∃ f, pt c cc0_stg5_0 (rowS (ad c 7).val) f))
/-- What it ends with, the last barrier aside. -/
def runPost : sProp (MT nD τ sig ℕ (Elt F) ℕ UU ℕ) := iprop(Don c 0 ∗ xR I c ∗ wqR I c ∗ Don c (22 + 0) ∗ kR I c 0 ∗ Don c (22 + 1) ∗ kR I c 1 ∗ Don c (22 + 2) ∗ kR I c 2 ∗ Don c (22 + 3) ∗ kR I c 3 ∗ Don c (26 + 0) ∗ vR I c 0 ∗ Don c (26 + 1) ∗ vR I c 1 ∗ Don c (26 + 2) ∗ vR I c 2 ∗ Don c (26 + 3) ∗ vR I c 3 ∗ woR I c ∗ Don c (38 + (ad c 1).val) ∗ Don c (38 + (ad c 2).val) ∗ Don c (38 + (ad c 3).val) ∗ Don c (38 + (ad c 4).val) ∗ Don c (38 + (ad c 5).val) ∗ Don c (38 + (ad c 6).val) ∗ Don c (38 + (ad c 7).val) ∗ pt c cc0_scratch2 Finset.univ (PB I c) ∗ rbR I c 1 ∗ rbR I c 2 ∗ rbR I c 3 ∗ rbR I c 4 ∗ rbR I c 5 ∗ rbR I c 6 ∗ rbR I c 7 ∗ pt c cc0_stg5_0 (rowS c.val) (OUT I c) ∗ agK I c ∗ Don c (54 + (ad c 1).val) ∗ abR I c 1 ∗ outR I c 1 ∗ Don c (54 + (ad c 2).val) ∗ abR I c 2 ∗ outR I c 2 ∗ Don c (54 + (ad c 3).val) ∗ abR I c 3 ∗ outR I c 3 ∗ Don c (54 + (ad c 4).val) ∗ abR I c 4 ∗ outR I c 4 ∗ Don c (54 + (ad c 5).val) ∗ abR I c 5 ∗ outR I c 5 ∗ Don c (54 + (ad c 6).val) ∗ abR I c 6 ∗ outR I c 6 ∗ Don c (54 + (ad c 7).val) ∗ abR I c 7 ∗ outR I c 7 ∗ rsZ c 0 ∗ rsZ c 1 ∗ rsZ c 2 ∗ rsZ c 3 ∗ rsZ c 4 ∗ rsZ c 5 ∗ rsZ c 6 ∗ rsZ c 7 ∗ rowR I c 0 ∗ rowR I c 1 ∗ rowR I c 2 ∗ rowR I c 3 ∗ rowR I c 4 ∗ rowR I c 5 ∗ rowR I c 6 ∗ rowR I c 7 ∗ Don c (46 + 1) ∗ agR I c 1 ∗ Don c (46 + 2) ∗ agR I c 2 ∗ Don c (46 + 3) ∗ agR I c 3 ∗ Don c (46 + 4) ∗ agR I c 4 ∗ Don c (46 + 5) ∗ agR I c 5 ∗ Don c (46 + 6) ∗ agR I c 6 ∗ Don c (46 + 7) ∗ agR I c 7 ∗ kvEnd I c ∗ rlEnd I c)

set_option maxHeartbeats 4000000 in
/-- The parts of the body one after another. -/
theorem part73_run {Q} : iprop(Base I κ ∗ runPre I c)
    ⊢ iprop(((Ctx I κ ∗ runPost I c ∗ Due c [(ad c 4, 66, 0), (ad c 5, 66, 0), (ad c 6, 66, 0), (ad c 7, 66, 0)]) -∗ Q ⟨c, v2 c, v2277_r0 c, v2278_r0 c, c0_i32_1219_r0 c⟩) -∗ wp frame (wpE (defs₀ (F := F)) 𝒱₀ (c : Thread nD τ) none) Set.univ (k0_part73 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0) Q) := by
  rw [k0_part73_eq_skeleton]
  unfold k0_part73_skel runPre runPost
  iintro ⟨#HB, H1, H2, H3, H4, H5, H6, H7, H8, H9, H10, H11, H12, H13, H14, H18, H19, H23, H26, H29, H32, H35, H38, H41, H44, H45, H46, H47, H48, H55, H56, H57, H58, H66, H72, H75, H76, H81, H82, H87, H90, H91, H101, H102, H103, H109, H110, H114, H115, H116, H121, H122, H126, H127, H128, H134⟩ Hk
  iapply (bind_in c)
  iapply (part12_run c)
  ihave H3 := (Entails.of_eq (show Owe (F := F) c (allE c) = Owe c ((ad c 1, 0, 0) :: (ad c 2, 0, 0) :: ((ad c 3, 0, 0) :: (ad c 4, 0, 0) :: (ad c 5, 0, 0) :: (ad c 6, 0, 0) :: (ad c 7, 0, 0) :: restE c)) from rfl)) $$ H3
  iapply (bind_in c)
  iapply (part13_run I κ c ((ad c 3, 0, 0) :: (ad c 4, 0, 0) :: (ad c 5, 0, 0) :: (ad c 6, 0, 0) :: (ad c 7, 0, 0) :: restE c)) $$ [H1 H2 H3]
  · isplitr; · iexact HB
    isplitl [H1]; · iexact H1
    isplitl [H2]; · iexact H2
    iexact H3
  iintro H3
  iapply (bind_in c)
  iapply (part14_run I κ c ((ad c 6, 0, 0) :: (ad c 7, 0, 0) :: restE c)) $$ [H4 H5 H6 H3]
  · isplitr; · iexact HB
    isplitl [H4]; · iexact H4
    isplitl [H5]; · iexact H5
    isplitl [H6]; · iexact H6
    iexact H3
  iintro H3
  iapply (bind_in c)
  iapply (part15_run I κ c) $$ [H7 H8 H3 H9 H10 H11 H12 H13 H14]
  · isplitr; · iexact HB
    isplitl [H7]; · iexact H7
    isplitl [H8]; · iexact H8
    isplitl [H3]; · iexact H3
    isplitl [H9]; · iexact H9
    isplitl [H10]; · iexact H10
    isplitl [H11]; · iexact H11
    isplitl [H12]; · iexact H12
    isplitl [H13]; · iexact H13
    iexact H14
  iintro ⟨#HC, H15, H16, H17, H13, H14⟩
  iapply (bind_in c)
  iapply (part16_run I κ c) $$ [H14 H18 H19 H16]
  · isplitr; · iexact HC
    isplitl [H14]; · iexact H14
    isplitl [H18]; · iexact H18
    isplitl [H19]; · iexact H19
    iexact H16
  iintro ⟨H14, H20, H21, H22, H16⟩
  iapply (bind_in c)
  iapply (part17_run I c) $$ [H22]
  · iexact H22
  iintro H22
  iapply (bind_in c)
  iapply (part18_run I c) $$ [H22]
  · iexact H22
  iintro H22
  iapply (bind_in c)
  iapply (part19_run I κ c) $$ [H23 H16]
  · isplitr; · iexact HC
    isplitl [H23]; · iexact H23
    iexact H16
  iintro ⟨H24, H25, H16⟩
  iapply (bind_in c)
  iapply (part20_run I c) $$ [H25]
  · iexact H25
  iintro H25
  iapply (bind_in c)
  iapply (part21_run I c) $$ [H25]
  · iexact H25
  iintro H25
  iapply (bind_in c)
  iapply (part22_run I κ c) $$ [H26 H16]
  · isplitr; · iexact HC
    isplitl [H26]; · iexact H26
    iexact H16
  iintro ⟨H27, H28, H16⟩
  iapply (bind_in c)
  iapply (part23_run I c) $$ [H28]
  · iexact H28
  iintro H28
  iapply (bind_in c)
  iapply (part24_run I c) $$ [H28]
  · iexact H28
  iintro H28
  iapply (bind_in c)
  iapply (part25_run I κ c) $$ [H29 H16]
  · isplitr; · iexact HC
    isplitl [H29]; · iexact H29
    iexact H16
  iintro ⟨H30, H31, H16⟩
  iapply (bind_in c)
  iapply (part26_run I c) $$ [H31]
  · iexact H31
  iintro H31
  iapply (bind_in c)
  iapply (part27_run I c) $$ [H31]
  · iexact H31
  iintro H31
  iapply (bind_in c)
  iapply (part28_run I c)
  iapply (bind_in c)
  iapply (part29_run I c)
  iapply (bind_in c)
  iapply (part30_run I c)
  iapply (bind_in c)
  iapply (part31_run I c)
  iapply (bind_in c)
  iapply (part32_run I c)
  iapply (bind_in c)
  iapply (part33_run I c)
  iapply (bind_in c)
  iapply (part34_run I c)
  iapply (bind_in c)
  iapply (part35_run I c)
  iapply (bind_in c)
  iapply (part36_run I c)
  iapply (bind_in c)
  iapply (part37_run I c)
  iapply (bind_in c)
  iapply (part38_run I c)
  iapply (bind_in c)
  iapply (part39_run I c)
  iapply (bind_in c)
  iapply (part40_run I c)
  iapply (bind_in c)
  iapply (part41_run I c)
  iapply (bind_in c)
  iapply (part42_run I κ c) $$ [H32 H16]
  · isplitr; · iexact HC
    isplitl [H32]; · iexact H32
    iexact H16
  iintro ⟨H33, H34, H16⟩
  iapply (bind_in c)
  iapply (part43_run I κ c) $$ [H34 H35 H16]
  · isplitr; · iexact HC
    isplitl [H34]; · iexact H34
    isplitl [H35]; · iexact H35
    iexact H16
  iintro ⟨H34, H36, H37, H16⟩
  iapply (bind_in c)
  iapply (part44_run I c) $$ [H37]
  · iexact H37
  iintro H37
  iapply (bind_in c)
  iapply (part45_run I κ c) $$ [H37 H38 H16]
  · isplitr; · iexact HC
    isplitl [H37]; · iexact H37
    isplitl [H38]; · iexact H38
    iexact H16
  iintro ⟨H37, H39, H40, H16⟩
  iapply (bind_in c)
  iapply (part46_run I c) $$ [H40]
  · iexact H40
  iintro H40
  iapply (bind_in c)
  iapply (part47_run I κ c) $$ [H41 H16]
  · isplitr; · iexact HC
    isplitl [H41]; · iexact H41
    iexact H16
  iintro ⟨H42, H43, H16⟩
  iapply (bind_in c)
  iapply (part48_run I c) $$ [H43]
  · iexact H43
  iintro H43
  ihave H16 := (Entails.of_eq (show Due (F := F) c (rsE c ++ (agE c ++ s2E c)) = Due c (rsF c [0, 1, 2, 3, 4, 5, 6, 7] ++ (agE c ++ s2E c)) from rfl)) $$ H16
  iapply (bind_in c)
  iapply (part49_run I κ c) $$ [H44 H45 H46 H47 H48 H16]
  · isplitr; · iexact HC
    isplitl [H44]; · iexact H44
    isplitl [H45]; · iexact H45
    isplitl [H46]; · iexact H46
    isplitl [H47]; · iexact H47
    isplitl [H48]; · iexact H48
    iexact H16
  iintro ⟨H44, H49, H50, H51, H52, H53, H54, H16⟩
  iapply (bind_in c)
  iapply (part50_run I κ c) $$ [H44 H53 H54 H49 H50 H55 H56 H57 H58 H16]
  · isplitr; · iexact HC
    isplitl [H44]; · iexact H44
    isplitl [H53]; · iexact H53
    isplitl [H54]; · iexact H54
    isplitl [H49]; · iexact H49
    isplitl [H50]; · iexact H50
    isplitl [H55]; · iexact H55
    isplitl [H56]; · iexact H56
    isplitl [H57]; · iexact H57
    isplitl [H58]; · iexact H58
    iexact H16
  iintro ⟨H44, H59, H60, H61, H62, H63, H64, H65, H16⟩
  iapply (bind_in c)
  iapply (part51_run I κ c) $$ [H63 H64 H65 H66 H16]
  · isplitr; · iexact HC
    isplitl [H63]; · iexact H63
    isplitl [H64]; · iexact H64
    isplitl [H65]; · iexact H65
    isplitl [H66]; · iexact H66
    iexact H16
  iintro ⟨H67, H68, H69, H70, H71, H16⟩
  iapply (bind_in c)
  iapply (part52_run I κ c) $$ [H72 H16]
  · isplitr; · iexact HC
    isplitl [H72]; · iexact H72
    iexact H16
  iintro ⟨H73, H74, H16⟩
  iapply (bind_in c)
  iapply (part53_run I κ c) $$ [H75 H76 H16]
  · isplitr; · iexact HC
    isplitl [H75]; · iexact H75
    isplitl [H76]; · iexact H76
    iexact H16
  iintro ⟨H77, H78, H79, H80, H16⟩
  iapply (bind_in c)
  iapply (part54_run I κ c) $$ [H81 H82 H16]
  · isplitr; · iexact HC
    isplitl [H81]; · iexact H81
    isplitl [H82]; · iexact H82
    iexact H16
  iintro ⟨H83, H84, H85, H86, H16⟩
  iapply (bind_in c)
  iapply (part55_run I κ c) $$ [H87 H59 H71 H16]
  · isplitr; · iexact HC
    isplitl [H87]; · iexact H87
    isplitl [H59]; · iexact H59
    isplitl [H71]; · iexact H71
    iexact H16
  iintro ⟨H88, H89, H59, H71, H16⟩
  iapply (bind_in c)
  iapply (part56_run I c) $$ [H74 H78]
  · isplitl [H74]; · iexact H74
    iexact H78
  iintro ⟨H74, H78⟩
  iapply (bind_in c)
  iapply (part57_run I c) $$ [H80 H84]
  · isplitl [H80]; · iexact H80
    iexact H84
  iintro ⟨H80, H84⟩
  iapply (bind_in c)
  iapply (part58_run I c) $$ [H86 H89 H90 H91]
  · isplitl [H86]; · iexact H86
    isplitl [H89]; · iexact H89
    isplitl [H90]; · iexact H90
    iexact H91
  iintro ⟨H86, H89, H92, H93⟩
  ihave HG := (Entails.of_eq (ag_split I c)) $$ H93
  icases HG with ⟨⟨⟨⟨⟨⟨⟨G0, G7⟩, G6⟩, G5⟩, G4⟩, G3⟩, G2⟩, G1⟩
  ihave H16 := (Entails.of_eq (show Due (F := F) c (agE c ++ s2E c) = Due c ([(ad c 1, 54 + c.val, 46 + 1), (ad c 2, 54 + c.val, 46 + 2), (ad c 3, 54 + c.val, 46 + 3), (ad c 4, 54 + c.val, 46 + 4), (ad c 5, 54 + c.val, 46 + 5), (ad c 6, 54 + c.val, 46 + 6), (ad c 7, 54 + c.val, 46 + 7)] ++ s2E c) from rfl)) $$ H16
  iapply (bind_in c)
  iapply (part59_run I κ c) $$ [G1 G2 H16]
  · isplitr; · iexact HC
    isplitl [G1]; · iexact G1
    isplitl [G2]; · iexact G2
    iexact H16
  iintro ⟨H94, H95, H16⟩
  iapply (bind_in c)
  iapply (part60_run I κ c) $$ [G3 H16]
  · isplitr; · iexact HC
    isplitl [G3]; · iexact G3
    iexact H16
  iintro ⟨H96, H16⟩
  iapply (bind_in c)
  iapply (part61_run I κ c) $$ [G4 G5 H16]
  · isplitr; · iexact HC
    isplitl [G4]; · iexact G4
    isplitl [G5]; · iexact G5
    iexact H16
  iintro ⟨H97, H98, H16⟩
  iapply (bind_in c)
  iapply (part62_run I κ c) $$ [G6 G7 H16]
  · isplitr; · iexact HC
    isplitl [G6]; · iexact G6
    isplitl [G7]; · iexact G7
    iexact H16
  iintro ⟨H99, H100, H16⟩
  iapply (bind_in c)
  iapply (part63_run I κ c) $$ [H101 H102 H103 H16]
  · isplitr; · iexact HC
    isplitl [H101]; · iexact H101
    isplitl [H102]; · iexact H102
    isplitl [H103]; · iexact H103
    iexact H16
  iintro ⟨H104, H105, H106, H107, H108, H16⟩
  iapply (bind_in c)
  iapply (part64_run I κ c) $$ [H108 H109 H110 H16]
  · isplitr; · iexact HC
    isplitl [H108]; · iexact H108
    isplitl [H109]; · iexact H109
    isplitl [H110]; · iexact H110
    iexact H16
  iintro ⟨H108, H111, H112, H113, H16⟩
  iapply (bind_in c)
  iapply (part65_run I κ c) $$ [H114 H115 H116 H16]
  · isplitr; · iexact HC
    isplitl [H114]; · iexact H114
    isplitl [H115]; · iexact H115
    isplitl [H116]; · iexact H116
    iexact H16
  iintro ⟨H117, H118, H119, H120, H16⟩
  iapply (bind_in c)
  iapply (part66_run I κ c) $$ [H121 H122 H16]
  · isplitr; · iexact HC
    isplitl [H121]; · iexact H121
    isplitl [H122]; · iexact H122
    iexact H16
  iintro ⟨H123, H124, H125, H16⟩
  iapply (bind_in c)
  iapply (part67_run I κ c) $$ [H126 H127 H128 H16]
  · isplitr; · iexact HC
    isplitl [H126]; · iexact H126
    isplitl [H127]; · iexact H127
    isplitl [H128]; · iexact H128
    iexact H16
  iintro ⟨H129, H130, H131, H132, H133, H16⟩
  iapply (bind_in c)
  iapply (part68_run I κ c) $$ [H134 H51 H52 H60 H61 H62 H67 H68 H69 H16]
  · isplitr; · iexact HC
    isplitl [H134]; · iexact H134
    isplitl [H51]; · iexact H51
    isplitl [H52]; · iexact H52
    isplitl [H60]; · iexact H60
    isplitl [H61]; · iexact H61
    isplitl [H62]; · iexact H62
    isplitl [H67]; · iexact H67
    isplitl [H68]; · iexact H68
    isplitl [H69]; · iexact H69
    iexact H16
  iintro ⟨H135, H136, H137, H138, H139, H140, H141, H142, H143, H144, H145, H146, H147, H148, H149, H150, H151, H16⟩
  iapply (bind_in c)
  iapply (part69_run I κ c) $$ [H94 H95 H96 H97 H16]
  · isplitr; · iexact HC
    isplitl [H94]; · iexact H94
    isplitl [H95]; · iexact H95
    isplitl [H96]; · iexact H96
    isplitl [H97]; · iexact H97
    iexact H16
  iintro ⟨H152, H153, H154, H155, H156, H157, H158, H159, H16⟩
  iapply (bind_in c)
  iapply (part70_run I κ c) $$ [H98 H99 H100 H17 H20 H16]
  · isplitr; · iexact HC
    isplitl [H98]; · iexact H98
    isplitl [H99]; · iexact H99
    isplitl [H100]; · iexact H100
    isplitl [H17]; · iexact H17
    isplitl [H20]; · iexact H20
    iexact H16
  iintro ⟨H160, H161, H162, H163, H164, H165, H166, H167, H16⟩
  iapply (bind_in c)
  iapply (part71_run I κ c) $$ [H16]
  · isplitr; · iexact HC
    iexact H16
  iintro H16
  iapply (fin_to c (b := ⟨c, v2 c, v2277_r0 c, v2278_r0 c, c0_i32_1219_r0 c⟩) ?_)
  · rfl
  iapply Hk
  isplitr; · iexact HC
  isplitr [H16]
  · isplitl [H15]; · iexact H15
    isplitl [H13]; · iexact H13
    isplitl [H14]; · iexact H14
    isplitl [H21]; · iexact H21
    isplitl [H22]; · iexact H22
    isplitl [H24]; · iexact H24
    isplitl [H25]; · iexact H25
    isplitl [H27]; · iexact H27
    isplitl [H28]; · iexact H28
    isplitl [H30]; · iexact H30
    isplitl [H31]; · iexact H31
    isplitl [H33]; · iexact H33
    isplitl [H34]; · iexact H34
    isplitl [H36]; · iexact H36
    isplitl [H37]; · iexact H37
    isplitl [H39]; · iexact H39
    isplitl [H40]; · iexact H40
    isplitl [H42]; · iexact H42
    isplitl [H43]; · iexact H43
    isplitl [H44]; · iexact H44
    isplitl [H70]; · iexact H70
    isplitl [H73]; · iexact H73
    isplitl [H77]; · iexact H77
    isplitl [H79]; · iexact H79
    isplitl [H83]; · iexact H83
    isplitl [H85]; · iexact H85
    isplitl [H88]; · iexact H88
    isplitl [H59]; · iexact H59
    isplitl [H71]; · iexact H71
    isplitl [H74]; · iexact H74
    isplitl [H78]; · iexact H78
    isplitl [H80]; · iexact H80
    isplitl [H84]; · iexact H84
    isplitl [H86]; · iexact H86
    isplitl [H89]; · iexact H89
    isplitl [H92]; · iexact H92
    isplitl [G0]; · iexact G0
    isplitl [H104]; · iexact H104
    isplitl [H105]; · iexact H105
    isplitl [H106]; · iexact H106
    isplitl [H107]; · iexact H107
    isplitl [H108]; · iexact H108
    isplitl [H111]; · iexact H111
    isplitl [H112]; · iexact H112
    isplitl [H113]; · iexact H113
    isplitl [H117]; · iexact H117
    isplitl [H118]; · iexact H118
    isplitl [H119]; · iexact H119
    isplitl [H120]; · iexact H120
    isplitl [H123]; · iexact H123
    isplitl [H124]; · iexact H124
    isplitl [H125]; · iexact H125
    isplitl [H129]; · iexact H129
    isplitl [H130]; · iexact H130
    isplitl [H131]; · iexact H131
    isplitl [H132]; · iexact H132
    isplitl [H133]; · iexact H133
    isplitl [H135]; · iexact H135
    isplitl [H136]; · iexact H136
    isplitl [H137]; · iexact H137
    isplitl [H138]; · iexact H138
    isplitl [H139]; · iexact H139
    isplitl [H140]; · iexact H140
    isplitl [H141]; · iexact H141
    isplitl [H142]; · iexact H142
    isplitl [H143]; · iexact H143
    isplitl [H144]; · iexact H144
    isplitl [H145]; · iexact H145
    isplitl [H146]; · iexact H146
    isplitl [H147]; · iexact H147
    isplitl [H148]; · iexact H148
    isplitl [H149]; · iexact H149
    isplitl [H150]; · iexact H150
    isplitl [H151]; · iexact H151
    isplitl [H152]; · iexact H152
    isplitl [H153]; · iexact H153
    isplitl [H154]; · iexact H154
    isplitl [H155]; · iexact H155
    isplitl [H156]; · iexact H156
    isplitl [H157]; · iexact H157
    isplitl [H158]; · iexact H158
    isplitl [H159]; · iexact H159
    isplitl [H160]; · iexact H160
    isplitl [H161]; · iexact H161
    isplitl [H162]; · iexact H162
    isplitl [H163]; · iexact H163
    isplitl [H164]; · iexact H164
    isplitl [H165]; · iexact H165
    isplitl [H166]; · iexact H166
    iexact H167
  iexact H16

/-- The body. -/
theorem body_run {Q} : iprop(Base I κ ∗ runPre I c ∗ Wt c 66)
    ⊢ iprop(((Ctx I κ ∗ runPost I c ∗ Owe c [] ∗ Don c 66) -∗ Q ⟨⟩) -∗ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0) Q) := by
  rw [cc0_body_eq_skeleton]
  unfold cc0_body_skel
  iintro ⟨#HB, HP, W⟩ Hk
  iapply (bind_in c)
  iapply (part73_run I κ c) $$ [HP]
  · isplitr; · iexact HB
    iexact HP
  iintro ⟨#HC, HP, HD⟩
  iapply (bind_in c)
  iapply (part72_run I κ c) $$ [HD]
  · isplitr; · iexact HC
    iexact HD
  iintro HD %r
  iapply (sig_end I κ c 6 [(ad c 7, 66, 0)] (dev46_ad c) rfl) $$ [HD]
  · isplitr; · iexact HC
    iexact HD
  iintro HD
  iapply (sig_end I κ c 7 [] (dev47_ad c) rfl) $$ [HD]
  · isplitr; · iexact HC
    iexact HD
  iintro HD
  ihave HO : Owe c [] $$ [HD]
  · unfold Due; icases HD with ⟨-, HD, -⟩; iexact HD
  iapply (wait_seven I κ c 66 [] rfl (List.mem_cons_of_mem _ (scoped_mem (by omega))) rfl (by revert c; decide +kernel) (fun _ h => absurd h List.not_mem_nil)) $$ [W HO]
  · isplitr; · iexact HB
    isplitl [W]; · iexact W
    iexact HO
  iintro ⟨HO, W, -⟩
  iapply (wp_fin c)
  iapply Hk
  isplitr; · iexact HC
  isplitl [HP]; · iexact HP
  isplitl [HO]; · iexact HO
  iexact W

end Run

end Cert.KernelIdeal.Hand

end
-- ==== Proof.Enter.lean ====
/-
  What a device starts the kernel with, cut up as the body takes it, and what the body leaves, put together again.
-/
module

public import proofs.«01_k».proof.Proof.Run

@[expose] public section

set_option maxRecDepth 16384

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv hL mem_L' mayWait_of)
open Idealize.ShloMosaic.TalkSites (Fam Pay tallyL tallyL_append tallyL_pos credOf allPays cred_tallyL)
open Cert.KernelIdeal Cert.KernelIdeal.Gen

variable {F : FTy → Type} [FloatOps F]

local notation "𝕄" => MT nD τ sig ℕ (Elt F) ℕ UU ℕ

/-! ## The device's cells -/

/-- The send cells device `c` uses. -/
def outE (c : Dev nD) : List ℕ := ((allE c).filter fun e => e.2.2 ≠ 0).map fun e => e.2.2
/-- The scoped cells it does not use. -/
def idleE (c : Dev nD) : List ℕ := scopedL.filter fun n => decide (n ∉ outE c ++ (inE c ++ [66]))

theorem scopedL_perm (c : Dev nD) : scopedL.Perm (outE c ++ (inE c ++ ([66] ++ idleE c))) := by revert c; decide +kernel
theorem idle_payers (c : Dev nD) : ∀ n ∈ idleE c, n < 67 ∧ payers c n = ∅ := by revert c; decide +kernel
theorem rcv_perm (c : Dev nD) : rcvL.Perm (([1, 2, 3, 4, 5, 6, 7].flatMap fun j => rcvFrom (ad c j) c) ++ (rcvFrom c c ++ rcvNone c)) := by
  revert c; decide +kernel
theorem rcv_in (c : Dev nD) : rcvL.Perm (inE c ++ rcvNone c) := by revert c; decide +kernel
theorem xr_perm (c : Dev nD) : List.Perm [0, 1, 2, 3, 4, 5, 6, 7] ([0, 1, 2, 3, 4, 5, 6, 7].map fun j => (xr c j).val) := by revert c; decide +kernel
theorem ad_perm (c : Dev nD) : List.Perm [0, 1, 2, 3, 4, 5, 6, 7] (c.val :: [1, 2, 3, 4, 5, 6, 7].map fun j => (ad c j).val) := by revert c; decide +kernel

section Chains

variable {M : Type} [URA M] {α : Type}

theorem sep1 (a : α) (Φ : α → sProp M) : bigSepL [a] Φ = Φ a := rfl
theorem sep2 (a b : α) (Φ : α → sProp M) : bigSepL [a, b] Φ = iprop(Φ a ∗ Φ b) := rfl
theorem sep4 (a b c d : α) (Φ : α → sProp M) : bigSepL [a, b, c, d] Φ = iprop(Φ a ∗ Φ b ∗ Φ c ∗ Φ d) := rfl
theorem sep7 (a b c d e f g : α) (Φ : α → sProp M) : bigSepL [a, b, c, d, e, f, g] Φ = iprop(Φ a ∗ Φ b ∗ Φ c ∗ Φ d ∗ Φ e ∗ Φ f ∗ Φ g) := rfl
theorem sep8 (a b c d e f g h : α) (Φ : α → sProp M) : bigSepL [a, b, c, d, e, f, g, h] Φ = iprop(Φ a ∗ Φ b ∗ Φ c ∗ Φ d ∗ Φ e ∗ Φ f ∗ Φ g ∗ Φ h) := rfl

end Chains

section Cells

variable (c : Dev nD)

theorem tok_all : iprop((bigSepL (tokN c) fun x => dutyTok ER (cell x.1 x.2) 0 c) ∗ bigSepL (outE c) fun n => atPos ER (cell c n) 0 ∅ 0)
    = (bigSepL (allE c) (tokE c) : sProp 𝕄) := by
  unfold tokN outE
  rw [sepL_flatMap, bigSepL_map, sepL_filter, ← sepL_sep]
  congr 1; funext e; unfold tokE
  by_cases h : e.2.2 = 0
  · rw [if_pos h, if_pos h, if_neg (by simp [h])]; rfl
  · rw [if_neg h, if_neg h, if_pos (by simp [h]), sep2]
    refine eq_of_both ?_ ?_
    · iintro ⟨⟨H1, H2⟩, H3⟩
      isplitl [H1]; · iexact H1
      isplitl [H2] <;> iassumption
    · iintro ⟨H1, H2, H3⟩
      isplitl [H1 H2]
      · isplitl [H1] <;> iassumption
      iexact H3

theorem tally_seven (g : GSem nD τ sig) (i k : ℕ) : tallyL (List.replicate k ((g, i, 1) : Pay nD τ sig)) = tallyAt g i k := by
  induction k with
  | zero => rw [tallyAt_zero]; rfl
  | succ k ih =>
    rw [List.replicate_succ]
    show tallyAt g i 1 + tallyL _ = _
    rw [ih, tallyAt_add, Nat.add_comm]

theorem cred_rep (n : ℕ) (h : amtN n = 1) : (bigSepL (List.replicate 7 n) fun n => cred (tallyAt (cell c n) (lvN n) (amtN n)))
    = (cred (tallyAt (cell c n) (lvN n) 7) : sProp 𝕄) := by
  rw [← tally_seven (cell c n) (lvN n) 7, cred_tallyL, ← h,
    show List.replicate 7 ((cell c n, lvN n, amtN n) : Pay nD τ sig) = (List.replicate 7 n).map fun n => (cell c n, lvN n, amtN n) from (List.map_replicate ..).symm, bigSepL_map]

theorem in_tot : ∀ n ∈ inE c, totN n = amtN n := by
  intro n hn
  have h : ∀ c, ∀ n ∈ inE c, n ≠ 0 ∧ n ≠ 66 := by decide +kernel
  unfold totN; rw [if_neg (h c n hn).1, if_neg (h c n hn).2]

theorem sepL_congr {M : Type} [URA M] {α : Type} (l : List α) {Φ Ψ : α → sProp M} (h : ∀ a ∈ l, Φ a = Ψ a) : bigSepL l Φ = bigSepL l Ψ := by
  induction l with
  | nil => rfl
  | cons a l ih =>
    rw [bigSepL_cons, bigSepL_cons, ih fun b hb => h b (List.mem_cons_of_mem _ hb), h a List.mem_cons_self]

/-- The payments addressed to device `c`. -/
theorem credOf_eq : credOf (fun d => (allE d).map pay) c = (((List.finRange nD).flatMap allE).filter fun e => Nat.beq e.1.val c.val).map pay := by
  unfold credOf allPays
  rw [← List.map_flatMap, List.filter_map]
  congr 1
  refine List.filter_congr fun e _ => ?_
  by_cases h : e.1 = c
  · subst h; simp [pay]
  · have h1 : Nat.beq e.1.val c.val = false := by
      rw [Bool.eq_false_iff]; exact fun hh => h (Fin.ext (Nat.eq_of_beq_eq_true hh))
    rw [h1]
    have h2 : ¬ (((cell e.1 e.2.1).1 : Thread nD τ) = (c : Thread nD τ)) := fun hh => h (congrArg (fun t : Thread nD τ => t.1) hh)
    simpa [pay] using h2

theorem cred_all : (cred (tallyL (credOf (fun d => (allE d).map pay) c)) : sProp 𝕄)
    = iprop(cred (tallyAt (cell c 0) (lvN 0) (totN 0)) ∗ cred (tallyAt (cell c 66) (lvN 66) (totN 66)) ∗ bigSepL (inE c) fun n => cred (tallyAt (cell c n) (lvN n) (totN n))) := by
  rw [cred_tallyL, credOf_eq, bigSepL_map]
  rw [show (bigSepL (((List.finRange nD).flatMap allE).filter fun e => Nat.beq e.1.val c.val) fun e => cred (pay e).tally)
      = (bigSepL (toC c) fun n => cred (tallyAt (cell c n) (lvN n) (amtN n)) : sProp 𝕄) from by
    unfold toC
    rw [bigSepL_map]
    refine sepL_congr _ fun e he => ?_
    have h1 : e.1 = c := Fin.ext (Nat.eq_of_beq_eq_true (List.mem_filter.mp he).2)
    show cred (tallyAt (cell e.1 e.2.1) (lvN e.2.1) (amtN e.2.1)) = _
    rw [h1]]
  rw [sepL_perm (toC_perm c), bigSepL_append, bigSepL_append, cred_rep c 0 rfl, cred_rep c 66 rfl,
    sepL_congr (inE c) (Φ := fun n => cred (tallyAt (cell c n) (lvN n) (amtN n))) (Ψ := fun n => cred (tallyAt (cell c n) (lvN n) (totN n)))
      (fun n hn => by rw [in_tot c n hn])]
  rfl

theorem waits : iprop(atPos ER (cell c 0) 0 ∅ 0 ∗ (bigSepL scopedL fun n => atPos ER (cell c n) 0 ∅ 0) ∗ (bigSepL (tokN c) fun x => dutyTok ER (cell x.1 x.2) 0 c)
      ∗ cred (tallyL (credOf (fun d => (allE d).map pay) c)))
    ⊢ (iprop(Wt c 0 ∗ Wt c 66 ∗ bigSepL (inE c) (Wt c) ∗ bigSepL (allE c) (tokE c) ∗ bigSepL (idleE c) fun n => atPos ER (cell c n) 0 ∅ 0) : sProp 𝕄) := by
  rw [cred_all, sepL_perm (scopedL_perm c), bigSepL_append, bigSepL_append, bigSepL_append, sep1, ← tok_all]
  unfold Wt
  rw [sepL_sep]
  iintro ⟨H0, ⟨Ho, Hi, H6, Hd⟩, Ht, ⟨C0, C6, Ci⟩⟩
  isplitl [H0 C0]; · isplitl [C0] <;> iassumption
  isplitl [H6 C6]; · isplitl [C6]; · iexact C6
                     iexact H6
  isplitl [Hi Ci]; · isplitl [Ci] <;> iassumption
  isplitl [Ho Ht]; · isplitl [Ht] <;> iassumption
  iexact Hd

/-- What is handed over at the barrier, by the device it goes to. -/
theorem bar_all : iprop(bigSepL rcvL (dstN (F := F) c) ∗ openedAt c)
    ⊢ (iprop((bigSepL [1, 2, 3, 4, 5, 6, 7] fun j => barPay (ad c j) c) ∗ barPay c c ∗ bigSepL (rcvNone c) (dstN c)) : sProp 𝕄) := by
  unfold barPay
  rw [sepL_perm (rcv_perm c), bigSepL_append, bigSepL_append, sepL_flatMap, sepL_sep]
  iintro ⟨⟨H1, H2, H3⟩, #HO⟩
  isplitl [H1]
  · isplitl [H1]; · iexact H1
    rw [sep7]
    isplitr; · iexact HO
    isplitr; · iexact HO
    isplitr; · iexact HO
    isplitr; · iexact HO
    isplitr; · iexact HO
    isplitr; · iexact HO
    iexact HO
  isplitl [H2]
  · isplitl [H2]; · iexact H2
    iexact HO
  iexact H3

end Cells

/-! ## The device's buffers -/

section Bufs

variable (c : Dev nD)

theorem all_kb : (fibs (ℓ := (((0 : Dev nD) : Thread nD τ)).loc cc0_scratch0) (fun i : S4x2x128x256.Idx => (i 0).val) [0, 1, 2, 3]) = Finset.univ := by
  ext (i : S4x2x128x256.Idx)
  have h0 : (i 0).val < 4 := (i 0).isLt
  simp only [Finset.mem_filter, Finset.mem_univ, true_and, List.mem_cons, List.not_mem_nil, or_false, iff_true]
  omega
theorem all_rb : (fibs (ℓ := (((0 : Dev nD) : Thread nD τ)).loc cc0_scratch4) (fun i : S8x2x16x512.Idx => (i 0).val) [0, 1, 2, 3, 4, 5, 6, 7]) = Finset.univ := by
  ext (i : S8x2x16x512.Idx)
  have h0 : (i 0).val < 8 := (i 0).isLt
  simp only [Finset.mem_filter, Finset.mem_univ, true_and, List.mem_cons, List.not_mem_nil, or_false, iff_true]
  omega
theorem all_col : (fibs (ℓ := (((0 : Dev nD) : Thread nD τ)).loc cc0_stg2_0) (fun i : S2x128x2048.Idx => (i 2).val / 256) [0, 1, 2, 3, 4, 5, 6, 7]) = Finset.univ := by
  ext (i : S2x128x2048.Idx)
  have h0 : (i 2).val < 2048 := (i 2).isLt
  simp only [Finset.mem_filter, Finset.mem_univ, true_and, List.mem_cons, List.not_mem_nil, or_false, iff_true]
  omega
theorem all_row : (fibs (ℓ := (((0 : Dev nD) : Thread nD τ)).loc cc0_stg5_0) (fun i : S2x128x512.Idx => (i 1).val / 16) [0, 1, 2, 3, 4, 5, 6, 7]) = Finset.univ := by
  ext (i : S2x128x512.Idx)
  have h0 : (i 1).val < 128 := (i 1).isLt
  simp only [Finset.mem_filter, Finset.mem_univ, true_and, List.mem_cons, List.not_mem_nil, or_false, iff_true]
  omega

theorem kb_cut (f) : (pt c cc0_scratch0 Finset.univ f : sProp (MT nD τ sig ℕ (Elt F) ℕ UU ℕ)) = bigSepL [0, 1, 2, 3] fun n => pt c cc0_scratch0 (slotK n) f :=
  (congrArg (fun S => pt c cc0_scratch0 S f) all_kb.symm).trans (pt_fibs (ℓ := (c : Thread nD τ).loc cc0_scratch0) _ [0, 1, 2, 3] (by decide) f)
theorem vb_cut (f) : (pt c cc0_scratch1 Finset.univ f : sProp (MT nD τ sig ℕ (Elt F) ℕ UU ℕ)) = bigSepL [0, 1, 2, 3] fun n => pt c cc0_scratch1 (slotK n) f :=
  (congrArg (fun S => pt c cc0_scratch1 S f) all_kb.symm).trans (pt_fibs (ℓ := (c : Thread nD τ).loc cc0_scratch1) _ [0, 1, 2, 3] (by decide) f)
theorem rb_cut (f) : (pt c cc0_scratch4 Finset.univ f : sProp (MT nD τ sig ℕ (Elt F) ℕ UU ℕ)) = bigSepL [0, 1, 2, 3, 4, 5, 6, 7] fun n => pt c cc0_scratch4 (slotR n) f :=
  (congrArg (fun S => pt c cc0_scratch4 S f) all_rb.symm).trans (pt_fibs (ℓ := (c : Thread nD τ).loc cc0_scratch4) _ [0, 1, 2, 3, 4, 5, 6, 7] (by decide) f)
theorem ab_cut (f) : (pt c cc0_scratch6 Finset.univ f : sProp (MT nD τ sig ℕ (Elt F) ℕ UU ℕ)) = bigSepL [0, 1, 2, 3, 4, 5, 6, 7] fun n => pt c cc0_scratch6 (slotR n) f :=
  (congrArg (fun S => pt c cc0_scratch6 S f) all_rb.symm).trans (pt_fibs (ℓ := (c : Thread nD τ).loc cc0_scratch6) _ [0, 1, 2, 3, 4, 5, 6, 7] (by decide) f)
theorem k_cut (f) : (pt c cc0_stg2_0 Finset.univ f : sProp (MT nD τ sig ℕ (Elt F) ℕ UU ℕ)) = bigSepL [0, 1, 2, 3, 4, 5, 6, 7] fun n => pt c cc0_stg2_0 (colS (xr c n).val) f :=
  ((congrArg (fun S => pt c cc0_stg2_0 S f) all_col.symm).trans (pt_fibs (ℓ := (c : Thread nD τ).loc cc0_stg2_0) _ [0, 1, 2, 3, 4, 5, 6, 7] (by decide) f)).trans
    ((sepL_perm (xr_perm c) _).trans (bigSepL_map _ _ _))
theorem v_cut (f) : (pt c cc0_stg3_0 Finset.univ f : sProp (MT nD τ sig ℕ (Elt F) ℕ UU ℕ)) = bigSepL [0, 1, 2, 3, 4, 5, 6, 7] fun n => pt c cc0_stg3_0 (colS (xr c n).val) f :=
  ((congrArg (fun S => pt c cc0_stg3_0 S f) all_col.symm).trans (pt_fibs (ℓ := (c : Thread nD τ).loc cc0_stg3_0) _ [0, 1, 2, 3, 4, 5, 6, 7] (by decide) f)).trans
    ((sepL_perm (xr_perm c) _).trans (bigSepL_map _ _ _))
theorem row_cut (f) : (pt c cc0_stg5_0 Finset.univ f : sProp (MT nD τ sig ℕ (Elt F) ℕ UU ℕ)) = bigSepL [0, 1, 2, 3, 4, 5, 6, 7] fun n => pt c cc0_stg5_0 (rowS n) f :=
  (congrArg (fun S => pt c cc0_stg5_0 S f) all_row.symm).trans (pt_fibs (ℓ := (c : Thread nD τ).loc cc0_stg5_0) _ [0, 1, 2, 3, 4, 5, 6, 7] (by decide) f)
theorem out_cut (f) : (pt c cc0_stg5_0 Finset.univ f : sProp (MT nD τ sig ℕ (Elt F) ℕ UU ℕ))
    = iprop(pt c cc0_stg5_0 (rowS c.val) f ∗ bigSepL [1, 2, 3, 4, 5, 6, 7] fun j => pt c cc0_stg5_0 (rowS (ad c j).val) f) := by
  rw [row_cut, sepL_perm (ad_perm c), bigSepL_cons', bigSepL_map]

/-- Any contents of a region. -/
abbrev any (c : Dev nD) (b : Ref sig .tc) (S : Finset (Idx ((c : Thread nD τ).loc b))) : sProp 𝕄 := iprop(∃ f, pt c b S f)

theorem dst_kb (m : ℕ) (h : m < 4) : dstN (F := F) c (22 + m) = any c cc0_scratch0 (slotK m) := by
  unfold dstN; rw [if_neg (by omega), if_pos (by omega), Nat.add_sub_cancel_left]
theorem dst_vb (m : ℕ) (h : m < 4) : dstN (F := F) c (26 + m) = any c cc0_scratch1 (slotK m) := by
  unfold dstN; rw [if_neg (by omega), if_neg (by omega), if_pos (by omega), Nat.add_sub_cancel_left]
theorem dst_rb (m : ℕ) (h : m < 8) : dstN (F := F) c (38 + m) = any c cc0_scratch4 (slotR m) := by
  unfold dstN; rw [if_neg (by omega), if_neg (by omega), if_neg (by omega), if_neg (by omega), if_pos (by omega), Nat.add_sub_cancel_left]
theorem dst_ab (m : ℕ) (h : m < 8) : dstN (F := F) c (54 + m) = any c cc0_scratch6 (slotR m) := by
  unfold dstN; rw [if_neg (by omega), if_neg (by omega), if_neg (by omega), if_neg (by omega), if_neg (by omega), if_neg (by omega), if_pos (by omega), Nat.add_sub_cancel_left]
theorem dst_ks : dstN (F := F) c 62 = any c cc0_scratch7 Finset.univ := by
  unfold dstN; rw [if_neg (by omega), if_neg (by omega), if_neg (by omega), if_neg (by omega), if_neg (by omega), if_neg (by omega), if_neg (by omega), if_pos (by omega)]
theorem dst_vs : dstN (F := F) c 63 = any c cc0_scratch8 Finset.univ := by
  unfold dstN; rw [if_neg (by omega), if_neg (by omega), if_neg (by omega), if_neg (by omega), if_neg (by omega), if_neg (by omega), if_neg (by omega), if_neg (by omega), if_pos (by omega)]

theorem rcv_list : (bigSepL rcvL (dstN (F := F) c))
    = iprop((bigSepL [0, 1, 2, 3] fun m => any c cc0_scratch0 (slotK m)) ∗ (bigSepL [0, 1, 2, 3] fun m => any c cc0_scratch1 (slotK m))
      ∗ (bigSepL [0, 1, 2, 3, 4, 5, 6, 7] fun m => any c cc0_scratch4 (slotR m)) ∗ (bigSepL [0, 1, 2, 3, 4, 5, 6, 7] fun m => any c cc0_scratch6 (slotR m))
      ∗ any c cc0_scratch7 Finset.univ ∗ any c cc0_scratch8 Finset.univ) := by
  rw [show rcvL = ([0, 1, 2, 3].map (22 + ·)) ++ (([0, 1, 2, 3].map (26 + ·)) ++ (([0, 1, 2, 3, 4, 5, 6, 7].map (38 + ·)) ++ (([0, 1, 2, 3, 4, 5, 6, 7].map (54 + ·)) ++ ([62] ++ [63])))) from by decide,
    bigSepL_append, bigSepL_append, bigSepL_append, bigSepL_append, bigSepL_append, bigSepL_map, bigSepL_map, bigSepL_map, bigSepL_map,
    sepL_congr _ (fun m hm => dst_kb (F := F) c m (by revert m; decide)), sepL_congr _ (fun m hm => dst_vb (F := F) c m (by revert m; decide)),
    sepL_congr _ (fun m hm => dst_rb (F := F) c m (by revert m; decide)), sepL_congr _ (fun m hm => dst_ab (F := F) c m (by revert m; decide)), ← dst_ks, ← dst_vs]
  rfl

/-- The scratch buffers, each whole at any contents, in the launch's order. -/
def scr : sProp (MT nD τ sig ℕ (Elt F) ℕ UU ℕ) := iprop(any c cc0_scratch0 Finset.univ ∗ any c cc0_scratch1 Finset.univ ∗ any c cc0_scratch2 Finset.univ ∗ any c cc0_scratch3 Finset.univ ∗ any c cc0_scratch4 Finset.univ ∗ any c cc0_scratch5 Finset.univ ∗ any c cc0_scratch6 Finset.univ ∗ any c cc0_scratch7 Finset.univ ∗ any c cc0_scratch8 Finset.univ)

theorem any_list {b : Ref sig .tc} {l : List ℕ} {S : ℕ → Finset (Idx ((c : Thread nD τ).loc b))} (f : Buf (Elt F) ((c : Thread nD τ).loc b)) :
    (bigSepL l fun m => pt c b (S m) f) ⊢ (bigSepL l fun m => any c b (S m) : sProp 𝕄) := by
  induction l with
  | nil => exact .rfl
  | cons a l ih =>
    rw [bigSepL_cons', bigSepL_cons']
    iintro ⟨H1, H2⟩
    isplitl [H1]; · iexists f; iexact H1
    iapply ih; iexact H2

theorem scr_cut : scr (F := F) c ⊢ iprop(bigSepL rcvL (dstN (F := F) c) ∗ (bigSepL [0, 1, 2, 3] fun m => any c cc0_scratch2 (blkS m)) ∗ (bigSepL [0, 1, 2, 3] fun m => any c cc0_scratch3 (blkS m))
    ∗ any c cc0_scratch5 Finset.univ) := by
  unfold scr
  rw [rcv_list]
  iintro ⟨⟨%f0, H0⟩, ⟨%f1, H1⟩, ⟨%f2, H2⟩, ⟨%f3, H3⟩, ⟨%f4, H4⟩, H5, ⟨%f6, H6⟩, H7, H8⟩
  isplitl [H0 H1 H4 H6 H7 H8]
  · isplitl [H0]; · iapply (any_list c f0); iapply (Entails.of_eq (kb_cut c f0)); iexact H0
    isplitl [H1]; · iapply (any_list c f1); iapply (Entails.of_eq (vb_cut c f1)); iexact H1
    isplitl [H4]; · iapply (any_list c f4); iapply (Entails.of_eq (rb_cut c f4)); iexact H4
    isplitl [H6]; · iapply (any_list c f6); iapply (Entails.of_eq (ab_cut c f6)); iexact H6
    isplitl [H7] <;> iassumption
  isplitl [H2]; · iapply (any_list c f2); iapply (Entails.of_eq (pb_cut c f2)); iexact H2
  isplitl [H3]; · iapply (any_list c f3); iapply (Entails.of_eq (qb_cut c f3)); iexact H3
  iexact H5

theorem kb_join (I : Ins F) : (bigSepL [0, 1, 2, 3] fun m => any c cc0_scratch0 (slotK m)) ⊢ (any c cc0_scratch0 Finset.univ : sProp 𝕄) :=
  (pt_fibs_join (ℓ := (c : Thread nD τ).loc cc0_scratch0) _ [0, 1, 2, 3] (by decide) (KB I c)).trans (Entails.of_eq (congrArg (fun S => any c cc0_scratch0 S) all_kb))
theorem vb_join (I : Ins F) : (bigSepL [0, 1, 2, 3] fun m => any c cc0_scratch1 (slotK m)) ⊢ (any c cc0_scratch1 Finset.univ : sProp 𝕄) :=
  (pt_fibs_join (ℓ := (c : Thread nD τ).loc cc0_scratch1) _ [0, 1, 2, 3] (by decide) (VB I c)).trans (Entails.of_eq (congrArg (fun S => any c cc0_scratch1 S) all_kb))
theorem rb_join (I : Ins F) : (bigSepL [0, 1, 2, 3, 4, 5, 6, 7] fun m => any c cc0_scratch4 (slotR m)) ⊢ (any c cc0_scratch4 Finset.univ : sProp 𝕄) :=
  (pt_fibs_join (ℓ := (c : Thread nD τ).loc cc0_scratch4) _ [0, 1, 2, 3, 4, 5, 6, 7] (by decide) (RSB I c)).trans (Entails.of_eq (congrArg (fun S => any c cc0_scratch4 S) all_rb))
theorem ab_join (I : Ins F) : (bigSepL [0, 1, 2, 3, 4, 5, 6, 7] fun m => any c cc0_scratch6 (slotR m)) ⊢ (any c cc0_scratch6 Finset.univ : sProp 𝕄) :=
  (pt_fibs_join (ℓ := (c : Thread nD τ).loc cc0_scratch6) _ [0, 1, 2, 3, 4, 5, 6, 7] (by decide) (AGB I)).trans (Entails.of_eq (congrArg (fun S => any c cc0_scratch6 S) all_rb))

theorem scr_join (I : Ins F) (f2 f3 f5) : iprop(bigSepL rcvL (dstN (F := F) c) ∗ pt c cc0_scratch2 Finset.univ f2 ∗ pt c cc0_scratch3 Finset.univ f3 ∗ pt c cc0_scratch5 Finset.univ f5) ⊢ scr c := by
  unfold scr
  rw [rcv_list]
  iintro ⟨⟨H0, H1, H4, H6, H7, H8⟩, H2, H3, H5⟩
  isplitl [H0]; · iapply (kb_join c I); iexact H0
  isplitl [H1]; · iapply (vb_join c I); iexact H1
  isplitl [H2]; · iexists f2; iexact H2
  isplitl [H3]; · iexists f3; iexact H3
  isplitl [H4]; · iapply (rb_join c I); iexact H4
  isplitl [H5]; · iexists f5; iexact H5
  isplitl [H6]; · iapply (ab_join c I); iexact H6
  isplitl [H7] <;> iassumption

end Bufs

theorem tok_split (c : Dev nD) : (bigSepL (allE c) (tokE c) : sProp 𝕄)
    = iprop((bigSepL [1, 2, 3, 4, 5, 6, 7] fun j => tokE c (ad c j, 0, 0)) ∗ bigSepL (restE c) (tokE c)) := by
  rw [allE_rest, bigSepL_append]; unfold barE; rw [bigSepL_map]

/-! ## Entering the body -/

section Enter

variable (I : Ins F) (c : Dev nD)

theorem in_list : (bigSepL (inE c) (Wt c) : sProp 𝕄) ⊢ iprop(rlPre c ∗ bigSepL [22 + 0, 22 + 1, 22 + 2, 22 + 3, 26 + 0, 26 + 1, 26 + 2, 26 + 3] (Wt c)
    ∗ (bigSepL [1, 2, 3, 4, 5, 6, 7] fun j => Wt c (38 + (ad c j).val)) ∗ (bigSepL [1, 2, 3, 4, 5, 6, 7] fun j => Wt c (54 + (ad c j).val))) := by
  unfold inE rlPre
  rw [bigSepL_append, bigSepL_append, bigSepL_append, bigSepL_map, bigSepL_map]
  by_cases h : c.val % 2 = 0
  · rw [if_pos h, if_neg (by omega)]; exact .rfl
  · rw [if_neg h, if_pos (by omega)]; exact .rfl

/-- What the device's launch gives it, beside its staged blocks, its scratch buffers and what it owes. -/
def ghost : sProp (MT nD τ sig ℕ (Elt F) ℕ UU ℕ) := iprop(atPos ER (cell c 0) 0 ∅ 0 ∗ (bigSepL scopedL fun n => atPos ER (cell c n) 0 ∅ 0)
  ∗ (bigSepL (tokN c) fun x => dutyTok ER (cell x.1 x.2) 0 c) ∗ cred (tallyL (credOf (fun d => (allE d).map pay) c)) ∗ openedAt c
  ∗ bigSepL (List.finRange nD) fun d => reached ER (cell d 0) 0)

/-- What the body does not use. -/
def spare : sProp (MT nD τ sig ℕ (Elt F) ℕ UU ℕ) := iprop((bigSepL (idleE c) fun n => atPos ER (cell c n) 0 ∅ 0) ∗ bigSepL (rcvNone c) (dstN c))

/-- The staged blocks at entry. -/
def stagedIn : sProp (MT nD τ sig ℕ (Elt F) ℕ UU ℕ) := iprop(xR I c ∗ wqR I c ∗ pt c cc0_stg2_0 Finset.univ (I.k c) ∗ pt c cc0_stg3_0 Finset.univ (I.v c) ∗ woR I c ∗ any c cc0_stg5_0 Finset.univ)

theorem kv_all : iprop(pt c cc0_stg2_0 Finset.univ (I.k c) ∗ pt c cc0_stg3_0 Finset.univ (I.v c)) = (kvAll I c : sProp 𝕄) := by
  rw [k_cut, v_cut, sep8, sep8]
  unfold kvAll
  refine eq_of_both ?_ ?_
  · iintro ⟨⟨K0, K1, K2, K3, K4, K5, K6, K7⟩, V0, V1, V2, V3, V4, V5, V6, V7⟩
    isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [V0]; · iexact V0
    isplitl [V1]; · iexact V1
    isplitl [V2]; · iexact V2
    isplitl [V3]; · iexact V3
    isplitl [V4]; · iexact V4
    isplitl [V5]; · iexact V5
    isplitl [V6]; · iexact V6
    iexact V7
  · iintro ⟨K0, K1, K2, K3, K4, K5, K6, K7, V0, V1, V2, V3, V4, V5, V6, V7⟩
    isplitl [K0 K1 K2 K3 K4 K5 K6 K7]
    · isplitl [K0]; · iexact K0
      isplitl [K1]; · iexact K1
      isplitl [K2]; · iexact K2
      isplitl [K3]; · iexact K3
      isplitl [K4]; · iexact K4
      isplitl [K5]; · iexact K5
      isplitl [K6]; · iexact K6
      iexact K7
    isplitl [V0]; · iexact V0
    isplitl [V1]; · iexact V1
    isplitl [V2]; · iexact V2
    isplitl [V3]; · iexact V3
    isplitl [V4]; · iexact V4
    isplitl [V5]; · iexact V5
    isplitl [V6]; · iexact V6
    iexact V7

set_option maxHeartbeats 4000000 in
theorem enter : iprop(ghost c ∗ stagedIn I c ∗ scr c ∗ Owe c (allE c)) ⊢ (iprop(runPre I c ∗ Wt c 66 ∗ spare c) : sProp 𝕄) := by
  unfold ghost stagedIn spare
  iintro ⟨⟨Ha, Hs, Hk, Hc, #Hop, #Hr⟩, ⟨S0, S1, S2, S3, S4, ⟨%f5, S5⟩⟩, HB, HO⟩
  ihave HW := (waits c) $$ [Ha Hs Hk Hc]
  · isplitl [Ha]; · iexact Ha
    isplitl [Hs]; · iexact Hs
    isplitl [Hk] <;> iassumption
  icases HW with ⟨W0, W6, Wi, HT, Hd⟩
  ihave HT := (Entails.of_eq ((tok_split c).trans (by rw [sep7]))) $$ HT
  icases HT with ⟨⟨T1, T2, T3, T4, T5, T6, T7⟩, Ht⟩
  ihave Wi := ((in_list c).trans (Entails.of_eq (by rw [sep8, sep7, sep7]))) $$ Wi
  icases Wi with ⟨Hrl, ⟨Wk0, Wk1, Wk2, Wk3, Wv0, Wv1, Wv2, Wv3⟩, ⟨Wr1, Wr2, Wr3, Wr4, Wr5, Wr6, Wr7⟩, ⟨Wa1, Wa2, Wa3, Wa4, Wa5, Wa6, Wa7⟩⟩
  ihave HB := ((scr_cut c).trans (Entails.of_eq (by rw [sep4, sep4]))) $$ HB
  icases HB with ⟨Hrc, ⟨Pb0, Pb1, Pb2, Pb3⟩, ⟨Qb0, Qb1, Qb2, Qb3⟩, A5⟩
  ihave Hbp := ((bar_all c).trans (Entails.of_eq (by rw [sep7]))) $$ [Hrc]
  · isplitl [Hrc]; · iexact Hrc
    iexact Hop
  icases Hbp with ⟨⟨B1, B2, B3, B4, B5, B6, B7⟩, Bc, Hn⟩
  ihave Hkv := (Entails.of_eq (kv_all I c)) $$ [S2 S3]
  · isplitl [S2] <;> iassumption
  ihave S5 := (Entails.of_eq ((out_cut c f5).trans (by rw [sep7]))) $$ S5
  icases S5 with ⟨O0, O1, O2, O3, O4, O5, O6, O7⟩
  isplitr [W6 Hd Hn]
  · unfold runPre
    isplitl [T1 B1]
    · isplitl [T1]; · iexact T1
      isplitl [B1]; · iexact B1
      iapply (sepL_elim (List.mem_finRange (ad c 1)) fun d : Dev nD => reached ER (cell d 0) 0); iexact Hr
    isplitl [T2 B2]
    · isplitl [T2]; · iexact T2
      isplitl [B2]; · iexact B2
      iapply (sepL_elim (List.mem_finRange (ad c 2)) fun d : Dev nD => reached ER (cell d 0) 0); iexact Hr
    isplitl [HO]; · iexact HO
    isplitl [T3 B3]
    · isplitl [T3]; · iexact T3
      isplitl [B3]; · iexact B3
      iapply (sepL_elim (List.mem_finRange (ad c 3)) fun d : Dev nD => reached ER (cell d 0) 0); iexact Hr
    isplitl [T4 B4]
    · isplitl [T4]; · iexact T4
      isplitl [B4]; · iexact B4
      iapply (sepL_elim (List.mem_finRange (ad c 4)) fun d : Dev nD => reached ER (cell d 0) 0); iexact Hr
    isplitl [T5 B5]
    · isplitl [T5]; · iexact T5
      isplitl [B5]; · iexact B5
      iapply (sepL_elim (List.mem_finRange (ad c 5)) fun d : Dev nD => reached ER (cell d 0) 0); iexact Hr
    isplitl [T6 B6]
    · isplitl [T6]; · iexact T6
      isplitl [B6]; · iexact B6
      iapply (sepL_elim (List.mem_finRange (ad c 6)) fun d : Dev nD => reached ER (cell d 0) 0); iexact Hr
    isplitl [T7 B7]
    · isplitl [T7]; · iexact T7
      isplitl [B7]; · iexact B7
      iapply (sepL_elim (List.mem_finRange (ad c 7)) fun d : Dev nD => reached ER (cell d 0) 0); iexact Hr
    isplitl [W0]; · iexact W0
    isplitl [Bc]; · iexact Bc
    isplitl [Ht]; · iexact Ht
    isplitl [Hkv]; · iexact Hkv
    isplitl [S0]; · iexact S0
    isplitl [S1]; · iexact S1
    isplitl [Hrl]; · iexact Hrl
    isplitl [Wk0]; · iexact Wk0
    isplitl [Wk1]; · iexact Wk1
    isplitl [Wk2]; · iexact Wk2
    isplitl [Wk3]; · iexact Wk3
    isplitl [Wv0]; · iexact Wv0
    isplitl [Wv1]; · iexact Wv1
    isplitl [Wv2]; · iexact Wv2
    isplitl [Wv3]; · iexact Wv3
    isplitl [S4]; · iexact S4
    isplitl [Pb0]; · iexact Pb0
    isplitl [Qb0]; · iexact Qb0
    isplitl [Pb1]; · iexact Pb1
    isplitl [Qb1]; · iexact Qb1
    isplitl [Pb2]; · iexact Pb2
    isplitl [Qb2]; · iexact Qb2
    isplitl [Pb3]; · iexact Pb3
    isplitl [Qb3]; · iexact Qb3
    isplitl [Wr1]; · iexact Wr1
    isplitl [Wr2]; · iexact Wr2
    isplitl [Wr3]; · iexact Wr3
    isplitl [Wr4]; · iexact Wr4
    isplitl [Wr5]; · iexact Wr5
    isplitl [Wr6]; · iexact Wr6
    isplitl [Wr7]; · iexact Wr7
    isplitl [O0]; · iexists f5; iexact O0
    isplitl [A5]; · iexact A5
    isplitl [Wa1]; · iexact Wa1
    isplitl [O1]; · iexists f5; iexact O1
    isplitl [Wa2]; · iexact Wa2
    isplitl [O2]; · iexists f5; iexact O2
    isplitl [Wa3]; · iexact Wa3
    isplitl [O3]; · iexists f5; iexact O3
    isplitl [Wa4]; · iexact Wa4
    isplitl [O4]; · iexists f5; iexact O4
    isplitl [Wa5]; · iexact Wa5
    isplitl [O5]; · iexists f5; iexact O5
    isplitl [Wa6]; · iexact Wa6
    isplitl [O6]; · iexists f5; iexact O6
    isplitl [Wa7]; · iexact Wa7
    iexists f5; iexact O7
  isplitl [W6]; · iexact W6
  isplitl [Hd] <;> iassumption

end Enter

end Cert.KernelIdeal.Hand

end
-- ==== Proof.Leave.lean ====
/-
  What the body leaves on a device, put together again: its buffers whole, its semaphores at zero.
-/
module

public import proofs.«01_k».proof.Proof.Enter

@[expose] public section

set_option maxRecDepth 16384

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv hL mem_L' mayWait_of)
open Idealize.ShloMosaic.TalkSites (Fam Pay tallyL tallyL_append tallyL_pos credOf allPays cred_tallyL)
open Cert.KernelIdeal Cert.KernelIdeal.Gen

variable {F : FTy → Type} [FloatOps F]

local notation "𝕄" => MT nD τ sig ℕ (Elt F) ℕ UU ℕ

section Exit

variable (I : Ins F) (c : Dev nD)

theorem in_each (Φ : ℕ → sProp (MT nD τ sig ℕ (Elt F) ℕ UU ℕ)) : bigSepL (inE c) Φ = iprop((if c.val % 2 = 0 then emp else iprop(Φ 62 ∗ Φ 63))
    ∗ bigSepL [22 + 0, 22 + 1, 22 + 2, 22 + 3, 26 + 0, 26 + 1, 26 + 2, 26 + 3] Φ
    ∗ (bigSepL [1, 2, 3, 4, 5, 6, 7] fun j => Φ (38 + (ad c j).val)) ∗ (bigSepL [1, 2, 3, 4, 5, 6, 7] fun j => Φ (54 + (ad c j).val))) := by
  unfold inE
  rw [bigSepL_append, bigSepL_append, bigSepL_append, bigSepL_map, bigSepL_map]
  by_cases h : c.val % 2 = 0
  · rw [if_pos h, if_pos h]; rfl
  · rw [if_neg h, if_neg h]; rfl

theorem outE_perm (c : Dev nD) : (outE c).Perm ((if c.val % 2 = 0 then [6 + 0, 6 + 1, 6 + 2, 6 + 3, 6 + 4, 6 + 5, 6 + 6, 6 + 7] ++ [14 + 0, 14 + 1, 14 + 2, 14 + 3, 14 + 4, 14 + 5, 14 + 6, 14 + 7] else [64, 65])
    ++ (([0, 1, 2, 3, 4, 5, 6, 7].filter fun j => decide (dv j ≠ c)).map (30 + ·) ++ [46 + 1, 46 + 2, 46 + 3, 46 + 4, 46 + 5, 46 + 6, 46 + 7])) := by
  revert c; decide +kernel

theorem out_each (Φ : ℕ → sProp (MT nD τ sig ℕ (Elt F) ℕ UU ℕ)) : bigSepL (outE c) Φ
    = iprop((if c.val % 2 = 0 then iprop(bigSepL [6 + 0, 6 + 1, 6 + 2, 6 + 3, 6 + 4, 6 + 5, 6 + 6, 6 + 7] Φ ∗ bigSepL [14 + 0, 14 + 1, 14 + 2, 14 + 3, 14 + 4, 14 + 5, 14 + 6, 14 + 7] Φ) else iprop(Φ 64 ∗ Φ 65))
      ∗ (bigSepL [0, 1, 2, 3, 4, 5, 6, 7] fun j => if dv j = c then iprop(emp) else Φ (30 + j)) ∗ bigSepL [46 + 1, 46 + 2, 46 + 3, 46 + 4, 46 + 5, 46 + 6, 46 + 7] Φ) := by
  rw [sepL_perm (outE_perm c), bigSepL_append, bigSepL_append, bigSepL_map, sepL_filter]
  rw [show (fun j => if decide (dv j ≠ c) = true then Φ (30 + j) else iprop(emp)) = fun j => if dv j = c then iprop(emp) else Φ (30 + j) from by
    funext j; by_cases h : dv j = c <;> simp [h]]
  by_cases h : c.val % 2 = 0
  · rw [if_pos h, if_pos h, bigSepL_append]
  · rw [if_neg h, if_neg h]; rfl

theorem qrow_cut (f) : (pt c cc0_scratch3 Finset.univ f : sProp (MT nD τ sig ℕ (Elt F) ℕ UU ℕ)) = bigSepL [0, 1, 2, 3, 4, 5, 6, 7] fun n => pt c cc0_scratch3 (rowS n) f :=
  (congrArg (fun S => pt c cc0_scratch3 S f) all_row.symm).trans (pt_fibs (ℓ := (c : Thread nD τ).loc cc0_scratch3) _ [0, 1, 2, 3, 4, 5, 6, 7] (by decide) f)

/-- The staged blocks at exit. -/
def stagedOut : sProp (MT nD τ sig ℕ (Elt F) ℕ UU ℕ) := iprop(xR I c ∗ wqR I c ∗ pt c cc0_stg2_0 Finset.univ (I.k c) ∗ pt c cc0_stg3_0 Finset.univ (I.v c) ∗ woR I c ∗ pt c cc0_stg5_0 Finset.univ (OUT I c))

/-- The cells the body used, all past their one round. -/
def dones : sProp (MT nD τ sig ℕ (Elt F) ℕ UU ℕ) := iprop(bigSepL (outE c) (Don c) ∗ bigSepL (inE c) (Don c) ∗ Don c 66)

set_option maxHeartbeats 4000000 in
theorem leave : iprop(runPost I c ∗ spare c ∗ Don c 66) ⊢ (iprop(Don c 0 ∗ dones c ∗ (bigSepL (idleE c) fun n => atPos ER (cell c n) 0 ∅ 0) ∗ stagedOut I c ∗ scr c) : sProp 𝕄) := by
  have hks : pt c cc0_scratch7 Finset.univ (KST I c) ⊢ (dstN c 62 : sProp 𝕄) := by rw [dst_ks]; iintro H; iexists _; iexact H
  have hvs : pt c cc0_scratch8 Finset.univ (VST I c) ⊢ (dstN c 63 : sProp 𝕄) := by rw [dst_vs]; iintro H; iexists _; iexact H
  have hk (m : ℕ) (h : m < 4) : kR I c m ⊢ (dstN c (22 + m) : sProp 𝕄) := by rw [dst_kb c m h]; iintro H; iexists _; iexact H
  have hv (m : ℕ) (h : m < 4) : vR I c m ⊢ (dstN c (26 + m) : sProp 𝕄) := by rw [dst_vb c m h]; iintro H; iexists _; iexact H
  have hr (j : ℕ) : rbR I c j ⊢ (dstN c (38 + (ad c j).val) : sProp 𝕄) := by rw [dst_rb c _ (ad c j).isLt]; iintro H; iexists _; iexact H
  have ha (j : ℕ) : abR I c j ⊢ (dstN c (54 + (ad c j).val) : sProp 𝕄) := by rw [dst_ab c _ (ad c j).isLt]; iintro H; iexists _; iexact H
  have hkv : kvEnd I c ⊢ (iprop((if c.val % 2 = 0 then kvDon c else emp) ∗ pt c cc0_stg2_0 Finset.univ (I.k c) ∗ pt c cc0_stg3_0 Finset.univ (I.v c)) : sProp 𝕄) := by
    unfold kvEnd
    rw [kv_all]
    by_cases h : c.val % 2 = 0
    · rw [if_pos h, if_pos h]
    · rw [if_neg h, if_neg h]; exact BI.emp_sep.2
  have hrl : rlEnd I c ⊢ (iprop((if c.val % 2 = 0 then emp else iprop(Don c 64 ∗ Don c 65)) ∗ (if c.val % 2 = 0 then emp else iprop(Don c 62 ∗ Don c 63))
      ∗ (if c.val % 2 = 0 then emp else iprop(dstN c 62 ∗ dstN c 63))) : sProp 𝕄) := by
    unfold rlEnd
    by_cases h : c.val % 2 = 0
    · rw [if_neg (by omega), if_pos h, if_pos h, if_pos h]
      iintro H; isplitr; · iempintro
      isplitr; · iempintro
      iexact H
    · rw [if_pos (by omega), if_neg h, if_neg h, if_neg h]
      iintro ⟨H1, H2, H3, H4, H5, H6⟩
      isplitl [H3 H4]; · isplitl [H3] <;> iassumption
      isplitl [H1 H2]; · isplitl [H1] <;> iassumption
      isplitl [H5]; · iapply hks; iexact H5
      iapply hvs; iexact H6
  have hd0 : iprop((if c.val % 2 = 0 then kvDon c else emp) ∗ (if c.val % 2 = 0 then emp else iprop(Don c 64 ∗ Don c 65)))
      ⊢ (if c.val % 2 = 0 then iprop(bigSepL [6 + 0, 6 + 1, 6 + 2, 6 + 3, 6 + 4, 6 + 5, 6 + 6, 6 + 7] (Don c) ∗ bigSepL [14 + 0, 14 + 1, 14 + 2, 14 + 3, 14 + 4, 14 + 5, 14 + 6, 14 + 7] (Don c)) else iprop(Don c 64 ∗ Don c 65) : sProp 𝕄) := by
    by_cases h : c.val % 2 = 0
    · rw [if_pos h, if_pos h, if_pos h]
      rw [sep8, sep8]
      unfold kvDon
      iintro ⟨⟨K0, K1, K2, K3, K4, K5, K6, K7, V0, V1, V2, V3, V4, V5, V6, V7⟩, -⟩
      isplitl [K0 K1 K2 K3 K4 K5 K6 K7]
      · isplitl [K0]; · iexact K0
        isplitl [K1]; · iexact K1
        isplitl [K2]; · iexact K2
        isplitl [K3]; · iexact K3
        isplitl [K4]; · iexact K4
        isplitl [K5]; · iexact K5
        isplitl [K6]; · iexact K6
        iexact K7
      isplitl [V0]; · iexact V0
      isplitl [V1]; · iexact V1
      isplitl [V2]; · iexact V2
      isplitl [V3]; · iexact V3
      isplitl [V4]; · iexact V4
      isplitl [V5]; · iexact V5
      isplitl [V6]; · iexact V6
      iexact V7
    · rw [if_neg h, if_neg h, if_neg h]; exact BI.emp_sep.1
  unfold runPost spare dones stagedOut rsZ
  rw [out_each, in_each, sep8 0 1 2 3 4 5 6 7, sep8 (22 + 0), sep7, sep7, sep7]
  iintro ⟨⟨D0, S0, S1, Dk0, K0, Dk1, K1, Dk2, K2, Dk3, K3, Dv0, V0, Dv1, V1, Dv2, V2, Dv3, V3, S4, Dr1, Dr2, Dr3, Dr4, Dr5, Dr6, Dr7, P2, R1, R2, R3, R4, R5, R6, R7, O0, G0, Da1, A1, O1, Da2, A2, O2, Da3, A3, O3, Da4, A4, O4, Da5, A5, O5, Da6, A6, O6, Da7, A7, O7, Z0, Z1, Z2, Z3, Z4, Z5, Z6, Z7, Q0, Q1, Q2, Q3, Q4, Q5, Q6, Q7, Dg1, G1, Dg2, G2, Dg3, G3, Dg4, G4, Dg5, G5, Dg6, G6, Dg7, G7, Hkv, Hrl⟩, ⟨Hidle, Hnone⟩, D6⟩
  ihave Hkv := hkv $$ Hkv
  icases Hkv with ⟨E1, S2, S3⟩
  ihave Hrl := hrl $$ Hrl
  icases Hrl with ⟨E2, E3, E4⟩
  ihave E1 := hd0 $$ [E1 E2]
  · isplitl [E1] <;> iassumption
  isplitl [D0]; · iexact D0
  isplitl [E1 Z0 Z1 Z2 Z3 Z4 Z5 Z6 Z7 Dg1 Dg2 Dg3 Dg4 Dg5 Dg6 Dg7 E3 Dk0 Dk1 Dk2 Dk3 Dv0 Dv1 Dv2 Dv3 Dr1 Dr2 Dr3 Dr4 Dr5 Dr6 Dr7 Da1 Da2 Da3 Da4 Da5 Da6 Da7 D6]
  · isplitl [E1 Z0 Z1 Z2 Z3 Z4 Z5 Z6 Z7 Dg1 Dg2 Dg3 Dg4 Dg5 Dg6 Dg7]
    · isplitl [E1]; · iexact E1
      isplitl [Z0 Z1 Z2 Z3 Z4 Z5 Z6 Z7]
      · isplitl [Z0]; · iexact Z0
        isplitl [Z1]; · iexact Z1
        isplitl [Z2]; · iexact Z2
        isplitl [Z3]; · iexact Z3
        isplitl [Z4]; · iexact Z4
        isplitl [Z5]; · iexact Z5
        isplitl [Z6]; · iexact Z6
        iexact Z7
      isplitl [Dg1]; · iexact Dg1
      isplitl [Dg2]; · iexact Dg2
      isplitl [Dg3]; · iexact Dg3
      isplitl [Dg4]; · iexact Dg4
      isplitl [Dg5]; · iexact Dg5
      isplitl [Dg6]; · iexact Dg6
      iexact Dg7
    isplitl [E3 Dk0 Dk1 Dk2 Dk3 Dv0 Dv1 Dv2 Dv3 Dr1 Dr2 Dr3 Dr4 Dr5 Dr6 Dr7 Da1 Da2 Da3 Da4 Da5 Da6 Da7]
    · isplitl [E3]; · iexact E3
      isplitl [Dk0 Dk1 Dk2 Dk3 Dv0 Dv1 Dv2 Dv3]
      · isplitl [Dk0]; · iexact Dk0
        isplitl [Dk1]; · iexact Dk1
        isplitl [Dk2]; · iexact Dk2
        isplitl [Dk3]; · iexact Dk3
        isplitl [Dv0]; · iexact Dv0
        isplitl [Dv1]; · iexact Dv1
        isplitl [Dv2]; · iexact Dv2
        iexact Dv3
      isplitl [Dr1 Dr2 Dr3 Dr4 Dr5 Dr6 Dr7]
      · isplitl [Dr1]; · iexact Dr1
        isplitl [Dr2]; · iexact Dr2
        isplitl [Dr3]; · iexact Dr3
        isplitl [Dr4]; · iexact Dr4
        isplitl [Dr5]; · iexact Dr5
        isplitl [Dr6]; · iexact Dr6
        iexact Dr7
      isplitl [Da1]; · iexact Da1
      isplitl [Da2]; · iexact Da2
      isplitl [Da3]; · iexact Da3
      isplitl [Da4]; · iexact Da4
      isplitl [Da5]; · iexact Da5
      isplitl [Da6]; · iexact Da6
      iexact Da7
    iexact D6
  isplitl [Hidle]; · iexact Hidle
  isplitl [S0 S1 S2 S3 S4 O0 O1 O2 O3 O4 O5 O6 O7]
  · isplitl [S0]; · iexact S0
    isplitl [S1]; · iexact S1
    isplitl [S2]; · iexact S2
    isplitl [S3]; · iexact S3
    isplitl [S4]; · iexact S4
    rw [out_cut, sep7]
    isplitl [O0]; · iexact O0
    isplitl [O1]; · iexact O1
    isplitl [O2]; · iexact O2
    isplitl [O3]; · iexact O3
    isplitl [O4]; · iexact O4
    isplitl [O5]; · iexact O5
    isplitl [O6]; · iexact O6
    iexact O7
  iapply (scr_join c I (PB I c) (P16 I c) (AG I c))
  isplitl [E4 Hnone K0 K1 K2 K3 V0 V1 V2 V3 R1 R2 R3 R4 R5 R6 R7 A1 A2 A3 A4 A5 A6 A7]
  · rw [sepL_perm (rcv_in c), bigSepL_append, in_each, sep8, sep7, sep7]
    isplitr [Hnone]
    · isplitl [E4]; · iexact E4
      isplitl [K0 K1 K2 K3 V0 V1 V2 V3]
      · isplitl [K0]; · iapply (hk 0 (by decide)); iexact K0
        isplitl [K1]; · iapply (hk 1 (by decide)); iexact K1
        isplitl [K2]; · iapply (hk 2 (by decide)); iexact K2
        isplitl [K3]; · iapply (hk 3 (by decide)); iexact K3
        isplitl [V0]; · iapply (hv 0 (by decide)); iexact V0
        isplitl [V1]; · iapply (hv 1 (by decide)); iexact V1
        isplitl [V2]; · iapply (hv 2 (by decide)); iexact V2
        iapply (hv 3 (by decide)); iexact V3
      isplitl [R1 R2 R3 R4 R5 R6 R7]
      · isplitl [R1]; · iapply (hr 1); iexact R1
        isplitl [R2]; · iapply (hr 2); iexact R2
        isplitl [R3]; · iapply (hr 3); iexact R3
        isplitl [R4]; · iapply (hr 4); iexact R4
        isplitl [R5]; · iapply (hr 5); iexact R5
        isplitl [R6]; · iapply (hr 6); iexact R6
        iapply (hr 7); iexact R7
      isplitl [A1]; · iapply (ha 1); iexact A1
      isplitl [A2]; · iapply (ha 2); iexact A2
      isplitl [A3]; · iapply (ha 3); iexact A3
      isplitl [A4]; · iapply (ha 4); iexact A4
      isplitl [A5]; · iapply (ha 5); iexact A5
      isplitl [A6]; · iapply (ha 6); iexact A6
      iapply (ha 7); iexact A7
    iexact Hnone
  isplitl [P2]; · iexact P2
  isplitl [Q0 Q1 Q2 Q3 Q4 Q5 Q6 Q7]
  · rw [qrow_cut, sep8]
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    iexact Q7
  rw [ag_split]
  isplitl [G0 G7 G6 G5 G4 G3 G2]; on_goal 2 => iexact G1
  isplitl [G0 G7 G6 G5 G4 G3]; on_goal 2 => iexact G2
  isplitl [G0 G7 G6 G5 G4]; on_goal 2 => iexact G3
  isplitl [G0 G7 G6 G5]; on_goal 2 => iexact G4
  isplitl [G0 G7 G6]; on_goal 2 => iexact G5
  isplitl [G0 G7]; on_goal 2 => iexact G6
  isplitl [G0]; on_goal 2 => iexact G7
  iexact G0

/-- A scoped cell that nothing more is due on. -/
theorem close_one (κ : GSem nD τ sig → ℕ) (n : ℕ) (hn : n ∈ scopedL) (R : ℕ) (hR : ∀ r, R ≤ r → (talkRd I).duties (cell c n) r = ∅) :
    iprop(Base I κ ∗ atPos ER (cell c n) R ∅ 0) ⊢ iprop(|={Set.univ}=> semVal (cell c n) 0 : sProp 𝕄) := by
  iintro ⟨HB, H⟩
  iapply (Rounds.cell_close ER (talkRd I) (κ := κ (cell c n)) (Set.mem_univ _) (fun h => h) hR)
  isplitl [HB]; · iapply (inv_at I κ c (List.mem_cons_of_mem _ hn)); iexact HB
  iexact H

theorem close_list (κ : GSem nD τ sig → ℕ) (l : List ℕ) (R : ℕ) (hl : ∀ n ∈ l, n ∈ scopedL ∧ ∀ r, R ≤ r → (talkRd I).duties (cell c n) r = ∅) :
    iprop(Base I κ ∗ bigSepL l fun n => atPos ER (cell c n) R ∅ 0) ⊢ iprop(|={Set.univ}=> bigSepL l fun n => semVal (cell c n) 0 : sProp 𝕄) := by
  induction l with
  | nil =>
    iintro ⟨-, H⟩; imodintro; iexact H
  | cons n l ih =>
    rw [bigSepL_cons', bigSepL_cons']
    iintro ⟨#HB, H1, H2⟩
    imod (close_one I c κ n (hl n List.mem_cons_self).1 R (hl n List.mem_cons_self).2) $$ [H1] with H1
    · isplitr; · iexact HB
      iexact H1
    imod (ih fun n h => hl n (List.mem_cons_of_mem _ h)) $$ [H2] with H2
    · isplitr; · iexact HB
      iexact H2
    imodintro
    isplitl [H1] <;> iassumption

theorem sub_scoped (c : Dev nD) : (∀ n ∈ outE c, n ∈ scopedL) ∧ (∀ n ∈ inE c, n ∈ scopedL) ∧ (∀ n ∈ [66], n ∈ scopedL) ∧ ∀ n ∈ idleE c, n ∈ scopedL := by
  have h (n : ℕ) := (scopedL_perm c).mem_iff (a := n)
  refine ⟨fun n hn => (h n).mpr ?_, fun n hn => (h n).mpr ?_, fun n hn => (h n).mpr ?_, fun n hn => (h n).mpr ?_⟩
  · exact List.mem_append_left _ hn
  · exact List.mem_append_right _ (List.mem_append_left _ hn)
  · exact List.mem_append_right _ (List.mem_append_right _ (List.mem_append_left _ hn))
  · exact List.mem_append_right _ (List.mem_append_right _ (List.mem_append_right _ hn))

/-- The barrier's semaphore after its round. -/
theorem close_bar (κ : GSem nD τ sig → ℕ) : iprop(Base I κ ∗ Don c 0) ⊢ iprop(|={Set.univ}=> semVal (cell c 0) 0 : sProp 𝕄) := by
  unfold Don
  iintro ⟨HB, H⟩
  iapply (Rounds.cell_close ER (talkRd I) (κ := κ (cell c 0)) (Set.mem_univ _) (fun h => h) (duties_later I _))
  isplitl [HB]; · iapply (inv_at I κ c List.mem_cons_self); iexact HB
  iexact H

/-- All of the device's scoped semaphores are at zero. -/
theorem close_all (κ : GSem nD τ sig → ℕ) : iprop(Base I κ ∗ dones c ∗ bigSepL (idleE c) fun n => atPos ER (cell c n) 0 ∅ 0)
    ⊢ iprop(|={Set.univ}=> bigSepL scopedL fun n => semVal (cell c n) 0 : sProp 𝕄) := by
  have h := sub_scoped c
  have hi : ∀ n ∈ idleE c, ∀ r, 0 ≤ r → (talkRd I).duties (cell c n) r = ∅ := fun n hn r _ => by
    by_cases hr : r = 0
    · subst hr; rw [duties_at I c (idle_payers c n hn).1, (idle_payers c n hn).2]
    · exact duties_later I _ r (by omega)
  rw [sepL_perm (scopedL_perm c), bigSepL_append, bigSepL_append, bigSepL_append]
  unfold dones Don
  iintro ⟨#HB, ⟨Ho, Hi, H6⟩, Hd⟩
  imod (close_list I c κ (outE c) 1 fun n hn => ⟨h.1 n hn, duties_later I _⟩) $$ [Ho] with Ho
  · isplitr; · iexact HB
    iexact Ho
  imod (close_list I c κ (inE c) 1 fun n hn => ⟨h.2.1 n hn, duties_later I _⟩) $$ [Hi] with Hi
  · isplitr; · iexact HB
    iexact Hi
  imod (close_list I c κ [66] 1 fun n hn => ⟨h.2.2.1 n hn, duties_later I _⟩) $$ [H6] with H6
  · isplitr; · iexact HB
    rw [sep1]; iexact H6
  imod (close_list I c κ (idleE c) 0 fun n hn => ⟨h.2.2.2 n hn, hi n hn⟩) $$ [Hd] with Hd
  · isplitr; · iexact HB
    iexact Hd
  imodintro
  isplitl [Ho]; · iexact Ho
  isplitl [Hi]; · iexact Hi
  isplitl [H6] <;> iassumption

end Exit

end Cert.KernelIdeal.Hand

end
-- ==== Proof.Launch.lean ====
/-
  The kernel's run on the eight devices: the region around its body, the launch, and what the memory holds at the end.
-/
module

public import proofs.«01_k».proof.Proof.Leave
public import proofs.«01_k».proof.Proof.Gen.KernelIdeal.Frame
public import Idealize.ShloMosaic.Lib.Pipeline.RegionTalk
public import Idealize.ShloMosaic.Lib.Pipeline.TalkSched
public import Idealize.ShloMosaic.Lib.Pipeline.Regions
public import Idealize.ShloMosaic.Lib.Pipeline.ValueKit.Geometry
public import Idealize.ShloMosaic.Lib.Quiescent

@[expose] public section

set_option maxRecDepth 16384

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.SiteBlocks (L lv hL mem_L' mayWait_of Funds)
open Idealize.ShloMosaic.TalkSites (Fam Pay tallyL tallyL_append tallyL_pos credOf allPays cred_tallyL launchCred_tallyL pass owesAt_intro owesAt_elim)
open Cert.KernelIdeal Cert.KernelIdeal.Gen

variable {F : FTy → Type} [FloatOps F]

local notation "𝕄" => MT nD τ sig ℕ (Elt F) ℕ UU ℕ

section Launch

variable (m : (ℓ : Loc nD τ sig) → Buf (Elt F) ℓ) (ρ : Dev nD → PrngReg)

/-- What the kernel's body finds staged on each device, from the memory it is launched with. -/
def insOf : Ins F where
  x c := V m c main_arg0
  wq c := V m c main_arg1
  k c := V m c main_v2
  v c := V m c main_v4
  wo c := V m c main_arg4

/-- What a device owes when the kernel starts. -/
def O₀ (c : Dev nD) : CellTallies nD τ sig ℕ := tallyL ((allE c).map pay)

/-- The device's own semaphores of the kernel. -/
def osem : Fin 61 → SemLoc sig := fun k => semOf (k.val + 6)

theorem osem_ok : Pipeline.OwnSemFacts spec0 osem := by decide +kernel

theorem ownSems_eq (c : Dev nD) : (Pipeline.ownSems0 osem c : sProp 𝕄) = bigSepL scopedL fun n => semVal (cell c n) 0 := by
  rw [Pipeline.ownSems0_eq_of_list c osem (List.finRange 61) (by decide) (by decide), show scopedL = (List.finRange 61).map fun k => k.val + 6 from by decide +kernel, bigSepL_map]
  rfl

/-- What a device enters the body with, beside its buffers. -/
def Xk (c : Dev nD) : sProp 𝕄 := iprop(∃ κ, Base (insOf m) κ ∗ ghost c)

def dat0 (c : Dev nD) : Dat τ (Elt F) ℕ ℕ UU ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => OUT (insOf m) c
  Φ t := if t.val = 0 then iprop(Xk m c ∗ scr c ∗ ∃ r, prngReg c r)
    else iprop((semVal (cell c 0) 0 ∗ bigSepL scopedL fun n => semVal (cell c n) 0) ∗ scr c ∗ ∃ r, prngReg c r)
  q _ := fullShare
  owed t := if t.val = 0 then O₀ c else 0

theorem emb_0 (t : Fin cfg0.N) (y) : (win0_0.blk t).view.emb y = y := by
  have e : ∀ a, win0_0.index t a = 0 := fun _ => rfl
  blk_ext [e]
theorem iblk_0 (c : Dev nD) (t) : iblk m c 0 t = (insOf m).x c := by
  funext i; unfold iblk; blk_simp; rw [emb_0]; rfl
theorem emb_1 (t : Fin cfg0.N) (y) : (win0_1.blk t).view.emb y = y := by
  have e : ∀ a, win0_1.index t a = 0 := fun _ => rfl
  blk_ext [e]
theorem iblk_1 (c : Dev nD) (t) : iblk m c 1 t = (insOf m).wq c := by
  funext i; unfold iblk; blk_simp; rw [emb_1]; rfl
theorem emb_2 (t : Fin cfg0.N) (y) : (win0_2.blk t).view.emb y = y := by
  have e : ∀ a, win0_2.index t a = 0 := fun _ => rfl
  blk_ext [e]
theorem iblk_2 (c : Dev nD) (t) : iblk m c 2 t = (insOf m).k c := by
  funext i; unfold iblk; blk_simp; rw [emb_2]; rfl
theorem emb_3 (t : Fin cfg0.N) (y) : (win0_3.blk t).view.emb y = y := by
  have e : ∀ a, win0_3.index t a = 0 := fun _ => rfl
  blk_ext [e]
theorem iblk_3 (c : Dev nD) (t) : iblk m c 3 t = (insOf m).v c := by
  funext i; unfold iblk; blk_simp; rw [emb_3]; rfl
theorem emb_4 (t : Fin cfg0.N) (y) : (win0_4.blk t).view.emb y = y := by
  have e : ∀ a, win0_4.index t a = 0 := fun _ => rfl
  blk_ext [e]
theorem iblk_4 (c : Dev nD) (t) : iblk m c 4 t = (insOf m).wo c := by
  funext i; unfold iblk; blk_simp; rw [emb_4]; rfl
theorem emb_5 (t : Fin cfg0.N) (y) : (win0_5.blk t).view.emb y = y := by
  have e : ∀ a, win0_5.index t a = 0 := fun _ => rfl
  blk_ext [e]
theorem found (c : Dev nD) (t : Fin cfg0.N) (d) : (dat0 m c).before 0 t d = (insOf m).x c :=
  ((dat0 m c).before_in_eq_fetched 0 rfl (fun _ => rfl) (fun _ _ _ => rfl) (fun t => rfl) t d).trans (iblk_0 m c t)
theorem found_1 (c : Dev nD) (t : Fin cfg0.N) (d) : (dat0 m c).before 1 t d = (insOf m).wq c :=
  ((dat0 m c).before_in_eq_fetched 1 rfl (fun _ => rfl) (fun _ _ _ => rfl) (fun t => rfl) t d).trans (iblk_1 m c t)
theorem found_2 (c : Dev nD) (t : Fin cfg0.N) (d) : (dat0 m c).before 2 t d = (insOf m).k c :=
  ((dat0 m c).before_in_eq_fetched 2 rfl (fun _ => rfl) (fun _ _ _ => rfl) (fun t => rfl) t d).trans (iblk_2 m c t)
theorem found_3 (c : Dev nD) (t : Fin cfg0.N) (d) : (dat0 m c).before 3 t d = (insOf m).v c :=
  ((dat0 m c).before_in_eq_fetched 3 rfl (fun _ => rfl) (fun _ _ _ => rfl) (fun t => rfl) t d).trans (iblk_3 m c t)
theorem found_4 (c : Dev nD) (t : Fin cfg0.N) (d) : (dat0 m c).before 4 t d = (insOf m).wo c :=
  ((dat0 m c).before_in_eq_fetched 4 rfl (fun _ => rfl) (fun _ _ _ => rfl) (fun t => rfl) t d).trans (iblk_4 m c t)

theorem owed_first (c : Dev nD) (h : (0 : ℕ) < cfg0.N + 1) : (dat0 m c).owed ⟨0, h⟩ = O₀ c := rfl
theorem owed_last (c : Dev nD) : (dat0 m c).owed (Fin.last _) = 0 := by
  show (if (Fin.last cfg0.N).val = 0 then O₀ c else 0) = 0
  rw [Fin.val_last, if_neg (by rw [show cfg0.N = 1 from N_0]; decide)]

set_option maxHeartbeats 4000000 in
theorem body (c : Dev nD) : BodyObligation (dat0 m c) defs₀ 𝒱₀ 0 Set.univ := fun t => by
  obtain rfl := fin_N0 t
  rw [bigSep_W0, bigSep_W0]
  rw [show (dat0 m c).Φ t0_0.castSucc = iprop(Xk m c ∗ scr c ∗ ∃ r, prngReg c r) from rfl,
    show (dat0 m c).Φ t0_0.succ = iprop((semVal (cell c 0) 0 ∗ bigSepL scopedL fun n => semVal (cell c n) 0) ∗ scr c ∗ ∃ r, prngReg c r) from rfl]
  unfold Xk
  iintro ⟨⟨⟨%κ, #HB, HG⟩, HS, Hreg⟩, HO, ⟨%d0, W0⟩, ⟨%d1, W1⟩, ⟨%d2, W2⟩, ⟨%d3, W3⟩, ⟨%d4, W4⟩, ⟨%d5, W5⟩⟩
  ihave HO := (owesAt_elim (dat0 m c) 0 _ (O₀ c) rfl) $$ HO
  ihave W0 := (Entails.of_eq ((congrArg (fun X => owns (c : Thread nD τ) (Memref.whole cc0_stg0_0) fullShare X) (found m c t0_0 d0)).trans (owns_whole _ _ _ _))) $$ W0
  ihave W1 := (Entails.of_eq ((congrArg (fun X => owns (c : Thread nD τ) (Memref.whole cc0_stg1_0) fullShare X) (found_1 m c t0_0 d1)).trans (owns_whole _ _ _ _))) $$ W1
  ihave W2 := (Entails.of_eq ((congrArg (fun X => owns (c : Thread nD τ) (Memref.whole cc0_stg2_0) fullShare X) (found_2 m c t0_0 d2)).trans (owns_whole _ _ _ _))) $$ W2
  ihave W3 := (Entails.of_eq ((congrArg (fun X => owns (c : Thread nD τ) (Memref.whole cc0_stg3_0) fullShare X) (found_3 m c t0_0 d3)).trans (owns_whole _ _ _ _))) $$ W3
  ihave W4 := (Entails.of_eq ((congrArg (fun X => owns (c : Thread nD τ) (Memref.whole cc0_stg4_0) fullShare X) (found_4 m c t0_0 d4)).trans (owns_whole _ _ _ _))) $$ W4
  ihave W5 := (Entails.of_eq (owns_whole (c : Thread nD τ) cc0_stg5_0 fullShare ((dat0 m c).before 5 t0_0 d5))) $$ W5
  ihave HE := (enter (insOf m) c) $$ [HG HS HO W0 W1 W2 W3 W4 W5]
  · isplitl [HG]; · iexact HG
    isplitl [W0 W1 W2 W3 W4 W5]
    · unfold stagedIn any
      isplitl [W0]; · iexact W0
      isplitl [W1]; · iexact W1
      isplitl [W2]; · iexact W2
      isplitl [W3]; · iexact W3
      isplitl [W4]; · iexact W4
      iexists _; iexact W5
    isplitl [HS]; · iexact HS
    unfold Owe O₀; iexact HO
  icases HE with ⟨HP, Hw, Hsp⟩
  iapply (wp_fupd _ _)
  iapply (body_run (insOf m) κ c) $$ [HP Hw]
  · isplitr; · iexact HB
    isplitl [HP] <;> iassumption
  iintro ⟨-, HP, HO, HD⟩
  ihave HL := (leave (insOf m) c) $$ [HP Hsp HD]
  · isplitl [HP]; · iexact HP
    isplitl [Hsp] <;> iassumption
  icases HL with ⟨D0, HD, Hidle, Hst, HS⟩
  imod (close_bar (insOf m) c κ) $$ [D0] with D0
  · isplitr; · iexact HB
    iexact D0
  imod (close_all (insOf m) c κ) $$ [HD Hidle] with HD
  · isplitr; · iexact HB
    isplitl [HD] <;> iassumption
  unfold stagedOut Owe
  icases Hst with ⟨W0, W1, W2, W3, W4, W5⟩
  icases HO with ⟨%W, HO⟩
  imodintro
  isplitl [D0 HD HS Hreg]
  · isplitl [D0 HD]; · isplitl [D0] <;> iassumption
    isplitl [HS] <;> iassumption
  isplitl [HO]
  · iapply (owesAt_intro (dat0 m c) 0 t0_0.succ 0 (owed_last m c) rfl W); iexact HO
  isplitl [W0]
  · iapply (Entails.of_eq ((congrArg (fun X => owns (c : Thread nD τ) (Memref.whole cc0_stg0_0) fullShare X) (iblk_0 m c t0_0)).trans (owns_whole _ _ _ _)).symm); iexact W0
  isplitl [W1]
  · iapply (Entails.of_eq ((congrArg (fun X => owns (c : Thread nD τ) (Memref.whole cc0_stg1_0) fullShare X) (iblk_1 m c t0_0)).trans (owns_whole _ _ _ _)).symm); iexact W1
  isplitl [W2]
  · iapply (Entails.of_eq ((congrArg (fun X => owns (c : Thread nD τ) (Memref.whole cc0_stg2_0) fullShare X) (iblk_2 m c t0_0)).trans (owns_whole _ _ _ _)).symm); iexact W2
  isplitl [W3]
  · iapply (Entails.of_eq ((congrArg (fun X => owns (c : Thread nD τ) (Memref.whole cc0_stg3_0) fullShare X) (iblk_3 m c t0_0)).trans (owns_whole _ _ _ _)).symm); iexact W3
  isplitl [W4]
  · iapply (Entails.of_eq ((congrArg (fun X => owns (c : Thread nD τ) (Memref.whole cc0_stg4_0) fullShare X) (iblk_4 m c t0_0)).trans (owns_whole _ _ _ _)).symm); iexact W4
  iapply (Entails.of_eq (owns_whole (c : Thread nD τ) cc0_stg5_0 fullShare (OUT (insOf m) c)).symm); iexact W5

/-! ## The region -/

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat0 m

/-- The buffers as launched, when the region is entered, and when it is left. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) (Proc.devRef .tc main_v5) (OUT (insOf m) c)

theorem V₂_ne (c : Dev nD) (b : DevRef τ sig) (h : b ≠ Proc.devRef .tc main_v5) : V₂ m c b = V₁ m c b := Function.update_of_ne h _ _
theorem V₂_out (c : Dev nD) : V₂ m c (Proc.devRef .tc main_v5) = OUT (insOf m) c := Function.update_self _ _ _

/-- What rides from the launch to the region. -/
def Tk (c : Dev nD) : sProp 𝕄 :=
  iprop(fam.launched ER (talkRd (insOf m)) (fun _ => Finset.univ) c ∗ cred (tallyL (credOf (fun d => (allE d).map pay) c)))
/-- What the region leaves of it. -/
def Yk (c : Dev nD) : sProp 𝕄 := semVal (cell c 0) 0

/-- The scoped cells of a device opened, one after another. -/
theorem open_list (I : Ins F) (c : Dev nD) (κ : GSem nD τ sig → ℕ) (l : List ℕ) (hl : ∀ n ∈ l, n ∈ scopedL) :
    iprop(Base I κ ∗ (bigSepL l fun n => openTok ER (cell c n)) ∗ bigSepL l fun n => semVal (cell c n) 0)
      ⊢ iprop(|={Set.univ}=> ((bigSepL l fun n => atPos ER (cell c n) 0 ∅ 0) ∗ (bigSepL l fun n => reached ER (cell c n) 0)) : sProp 𝕄) := by
  induction l with
  | nil =>
    iintro ⟨-, H, -⟩; imodintro
    isplitl [H]; · iexact H
    iempintro
  | cons n l ih =>
    rw [bigSepL_cons', bigSepL_cons', bigSepL_cons', bigSepL_cons']
    iintro ⟨#HB, ⟨H1, H2⟩, ⟨G1, G2⟩⟩
    imod (Rounds.cell_open ER (talkRd I) (κ := κ (cell c n)) (Set.mem_univ _)) $$ [H1 G1] with ⟨H1, G1⟩
    · isplitr; · iapply (inv_at I κ c (List.mem_cons_of_mem _ (hl n List.mem_cons_self))); iexact HB
      isplitl [H1] <;> iassumption
    imod (ih fun n h => hl n (List.mem_cons_of_mem _ h)) $$ [H2 G2] with ⟨H2, G2⟩
    · isplitr; · iexact HB
      isplitl [H2] <;> iassumption
    imodintro
    isplitl [H1 H2]; · isplitl [H1] <;> iassumption
    isplitl [G1] <;> iassumption

theorem hopen (c : Dev nD) : iprop(Tk m c ∗ Pipeline.ownSems0 osem c ∗ levAts (L 7) lv) ⊢ (|={Set.univ}=> Xk m c : sProp 𝕄) := by
  have hone (Φ : Fin 1 → sProp 𝕄) : bigSep Finset.univ Φ = Φ 0 := by rw [Finset.univ_unique, BI.bigSep_singleton]; rfl
  have hall (Φ : Dev nD → sProp 𝕄) : bigSep Finset.univ Φ = bigSepL (List.finRange nD) Φ := bigSep_univ_eq_bigSepL _ (by decide) (by decide) Φ
  rw [ownSems_eq]
  unfold Tk Xk Fam.launched Fam.barPos Fam.rides
  rw [hone, dorm_sep, toks_sep, hall]
  iintro ⟨⟨⟨⟨-, Ha, #Hr⟩, ⟨⟨%κ, #HI⟩, Hop, Htok⟩⟩, Hc⟩, Hs, #Hlev⟩
  ihave HB : Base (insOf m) κ $$ []
  · unfold Base; isplitr; · iexact Hlev
    iexact HI
  icases HB with #HB
  imod (open_list (insOf m) c κ scopedL fun _ h => h) $$ [Hop Hs] with ⟨Hat, #Hre⟩
  · isplitr; · iexact HB
    isplitl [Hop] <;> iassumption
  imodintro
  iexists κ
  isplitr; · iexact HB
  unfold ghost openedAt
  isplitl [Ha]; · iexact Ha
  isplitl [Hat]; · iexact Hat
  isplitl [Htok]; · iexact Htok
  isplitl [Hc]; · iexact Hc
  isplitr; · iexact Hre
  iexact Hr

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem lvN_pos (c : Dev nD) : ∀ e ∈ allE c, 0 < lvN e.2.1 := by revert c; decide +kernel

theorem O₀_pos {c : Dev nD} {g : GSem nD τ sig} {i : ℕ} (h : 0 < O₀ c g i) : i ∈ L 7 g ∧ 0 < lv g i := by
  obtain ⟨x, hx, rfl, rfl⟩ := tallyL_pos h
  obtain ⟨e, he, rfl⟩ := List.mem_map.mp hx
  have hlt := lvN_lt e.2.1
  have hpos : 0 < lvN e.2.1 := lvN_pos c e he
  exact ⟨mem_L' rfl hlt, hpos⟩

theorem rest_eq (c : Dev nD) : (Pipeline.scopedRest (Pipeline.pin (pcfgs (F := F)) adm 0).spec c : sProp 𝕄) = scr c := scopedRest0_eq c

theorem hin (c : Dev nD) : iprop(Pipeline.scopedRest (Pipeline.pin (pcfgs (F := F)) adm 0).spec c ∗ (∃ r, prngReg c r) ∗ StableHlo.held (c.tc : Thread nD τ) ∅ (V₁ m c) ∗ Xk m c)
    ⊢ (pdats m 0 c).Φ 0 := by
  rw [show (pdats m 0 c).Φ 0 = iprop(Xk m c ∗ scr c ∗ ∃ r, prngReg c r) from rfl, rest_eq]
  iintro ⟨Hs, Hp, -, HX⟩
  isplitl [HX]; · iexact HX
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c ∗ Yk c) := by
  rw [show (pdats m 0 c).Φ (Fin.last _) = iprop((semVal (cell c 0) 0 ∗ bigSepL scopedL fun n => semVal (cell c n) 0) ∗ scr c ∗ ∃ r, prngReg c r) from rfl, rest_eq, ownSems_eq]
  unfold Yk StableHlo.held
  rw [BI.bigSep_empty]
  iintro ⟨⟨H0, Hs⟩, HS, Hp⟩
  isplitl [HS]; · iexact HS
  isplitl [Hp]; · iexact Hp
  isplitr; · iempintro
  isplitl [Hs] <;> iassumption

/-- The arrays after the run. -/
theorem arr_out (c : Dev nD) : (dat0 m c).arrAt 5 cfg0.N = OUT (insOf m) c := by
  refine (dat0 m c).arrAt_eq_of_covers 5 _ (by decide +kernel) fun t hf y => ?_
  blk_simp
  rw [emb_5]; rfl

theorem arr_end (c : Dev nD) (w : Fin 6) : (dat0 m c).arrAt w cfg0.N = V₂ m c (Proc.devRef .tc (Pipeline.arrRef spec0 w)) := by
  fin_cases w
  · exact ((dat0 m c).arrAt_in 0 rfl _).trans (V₂_ne m c (Proc.devRef .tc main_arg0) (by decide)).symm
  · exact ((dat0 m c).arrAt_in 1 rfl _).trans (V₂_ne m c (Proc.devRef .tc main_arg1) (by decide)).symm
  · exact ((dat0 m c).arrAt_in 2 rfl _).trans (V₂_ne m c (Proc.devRef .tc main_v2) (by decide)).symm
  · exact ((dat0 m c).arrAt_in 3 rfl _).trans (V₂_ne m c (Proc.devRef .tc main_v4) (by decide)).symm
  · exact ((dat0 m c).arrAt_in 4 rfl _).trans (V₂_ne m c (Proc.devRef .tc main_arg4) (by decide)).symm
  · exact (arr_out m c).trans (V₂_out m c).symm

/-- The unscoped buffers that no window stages. -/
def restB : Finset (DevRef τ sig) := Pipeline.ucRefs τ sig \ Pipeline.arrRefs (τ := τ) spec0

theorem rest_same (c : Dev nD) : ∀ b ∈ restB \ ∅, V₂ m c b = V₁ m c b := fun b hb => by
  refine V₂_ne m c b (fun h => ?_)
  subst h
  revert hb; decide +kernel

set_option backward.isDefEq.respectTransparency.types false in
def reg : Pipeline.RegionSeg (pcfgs (F := F)) adm (pdats m) 0 defs₀ 𝒱₀ (L 7) lv 0 :=
  Pipeline.RegionSeg.ofTalk (pcfgs (F := F)) adm (pdats m) 0 defs₀ 𝒱₀ (L 7) lv 0 osem osem_ok
    ∅ restB (Finset.empty_subset _) kit rfl (fun c => (body m c).loose)
    (fun _ => 0) O₀ (fun c => (owed_first m c (by omega)).trans (zero_add _).symm) (owed_last m) (fun _ => rfl) (fun _ w => by fin_cases w <;> rfl)
    (V₁ m) (V₂ m) (rest_same m)
    (Tk m) Yk (Xk m) Yk (hopen m) (hin m) (hout m)
    (fun c => by iintro H; imodintro; iexact H)
    (fun _ => 0)
    ⟨fun _ _ _ => mem_L' rfl (by decide), fun _ _ _ => le_rfl, fun c t g i h => by
      change 0 < (if t.val = 0 then O₀ c else 0) g i at h
      split at h
      · exact O₀_pos h
      · exact absurd h (Nat.lt_irrefl 0)⟩
    (fun _ => iprop(emp))
    (fun _ w => by fin_cases w <;> rfl) (fun c w => arr_end m c w)

/-! ## The launch -/

/-- What rides past the host operations. -/
def R (c : Dev nD) : sProp 𝕄 := iprop(Tk m c ∗ (∃ r, prngReg c r) ∗ ∃ W, owes (c : Thread nD τ) (O₀ c) W)

def hostSeg : Pipeline.HostSeg (Name := ℕ) (U := UU) (pcfgs (F := F)) defs₀ 𝒱₀ (L 7) lv :=
  Pipeline.HostSeg.ofOps _ _ _ _ _ (Pipeline.ucRefs τ sig) hostOps0
    (fun op h => Pipeline.sub_ucRefs op (List.forall_iff_forall_mem.mp hostOps0_sub op h)) (List.forall_iff_forall_mem.mp hostOps0_fresh) (V₀ m) (R m)

def segs : List (Pipeline.Seg (pcfgs (F := F)) adm (pdats m) 0 defs₀ 𝒱₀ (L 7) lv) := [.host (hostSeg m), .region (reg m)]

theorem arr_sub : Pipeline.arrRefs (τ := τ) spec0 ⊆ Pipeline.ucRefs τ sig := by decide +kernel

theorem reg_pre (c : Dev nD) : iprop(StableHlo.held (c : Thread nD τ) (Pipeline.ucRefs τ sig) (V₁ m c) ∗ R m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) restB (V₁ m c) ∗ emp) ∗ Tk m c ∗ ∃ Wd, owes (c : Thread nD τ) (0 + O₀ c) Wd)
  rw [StableHlo.held_sub_split (c : Thread nD τ) arr_sub, zero_add]
  unfold R restB
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- What a device ends with. -/
abbrev Tₙ (c : Dev nD) : sProp 𝕄 := iprop(StableHlo.held (c : Thread nD τ) (Pipeline.ucRefs τ sig) (V₂ m c) ∗ semVal (cell c 0) 0)

theorem reg_post (c : Dev nD) : (reg m).post c
    ⊢ iprop(Tₙ m c ∗ ∃ W, owes (c : Thread nD τ) (0 : CellTallies nD τ sig ℕ) W) := by
  show iprop(StableHlo.held (c.tc : Thread nD τ) (Pipeline.arrRefs (τ := τ) spec0) (V₂ m c) ∗ (∃ r, prngReg c r)
    ∗ (StableHlo.held (c.tc : Thread nD τ) restB (V₂ m c) ∗ emp) ∗ Yk c ∗ ∃ Wd, owes (c : Thread nD τ) (0 : CellTallies nD τ sig ℕ) Wd) ⊢ _
  unfold Tₙ
  rw [StableHlo.held_sub_split (c : Thread nD τ) arr_sub]
  unfold Yk restB
  iintro ⟨Ha, -, ⟨Hr, -⟩, H0, HO⟩
  isplitr [HO]
  · isplitl [Ha Hr]; · isplitl [Ha] <;> iassumption
    iexact H0
  iexact HO

theorem main_eq (c : Dev nD) : main (F := F) c = Pipeline.Seg.run (segs m) :=
  main_segs adm (pdats m) 0 𝒱₀ (L 7) lv (hostSeg m) (reg m) rfl c

/-- The launch element: the pipeline's at its staging cells, and the protocol's. -/
def u₀ : UU :=
  (initOf (Pipeline.cells (Pipeline.pin (pcfgs (F := F)) adm) cellOf_inj) (Pipeline.launchToks (Pipeline.pin (pcfgs (F := F)) adm) cellOf_inj),
    launchOf fam.S fam.Sd fam.T)

/-- The protocol's element, kept on one device until it is dealt. -/
def G (c : Dev nD) : sProp 𝕄 := if c = 0 then BI.own (ER (launchOf fam.S fam.Sd fam.T)) else iprop(emp)

theorem G_all : (bigSep Finset.univ (G (F := F)) : sProp 𝕄) = BI.own (ER (launchOf fam.S fam.Sd fam.T)) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

theorem sems0_eq (c : Dev nD) : (unscopedSems0 c : sProp 𝕄) = semVal (cell c 0) 0 := by
  unfold unscopedSems0
  rw [show (Finset.univ.filter fun sm : SemLoc sig => ¬ sm.isScoped .tc) = {barL} from by decide, BI.bigSep_singleton]
  rfl

theorem funded : Funds (Val := Elt F) (U := UU) ER (fun c => semVal ((c.tc : Thread nD τ), fam.bar) 0) O₀ (launchOf fam.S fam.Sd fam.T) (Tk m) Set.univ := by
  have h := pass O₀ (fam.funds ER (talkRd (insOf m)) (fun _ _ h => h) (fun _ => Finset.univ) (Es := Set.univ))
  simp only [zero_add] at h
  have hc (c : Dev nD) : iprop(Pipeline.launchCred O₀ c ∗ fam.launched ER (talkRd (insOf m)) (fun _ => Finset.univ) c) ⊢ (Tk m c : sProp 𝕄) := by
    have e : (Pipeline.launchCred O₀ c : sProp 𝕄) = cred (tallyL (credOf (fun d => (allE d).map pay) c)) :=
      launchCred_tallyL (fun d => (allE d).map pay) (fun d x hx => by obtain ⟨e, -, rfl⟩ := List.mem_map.mp hx; rfl) c
    rw [e]
    unfold Tk
    iintro ⟨H1, H2⟩
    isplitl [H2] <;> iassumption
  exact h.trans (BI.fupd_mono (bigSep_mono fun c _ => hc c))

abbrev T₀ (c : Dev nD) : sProp 𝕄 := iprop(StableHlo.held (c : Thread nD τ) (Pipeline.ucRefs τ sig) (V₀ m c) ∗ R m c)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts (L 7) lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop((StableHlo.held (c : Thread nD τ) (Pipeline.ucRefs τ sig) (V₀ m c) ∗ (∃ r, prngReg c r) ∗ ∃ W, owes (c : Thread nD τ) (O₀ c) W)
        ∗ ((semVal ((c.tc : Thread nD τ), fam.bar) 0 ∗ Pipeline.launchCred O₀ c) ∗ G c)) : sProp 𝕄) := by
    rw [show unscopedBufs c (fun b => m ((c : Thread nD τ).loc b)) = StableHlo.held (c : Thread nD τ) (Pipeline.ucRefs τ sig) (V₀ m c) from Pipeline.unscopedBufs_held c (V₀ m c),
      sems0_eq]
    iintro ⟨Hh, Hus, HO, Hcr, Hp, HG⟩
    isplitl [Hh HO Hp]
    · isplitl [Hh]; · iexact Hh
      isplitl [Hp]; · iexists (ρ c); iexact Hp
      iexists ∅; iexact HO
    isplitl [Hus Hcr]
    · isplitl [Hus]; · iexact Hus
      iexact Hcr
    iexact HG
  have hT (c : Dev nD) : iprop((StableHlo.held (c : Thread nD τ) (Pipeline.ucRefs τ sig) (V₀ m c) ∗ (∃ r, prngReg c r) ∗ ∃ W, owes (c : Thread nD τ) (O₀ c) W) ∗ Tk m c)
      ⊢ (T₀ m c : sProp 𝕄) := by
    unfold T₀ R
    iintro ⟨⟨H1, H2, H3⟩, H4⟩
    isplitl [H1]; · iexact H1
    isplitl [H4]; · iexact H4
    isplitl [H2] <;> iassumption
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop((StableHlo.held (c : Thread nD τ) (Pipeline.ucRefs τ sig) (V₀ m c) ∗ (∃ r, prngReg c r) ∗ ∃ W, owes (c : Thread nD τ) (O₀ c) W)
        ∗ ((semVal ((c.tc : Thread nD τ), fam.bar) 0 ∗ Pipeline.launchCred O₀ c) ∗ G c)) : sProp 𝕄) from bigSep_mono fun c _ => hcore c) $$ H
  ihave H := (Entails.of_eq (bigSep_sep' _ _ _)) $$ H; icases H with ⟨HB, H⟩
  ihave H := (Entails.of_eq (bigSep_sep' _ _ _)) $$ H; icases H with ⟨Hv, HG⟩
  ihave HG := (Entails.of_eq (G_all (F := F))) $$ HG
  imod (funded m) $$ [Hv HG] with HT
  · isplitl [Hv] <;> iassumption
  imodintro
  ihave H := (Entails.of_eq (bigSep_sep' Finset.univ (fun c : Dev nD => iprop(StableHlo.held (c : Thread nD τ) (Pipeline.ucRefs τ sig) (V₀ m c) ∗ (∃ r, prngReg c r) ∗ ∃ W, owes (c : Thread nD τ) (O₀ c) W)) (Tk m)).symm) $$ [HB HT]
  · isplitl [HB] <;> iassumption
  iapply (show bigSep Finset.univ (fun c : Dev nD => iprop((StableHlo.held (c : Thread nD τ) (Pipeline.ucRefs τ sig) (V₀ m c) ∗ (∃ r, prngReg c r) ∗ ∃ W, owes (c : Thread nD τ) (O₀ c) W) ∗ Tk m c))
      ⊢ (bigSep Finset.univ (T₀ m) : sProp 𝕄) from bigSep_mono fun c _ => hT c)
  iexact H

theorem held_list (c : Dev nD) (W : Valuation τ sig (Elt F)) : (StableHlo.held (c : Thread nD τ) (Pipeline.ucRefs τ sig) W : sProp 𝕄)
    = iprop(pt c main_arg0 Finset.univ (W main_arg0) ∗ pt c main_arg1 Finset.univ (W main_arg1) ∗ pt c main_arg2 Finset.univ (W main_arg2) ∗ pt c main_arg3 Finset.univ (W main_arg3)
      ∗ pt c main_arg4 Finset.univ (W main_arg4) ∗ pt c main_v5 Finset.univ (W main_v5) ∗ pt c main_v1 Finset.univ (W main_v1) ∗ pt c main_v2 Finset.univ (W main_v2)
      ∗ pt c main_v3 Finset.univ (W main_v3) ∗ pt c main_v4 Finset.univ (W main_v4)) := by
  unfold StableHlo.held
  rw [bigSep_eq_bigSepL_of_eq [Proc.devRef .tc main_arg0, Proc.devRef .tc main_arg1, Proc.devRef .tc main_arg2, Proc.devRef .tc main_arg3, Proc.devRef .tc main_arg4,
    Proc.devRef .tc main_v5, Proc.devRef .tc main_v1, Proc.devRef .tc main_v2, Proc.devRef .tc main_v3, Proc.devRef .tc main_v4] (by decide) (by decide)]
  rfl

theorem unscoped_bar : ∀ sm : SemLoc sig, sm.isScoped .tc = false → sm = barL := by decide

set_option backward.isDefEq.respectTransparency.types false in
/-- From any memory, with the semaphores at zero, the program on the eight devices terminates; every device ends with `OUT` in its
    result, with its arguments unchanged, and every semaphore is at zero again. -/
theorem run_main : θ_run defs (onTc (τ := τ) (main (F := F))) ⟨m, fun _ => 0, ρ⟩
    (fun r => (∀ c : Dev nD, r.2.mem ((c.tc : Thread nD τ).loc main_v5) = OUT (insOf m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  Pipeline.θ_run_regions_kit_sems (pcfgs (F := F)) adm (pdats m) 0 cellOf_inj EP defs₀ 𝒱₀ (L 7) lv m ρ main (segs m)
    (fun c Q => by rw [main_eq m c])
    (by simp only [segs, Pipeline.Seg.pipes_host, Pipeline.Seg.pipes_region, Pipeline.Seg.pipes_nil]; decide)
    (O₀ := O₀) (hL := hL 7) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg_pre m c, fun c => reg_post m c⟩)
    (hinit := init m ρ)
    (QY := fun c s => (s.mem ((c.tc : Thread nD τ).loc main_v5) = V₂ m c main_v5
      ∧ s.mem ((c.tc : Thread nD τ).loc main_arg0) = V₂ m c main_arg0
      ∧ s.mem ((c.tc : Thread nD τ).loc main_arg1) = V₂ m c main_arg1
      ∧ s.mem ((c.tc : Thread nD τ).loc main_arg2) = V₂ m c main_arg2
      ∧ s.mem ((c.tc : Thread nD τ).loc main_arg3) = V₂ m c main_arg3
      ∧ s.mem ((c.tc : Thread nD τ).loc main_arg4) = V₂ m c main_arg4) ∧ s.sem (cell c 0) = 0)
    (hfin := fun c s' => by
      dsimp only [Tₙ]; rw [held_list]
      iintro ⟨⟨⟨H0, H1, H2, H3, H4, H5, -⟩, Hb⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨Buf.eq_of_forall_mem_univ h5, Buf.eq_of_forall_mem_univ h0, Buf.eq_of_forall_mem_univ h1, Buf.eq_of_forall_mem_univ h2,
          Buf.eq_of_forall_mem_univ h3, Buf.eq_of_forall_mem_univ h4⟩, by simpa using hb⟩
      iexact HSI)
    (hQ := fun s h hs => ⟨fun c => by
        obtain ⟨⟨h5, h0, h1, h2, h3, h4⟩, -⟩ := h c
        exact ⟨h5.trans (V₂_out m c), h0.trans ((V₂_ne m c (Proc.devRef .tc main_arg0) (by decide)).trans (V_main_arg0 m c)),
          h1.trans ((V₂_ne m c (Proc.devRef .tc main_arg1) (by decide)).trans (V_main_arg1 m c)),
          h2.trans ((V₂_ne m c (Proc.devRef .tc main_arg2) (by decide)).trans (V_main_arg2 m c)),
          h3.trans ((V₂_ne m c (Proc.devRef .tc main_arg3) (by decide)).trans (V_main_arg3 m c)),
          h4.trans ((V₂_ne m c (Proc.devRef .tc main_arg4) (by decide)).trans (V_main_arg4 m c))⟩,
      sem_eq_zero hs fun c sm hsm => by
        obtain rfl := unscoped_bar sm hsm
        exact (h c).2⟩)

end Launch

end Cert.KernelIdeal.Hand

end
-- ==== Proof.Chain.lean ====
/-
  One head's attention over a block of 64 query rows, written once: the kernel's partial results are the same few operations for every batch entry, row block and head.
-/
module

public import proofs.«01_k».proof.Proof.Vals

@[expose] public section

set_option maxRecDepth 16384

noncomputable section

namespace Cert.KernelIdeal.Hand

open Idealize.ShloMosaic Idealize.ShloMosaic.TcCoe
open Cert.KernelIdeal Cert.KernelIdeal.Gen
open Idealize.ShloMosaic.ValueIdx

variable {F : FTy → Type} [FloatOps F]

/-! ## On tiles of 64 by 64 -/

/-- Scores of 64 queries against 64 keys. -/
def scT (q : FVec F S64x64 .f32) (k : FVec F S64x64 .bf16) : FVec F S64x64 .f32 :=
  mulf (matmul dot_S64x64_S64x64_S64x64_1_1_0_0_n_n none (truncf .bf16 q bitsLt_bf16_f32) k (constant S64x64 .f32 0x00000000#32))
    (broadcast S64x64 (Scalar.ofBits .f32 0x3E000000#32))
/-- Each row's maximum. -/
def rowMax (s : FVec F S64x64 .f32) : FVec F S64x1 .f32 :=
  shapeCast S64x1 (multiReduction .maximumf [1] S64 s 0xFF800000#32 reduces_S64x64_S64 (.inl rfl) rfl) shapeCasts_S64_S64x1
/-- Each row's sum. -/
def rowSum (s : FVec F S64x64 .f32) : FVec F S64x1 .f32 :=
  shapeCast S64x1 (multiReduction .add [1] S64 s 0x00000000#32 reduces_S64x64_S64 (.inl rfl) rfl) shapeCasts_S64_S64x1
/-- Each row's maximum over four tiles. -/
def maxT (s0 s1 s2 s3 : FVec F S64x64 .f32) : FVec F S64x1 .f32 := maximumf (maximumf (maximumf (rowMax s0) (rowMax s1)) (rowMax s2)) (rowMax s3)
/-- The exponentials of a tile less the rows' maxima. -/
def expT (s : FVec F S64x64 .f32) (g : FVec F S64x1 .f32) : FVec F S64x64 .f32 := exp (subf s (broadcastTo S64x64 g broadcasts_S64x1_S64x64))
/-- Each row's sum over four tiles. -/
def denT (e0 e1 e2 e3 : FVec F S64x64 .f32) : FVec F S64x1 .f32 := addf (addf (addf (rowSum e0) (rowSum e1)) (rowSum e2)) (rowSum e3)
/-- The weights of a tile. -/
def wtT (e : FVec F S64x64 .f32) (d : FVec F S64x1 .f32) : FVec F S64x64 .bf16 := truncf .bf16 (divf e (broadcastTo S64x64 d broadcasts_S64x1_S64x64)) bitsLt_bf16_f32
/-- Weighted values. -/
def pvT (w v : FVec F S64x64 .bf16) : FVec F S64x64 .f32 := matmul dot_S64x64_S64x64_S64x64_1_0_0_1_n_n none w v (constant S64x64 .f32 0x00000000#32)
/-- The head's result from four tiles of exponentials. -/
def ctxT (e0 e1 e2 e3 : FVec F S64x64 .f32) (v0 v1 v2 v3 : FVec F S64x64 .bf16) : FVec F S64x64 .f32 :=
  addf (addf (addf (pvT (wtT e0 (denT e0 e1 e2 e3)) v0) (pvT (wtT e1 (denT e0 e1 e2 e3)) v1)) (pvT (wtT e2 (denT e0 e1 e2 e3)) v2)) (pvT (wtT e3 (denT e0 e1 e2 e3)) v3)
/-- The same from the four tiles of scores. -/
def smT (s0 s1 s2 s3 : FVec F S64x64 .f32) (v0 v1 v2 v3 : FVec F S64x64 .bf16) : FVec F S64x64 .f32 :=
  ctxT (expT s0 (maxT s0 s1 s2 s3)) (expT s1 (maxT s0 s1 s2 s3)) (expT s2 (maxT s0 s1 s2 s3)) (expT s3 (maxT s0 s1 s2 s3)) v0 v1 v2 v3

/-! ## The tiles -/

variable (I : Ins F) (c : Dev nD)

/-- The projected queries of batch entry `b`. -/
def QV (b : Fin 2) : FVec F S128x256 .f32 :=
  matmul dot_S128x512_S512x256_S128x256_1_0_0_1_n_n none
    (shapeCast S128x512 ((Memref.whole cc0_stg0_0).view.readAt (Elt F) (Rect.unit (s := S2x128x512) ![b.val, 0, 0] S1x128x512.size
      (by revert b; decide +kernel)).toLoadRect (I.x c)) shapeCasts_S1x128x512_S128x512)
    (shapeCast S512x256 ((Memref.whole cc0_stg1_0).view.readAt (Elt F) (Rect.unit (s := S512x256) ![0, 0] S512x256.size inb_S512x256_S512x256_0_0).toLoadRect (I.wq c))
      shapeCasts_S512x256_S512x256) (constant S128x256 .f32 0x00000000#32)

theorem inbKV (m : Fin 4) (b l : Fin 2) : ∀ a : Fin S4x2x128x256.rank, ![m.val, b.val, 64 * l.val, 0] a + S1x1x64x256.size a ≤ S4x2x128x256.size a := by
  revert m b l; decide +kernel
theorem slQ (l : Fin 2) (h : Fin 4) : S128x256.Slices ![64 * l.val, 64 * h.val] S64x64 := by revert l h; unfold Shape.Slices; decide +kernel
theorem slKV (h : Fin 4) : S64x256.Slices ![0, 64 * h.val] S64x64 := by revert h; unfold Shape.Slices; decide +kernel

/-- The queries of row block `l` and head `h`. -/
def QT (b l : Fin 2) (h : Fin 4) : FVec F S64x64 .f32 := extractStridedSlice S64x64 ![64 * l.val, 64 * h.val] (QV I c b) (slQ l h)
/-- The keys of slot `m` that row block `l` attends to. -/
def KT (m : Fin 4) (b l : Fin 2) (h : Fin 4) : FVec F S64x64 .bf16 := extractStridedSlice S64x64 ![0, 64 * h.val]
  (shapeCast S64x256 ((Memref.whole cc0_scratch0).view.readAt (Elt F) (Rect.unit (s := S4x2x128x256) ![m.val, b.val, 64 * l.val, 0] S1x1x64x256.size (inbKV m b l)).toLoadRect (KB I c))
    shapeCasts_S1x1x64x256_S64x256) (slKV h)
/-- Their values. -/
def VT (m : Fin 4) (b l : Fin 2) (h : Fin 4) : FVec F S64x64 .bf16 := extractStridedSlice S64x64 ![0, 64 * h.val]
  (shapeCast S64x256 ((Memref.whole cc0_scratch1).view.readAt (Elt F) (Rect.unit (s := S4x2x128x256) ![m.val, b.val, 64 * l.val, 0] S1x1x64x256.size (inbKV m b l)).toLoadRect (VB I c))
    shapeCasts_S1x1x64x256_S64x256) (slKV h)
/-- The scores of head `h` against slot `m`. -/
def ST (m : Fin 4) (b l : Fin 2) (h : Fin 4) : FVec F S64x64 .f32 := scT (QT I c b l h) (KT I c m b l h)
/-- Head `h`'s result for row block `l` of batch entry `b`. -/
def HT (b l : Fin 2) (h : Fin 4) : FVec F S64x64 .f32 :=
  smT (ST I c 0 b l h) (ST I c 1 b l h) (ST I c 2 b l h) (ST I c 3 b l h) (VT I c 0 b l h) (VT I c 1 b l h) (VT I c 2 b l h) (VT I c 3 b l h)
/-- The four heads' results side by side, times the output weights. -/
def WOT (a0 a1 a2 a3 : FVec F S64x64 .f32) : FVec F S64x512 .f32 :=
  matmul dot_S64x256_S256x512_S64x512_1_0_0_1_n_n none
    (concatenate S64x256 1 [⟨S64x64, a0⟩, ⟨S64x64, a1⟩, ⟨S64x64, a2⟩, ⟨S64x64, a3⟩] concatenates_S64x64_S64x64_S64x64_S64x64_S64x256_d1)
    (shapeCast S256x512 ((Memref.whole cc0_stg4_0).view.readAt (Elt F) (Rect.unit (s := S256x512) ![0, 0] S256x512.size inb_S256x512_S256x512_0_0).toLoadRect (I.wo c))
      shapeCasts_S256x512_S256x512) (constant S64x512 .f32 0x00000000#32)
/-- The partial result of row block `l` of batch entry `b`. -/
def BT (b l : Fin 2) : FVec F S64x512 .f32 := WOT I c (HT I c b l 0) (HT I c b l 1) (HT I c b l 2) (HT I c b l 3)

/-- Device `c`'s partial results, block by block. -/
theorem PB_eq : PB I c = blk4 (shapeCast S1x64x512 (BT I c 0 0) shapeCasts_S64x512_S1x64x512) (shapeCast S1x64x512 (BT I c 1 0) shapeCasts_S64x512_S1x64x512)
    (shapeCast S1x64x512 (BT I c 0 1) shapeCasts_S64x512_S1x64x512) (shapeCast S1x64x512 (BT I c 1 1) shapeCasts_S64x512_S1x64x512) := rfl
/-- The same, rounded. -/
theorem P16_eq : P16 I c = blk4 (shapeCast S1x64x512 (truncf .bf16 (BT I c 0 0) bitsLt_bf16_f32) shapeCasts_S64x512_S1x64x512)
    (shapeCast S1x64x512 (truncf .bf16 (BT I c 1 0) bitsLt_bf16_f32) shapeCasts_S64x512_S1x64x512)
    (shapeCast S1x64x512 (truncf .bf16 (BT I c 0 1) bitsLt_bf16_f32) shapeCasts_S64x512_S1x64x512)
    (shapeCast S1x64x512 (truncf .bf16 (BT I c 1 1) bitsLt_bf16_f32) shapeCasts_S64x512_S1x64x512) := rfl

end Cert.KernelIdeal.Hand

end
-- ==== Proof.Tiles.lean ====
/-
  The tiles at the extended reals: each operation of a head read at one entry.
-/
module

public import proofs.«01_k».proof.Proof.Chain
public import Idealize.ShloMosaic.Lib.Pointwise
public import Idealize.ShloMosaic.Lib.Pipeline.FrameBody

@[expose] public section

set_option maxRecDepth 16384

noncomputable section

namespace Cert.KernelIdeal.Hand

open Idealize.ShloMosaic Idealize.ShloMosaic.TcCoe
open Cert.KernelIdeal Cert.KernelIdeal.Gen

/-- The factor every score is scaled by. -/
def kap : EReal := Ideal.ofBits .f32 0x3E000000#32

theorem scT_apply (q : FVec Ideal S64x64 .f32) (k : FVec Ideal S64x64 .bf16) (r t : Fin 64) :
    scT q k (ix2 r t) = (∑ d : Fin 64, q (ix2 r d) * k (ix2 t d)) * kap := by
  unfold scT kap
  pointwise

theorem rowMax_apply (s : FVec Ideal S64x64 .f32) (r : Fin 64) :
    rowMax s (ix2 r 0) = Finset.univ.fold max ⊥ fun t : Fin 64 => s (ix2 r t) := by
  have hb : Ideal.ofBits .f32 0xFF800000#32 = ⊥ := by simp [Ideal.ofBits, Ideal.ieee]
  unfold rowMax
  pointwise [hb]

theorem rowSum_apply (s : FVec Ideal S64x64 .f32) (r : Fin 64) : rowSum s (ix2 r 0) = ∑ t : Fin 64, s (ix2 r t) := by
  unfold rowSum
  pointwise

theorem expT_apply (s : FVec Ideal S64x64 .f32) (g : FVec Ideal S64x1 .f32) (r t : Fin 64) :
    expT s g (ix2 r t) = Ideal.exp (s (ix2 r t) - g (ix2 r 0)) := by
  unfold expT
  pointwise

theorem wtT_apply (e : FVec Ideal S64x64 .f32) (d : FVec Ideal S64x1 .f32) (r t : Fin 64) :
    wtT e d (ix2 r t) = Ideal.div (e (ix2 r t)) (d (ix2 r 0)) := by
  unfold wtT
  pointwise

theorem pvT_apply (w v : FVec Ideal S64x64 .bf16) (r d : Fin 64) : pvT w v (ix2 r d) = ∑ t : Fin 64, w (ix2 r t) * v (ix2 t d) := by
  unfold pvT
  pointwise

variable (I : Ins Ideal) (c : Dev nD)

/-- Row `t` of row block `l`. -/
def rw64 (l : Fin 2) (t : Fin 64) : Fin 128 := ⟨64 * l.val + t.val, by omega⟩
/-- Column `d` of head `h`. -/
def hd64 (h : Fin 4) (d : Fin 64) : Fin 256 := ⟨64 * h.val + d.val, by omega⟩

/-- A sum over `a * b` indices, block by block. -/
theorem sum_blocks {M : Type} [AddCommMonoid M] {n : ℕ} (a b : ℕ) (h : n = a * b) (f : Fin n → M) :
    ∑ x, f x = ∑ i : Fin a, ∑ j : Fin b, f ⟨b * i.val + j.val, by
      have := Nat.mul_le_mul_left b (Nat.succ_le_of_lt i.isLt); have := j.isLt; rw [Nat.mul_succ] at *; rw [h, Nat.mul_comm a b]; omega⟩ := by
  subst h
  rw [← finProdFinEquiv.sum_comp, Fintype.sum_prod_type]
  refine Finset.sum_congr rfl fun i _ => Finset.sum_congr rfl fun j _ => congrArg f (Fin.ext ?_)
  simp [finProdFinEquiv, Nat.add_comm]

theorem QV_apply (b : Fin 2) (r : Fin 128) (j : Fin 256) : QV I c b (ix2 r j) = ∑ k : Fin 512, I.x c (ix3 b r k) * I.wq c (ix2 k j) := by
  show matmul dot_S128x512_S512x256_S128x256_1_0_0_1_n_n none
    (shapeCast S128x512 (fun i => I.x c ((Rect.unit (s := S2x128x512) ![b.val, 0, 0] S1x128x512.size (by revert b; decide +kernel)).idx i)) shapeCasts_S1x128x512_S128x512)
    (shapeCast S512x256 (fun i => I.wq c ((Rect.unit (s := S512x256) ![0, 0] S512x256.size inb_S512x256_S512x256_0_0).idx i)) shapeCasts_S512x256_S512x256)
    (constant S128x256 .f32 0x00000000#32) (ix2 r j) = _
  pointwise
theorem QT_apply (b l : Fin 2) (h : Fin 4) (r d : Fin 64) : QT I c b l h (ix2 r d) = QV I c b (ix2 (rw64 l r) (hd64 h d)) := by
  unfold QT rw64 hd64
  pointwise
theorem tile_apply (Y : S1x1x64x256.Idx → EReal) (h : Fin 4) (t d : Fin 64) :
    extractStridedSlice S64x64 ![0, 64 * h.val] (shapeCast S64x256 Y shapeCasts_S1x1x64x256_S64x256) (slKV h) (ix2 t d) = Y (ix4 0 0 t (hd64 h d)) := by
  unfold hd64
  pointwise
theorem tile_idx (m : Fin 4) (b l : Fin 2) (t : Fin 64) (x : Fin 256) :
    (Rect.unit (s := S4x2x128x256) ![m.val, b.val, 64 * l.val, 0] S1x1x64x256.size (inbKV m b l)).idx (ix4 0 0 t x) = ix4 m b (rw64 l t) x := by
  funext a; apply Fin.ext
  fin_cases a
  · change m.val + 1 * 0 = m.val; omega
  · change b.val + 1 * 0 = b.val; omega
  · change 64 * l.val + 1 * t.val = 64 * l.val + t.val; omega
  · change 0 + 1 * x.val = x.val; omega
theorem KT_apply (m : Fin 4) (b l : Fin 2) (h : Fin 4) (t d : Fin 64) : KT I c m b l h (ix2 t d) = KB I c (ix4 m b (rw64 l t) (hd64 h d)) :=
  (tile_apply _ h t d).trans (congrArg (KB I c) (tile_idx m b l t (hd64 h d)))
theorem VT_apply (m : Fin 4) (b l : Fin 2) (h : Fin 4) (t d : Fin 64) : VT I c m b l h (ix2 t d) = VB I c (ix4 m b (rw64 l t) (hd64 h d)) :=
  (tile_apply _ h t d).trans (congrArg (VB I c) (tile_idx m b l t (hd64 h d)))
theorem WOT_apply (a : Fin 4 → FVec Ideal S64x64 .f32) (r : Fin 64) (e : Fin 512) :
    WOT I c (a 0) (a 1) (a 2) (a 3) (ix2 r e) = ∑ h : Fin 4, ∑ d : Fin 64, a h (ix2 r d) * I.wo c (ix2 (hd64 h d) e) := by
  show matmul dot_S64x256_S256x512_S64x512_1_0_0_1_n_n none
    (concatenate S64x256 1 [⟨S64x64, a 0⟩, ⟨S64x64, a 1⟩, ⟨S64x64, a 2⟩, ⟨S64x64, a 3⟩] concatenates_S64x64_S64x64_S64x64_S64x64_S64x256_d1)
    (shapeCast S256x512 (fun i => I.wo c ((Rect.unit (s := S256x512) ![0, 0] S256x512.size inb_S256x512_S256x512_0_0).idx i)) shapeCasts_S256x512_S256x512)
    (constant S64x512 .f32 0x00000000#32) (ix2 r e) = _
  unfold hd64
  pointwise
  rw [sum_blocks 4 64 rfl]
  refine Finset.sum_congr rfl fun h _ => Finset.sum_congr rfl fun d _ => ?_
  congr 1
  have hd := d.isLt
  fin_cases h
  all_goals
    simp only []
    split_ifs <;> first | omega | (refine congrArg (a _) (congrArg (fun t => ix2 r t) (Fin.ext ?_)); dsimp only; omega)

end Cert.KernelIdeal.Hand

end
-- ==== Proof.Out.lean ====
/-
  What the kernel leaves in its result, entry by entry: the sum over the devices of their partial
  results, the same on every device.
-/
module

public import proofs.«01_k».proof.Proof.Tiles
public import proofs.«01_k».proof.Proof.Facts

@[expose] public section

set_option maxRecDepth 16384

noncomputable section

namespace Cert.KernelIdeal.Hand

open Idealize.ShloMosaic Idealize.ShloMosaic.TcCoe
open Cert.KernelIdeal Cert.KernelIdeal.Gen

variable (I : Ins Ideal) (c : Dev nD)

/-- One entry of a device's partial results. -/
def PE (b : Fin 2) (r : Fin 128) (e : Fin 512) : EReal := BT I c b ⟨r.val / 64, by omega⟩ (ix2 ⟨r.val % 64, by omega⟩ e)

/-- An array of four blocks of 64 rows, from a family of them. -/
theorem blk4_apply (B : Fin 2 → Fin 2 → FVec Ideal S64x512 .f32) (b : Fin 2) (r : Fin 128) (e : Fin 512) :
    blk4 (shapeCast S1x64x512 (B 0 0) shapeCasts_S64x512_S1x64x512) (shapeCast S1x64x512 (B 1 0) shapeCasts_S64x512_S1x64x512)
      (shapeCast S1x64x512 (B 0 1) shapeCasts_S64x512_S1x64x512) (shapeCast S1x64x512 (B 1 1) shapeCasts_S64x512_S1x64x512) (ix3 b r e)
      = B b ⟨r.val / 64, by omega⟩ (ix2 ⟨r.val % 64, by omega⟩ e) := by
  have hs : ∀ (Y : FVec Ideal S64x512 .f32) (q : Fin 64), shapeCast S1x64x512 Y shapeCasts_S64x512_S1x64x512 (ix3 0 q e) = Y (ix2 q e) := by
    intro Y q; pointwise
  have hr := r.isLt
  by_cases h : r.val < 64
  · have e1 : (⟨r.val / 64, by omega⟩ : Fin 2) = 0 := Fin.ext (by show r.val / 64 = 0; omega)
    have e2 : (⟨r.val % 64, by omega⟩ : Fin 64) = ⟨r.val, h⟩ := Fin.ext (by show r.val % 64 = r.val; omega)
    rw [e1, e2]
    refine (dif_pos (c := r.val < 64) h).trans ?_
    fin_cases b
    · exact hs _ _
    · exact hs _ _
  · have e1 : (⟨r.val / 64, by omega⟩ : Fin 2) = 1 := Fin.ext (by show r.val / 64 = 1; omega)
    have e2 : (⟨r.val % 64, by omega⟩ : Fin 64) = ⟨r.val - 64, by omega⟩ := Fin.ext (by show r.val % 64 = r.val - 64; omega)
    rw [e1, e2]
    refine (dif_neg (c := r.val < 64) h).trans ?_
    fin_cases b
    · exact hs _ _
    · exact hs _ _

theorem PB_apply (b : Fin 2) (r : Fin 128) (e : Fin 512) : PB I c (ix3 b r e) = PE I c b r e := by
  rw [PB_eq]; exact blk4_apply (fun b l => BT I c b l) b r e
theorem P16_apply (b : Fin 2) (r : Fin 128) (e : Fin 512) : P16 I c (ix3 b r e) = PE I c b r e := by
  rw [P16_eq]; exact blk4_apply (fun b l => BT I c b l) b r e

/-- A row block read off an array of 128 rows. -/
theorem row_read {off : Fin 3 → ℕ} {inb} (h : off = ![0, 16 * c.val, 0]) (Y : S2x128x512.Idx → EReal) (x : Fin 2) (y : Fin 16) (z : Fin 512) :
    (Memref.whole cc0_scratch2).view.readAt (Elt Ideal) (Rect.unit (s := S2x128x512) off S2x16x512.size inb).toLoadRect Y (ix3 x y z) = Y (ix3 x (row c y) z) := by
  subst h
  refine congrArg Y (funext fun a => Fin.ext ?_)
  fin_cases a
  · change 0 + 1 * x.val = x.val; omega
  · change 16 * c.val + 1 * y.val = c.val * 16 + y.val; omega
  · change 0 + 1 * z.val = z.val; omega
/-- A block read off an array of eight. -/
theorem slot_read {off : Fin 4 → ℕ} {inb} (s : Dev nD) (h : off = ![s.val, 0, 0, 0]) (Y : S8x2x16x512.Idx → EReal) (x : Fin 2) (y : Fin 16) (z : Fin 512) :
    (Memref.whole cc0_scratch4).view.readAt (Elt Ideal) (Rect.unit (s := S8x2x16x512) off S1x2x16x512.size inb).toLoadRect Y (ix4 0 x y z) = Y (ix4 s x y z) := by
  subst h
  refine congrArg Y (funext fun a => Fin.ext ?_)
  fin_cases a
  · change s.val + 1 * 0 = s.val; omega
  · change 0 + 1 * x.val = x.val; omega
  · change 0 + 1 * y.val = y.val; omega
  · change 0 + 1 * z.val = z.val; omega
theorem RSB_apply (s : Dev nD) (x : Fin 2) (y : Fin 16) (z : Fin 512) : RSB I c (ix4 s x y z) = PE I s x (row c y) z := by
  show P16 I (dv s.val) (ix3 x (row c y) z) = _
  have hd : dv s.val = s := by revert s; decide +kernel
  rw [hd]; exact P16_apply I s x (row c y) z

theorem pay375_apply (a : FVec Ideal S2x16x512 .f32) (u1 u2 u3 u4 u5 u6 u7 : FVec Ideal S1x2x16x512 .bf16) (x : Fin 2) (y : Fin 16) (z : Fin 512) :
    k0_pay375 (k0_pay374 (k0_pay373 a (k0_pay372 u1) u2 u3) u4 u5) u6 u7 (ix3 x y z)
      = a (ix3 x y z) + u1 (ix4 0 x y z) + u2 (ix4 0 x y z) + u3 (ix4 0 x y z) + u4 (ix4 0 x y z) + u5 (ix4 0 x y z) + u6 (ix4 0 x y z) + u7 (ix4 0 x y z) := by
  unfold k0_pay375 k0_pay374 k0_pay373 k0_pay372
  pointwise

/-- A sum over the devices, counted from any one of them. -/
theorem sum_from (f : Dev nD → EReal) :
    f c + f (ad c 1) + f (ad c 2) + f (ad c 3) + f (ad c 4) + f (ad c 5) + f (ad c 6) + f (ad c 7) = ∑ s : Dev nD, f s := by
  have h : ∀ s : Fin 8, ad c s.val = Equiv.addLeft (c : Fin 8) s := by revert c; decide +kernel
  have h0 : c = ad c 0 := by revert c; decide +kernel
  have hs : ∑ s : Fin 8, f (ad c s.val) = ∑ s : Dev nD, f s := by
    rw [← Equiv.sum_comp (Equiv.addLeft (c : Fin 8)) f]
    exact Finset.sum_congr rfl fun s _ => congrArg f (h s)
  rw [← hs, Fin.sum_univ_eight]
  exact congrArg (fun d => f d + f (ad c 1) + f (ad c 2) + f (ad c 3) + f (ad c 4) + f (ad c 5) + f (ad c 6) + f (ad c 7)) h0

theorem OWN_apply (x : Fin 2) (y : Fin 16) (z : Fin 512) : OWN I c (ix3 x y z) = ∑ s : Dev nD, PE I s x (row c y) z := by
  refine (pay375_apply (v1751 I c) (v1764 I c) (v1780 I c) (v1796 I c) (v1812 I c) (v1828 I c) (v1844 I c) (v1860 I c) x y z).trans ?_
  rw [← sum_from c]
  have h0 : v1751 I c (ix3 x y z) = PE I c x (row c y) z := (row_read c (off25_c c) (PB I c) x y z).trans (PB_apply I c x (row c y) z)
  have h1 : v1764 I c (ix4 0 x y z) = _ := (slot_read (ad c 1) (off26_1 c) (RSB I c) x y z).trans (RSB_apply I c _ x y z)
  have h2 : v1780 I c (ix4 0 x y z) = _ := (slot_read (ad c 2) (off26_2 c) (RSB I c) x y z).trans (RSB_apply I c _ x y z)
  have h3 : v1796 I c (ix4 0 x y z) = _ := (slot_read (ad c 3) (off26_3 c) (RSB I c) x y z).trans (RSB_apply I c _ x y z)
  have h4 : v1812 I c (ix4 0 x y z) = _ := (slot_read (ad c 4) (off26_4 c) (RSB I c) x y z).trans (RSB_apply I c _ x y z)
  have h5 : v1828 I c (ix4 0 x y z) = _ := (slot_read (ad c 5) (off26_5 c) (RSB I c) x y z).trans (RSB_apply I c _ x y z)
  have h6 : v1844 I c (ix4 0 x y z) = _ := (slot_read (ad c 6) (off26_6 c) (RSB I c) x y z).trans (RSB_apply I c _ x y z)
  have h7 : v1860 I c (ix4 0 x y z) = _ := (slot_read (ad c 7) (off26_7 c) (RSB I c) x y z).trans (RSB_apply I c _ x y z)
  rw [h0, h1, h2, h3, h4, h5, h6, h7]

theorem pay376_apply (v : FVec Ideal S2x16x512 .f32) (u w : FVec Ideal S1x2x16x512 .bf16) (x : Fin 2) (y : Fin 16) (z : Fin 512) :
    @Eq EReal (k0_pay376 v u w (ix3 x y z)) (k0_pay375 v u w (ix3 x y z)) := by
  unfold k0_pay376
  generalize k0_pay375 v u w = g
  pointwise
theorem pay383_apply (u : FVec Ideal S1x2x16x512 .bf16) (x : Fin 2) (y : Fin 16) (z : Fin 512) : @Eq EReal (k0_pay383 (F := Ideal) u (ix3 x y z)) (u (ix4 0 x y z)) := by
  unfold k0_pay383
  pointwise
theorem OTH_apply (s : Dev nD) (x : Fin 2) (y : Fin 16) (z : Fin 512) : OTH I s (ix3 x y z) = OWN I s (ix3 x y z) := by
  refine (pay383_apply _ x y z).trans ?_
  show AG I (dv s.val) (ix3 x y z) = _
  have hd : dv s.val = s := by revert s; decide +kernel
  rw [hd]
  exact pay376_apply _ _ _ x y z

/-- Every device's result is the sum of the partial results. -/
theorem OUT_apply (b : Fin 2) (r : Fin 128) (e : Fin 512) : OUT I c (ix3 b r e) = ∑ s : Dev nD, PE I s b r e := by
  have hr := r.isLt
  have hrow : ∀ d : Dev nD, r.val / 16 = d.val → row d ⟨r.val % 16, Nat.mod_lt _ (by decide)⟩ = r := fun d h =>
    Fin.ext (by show d.val * 16 + r.val % 16 = r.val; omega)
  show (if r.val / 16 = c.val then OWN I c else OTH I (dv (r.val / 16))) (ix3 b ⟨r.val % 16, Nat.mod_lt _ (by decide)⟩ e) = _
  split
  · rename_i h
    refine (OWN_apply I c b _ e).trans ?_
    rw [hrow c h]
  · refine (OTH_apply I _ b _ e).trans ((OWN_apply I _ b _ e).trans ?_)
    rw [hrow _ (show r.val / 16 = r.val / 16 % 8 by omega)]

end Cert.KernelIdeal.Hand

end
-- ==== Proof.Soft.lean ====
/-
  Attention over keys of which some are masked equals attention over the others alone: the keys as
  the reference counts them, 1024 in a row, against the kernel's four tiles of 64.
-/
module

public import proofs.«01_k».proof.Proof.Tiles

@[expose] public section

noncomputable section

namespace Cert.KernelIdeal.Hand

open Idealize.ShloMosaic

/-- Key `t` of tile `m` for query block `l`, among the 1024. -/
def keyAt (m : Fin 4) (l : Fin 4) (t : Fin 64) : Fin 1024 := ⟨256 * m.val + (64 * l.val + t.val), by omega⟩

/-- A sum over the keys, of which only those of block `l` of each four count. -/
theorem sum_live (l : Fin 4) (f : Fin 1024 → EReal) (h : ∀ m l' t, l' ≠ l → f (keyAt m l' t) = 0) :
    ∑ j, f j = ∑ m : Fin 4, ∑ t : Fin 64, f (keyAt m l t) := by
  rw [sum_blocks 4 256 rfl]
  refine Finset.sum_congr rfl fun m _ => ?_
  rw [sum_blocks 4 64 rfl]
  rw [Finset.sum_eq_single l]
  · rfl
  · intro l' _ hl
    exact Finset.sum_eq_zero fun t _ => h m l' t hl
  · intro h; exact absurd (Finset.mem_univ _) h

/-- The maximum of a row. -/
def top {n : ℕ} (f : Fin n → EReal) : EReal := Finset.univ.fold max ⊥ f

theorem top_le_iff {n : ℕ} (f : Fin n → EReal) (x : EReal) : top f ≤ x ↔ ∀ j, f j ≤ x := by
  unfold top
  rw [Finset.fold_max_le]
  simp

theorem keyAt_surj (j : Fin 1024) : ∃ m l t, j = keyAt m l t :=
  ⟨⟨j.val / 256, by omega⟩, ⟨j.val / 64 % 4, by omega⟩, ⟨j.val % 64, by omega⟩, Fin.ext (by show j.val = 256 * (j.val / 256) + (64 * (j.val / 64 % 4) + j.val % 64); omega)⟩

/-- The row's maximum over the keys is the greatest of the four tiles'. -/
theorem top_live (l : Fin 4) (f : Fin 1024 → EReal) (h : ∀ m l' t, l' ≠ l → f (keyAt m l' t) = ⊥) :
    top f = max (max (max (top fun t : Fin 64 => f (keyAt 0 l t)) (top fun t : Fin 64 => f (keyAt 1 l t))) (top fun t : Fin 64 => f (keyAt 2 l t)))
      (top fun t : Fin 64 => f (keyAt 3 l t)) := by
  refine eq_of_forall_ge_iff fun x => ?_
  simp only [max_le_iff, top_le_iff]
  constructor
  · intro hj
    exact ⟨⟨⟨fun t => hj _, fun t => hj _⟩, fun t => hj _⟩, fun t => hj _⟩
  · rintro ⟨⟨⟨h0, h1⟩, h2⟩, h3⟩ j
    obtain ⟨m, l', t, rfl⟩ := keyAt_surj j
    by_cases hl : l' = l
    · subst hl
      fin_cases m
      · exact h0 t
      · exact h1 t
      · exact h2 t
      · exact h3 t
    · rw [h m l' t hl]; exact bot_le

/-- A value that is a real number. -/
def Rl (x : EReal) : Prop := ∃ r : ℝ, x = (r : EReal)

theorem Rl.mul {x y : EReal} : Rl x → Rl y → Rl (x * y) := by
  rintro ⟨a, rfl⟩ ⟨b, rfl⟩; exact ⟨a * b, (EReal.coe_mul a b).symm⟩
theorem Rl.add {x y : EReal} : Rl x → Rl y → Rl (x + y) := by
  rintro ⟨a, rfl⟩ ⟨b, rfl⟩; exact ⟨a + b, (EReal.coe_add a b).symm⟩
theorem Rl.sum {n : ℕ} {f : Fin n → EReal} (h : ∀ i, Rl (f i)) : Rl (∑ i, f i) :=
  Finset.sum_induction f Rl (fun _ _ => Rl.add) ⟨0, rfl⟩ fun i _ => h i
theorem Rl.max {x y : EReal} (hx : Rl x) (hy : Rl y) : Rl (max x y) := by
  rcases max_choice x y with h | h <;> rw [h] <;> assumption
theorem Rl.top {n : ℕ} [NeZero n] {f : Fin n → EReal} (h : ∀ i, Rl (f i)) : Rl (top f) := by
  have : Finset.univ.Nonempty (α := Fin n) := ⟨0, Finset.mem_univ _⟩
  obtain ⟨i, -, hi⟩ := Finset.exists_max_image Finset.univ f this
  have e : Hand.top f = f i := le_antisymm ((top_le_iff f _).2 fun j => hi j (Finset.mem_univ j)) ((top_le_iff f _).1 le_rfl i)
  rw [e]; exact h i

/-- Attention of one query: scores `s`, values `v`. -/
def attend {n : ℕ} (s v : Fin n → EReal) : EReal :=
  ∑ t, v t * Ideal.div (Ideal.exp (s t - top s)) (∑ u, Ideal.exp (s u - top s))

theorem exp_nonneg (x : EReal) : 0 ≤ Ideal.exp x := by
  induction x with
  | bot => exact le_rfl
  | top => exact le_top
  | coe r => exact EReal.coe_nonneg.2 (Real.exp_pos r).le

theorem exp_pos_coe (r : ℝ) : 0 < Ideal.exp (r : EReal) := EReal.coe_pos.2 (Real.exp_pos r)

/-- Masked attention, tile by tile. -/
theorem attend_live (l : Fin 4) (s v : Fin 1024 → EReal) (hb : ∀ m l' t, l' ≠ l → s (keyAt m l' t) = ⊥) (hr : ∀ m t, Rl (s (keyAt m l t))) :
    attend s v = ∑ m : Fin 4, ∑ t : Fin 64, Ideal.div (Ideal.exp (s (keyAt m l t) - top s)) (∑ m : Fin 4, ∑ t : Fin 64, Ideal.exp (s (keyAt m l t) - top s)) * v (keyAt m l t) := by
  have hM : Rl (top s) := by
    rw [top_live l s hb]
    exact (((Rl.top (hr 0)).max (Rl.top (hr 1))).max (Rl.top (hr 2))).max (Rl.top (hr 3))
  have h0 : ∀ m l' t, l' ≠ l → Ideal.exp (s (keyAt m l' t) - top s) = 0 := by
    intro m l' t hl
    obtain ⟨r, hr⟩ := hM
    rw [hb m l' t hl, hr]
    simp
  have hd : ∑ u, Ideal.exp (s u - top s) = ∑ m : Fin 4, ∑ t : Fin 64, Ideal.exp (s (keyAt m l t) - top s) := sum_live l _ h0
  have hpos : ∑ u, Ideal.exp (s u - top s) ≠ 0 := by
    refine ne_of_gt (lt_of_lt_of_le ?_ (Finset.single_le_sum (f := fun u => Ideal.exp (s u - top s)) (fun i _ => exp_nonneg _) (Finset.mem_univ (keyAt 0 l 0))))
    obtain ⟨a, ha⟩ := hr 0 0
    obtain ⟨b, hb⟩ := hM
    simp only [ha, hb]
    rw [← EReal.coe_sub]
    exact exp_pos_coe _
  unfold attend
  rw [sum_live l]
  · refine Finset.sum_congr rfl fun m _ => Finset.sum_congr rfl fun t _ => ?_
    rw [mul_comm, hd]
  · intro m l' t hl
    rw [h0 m l' t hl]
    have : Ideal.div 0 (∑ u, Ideal.exp (s u - top s)) = 0 := by
      unfold Ideal.div
      rw [if_neg hpos, zero_mul]
    rw [this, mul_zero]

end Cert.KernelIdeal.Hand

end
-- ==== Proof.Match.lean ====
/-
  The kernel's result as one formula of the whole arrays: for each head, attention over the live
  keys, and the heads' results times the output weights.
-/
module

public import proofs.«01_k».proof.Proof.Out
public import proofs.«01_k».proof.Proof.Soft

@[expose] public section

set_option maxRecDepth 16384

noncomputable section

namespace Cert.KernelIdeal.Hand

open Idealize.ShloMosaic Idealize.ShloMosaic.TcCoe
open Cert.KernelIdeal Cert.KernelIdeal.Gen

/-- Dimension `d` of head `h` as a column. -/
def hcol (h : Fin 32) (d : Fin 64) : Fin 2048 := ⟨h.val * 64 + d.val, by omega⟩
/-- Row `r` of device `c`'s keys. -/
def krow (c : Dev nD) (r : Fin 128) : Fin 1024 := ⟨c.val * 128 + r.val, by have := c.isLt; change c.val < 8 at this; omega⟩
/-- Head `h` of device `c`. -/
def head (c : Dev nD) (h : Fin 4) : Fin 32 := ⟨c.val * 4 + h.val, by have := c.isLt; change c.val < 8 at this; omega⟩

/-- What the devices hold, as blocks of the whole arrays. -/
structure Blocks (I : Ins Ideal) (X : Fin 2 → Fin 128 → Fin 512 → EReal) (Q : Fin 512 → Fin 2048 → EReal)
    (K V : Fin 2 → Fin 1024 → Fin 32 → Fin 64 → EReal) (O : Fin 2048 → Fin 512 → EReal) : Prop where
  x : ∀ c b r k, I.x c (ix3 b r k) = X b r k
  wq : ∀ c k j, I.wq c (ix2 k j) = Q k (col c j)
  k : ∀ c b r h d, I.k c (ix3 b r (hcol h d)) = K b (krow c r) h d
  v : ∀ c b r h d, I.v c (ix3 b r (hcol h d)) = V b (krow c r) h d
  wo : ∀ c j e, I.wo c (ix2 j e) = O (col c j) e

section Formula
variable (X : Fin 2 → Fin 128 → Fin 512 → EReal) (Q : Fin 512 → Fin 2048 → EReal) (K V : Fin 2 → Fin 1024 → Fin 32 → Fin 64 → EReal) (O : Fin 2048 → Fin 512 → EReal)

/-- The score of a query against a key. -/
def score (b : Fin 2) (h : Fin 32) (r : Fin 128) (t : Fin 1024) : EReal :=
  (∑ d : Fin 64, (∑ k : Fin 512, X b r k * Q k (hcol h d)) * K b t h d) * kap
/-- The same where the key is live, and minus infinity where it is not. -/
def mscore (b : Fin 2) (h : Fin 32) (r : Fin 128) (t : Fin 1024) : EReal :=
  if t.val / 64 % 4 = r.val / 64 then score X Q K b h r t else ⊥
/-- The result. -/
def attn (b : Fin 2) (r : Fin 128) (e : Fin 512) : EReal :=
  ∑ j : Fin 2048, attend (mscore X Q K b ⟨j.val / 64, by omega⟩ r) (fun t => V b t ⟨j.val / 64, by omega⟩ ⟨j.val % 64, by omega⟩) * O j e
end Formula

variable {I : Ins Ideal} {X : Fin 2 → Fin 128 → Fin 512 → EReal} {Q : Fin 512 → Fin 2048 → EReal} {K V : Fin 2 → Fin 1024 → Fin 32 → Fin 64 → EReal}
  {O : Fin 2048 → Fin 512 → EReal}

theorem col_hd64 (c : Dev nD) (h : Fin 4) (d : Fin 64) : col c (hd64 h d) = hcol (head c h) d :=
  Fin.ext (by show c.val * 256 + (64 * h.val + d.val) = (c.val * 4 + h.val) * 64 + d.val; omega)
/-- A row block among the four. -/
def l4 (l : Fin 2) : Fin 4 := ⟨l.val, by omega⟩
theorem krow_rw64 (m : Fin 4) (l : Fin 2) (t : Fin 64) : krow (dv (2 * m.val)) (rw64 l t) = keyAt m (l4 l) t :=
  Fin.ext (by show (2 * m.val % 8) * 128 + (64 * l.val + t.val) = 256 * m.val + (64 * l.val + t.val); omega)

theorem ST_match (H : Blocks I X Q K V O) (c : Dev nD) (m : Fin 4) (b l : Fin 2) (h : Fin 4) (r t : Fin 64) :
    ST I c m b l h (ix2 r t) = score X Q K b (head c h) (rw64 l r) (keyAt m (l4 l) t) := by
  unfold ST score
  rw [scT_apply]
  congr 1
  refine Finset.sum_congr rfl fun d _ => ?_
  rw [QT_apply, QV_apply, KT_apply]
  congr 1
  · refine Finset.sum_congr rfl fun k _ => ?_
    rw [H.x, H.wq, col_hd64]
  · show I.k (dv (2 * m.val)) (ix3 b (rw64 l t) (col c (hd64 h d))) = _
    rw [col_hd64, H.k, krow_rw64]

theorem VT_match (H : Blocks I X Q K V O) (c : Dev nD) (m : Fin 4) (b l : Fin 2) (h : Fin 4) (t d : Fin 64) :
    VT I c m b l h (ix2 t d) = V b (keyAt m (l4 l) t) (head c h) d := by
  rw [VT_apply]
  show I.v (dv (2 * m.val)) (ix3 b (rw64 l t) (col c (hd64 h d))) = _
  rw [col_hd64, H.v, krow_rw64]

theorem mscore_key (b : Fin 2) (h : Fin 32) (l : Fin 2) (r : Fin 64) (m l' : Fin 4) (t : Fin 64) :
    mscore X Q K b h (rw64 l r) (keyAt m l' t) = if l' = l4 l then score X Q K b h (rw64 l r) (keyAt m l' t) else ⊥ := by
  unfold mscore
  have e : ((keyAt m l' t).val / 64 % 4 = (rw64 l r).val / 64) ↔ l' = l4 l := by
    rw [Fin.ext_iff]
    show (256 * m.val + (64 * l'.val + t.val)) / 64 % 4 = (64 * l.val + r.val) / 64 ↔ l'.val = l.val
    omega
  simp only [e]

/-- The head's result from four tiles, in sums. -/
theorem smT_apply (s : Fin 4 → FVec Ideal S64x64 .f32) (v : Fin 4 → FVec Ideal S64x64 .bf16) (g : EReal) (r d : Fin 64)
    (hg : g = max (max (max (top fun t : Fin 64 => s 0 (ix2 r t)) (top fun t : Fin 64 => s 1 (ix2 r t))) (top fun t : Fin 64 => s 2 (ix2 r t)))
      (top fun t : Fin 64 => s 3 (ix2 r t))) :
    smT (s 0) (s 1) (s 2) (s 3) (v 0) (v 1) (v 2) (v 3) (ix2 r d)
      = ∑ m : Fin 4, ∑ t : Fin 64, Ideal.div (Ideal.exp (s m (ix2 r t) - g)) (∑ m : Fin 4, ∑ t : Fin 64, Ideal.exp (s m (ix2 r t) - g)) * v m (ix2 t d) := by
  have hm : maxT (s 0) (s 1) (s 2) (s 3) (ix2 r 0) = g := by
    rw [hg]
    show max (max (max (rowMax (s 0) (ix2 r 0)) (rowMax (s 1) (ix2 r 0))) (rowMax (s 2) (ix2 r 0))) (rowMax (s 3) (ix2 r 0)) = _
    simp only [rowMax_apply]
    rfl
  have he : ∀ m t, expT (s m) (maxT (s 0) (s 1) (s 2) (s 3)) (ix2 r t) = Ideal.exp (s m (ix2 r t) - g) := fun m t => by rw [expT_apply, hm]
  unfold smT
  generalize maxT (s 0) (s 1) (s 2) (s 3) = M at he
  have hd : denT (expT (s 0) M) (expT (s 1) M) (expT (s 2) M) (expT (s 3) M) (ix2 r 0) = ∑ m : Fin 4, ∑ t : Fin 64, Ideal.exp (s m (ix2 r t) - g) := by
    show rowSum (expT (s 0) M) (ix2 r 0) + rowSum (expT (s 1) M) (ix2 r 0) + rowSum (expT (s 2) M) (ix2 r 0) + rowSum (expT (s 3) M) (ix2 r 0) = _
    rw [Fin.sum_univ_four]
    simp only [rowSum_apply, he]
  unfold ctxT
  generalize denT (expT (s 0) M) (expT (s 1) M) (expT (s 2) M) (expT (s 3) M) = D at hd
  show pvT (wtT (expT (s 0) M) D) (v 0) (ix2 r d) + pvT (wtT (expT (s 1) M) D) (v 1) (ix2 r d) + pvT (wtT (expT (s 2) M) D) (v 2) (ix2 r d)
    + pvT (wtT (expT (s 3) M) D) (v 3) (ix2 r d) = _
  rw [Fin.sum_univ_four]
  simp only [pvT_apply, wtT_apply, he, hd]

theorem HT_match (H : Blocks I X Q K V O) (hr : ∀ b h r t, Rl (score X Q K b h r t)) (c : Dev nD) (b l : Fin 2) (h : Fin 4) (r d : Fin 64) :
    HT I c b l h (ix2 r d) = attend (mscore X Q K b (head c h) (rw64 l r)) (fun t => V b t (head c h) d) := by
  have hs : ∀ m t, ST I c m b l h (ix2 r t) = mscore X Q K b (head c h) (rw64 l r) (keyAt m (l4 l) t) := fun m t => by
    rw [ST_match H, mscore_key, if_pos rfl]
  have hb : ∀ m l' t, l' ≠ l4 l → mscore X Q K b (head c h) (rw64 l r) (keyAt m l' t) = ⊥ := fun m l' t hl => by rw [mscore_key, if_neg hl]
  rw [attend_live (l4 l) _ _ hb fun m t => by rw [mscore_key, if_pos rfl]; exact hr _ _ _ _]
  refine (smT_apply (fun m => ST I c m b l h) (fun m => VT I c m b l h) (top (mscore X Q K b (head c h) (rw64 l r))) r d ?_).trans ?_
  · rw [top_live (l4 l) _ hb]
    simp only [hs]
  · simp only [hs, VT_match H]

/-- Every entry of the result. -/
theorem OUT_match (H : Blocks I X Q K V O) (hr : ∀ b h r t, Rl (score X Q K b h r t)) (c : Dev nD) (b : Fin 2) (r : Fin 128) (e : Fin 512) :
    OUT I c (ix3 b r e) = attn X Q K V O b r e := by
  have hrow : rw64 ⟨r.val / 64, by omega⟩ ⟨r.val % 64, by omega⟩ = r := Fin.ext (by show 64 * (r.val / 64) + r.val % 64 = r.val; omega)
  rw [OUT_apply]
  unfold attn
  rw [sum_blocks 8 256 rfl]
  refine Finset.sum_congr rfl fun s _ => ?_
  rw [sum_blocks 4 64 rfl]
  refine (WOT_apply I s (fun h => HT I s b ⟨r.val / 64, by omega⟩ h) ⟨r.val % 64, by omega⟩ e).trans ?_
  refine Finset.sum_congr rfl fun h _ => Finset.sum_congr rfl fun d _ => ?_
  have hs := s.isLt
  change s.val < 8 at hs
  have e1 : (⟨(256 * s.val + (64 * h.val + d.val)) / 64, by omega⟩ : Fin 32) = head s h :=
    Fin.ext (by show (256 * s.val + (64 * h.val + d.val)) / 64 = s.val * 4 + h.val; omega)
  have e2 : (⟨(256 * s.val + (64 * h.val + d.val)) % 64, by omega⟩ : Fin 64) = d :=
    Fin.ext (by show (256 * s.val + (64 * h.val + d.val)) % 64 = d.val; omega)
  have e3 : (⟨256 * s.val + (64 * h.val + d.val), by omega⟩ : Fin 2048) = col s (hd64 h d) :=
    Fin.ext (by show 256 * s.val + (64 * h.val + d.val) = s.val * 256 + (64 * h.val + d.val); omega)
  simp only [e1, e2, e3]
  rw [HT_match H hr, hrow, H.wo]

end Cert.KernelIdeal.Hand

end
-- ==== Proof.Finite.lean ====
/-
  What the precondition says: every entry of the queries' inputs, of their weights and of the keys
  is a real number.
-/
module

public import proofs.«01_k».proof.Proof.Gen.Pre_finite_qk_KernelIdeal
public import proofs.«01_k».proof.Proof.Soft

@[expose] public section

set_option maxRecDepth 16384

noncomputable section

namespace Cert.KernelIdeal.Hand

open Idealize.ShloMosaic
open Cert.Pre_finite_qk_KernelIdeal Cert.Pre_finite_qk_KernelIdeal.Gen

theorem andi_one {x y : BitVec 1} : IntOp.andi x y = 1#1 → x = 1#1 ∧ y = 1#1 := by revert x y; decide

theorem foldl_andi {β : Type} (g : β → BitVec 1) : ∀ (l : List β) (a : BitVec 1),
    l.foldl (fun r n => IntOp.andi r (g n)) a = 1#1 → a = 1#1 ∧ ∀ n ∈ l, g n = 1#1
  | [], a, h => ⟨h, fun _ hn => absurd hn (List.not_mem_nil)⟩
  | b :: l, a, h => by
    obtain ⟨h1, h2⟩ := foldl_andi g l _ h
    obtain ⟨h3, h4⟩ := andi_one h1
    refine ⟨h3, fun n hn => ?_⟩
    rcases List.mem_cons.1 hn with rfl | hn
    · exact h4
    · exact h2 n hn

/-- Where the conjunction over a whole array holds, each entry does. -/
theorem all_one {s : Shape} {axes : List (Fin s.rank)} (x : IVec s 1) (v : IVec S_ 1) (h : s.ReducesTo axes S_) (hu : 0 < S_.numel)
    (e : Host.reduce IntOp.andi x v h hu = fun _ => 1#1) (i : s.Idx) : x i = 1#1 := by
  have e0 := congrFun e (h.drop i)
  have := (foldl_andi (fun n => x (s.rowMajor.symm n)) _ _ e0).2 (s.rowMajor i)
    (List.mem_filter.2 ⟨List.mem_finRange _, by simp⟩)
  simpa using this

/-- An entry less than infinity in absolute value is a real number. -/
theorem real_of_abs {x : EReal} (h : Ideal.cmp .olt (max x (-x)) (Ideal.ofBits .f32 0x7F800000#32) = 1#1) : Rl x := by
  have ht : Ideal.ofBits .f32 0x7F800000#32 = ⊤ := by simp [Ideal.ofBits, Ideal.ieee]
  rw [ht] at h
  have hlt : max x (-x) < ⊤ := by
    by_contra hn
    have : Ideal.cmp .olt (max x (-x)) ⊤ = 0#1 := by
      unfold Ideal.cmp
      simp only [decide_eq_false hn]
      rfl
    rw [this] at h
    exact absurd h (by decide)
  induction x with
  | bot => exact absurd hlt (by simp)
  | top => exact absurd hlt (by simp)
  | coe r => exact ⟨r, rfl⟩

variable (x : FVec Ideal S2x128x512 .f32) (q : FVec Ideal S512x256 .f32) (k v : FVec Ideal S2x128x32x64 .f32) (o : FVec Ideal S256x512 .f32)

theorem finite_of_pre (h : fn (F := Ideal) x q k v o = fun _ => 1#1) : (∀ i, Rl (x i)) ∧ (∀ i, Rl (q i)) ∧ (∀ i, Rl (k i)) := by
  have h2 : ∀ j, _ := fun j => andi_one (congrFun h j)
  have h1 : ∀ j, _ := fun j => andi_one (h2 j).1
  exact ⟨fun i => real_of_abs (all_one _ _ _ _ (funext fun j => (h1 j).1) i), fun i => real_of_abs (all_one _ _ _ _ (funext fun j => (h1 j).2) i),
    fun i => real_of_abs (all_one _ _ _ _ (funext fun j => (h2 j).2) i)⟩

/-- The scores' factor is a real number. -/
theorem kap_real : Rl kap := by
  refine ⟨(1 / 8 : ℝ), ?_⟩
  simp [kap, Ideal.ofBits, Ideal.ieee]
  rw [← EReal.coe_mul, EReal.coe_eq_coe_iff]
  norm_num

end Cert.KernelIdeal.Hand

end
-- ==== Proof.Ref.lean ====
/-
  What the reference computes, in stages, and each stage read at one entry.
-/
module

public import proofs.«01_k».proof.Proof.Gen.ReferenceIdeal.Run
public import Idealize.ShloMosaic.Lib.Pointwise

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

/-! ## The mask -/

/-- The word 64, the length of a block. -/
def w64 : IVec S_ 32 := id (constantI S_ 32 64#32)
/-- The word 4, as the remainder takes it. -/
def w4 : IVec S_ 32 := select (cmpi .eq (id (constantI S_ 32 4#32)) (constantI S_ 32 0#32)) (constantI S_ 32 1#32) (id (constantI S_ 32 4#32))
/-- Each query's block. -/
def QB : IVec S128 32 :=
  select (andi (cmpi .ne (signi (iotaInDim S128 32 0)) (broadcastInDim S128 ![] bcast_S_S128 (signi w64)))
      (cmpi .ne (Host.remsi (iotaInDim S128 32 0) (broadcastInDim S128 ![] bcast_S_S128 w64)) (broadcastInDim S128 ![] bcast_S_S128 (constantI S_ 32 0#32))))
    (subi (Host.divsi (iotaInDim S128 32 0) (broadcastInDim S128 ![] bcast_S_S128 w64)) (broadcastInDim S128 ![] bcast_S_S128 (constantI S_ 32 1#32)))
    (Host.divsi (iotaInDim S128 32 0) (broadcastInDim S128 ![] bcast_S_S128 w64))
/-- Each key's block. -/
def KBk : IVec S1024 32 :=
  select (andi (cmpi .ne (signi (iotaInDim S1024 32 0)) (broadcastInDim S1024 ![] bcast_S_S1024 (signi w64)))
      (cmpi .ne (Host.remsi (iotaInDim S1024 32 0) (broadcastInDim S1024 ![] bcast_S_S1024 w64)) (broadcastInDim S1024 ![] bcast_S_S1024 (constantI S_ 32 0#32))))
    (subi (Host.divsi (iotaInDim S1024 32 0) (broadcastInDim S1024 ![] bcast_S_S1024 w64)) (broadcastInDim S1024 ![] bcast_S_S1024 (constantI S_ 32 1#32)))
    (Host.divsi (iotaInDim S1024 32 0) (broadcastInDim S1024 ![] bcast_S_S1024 w64))
/-- A query's block's remainder by four, with the sign of the dividend. -/
def QR0 : IVec S128x1 32 := Host.remsi (broadcastInDim S128x1 ![0] bcast_S128_S128x1_0 QB) (broadcastInDim S128x1 ![] bcast_S_S128x1 w4)
/-- The same with the sign of the divisor. -/
def QR : IVec S128x1 32 :=
  select (andi (cmpi .ne (cmpi .slt QR0 (broadcastInDim S128x1 ![] bcast_S_S128x1 (constantI S_ 32 0#32)))
      (broadcastInDim S128x1 ![] bcast_S_S128x1 (cmpi .slt w4 (constantI S_ 32 0#32)))) (cmpi .ne QR0 (broadcastInDim S128x1 ![] bcast_S_S128x1 (constantI S_ 32 0#32))))
    (addi QR0 (broadcastInDim S128x1 ![] bcast_S_S128x1 w4)) QR0
/-- A key's block's remainder by four, with the sign of the dividend. -/
def KR0 : IVec S1x1024 32 := Host.remsi (broadcastInDim S1x1024 ![1] bcast_S1024_S1x1024_1 KBk) (broadcastInDim S1x1024 ![] bcast_S_S1x1024 w4)
/-- The same with the sign of the divisor. -/
def KR : IVec S1x1024 32 :=
  select (andi (cmpi .ne (cmpi .slt KR0 (broadcastInDim S1x1024 ![] bcast_S_S1x1024 (constantI S_ 32 0#32)))
      (broadcastInDim S1x1024 ![] bcast_S_S1x1024 (cmpi .slt w4 (constantI S_ 32 0#32)))) (cmpi .ne KR0 (broadcastInDim S1x1024 ![] bcast_S_S1x1024 (constantI S_ 32 0#32))))
    (addi KR0 (broadcastInDim S1x1024 ![] bcast_S_S1x1024 w4)) KR0
/-- The mask. -/
def MK : IVec S128x1024 1 :=
  ori (cmpi .eq (broadcastInDim S128x1024 ![0, 1] bcast_S128x1_S128x1024_0_1 (broadcastInDim S128x1 ![0] bcast_S128_S128x1_0 QB))
      (broadcastInDim S128x1024 ![0, 1] bcast_S1x1024_S128x1024_0_1 (broadcastInDim S1x1024 ![1] bcast_S1024_S1x1024_1 KBk)))
    (cmpi .eq (broadcastInDim S128x1024 ![0, 1] bcast_S1x1024_S128x1024_0_1 KR) (broadcastInDim S128x1024 ![0, 1] bcast_S128x1_S128x1024_0_1 QR))
/-- Whether a query attends to any key. -/
def ANY : IVec S128 1 := Host.reduce IntOp.ori MK (constantI S_ 1 0#1) reducesTo_S128x1024_S128_d1 h_S_

theorem QB_apply : ∀ r : Fin 128, QB (ix1 r) = BitVec.ofNat 32 (r.val / 64) := by decide +kernel
theorem KBk_apply : ∀ t : Fin 1024, KBk (ix1 t) = BitVec.ofNat 32 (t.val / 64) := by decide +kernel
theorem QR_apply : ∀ r : Fin 128, QR (ix2 r 0) = BitVec.ofNat 32 (r.val / 64) := by decide +kernel
theorem KR_apply : ∀ t : Fin 1024, KR (ix2 0 t) = BitVec.ofNat 32 (t.val / 64 % 4) := by decide +kernel

variable {F : FTy → Type} [FloatOps F] (m : (ℓ : Loc nD τ sig) → Buf (Elt F) ℓ) (c : Dev nD)

/-! ## The attention -/

/-- The projected queries. -/
def RQ : FVec F S2x128x2048 .f32 := Host.dotGeneral dot_S2x128x512_S512x2048_S2x128x2048_2_0_01_1_n_n none (m ((c.tc : Thread nD τ).loc main_arg0)) (m ((c.tc : Thread nD τ).loc main_arg1))
/-- The scaled scores. -/
def RS : FVec F S2x32x128x1024 .f32 :=
  mulf (Host.dotGeneral dot_S2x128x32x64_S2x1024x32x64_S2x32x128x1024_3_3_1_1_02_02 none (shapeCast _ (RQ m c) shapeCasts_S2x128x2048_S2x128x32x64) (m ((c.tc : Thread nD τ).loc main_arg2)))
    (broadcastInDim S2x32x128x1024 ![] bcast_S_S2x32x128x1024 (constant S_ .f32 0x3E000000#32))
/-- The masked scores. -/
def RMS (s : FVec F S2x32x128x1024 .f32) : FVec F S2x32x128x1024 .f32 :=
  select (broadcastInDim S2x32x128x1024 ![0, 1, 2, 3] bcast_S1x1x128x1024_S2x32x128x1024_0_1_2_3 (broadcastInDim S1x1x128x1024 ![2, 3] bcast_S128x1024_S1x1x128x1024_2_3 MK)) s
    (broadcastInDim S2x32x128x1024 ![] bcast_S_S2x32x128x1024 (id (constant S_ .f32 0xFF800000#32)))
/-- Each row's maximum. -/
def RMX (s : FVec F S2x32x128x1024 .f32) : FVec F S2x32x128 .f32 :=
  Host.reduce FloatOps.maximumf s (constant S_ .f32 0xFF800000#32) reducesTo_S2x32x128x1024_S2x32x128_d3 h_S_
/-- The exponentials. -/
def REX (s : FVec F S2x32x128x1024 .f32) : FVec F S2x32x128x1024 .f32 :=
  Host.exp (subf s (broadcastInDim S2x32x128x1024 ![0, 1, 2, 3] bcast_S2x32x128x1_S2x32x128x1024_0_1_2_3 (broadcastInDim S2x32x128x1 ![0, 1, 2] bcast_S2x32x128_S2x32x128x1_0_1_2 (RMX s))))
/-- The rows' sums. -/
def RD (e : FVec F S2x32x128x1024 .f32) : FVec F S2x32x128x1 .f32 :=
  select (broadcastInDim S2x32x128x1 ![0, 1, 2, 3] bcast_S1x1x128x1_S2x32x128x1_0_1_2_3 (broadcastInDim S1x1x128x1 ![2] bcast_S128_S1x1x128x1_2 ANY))
    (broadcastInDim S2x32x128x1 ![0, 1, 2] bcast_S2x32x128_S2x32x128x1_0_1_2 (Host.reduceAdd e (constant S_ .f32 0x00000000#32) reducesTo_S2x32x128x1024_S2x32x128_d3 h_S_))
    (broadcastInDim S2x32x128x1 ![] bcast_S_S2x32x128x1 (id (constant S_ .f32 0x3F800000#32)))
/-- The weights. -/
def RW (e : FVec F S2x32x128x1024 .f32) : FVec F S2x32x128x1024 .f32 :=
  select (broadcastInDim S2x32x128x1024 ![0, 1, 2, 3] bcast_S1x1x128x1_S2x32x128x1024_0_1_2_3 (broadcastInDim S1x1x128x1 ![2] bcast_S128_S1x1x128x1_2 ANY))
    (Host.divf e (broadcastInDim S2x32x128x1024 ![0, 1, 2, 3] bcast_S2x32x128x1_S2x32x128x1024_0_1_2_3 (RD e)))
    (broadcastInDim S2x32x128x1024 ![] bcast_S_S2x32x128x1024 (id (constant S_ .f32 0x00000000#32)))
/-- The result. -/
def RO (w : FVec F S2x32x128x1024 .f32) : FVec F S2x128x512 .f32 :=
  Host.dotGeneral dot_S2x128x2048_S2048x512_S2x128x512_2_0_01_1_n_n none
    (shapeCast _ (transpose S2x128x32x64 [0, 3, 1, 2] (Host.dotGeneral dot_S2x1024x32x64_S2x32x128x1024_S2x32x64x128_1_3_3_2_02_01 none (m ((c.tc : Thread nD τ).loc main_arg3)) w)
      transposes_S2x32x64x128_S2x128x32x64_0_3_1_2) shapeCasts_S2x128x32x64_S2x128x2048) (m ((c.tc : Thread nD τ).loc main_arg4))

theorem res_eq : Value.res_main_v39 m c = RO m c (RW (REX (RMS (RS m c)))) := rfl

end Cert.ReferenceIdeal.Hand

end
-- ==== Proof.RefVals.lean ====
/-
  The reference's stages over the extended reals, read at one entry.
-/
module

public import proofs.«01_k».proof.Proof.Ref

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

/-- A key is live for a query when its block's remainder by four is the query's block. -/
def live (r : Fin 128) (t : Fin 1024) : Prop := t.val / 64 % 4 = r.val / 64
instance (r : Fin 128) (t : Fin 1024) : Decidable (live r t) := inferInstanceAs (Decidable (_ = _))

theorem MK_apply (r : Fin 128) (t : Fin 1024) : MK (ix2 r t) = if live r t then 1#1 else 0#1 := by
  have h : MK (ix2 r t) = IntOp.ori (IntOp.cmpi .eq (QB (ix1 r)) (KBk (ix1 t))) (IntOp.cmpi .eq (KR (ix2 0 t)) (QR (ix2 r 0))) := by
    unfold MK; pointwise
  have hw : ∀ (q : Fin 2) (k : Fin 16), IntOp.ori (IntOp.cmpi .eq (BitVec.ofNat 32 q.val) (BitVec.ofNat 32 k.val))
      (IntOp.cmpi .eq (BitVec.ofNat 32 (k.val % 4)) (BitVec.ofNat 32 q.val)) = if k.val % 4 = q.val then 1#1 else 0#1 := by decide +kernel
  rw [h, QB_apply, KBk_apply, QR_apply, KR_apply]
  exact hw ⟨r.val / 64, by omega⟩ ⟨t.val / 64, by omega⟩

theorem ANY_apply (r : Fin 128) : ANY (ix1 r) = 1#1 := by
  have h : ANY (ix1 r) = Finset.univ.fold IntOp.ori 0#1 fun t : Fin 1024 => MK (ix2 r t) := by
    unfold ANY; pointwise
  have hl : live r ⟨64 * (r.val / 64), by omega⟩ := by unfold live; simp only; omega
  have ho : ∀ x : BitVec 1, IntOp.ori 1#1 x = 1#1 := by decide
  rw [h, ← Finset.insert_erase (Finset.mem_univ (⟨64 * (r.val / 64), by omega⟩ : Fin 1024)), Finset.fold_insert (Finset.notMem_erase _ _),
    MK_apply, if_pos hl, ho]

variable (m : (ℓ : Loc nD τ sig) → Buf (Elt Ideal) ℓ) (c : Dev nD)

/-- The reference's arguments. -/
def aX : FVec Ideal S2x128x512 .f32 := m ((c.tc : Thread nD τ).loc main_arg0)
def aQ : FVec Ideal S512x2048 .f32 := m ((c.tc : Thread nD τ).loc main_arg1)
def aK : FVec Ideal S2x1024x32x64 .f32 := m ((c.tc : Thread nD τ).loc main_arg2)
def aV : FVec Ideal S2x1024x32x64 .f32 := m ((c.tc : Thread nD τ).loc main_arg3)
def aO : FVec Ideal S2048x512 .f32 := m ((c.tc : Thread nD τ).loc main_arg4)

/-- Dimension `d` of head `h` as a column. -/
def hd (h : Fin 32) (d : Fin 64) : Fin 2048 := ⟨h.val * 64 + d.val, by omega⟩

theorem RQ_apply (b : Fin 2) (r : Fin 128) (j : Fin 2048) :
    RQ m c (ix3 b r j) = ∑ k : Fin 512, aX m c (ix3 b r k) * aQ m c (ix2 k j) := by
  unfold RQ; pointwise; rfl

theorem RS_apply (b : Fin 2) (h : Fin 32) (r : Fin 128) (t : Fin 1024) :
    RS m c (ix4 b h r t) = (∑ d : Fin 64, RQ m c (ix3 b r (hd h d)) * aK m c (ix4 b t h d)) * Ideal.ofBits .f32 0x3E000000#32 := by
  unfold RS; pointwise; rfl

theorem bot_bits : Ideal.ofBits .f32 0xFF800000#32 = ⊥ := by simp [Ideal.ofBits, Ideal.ieee]

theorem RMS_apply (s : FVec Ideal S2x32x128x1024 .f32) (b : Fin 2) (h : Fin 32) (r : Fin 128) (t : Fin 1024) :
    RMS s (ix4 b h r t) = if live r t then s (ix4 b h r t) else ⊥ := by
  have : RMS s (ix4 b h r t) = if MK (ix2 r t) = 1#1 then s (ix4 b h r t) else ⊥ := by
    unfold RMS; pointwise
    show (if _ then _ else Ideal.ofBits .f32 0xFF800000#32) = _
    rw [bot_bits]; rfl
  rw [this, MK_apply]
  split <;> simp

theorem RMX_apply (s : FVec Ideal S2x32x128x1024 .f32) (b : Fin 2) (h : Fin 32) (r : Fin 128) :
    RMX s (ix3 b h r) = Finset.univ.fold max ⊥ fun t : Fin 1024 => s (ix4 b h r t) := by
  unfold RMX; pointwise [bot_bits]

theorem REX_apply (s : FVec Ideal S2x32x128x1024 .f32) (b : Fin 2) (h : Fin 32) (r : Fin 128) (t : Fin 1024) :
    REX s (ix4 b h r t) = Ideal.exp (s (ix4 b h r t) - RMX s (ix3 b h r)) := by
  unfold REX; pointwise

theorem RD_apply (e : FVec Ideal S2x32x128x1024 .f32) (b : Fin 2) (h : Fin 32) (r : Fin 128) :
    RD e (ix4 b h r 0) = ∑ t : Fin 1024, e (ix4 b h r t) := by
  unfold RD; pointwise [ANY_apply]

theorem RW_apply (e : FVec Ideal S2x32x128x1024 .f32) (b : Fin 2) (h : Fin 32) (r : Fin 128) (t : Fin 1024) :
    RW e (ix4 b h r t) = Ideal.div (e (ix4 b h r t)) (∑ u : Fin 1024, e (ix4 b h r u)) := by
  have : RW e (ix4 b h r t) = Ideal.div (e (ix4 b h r t)) (RD e (ix4 b h r 0)) := by
    unfold RW; pointwise [ANY_apply]
  rw [this, RD_apply]

theorem RO_apply (w : FVec Ideal S2x32x128x1024 .f32) (b : Fin 2) (r : Fin 128) (e : Fin 512) :
    RO m c w (ix3 b r e) = ∑ j : Fin 2048, (∑ t : Fin 1024, aV m c (ix4 b t ⟨j.val / 64, by omega⟩ ⟨j.val % 64, by omega⟩) *
      w (ix4 b ⟨j.val / 64, by omega⟩ r t)) * aO m c (ix2 j e) := by
  unfold RO; pointwise; rfl

end Cert.ReferenceIdeal.Hand

end
-- ==== Proof.Agree.lean ====
/-
  The kernel's result and the reference's are the same numbers.
-/
module

public import proofs.«01_k».proof.Defs
public import proofs.«01_k».proof.Proof.Launch
public import proofs.«01_k».proof.Proof.Match
public import proofs.«01_k».proof.Proof.Finite
public import proofs.«01_k».proof.Proof.RefVals

@[expose] public section

set_option maxRecDepth 16384

noncomputable section

namespace Cert.KernelIdeal.Hand

open Idealize.ShloMosaic Idealize.ShloMosaic.TcCoe Idealize.SL.Sem
open Cert.KernelIdeal Cert.KernelIdeal.Gen

section Ref
open Cert.ReferenceIdeal.Hand (aX aQ aK aV aO hd live)

variable (m' : (ℓ : Loc Cert.ReferenceIdeal.nD Cert.ReferenceIdeal.τ Cert.ReferenceIdeal.sig) → Buf (Elt Ideal) ℓ)

/-- The whole arrays, by coordinates. -/
def wX (b : Fin 2) (r : Fin 128) (k : Fin 512) : EReal := aX m' 0 (ix3 b r k)
def wQ (k : Fin 512) (j : Fin 2048) : EReal := aQ m' 0 (ix2 k j)
def wK (b : Fin 2) (t : Fin 1024) (h : Fin 32) (d : Fin 64) : EReal := aK m' 0 (ix4 b t h d)
def wV (b : Fin 2) (t : Fin 1024) (h : Fin 32) (d : Fin 64) : EReal := aV m' 0 (ix4 b t h d)
def wO (j : Fin 2048) (e : Fin 512) : EReal := aO m' 0 (ix2 j e)

/-- The reference's result is the formula. -/
theorem ref_match (b : Fin 2) (r : Fin 128) (e : Fin 512) :
    Cert.ReferenceIdeal.Value.res_main_v39 m' 0 (ix3 b r e) = attn (wX m') (wQ m') (wK m') (wV m') (wO m') b r e := by
  have hs : ∀ h t, Cert.ReferenceIdeal.Hand.RMS (Cert.ReferenceIdeal.Hand.RS m' 0) (ix4 b h r t) = mscore (wX m') (wQ m') (wK m') b h r t := by
    intro h t
    rw [Cert.ReferenceIdeal.Hand.RMS_apply, Cert.ReferenceIdeal.Hand.RS_apply]
    unfold mscore score live
    simp only [Cert.ReferenceIdeal.Hand.RQ_apply]
    rfl
  have hw : ∀ h t, Cert.ReferenceIdeal.Hand.RW (Cert.ReferenceIdeal.Hand.REX (Cert.ReferenceIdeal.Hand.RMS (Cert.ReferenceIdeal.Hand.RS m' 0))) (ix4 b h r t)
      = Ideal.div (Ideal.exp (mscore (wX m') (wQ m') (wK m') b h r t - top (mscore (wX m') (wQ m') (wK m') b h r)))
        (∑ u, Ideal.exp (mscore (wX m') (wQ m') (wK m') b h r u - top (mscore (wX m') (wQ m') (wK m') b h r))) := by
    intro h t
    rw [Cert.ReferenceIdeal.Hand.RW_apply]
    simp only [Cert.ReferenceIdeal.Hand.REX_apply, Cert.ReferenceIdeal.Hand.RMX_apply, hs]
    rfl
  have key := Cert.ReferenceIdeal.Hand.RO_apply m' 0 (Cert.ReferenceIdeal.Hand.RW (Cert.ReferenceIdeal.Hand.REX (Cert.ReferenceIdeal.Hand.RMS (Cert.ReferenceIdeal.Hand.RS m' 0)))) b r e
  simp only [hw] at key
  exact (congrFun (Cert.ReferenceIdeal.Hand.res_eq m' 0) _).trans key

end Ref

section Ker
variable (m : (ℓ : Loc nD τ sig) → Buf (Elt Ideal) ℓ)

theorem k_of (c : Dev nD) : (insOf m).k c = shapeCast S2x128x2048 (truncf .bf16 (m ((c.tc : Thread nD τ).loc main_arg2)) bitsLt_bf16_f32) shapeCasts_S2x128x32x64_S2x128x2048 := by
  show V m c main_v2 = _
  unfold V
  after_results
  rfl
theorem v_of (c : Dev nD) : (insOf m).v c = shapeCast S2x128x2048 (truncf .bf16 (m ((c.tc : Thread nD τ).loc main_arg3)) bitsLt_bf16_f32) shapeCasts_S2x128x32x64_S2x128x2048 := by
  show V m c main_v4 = _
  unfold V
  after_results
  rfl

/-- Heads and dimensions side by side as columns, read at one. -/
theorem cols_apply (Y : FVec Ideal S2x128x32x64 .f32) (b : Fin 2) (r : Fin 128) (h : Fin 32) (d : Fin 64) :
    @Eq EReal (shapeCast S2x128x2048 (truncf (F := Ideal) .bf16 Y bitsLt_bf16_f32) shapeCasts_S2x128x32x64_S2x128x2048 (ix3 b r (hcol h d))) (Y (ix4 b r h d)) := by
  unfold hcol
  pointwise

end Ker

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The devices' arguments are the blocks of the reference's. -/
def Agreed : Prop := ∀ c : Dev Cert.KernelIdeal.nD,
  m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
  ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
  ∧ m ((c.tc : Thread Cert.KernelIdeal.nD Cert.KernelIdeal.τ).loc Cert.KernelIdeal.main_arg2) = Layout.block ⟨4, ![2, 128, 32, 64]⟩ ⟨4, ![2, 1024, 32, 64]⟩ 1 8 c (m' (((0 : Dev Cert.ReferenceIdeal.nD).tc : Thread Cert.ReferenceIdeal.nD Cert.ReferenceIdeal.τ).loc Cert.ReferenceIdeal.main_arg2))
  ∧ m ((c.tc : Thread Cert.KernelIdeal.nD Cert.KernelIdeal.τ).loc Cert.KernelIdeal.main_arg3) = Layout.block ⟨4, ![2, 128, 32, 64]⟩ ⟨4, ![2, 1024, 32, 64]⟩ 1 8 c (m' (((0 : Dev Cert.ReferenceIdeal.nD).tc : Thread Cert.ReferenceIdeal.nD Cert.ReferenceIdeal.τ).loc Cert.ReferenceIdeal.main_arg3))
  ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))

variable {m m'}

theorem arg1_at (H : Agreed m m') (c : Dev nD) (k : Fin 512) (j : Fin 256) : m ((c.tc : Thread nD τ).loc main_arg1) (ix2 k j) = wQ m' k (col c j) := by
  rw [(H c).2.1]
  exact congrArg (m' _) (funext fun a => Fin.ext (by fin_cases a <;> rfl))
theorem arg2_at (H : Agreed m m') (c : Dev nD) (b : Fin 2) (r : Fin 128) (h : Fin 32) (d : Fin 64) :
    m ((c.tc : Thread nD τ).loc main_arg2) (ix4 b r h d) = wK m' b (krow c r) h d := by
  rw [(H c).2.2.1]
  exact congrArg (m' _) (funext fun a => Fin.ext (by fin_cases a <;> rfl))
theorem arg3_at (H : Agreed m m') (c : Dev nD) (b : Fin 2) (r : Fin 128) (h : Fin 32) (d : Fin 64) :
    m ((c.tc : Thread nD τ).loc main_arg3) (ix4 b r h d) = wV m' b (krow c r) h d := by
  rw [(H c).2.2.2.1]
  exact congrArg (m' _) (funext fun a => Fin.ext (by fin_cases a <;> rfl))
theorem arg4_at (H : Agreed m m') (c : Dev nD) (j : Fin 256) (e : Fin 512) : m ((c.tc : Thread nD τ).loc main_arg4) (ix2 j e) = wO m' (col c j) e := by
  rw [(H c).2.2.2.2]
  exact congrArg (m' _) (funext fun a => Fin.ext (by fin_cases a <;> rfl))

theorem blocks (H : Agreed m m') : Blocks (insOf m) (wX m') (wQ m') (wK m') (wV m') (wO m') where
  x c b r k := by
    show V m c main_arg0 (ix3 b r k) = _
    rw [V_main_arg0, (H c).1]; rfl
  wq c k j := by
    show V m c main_arg1 (ix2 k j) = _
    rw [V_main_arg1]; exact arg1_at H c k j
  k c b r h d := by
    rw [k_of]; exact (cols_apply _ b r h d).trans (arg2_at H c b r h d)
  v c b r h d := by
    rw [v_of]; exact (cols_apply _ b r h d).trans (arg3_at H c b r h d)
  wo c j e := by
    show V m c main_arg4 (ix2 j e) = _
    rw [V_main_arg4]; exact arg4_at H c j e

theorem score_real (H : Agreed m m') (hp : Cert.Pre_KernelIdeal_finite_qk_KernelIdeal m) (b : Fin 2) (h : Fin 32) (r : Fin 128) (t : Fin 1024) :
    Rl (score (wX m') (wQ m') (wK m') b h r t) := by
  have hf := fun c => finite_of_pre _ _ _ _ _ (hp c)
  have hx : ∀ k, Rl (wX m' b r k) := fun k => by
    have := (hf 0).1 (ix3 b r k)
    rw [(H 0).1] at this
    exact this
  have hq : ∀ k d, Rl (wQ m' k (hcol h d)) := fun k d => by
    have e : hcol h d = col ⟨h.val / 4, by show _ < 8; omega⟩ ⟨h.val % 4 * 64 + d.val, by omega⟩ :=
      Fin.ext (by show h.val * 64 + d.val = h.val / 4 * 256 + (h.val % 4 * 64 + d.val); omega)
    rw [e, ← arg1_at H]
    exact (hf _).2.1 _
  have hk : ∀ d, Rl (wK m' b t h d) := fun d => by
    have e : t = krow ⟨t.val / 128, by show _ < 8; omega⟩ ⟨t.val % 128, by omega⟩ :=
      Fin.ext (by show t.val = t.val / 128 * 128 + t.val % 128; omega)
    rw [e, ← arg2_at H]
    exact (hf _).2.2 _
  exact (Rl.sum fun d => (Rl.sum fun k => (hx k).mul (hq k d)).mul (hk d)).mul kap_real

/-- Every device's result is the reference's. -/
theorem agree (H : Agreed m m') (hp : Cert.Pre_KernelIdeal_finite_qk_KernelIdeal m) (c : Dev nD) : OUT (insOf m) c = Cert.ReferenceIdeal.Value.res_main_v39 m' 0 := by
  funext i
  idx_vars i
  exact (OUT_match (blocks H) (score_real H hp) c _ _ _).trans (ref_match m' _ _ _).symm

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_qk_KernelIdeal
public import proofs.«01_k».proof.Proof.Gen.Pre_finite_qk_ReferenceIdeal
public import proofs.«01_k».proof.Proof.Same
public import proofs.«01_k».proof.Proof.Launch
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The kernel as printed terminates, leaves its arguments as they were, and ends with every semaphore at zero. -/
theorem quiescent_kernel : Cert.quiescent_Kernel := fun m g _ => by
  rw [Same.defs, Same.main]
  exact (θ_run _ _ _).mono (fun _ h => ⟨fun c => (h.1 c).2, h.2⟩) (Cert.KernelIdeal.Hand.run_main (F := Bits) m g)

/-- The same of the kernel read over the extended reals. -/
theorem quiescent_kernelIdeal : Cert.quiescent_KernelIdeal := fun m g _ =>
  (θ_run _ _ _).mono (fun _ h => ⟨fun c => (h.1 c).2, h.2⟩) (Cert.KernelIdeal.Hand.run_main (F := Ideal) m g)

/-- The reference terminates and leaves its arguments as they were; it has no semaphore. -/
theorem quiescent_referenceIdeal : Cert.quiescent_ReferenceIdeal := fun m g _ =>
  (θ_run _ _ _).mono (fun _ h => ⟨fun c => (h c).2, funext fun k => by
    rcases k with ⟨_, s | s⟩ <;> exact s.elim0⟩) (Cert.ReferenceIdeal.Value.run (F := Ideal) m g)

/-- The kernel and the reference compute the same numbers, on every device. -/
theorem algebraic : Cert.algebraic_KernelIdeal_ReferenceIdeal_pre_finite_qk_KernelIdeal := fun m g m' g' hp H =>
  ⟨Cert.ReferenceIdeal.Value.res_main_v39 m' 0,
    (θ_run _ _ _).mono (fun _ h c => ⟨(h.1 c).1.trans (Cert.KernelIdeal.Hand.agree H hp c), (h.1 c).2⟩) (Cert.KernelIdeal.Hand.run_main (F := Ideal) m g),
    (θ_run _ _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  Cert.Pre_finite_qk_KernelIdeal.Gen.facts, Cert.Pre_finite_qk_ReferenceIdeal.Gen.facts,
  quiescent_kernel, quiescent_kernelIdeal, fun m g _ => quiescent_kernelIdeal m g trivial,
  quiescent_referenceIdeal, fun m g _ => quiescent_referenceIdeal m g trivial, trivial, algebraic⟩

end Cert.Proof

end
